-- ==== Defs.lean ====
def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_GateUpFwd (m : (ℓ : Loc Cert.GateUpFwd.nD Cert.GateUpFwd.τ Cert.GateUpFwd.sig) → Buf (Elt Bits) ℓ) : Prop :=
  True

def Pre_GateUpFwdIdeal (m : (ℓ : Loc Cert.GateUpFwdIdeal.nD Cert.GateUpFwdIdeal.τ Cert.GateUpFwdIdeal.sig) → Buf (Elt Ideal) ℓ) : Prop :=
  True

def Pre_GateUpFwdRefIdeal (m : (ℓ : Loc Cert.GateUpFwdRefIdeal.nD Cert.GateUpFwdRefIdeal.τ Cert.GateUpFwdRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_GateUpBwd (m : (ℓ : Loc Cert.GateUpBwd.nD Cert.GateUpBwd.τ Cert.GateUpBwd.sig) → Buf (Elt Bits) ℓ) : Prop :=
  True

def Pre_GateUpBwdIdeal (m : (ℓ : Loc Cert.GateUpBwdIdeal.nD Cert.GateUpBwdIdeal.τ Cert.GateUpBwdIdeal.sig) → Buf (Elt Ideal) ℓ) : Prop :=
  True

def Pre_GateUpBwdRefIdeal (m : (ℓ : Loc Cert.GateUpBwdRefIdeal.nD Cert.GateUpBwdRefIdeal.τ Cert.GateUpBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_PrepDown (m : (ℓ : Loc Cert.PrepDown.nD Cert.PrepDown.τ Cert.PrepDown.sig) → Buf (Elt Bits) ℓ) : Prop :=
  True

def Pre_PrepDownIdeal (m : (ℓ : Loc Cert.PrepDownIdeal.nD Cert.PrepDownIdeal.τ Cert.PrepDownIdeal.sig) → Buf (Elt Ideal) ℓ) : Prop :=
  True

def Pre_PrepDownRefIdeal (m : (ℓ : Loc Cert.PrepDownRefIdeal.nD Cert.PrepDownRefIdeal.τ Cert.PrepDownRefIdeal.sig) → Buf (Elt Ideal) ℓ) : Prop :=
  True

def Pre_PrepGateUp (m : (ℓ : Loc Cert.PrepGateUp.nD Cert.PrepGateUp.τ Cert.PrepGateUp.sig) → Buf (Elt Bits) ℓ) : Prop :=
  True

def Pre_PrepGateUpIdeal (m : (ℓ : Loc Cert.PrepGateUpIdeal.nD Cert.PrepGateUpIdeal.τ Cert.PrepGateUpIdeal.sig) → Buf (Elt Ideal) ℓ) : Prop :=
  True

def Pre_PrepGateUpRefIdeal (m : (ℓ : Loc Cert.PrepGateUpRefIdeal.nD Cert.PrepGateUpRefIdeal.τ Cert.PrepGateUpRefIdeal.sig) → Buf (Elt Ideal) ℓ) : Prop :=
  True

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4)
      ∧ r.2.mem ((c.tc : Thread Cert.DownFwd.nD Cert.DownFwd.τ).loc Cert.DownFwd.main_arg5) = m ((c.tc : Thread Cert.DownFwd.nD Cert.DownFwd.τ).loc Cert.DownFwd.main_arg5)
      ∧ r.2.mem ((c.tc : Thread Cert.DownFwd.nD Cert.DownFwd.τ).loc Cert.DownFwd.main_arg6) = m ((c.tc : Thread Cert.DownFwd.nD Cert.DownFwd.τ).loc Cert.DownFwd.main_arg6)
      ∧ r.2.mem ((c.tc : Thread Cert.DownFwd.nD Cert.DownFwd.τ).loc Cert.DownFwd.main_arg7) = m ((c.tc : Thread Cert.DownFwd.nD Cert.DownFwd.τ).loc Cert.DownFwd.main_arg7))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
      ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
      ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6)
      ∧ r.2.mem ((c.tc : Thread Cert.DownFwdIdeal.nD Cert.DownFwdIdeal.τ).loc Cert.DownFwdIdeal.main_arg7) = m ((c.tc : Thread Cert.DownFwdIdeal.nD Cert.DownFwdIdeal.τ).loc Cert.DownFwdIdeal.main_arg7))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4)
      ∧ r.2.mem ((c.tc : Thread Cert.DownFwdRefIdeal.nD Cert.DownFwdRefIdeal.τ).loc Cert.DownFwdRefIdeal.main_arg5) = m ((c.tc : Thread Cert.DownFwdRefIdeal.nD Cert.DownFwdRefIdeal.τ).loc Cert.DownFwdRefIdeal.main_arg5)
      ∧ r.2.mem ((c.tc : Thread Cert.DownFwdRefIdeal.nD Cert.DownFwdRefIdeal.τ).loc Cert.DownFwdRefIdeal.main_arg6) = m ((c.tc : Thread Cert.DownFwdRefIdeal.nD Cert.DownFwdRefIdeal.τ).loc Cert.DownFwdRefIdeal.main_arg6)
      ∧ r.2.mem ((c.tc : Thread Cert.DownFwdRefIdeal.nD Cert.DownFwdRefIdeal.τ).loc Cert.DownFwdRefIdeal.main_arg7) = m ((c.tc : Thread Cert.DownFwdRefIdeal.nD Cert.DownFwdRefIdeal.τ).loc Cert.DownFwdRefIdeal.main_arg7))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_GateUpFwd [hGateUpFwd : Cert.GateUpFwd.Facts] : Prop :=
  ∀ (m : (ℓ : Loc Cert.GateUpFwd.nD Cert.GateUpFwd.τ Cert.GateUpFwd.sig) → Buf (Elt Bits) ℓ) (g : Dev Cert.GateUpFwd.nD → PrngReg), Pre_GateUpFwd m →
    θ_run (Cert.GateUpFwd.defs (F := Bits)) (onTc (τ := Cert.GateUpFwd.τ) (Cert.GateUpFwd.main (F := Bits))) ⟨m, fun _ => 0, g⟩ (fun r => (∀ c : Dev Cert.GateUpFwd.nD,
      r.2.mem ((c.tc : Thread Cert.GateUpFwd.nD Cert.GateUpFwd.τ).loc Cert.GateUpFwd.main_arg0) = m ((c.tc : Thread Cert.GateUpFwd.nD Cert.GateUpFwd.τ).loc Cert.GateUpFwd.main_arg0)
      ∧ r.2.mem ((c.tc : Thread Cert.GateUpFwd.nD Cert.GateUpFwd.τ).loc Cert.GateUpFwd.main_arg1) = m ((c.tc : Thread Cert.GateUpFwd.nD Cert.GateUpFwd.τ).loc Cert.GateUpFwd.main_arg1)
      ∧ r.2.mem ((c.tc : Thread Cert.GateUpFwd.nD Cert.GateUpFwd.τ).loc Cert.GateUpFwd.main_arg2) = m ((c.tc : Thread Cert.GateUpFwd.nD Cert.GateUpFwd.τ).loc Cert.GateUpFwd.main_arg2)
      ∧ r.2.mem ((c.tc : Thread Cert.GateUpFwd.nD Cert.GateUpFwd.τ).loc Cert.GateUpFwd.main_arg3) = m ((c.tc : Thread Cert.GateUpFwd.nD Cert.GateUpFwd.τ).loc Cert.GateUpFwd.main_arg3)
      ∧ r.2.mem ((c.tc : Thread Cert.GateUpFwd.nD Cert.GateUpFwd.τ).loc Cert.GateUpFwd.main_arg4) = m ((c.tc : Thread Cert.GateUpFwd.nD Cert.GateUpFwd.τ).loc Cert.GateUpFwd.main_arg4)
      ∧ r.2.mem ((c.tc : Thread Cert.GateUpFwd.nD Cert.GateUpFwd.τ).loc Cert.GateUpFwd.main_arg5) = m ((c.tc : Thread Cert.GateUpFwd.nD Cert.GateUpFwd.τ).loc Cert.GateUpFwd.main_arg5)
      ∧ r.2.mem ((c.tc : Thread Cert.GateUpFwd.nD Cert.GateUpFwd.τ).loc Cert.GateUpFwd.main_arg6) = m ((c.tc : Thread Cert.GateUpFwd.nD Cert.GateUpFwd.τ).loc Cert.GateUpFwd.main_arg6)
      ∧ r.2.mem ((c.tc : Thread Cert.GateUpFwd.nD Cert.GateUpFwd.τ).loc Cert.GateUpFwd.main_arg7) = m ((c.tc : Thread Cert.GateUpFwd.nD Cert.GateUpFwd.τ).loc Cert.GateUpFwd.main_arg7)
      ∧ r.2.mem ((c.tc : Thread Cert.GateUpFwd.nD Cert.GateUpFwd.τ).loc Cert.GateUpFwd.main_arg8) = m ((c.tc : Thread Cert.GateUpFwd.nD Cert.GateUpFwd.τ).loc Cert.GateUpFwd.main_arg8))
      ∧ r.2.sem = fun _ => 0)

def quiescent_GateUpFwdIdeal [hGateUpFwdIdeal : Cert.GateUpFwdIdeal.Facts] : Prop :=
  ∀ (m : (ℓ : Loc Cert.GateUpFwdIdeal.nD Cert.GateUpFwdIdeal.τ Cert.GateUpFwdIdeal.sig) → Buf (Elt Ideal) ℓ) (g : Dev Cert.GateUpFwdIdeal.nD → PrngReg), Pre_GateUpFwdIdeal m →
    θ_run (Cert.GateUpFwdIdeal.defs (F := Ideal)) (onTc (τ := Cert.GateUpFwdIdeal.τ) (Cert.GateUpFwdIdeal.main (F := Ideal))) ⟨m, fun _ => 0, g⟩ (fun r => (∀ c : Dev Cert.GateUpFwdIdeal.nD,
      r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
      ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1)
      ∧ r.2.mem ((c.tc : Thread Cert.GateUpFwdIdeal.nD Cert.GateUpFwdIdeal.τ).loc Cert.GateUpFwdIdeal.main_arg2) = m ((c.tc : Thread Cert.GateUpFwdIdeal.nD Cert.GateUpFwdIdeal.τ).loc Cert.GateUpFwdIdeal.main_arg2)
      ∧ r.2.mem ((c.tc : Thread Cert.GateUpFwdIdeal.nD Cert.GateUpFwdIdeal.τ).loc Cert.GateUpFwdIdeal.main_arg3) = m ((c.tc : Thread Cert.GateUpFwdIdeal.nD Cert.GateUpFwdIdeal.τ).loc Cert.GateUpFwdIdeal.main_arg3)
      ∧ r.2.mem ((c.tc : Thread Cert.GateUpFwdIdeal.nD Cert.GateUpFwdIdeal.τ).loc Cert.GateUpFwdIdeal.main_arg4) = m ((c.tc : Thread Cert.GateUpFwdIdeal.nD Cert.GateUpFwdIdeal.τ).loc Cert.GateUpFwdIdeal.main_arg4)
      ∧ r.2.mem ((c.tc : Thread Cert.GateUpFwdIdeal.nD Cert.GateUpFwdIdeal.τ).loc Cert.GateUpFwdIdeal.main_arg5) = m ((c.tc : Thread Cert.GateUpFwdIdeal.nD Cert.GateUpFwdIdeal.τ).loc Cert.GateUpFwdIdeal.main_arg5)
      ∧ r.2.mem ((c.tc : Thread Cert.GateUpFwdIdeal.nD Cert.GateUpFwdIdeal.τ).loc Cert.GateUpFwdIdeal.main_arg6) = m ((c.tc : Thread Cert.GateUpFwdIdeal.nD Cert.GateUpFwdIdeal.τ).loc Cert.GateUpFwdIdeal.main_arg6)
      ∧ r.2.mem ((c.tc : Thread Cert.GateUpFwdIdeal.nD Cert.GateUpFwdIdeal.τ).loc Cert.GateUpFwdIdeal.main_arg7) = m ((c.tc : Thread Cert.GateUpFwdIdeal.nD Cert.GateUpFwdIdeal.τ).loc Cert.GateUpFwdIdeal.main_arg7)
      ∧ r.2.mem ((c.tc : Thread Cert.GateUpFwdIdeal.nD Cert.GateUpFwdIdeal.τ).loc Cert.GateUpFwdIdeal.main_arg8) = m ((c.tc : Thread Cert.GateUpFwdIdeal.nD Cert.GateUpFwdIdeal.τ).loc Cert.GateUpFwdIdeal.main_arg8))
      ∧ r.2.sem = fun _ => 0)

def quiescent_GateUpFwdRefIdeal [hGateUpFwdRefIdeal : Cert.GateUpFwdRefIdeal.Facts] : Prop :=
  ∀ (m : (ℓ : Loc Cert.GateUpFwdRefIdeal.nD Cert.GateUpFwdRefIdeal.τ Cert.GateUpFwdRefIdeal.sig) → Buf (Elt Ideal) ℓ) (g : Dev Cert.GateUpFwdRefIdeal.nD → PrngReg), Pre_GateUpFwdRefIdeal m →
    θ_run (Cert.GateUpFwdRefIdeal.defs (F := Ideal)) (onTc (τ := Cert.GateUpFwdRefIdeal.τ) (Cert.GateUpFwdRefIdeal.main (F := Ideal))) ⟨m, fun _ => 0, g⟩ (fun r => (∀ c : Dev Cert.GateUpFwdRefIdeal.nD,
      r.2.mem ((c.tc : Thread Cert.GateUpFwdRefIdeal.nD Cert.GateUpFwdRefIdeal.τ).loc Cert.GateUpFwdRefIdeal.main_arg0) = m ((c.tc : Thread Cert.GateUpFwdRefIdeal.nD Cert.GateUpFwdRefIdeal.τ).loc Cert.GateUpFwdRefIdeal.main_arg0)
      ∧ r.2.mem ((c.tc : Thread Cert.GateUpFwdRefIdeal.nD Cert.GateUpFwdRefIdeal.τ).loc Cert.GateUpFwdRefIdeal.main_arg1) = m ((c.tc : Thread Cert.GateUpFwdRefIdeal.nD Cert.GateUpFwdRefIdeal.τ).loc Cert.GateUpFwdRefIdeal.main_arg1)
      ∧ r.2.mem ((c.tc : Thread Cert.GateUpFwdRefIdeal.nD Cert.GateUpFwdRefIdeal.τ).loc Cert.GateUpFwdRefIdeal.main_arg2) = m ((c.tc : Thread Cert.GateUpFwdRefIdeal.nD Cert.GateUpFwdRefIdeal.τ).loc Cert.GateUpFwdRefIdeal.main_arg2)
      ∧ r.2.mem ((c.tc : Thread Cert.GateUpFwdRefIdeal.nD Cert.GateUpFwdRefIdeal.τ).loc Cert.GateUpFwdRefIdeal.main_arg3) = m ((c.tc : Thread Cert.GateUpFwdRefIdeal.nD Cert.GateUpFwdRefIdeal.τ).loc Cert.GateUpFwdRefIdeal.main_arg3)
      ∧ r.2.mem ((c.tc : Thread Cert.GateUpFwdRefIdeal.nD Cert.GateUpFwdRefIdeal.τ).loc Cert.GateUpFwdRefIdeal.main_arg4) = m ((c.tc : Thread Cert.GateUpFwdRefIdeal.nD Cert.GateUpFwdRefIdeal.τ).loc Cert.GateUpFwdRefIdeal.main_arg4)
      ∧ r.2.mem ((c.tc : Thread Cert.GateUpFwdRefIdeal.nD Cert.GateUpFwdRefIdeal.τ).loc Cert.GateUpFwdRefIdeal.main_arg5) = m ((c.tc : Thread Cert.GateUpFwdRefIdeal.nD Cert.GateUpFwdRefIdeal.τ).loc Cert.GateUpFwdRefIdeal.main_arg5)
      ∧ r.2.mem ((c.tc : Thread Cert.GateUpFwdRefIdeal.nD Cert.GateUpFwdRefIdeal.τ).loc Cert.GateUpFwdRefIdeal.main_arg6) = m ((c.tc : Thread Cert.GateUpFwdRefIdeal.nD Cert.GateUpFwdRefIdeal.τ).loc Cert.GateUpFwdRefIdeal.main_arg6)
      ∧ r.2.mem ((c.tc : Thread Cert.GateUpFwdRefIdeal.nD Cert.GateUpFwdRefIdeal.τ).loc Cert.GateUpFwdRefIdeal.main_arg7) = m ((c.tc : Thread Cert.GateUpFwdRefIdeal.nD Cert.GateUpFwdRefIdeal.τ).loc Cert.GateUpFwdRefIdeal.main_arg7)
      ∧ r.2.mem ((c.tc : Thread Cert.GateUpFwdRefIdeal.nD Cert.GateUpFwdRefIdeal.τ).loc Cert.GateUpFwdRefIdeal.main_arg8) = m ((c.tc : Thread Cert.GateUpFwdRefIdeal.nD Cert.GateUpFwdRefIdeal.τ).loc Cert.GateUpFwdRefIdeal.main_arg8))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3)
      ∧ r.2.mem ((c.tc : Thread Cert.DownBwd.nD Cert.DownBwd.τ).loc Cert.DownBwd.main_arg4) = m ((c.tc : Thread Cert.DownBwd.nD Cert.DownBwd.τ).loc Cert.DownBwd.main_arg4)
      ∧ r.2.mem ((c.tc : Thread Cert.DownBwd.nD Cert.DownBwd.τ).loc Cert.DownBwd.main_arg5) = m ((c.tc : Thread Cert.DownBwd.nD Cert.DownBwd.τ).loc Cert.DownBwd.main_arg5)
      ∧ r.2.mem ((c.tc : Thread Cert.DownBwd.nD Cert.DownBwd.τ).loc Cert.DownBwd.main_arg6) = m ((c.tc : Thread Cert.DownBwd.nD Cert.DownBwd.τ).loc Cert.DownBwd.main_arg6)
      ∧ r.2.mem ((c.tc : Thread Cert.DownBwd.nD Cert.DownBwd.τ).loc Cert.DownBwd.main_arg7) = m ((c.tc : Thread Cert.DownBwd.nD Cert.DownBwd.τ).loc Cert.DownBwd.main_arg7)
      ∧ r.2.mem ((c.tc : Thread Cert.DownBwd.nD Cert.DownBwd.τ).loc Cert.DownBwd.main_arg8) = m ((c.tc : Thread Cert.DownBwd.nD Cert.DownBwd.τ).loc Cert.DownBwd.main_arg8)
      ∧ r.2.mem ((c.tc : Thread Cert.DownBwd.nD Cert.DownBwd.τ).loc Cert.DownBwd.main_arg9) = m ((c.tc : Thread Cert.DownBwd.nD Cert.DownBwd.τ).loc Cert.DownBwd.main_arg9)
      ∧ r.2.mem ((c.tc : Thread Cert.DownBwd.nD Cert.DownBwd.τ).loc Cert.DownBwd.main_arg10) = m ((c.tc : Thread Cert.DownBwd.nD Cert.DownBwd.τ).loc Cert.DownBwd.main_arg10)
      ∧ r.2.mem ((c.tc : Thread Cert.DownBwd.nD Cert.DownBwd.τ).loc Cert.DownBwd.main_arg11) = m ((c.tc : Thread Cert.DownBwd.nD Cert.DownBwd.τ).loc Cert.DownBwd.main_arg11)
      ∧ r.2.mem ((c.tc : Thread Cert.DownBwd.nD Cert.DownBwd.τ).loc Cert.DownBwd.main_arg12) = m ((c.tc : Thread Cert.DownBwd.nD Cert.DownBwd.τ).loc Cert.DownBwd.main_arg12)
      ∧ r.2.mem ((c.tc : Thread Cert.DownBwd.nD Cert.DownBwd.τ).loc Cert.DownBwd.main_arg13) = m ((c.tc : Thread Cert.DownBwd.nD Cert.DownBwd.τ).loc Cert.DownBwd.main_arg13))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
      ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4)
      ∧ r.2.mem ((c.tc : Thread Cert.DownBwdIdeal.nD Cert.DownBwdIdeal.τ).loc Cert.DownBwdIdeal.main_arg5) = m ((c.tc : Thread Cert.DownBwdIdeal.nD Cert.DownBwdIdeal.τ).loc Cert.DownBwdIdeal.main_arg5)
      ∧ r.2.mem ((c.tc : Thread Cert.DownBwdIdeal.nD Cert.DownBwdIdeal.τ).loc Cert.DownBwdIdeal.main_arg6) = m ((c.tc : Thread Cert.DownBwdIdeal.nD Cert.DownBwdIdeal.τ).loc Cert.DownBwdIdeal.main_arg6)
      ∧ r.2.mem ((c.tc : Thread Cert.DownBwdIdeal.nD Cert.DownBwdIdeal.τ).loc Cert.DownBwdIdeal.main_arg7) = m ((c.tc : Thread Cert.DownBwdIdeal.nD Cert.DownBwdIdeal.τ).loc Cert.DownBwdIdeal.main_arg7)
      ∧ r.2.mem ((c.tc : Thread Cert.DownBwdIdeal.nD Cert.DownBwdIdeal.τ).loc Cert.DownBwdIdeal.main_arg8) = m ((c.tc : Thread Cert.DownBwdIdeal.nD Cert.DownBwdIdeal.τ).loc Cert.DownBwdIdeal.main_arg8)
      ∧ r.2.mem ((c.tc : Thread Cert.DownBwdIdeal.nD Cert.DownBwdIdeal.τ).loc Cert.DownBwdIdeal.main_arg9) = m ((c.tc : Thread Cert.DownBwdIdeal.nD Cert.DownBwdIdeal.τ).loc Cert.DownBwdIdeal.main_arg9)
      ∧ r.2.mem ((c.tc : Thread Cert.DownBwdIdeal.nD Cert.DownBwdIdeal.τ).loc Cert.DownBwdIdeal.main_arg10) = m ((c.tc : Thread Cert.DownBwdIdeal.nD Cert.DownBwdIdeal.τ).loc Cert.DownBwdIdeal.main_arg10)
      ∧ r.2.mem ((c.tc : Thread Cert.DownBwdIdeal.nD Cert.DownBwdIdeal.τ).loc Cert.DownBwdIdeal.main_arg11) = m ((c.tc : Thread Cert.DownBwdIdeal.nD Cert.DownBwdIdeal.τ).loc Cert.DownBwdIdeal.main_arg11)
      ∧ r.2.mem ((c.tc : Thread Cert.DownBwdIdeal.nD Cert.DownBwdIdeal.τ).loc Cert.DownBwdIdeal.main_arg12) = m ((c.tc : Thread Cert.DownBwdIdeal.nD Cert.DownBwdIdeal.τ).loc Cert.DownBwdIdeal.main_arg12)
      ∧ r.2.mem ((c.tc : Thread Cert.DownBwdIdeal.nD Cert.DownBwdIdeal.τ).loc Cert.DownBwdIdeal.main_arg13) = m ((c.tc : Thread Cert.DownBwdIdeal.nD Cert.DownBwdIdeal.τ).loc Cert.DownBwdIdeal.main_arg13))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3)
      ∧ r.2.mem ((c.tc : Thread Cert.DownBwdRefIdeal.nD Cert.DownBwdRefIdeal.τ).loc Cert.DownBwdRefIdeal.main_arg4) = m ((c.tc : Thread Cert.DownBwdRefIdeal.nD Cert.DownBwdRefIdeal.τ).loc Cert.DownBwdRefIdeal.main_arg4)
      ∧ r.2.mem ((c.tc : Thread Cert.DownBwdRefIdeal.nD Cert.DownBwdRefIdeal.τ).loc Cert.DownBwdRefIdeal.main_arg5) = m ((c.tc : Thread Cert.DownBwdRefIdeal.nD Cert.DownBwdRefIdeal.τ).loc Cert.DownBwdRefIdeal.main_arg5)
      ∧ r.2.mem ((c.tc : Thread Cert.DownBwdRefIdeal.nD Cert.DownBwdRefIdeal.τ).loc Cert.DownBwdRefIdeal.main_arg6) = m ((c.tc : Thread Cert.DownBwdRefIdeal.nD Cert.DownBwdRefIdeal.τ).loc Cert.DownBwdRefIdeal.main_arg6)
      ∧ r.2.mem ((c.tc : Thread Cert.DownBwdRefIdeal.nD Cert.DownBwdRefIdeal.τ).loc Cert.DownBwdRefIdeal.main_arg7) = m ((c.tc : Thread Cert.DownBwdRefIdeal.nD Cert.DownBwdRefIdeal.τ).loc Cert.DownBwdRefIdeal.main_arg7)
      ∧ r.2.mem ((c.tc : Thread Cert.DownBwdRefIdeal.nD Cert.DownBwdRefIdeal.τ).loc Cert.DownBwdRefIdeal.main_arg8) = m ((c.tc : Thread Cert.DownBwdRefIdeal.nD Cert.DownBwdRefIdeal.τ).loc Cert.DownBwdRefIdeal.main_arg8)
      ∧ r.2.mem ((c.tc : Thread Cert.DownBwdRefIdeal.nD Cert.DownBwdRefIdeal.τ).loc Cert.DownBwdRefIdeal.main_arg9) = m ((c.tc : Thread Cert.DownBwdRefIdeal.nD Cert.DownBwdRefIdeal.τ).loc Cert.DownBwdRefIdeal.main_arg9)
      ∧ r.2.mem ((c.tc : Thread Cert.DownBwdRefIdeal.nD Cert.DownBwdRefIdeal.τ).loc Cert.DownBwdRefIdeal.main_arg10) = m ((c.tc : Thread Cert.DownBwdRefIdeal.nD Cert.DownBwdRefIdeal.τ).loc Cert.DownBwdRefIdeal.main_arg10)
      ∧ r.2.mem ((c.tc : Thread Cert.DownBwdRefIdeal.nD Cert.DownBwdRefIdeal.τ).loc Cert.DownBwdRefIdeal.main_arg11) = m ((c.tc : Thread Cert.DownBwdRefIdeal.nD Cert.DownBwdRefIdeal.τ).loc Cert.DownBwdRefIdeal.main_arg11)
      ∧ r.2.mem ((c.tc : Thread Cert.DownBwdRefIdeal.nD Cert.DownBwdRefIdeal.τ).loc Cert.DownBwdRefIdeal.main_arg12) = m ((c.tc : Thread Cert.DownBwdRefIdeal.nD Cert.DownBwdRefIdeal.τ).loc Cert.DownBwdRefIdeal.main_arg12)
      ∧ r.2.mem ((c.tc : Thread Cert.DownBwdRefIdeal.nD Cert.DownBwdRefIdeal.τ).loc Cert.DownBwdRefIdeal.main_arg13) = m ((c.tc : Thread Cert.DownBwdRefIdeal.nD Cert.DownBwdRefIdeal.τ).loc Cert.DownBwdRefIdeal.main_arg13))
      ∧ r.2.sem = fun _ => 0)

def quiescent_GateUpBwd [hGateUpBwd : Cert.GateUpBwd.Facts] : Prop :=
  ∀ (m : (ℓ : Loc Cert.GateUpBwd.nD Cert.GateUpBwd.τ Cert.GateUpBwd.sig) → Buf (Elt Bits) ℓ) (g : Dev Cert.GateUpBwd.nD → PrngReg), Pre_GateUpBwd m →
    θ_run (Cert.GateUpBwd.defs (F := Bits)) (onTc (τ := Cert.GateUpBwd.τ) (Cert.GateUpBwd.main (F := Bits))) ⟨m, fun _ => 0, g⟩ (fun r => (∀ c : Dev Cert.GateUpBwd.nD,
      r.2.mem ((c.tc : Thread Cert.GateUpBwd.nD Cert.GateUpBwd.τ).loc Cert.GateUpBwd.main_arg0) = m ((c.tc : Thread Cert.GateUpBwd.nD Cert.GateUpBwd.τ).loc Cert.GateUpBwd.main_arg0)
      ∧ r.2.mem ((c.tc : Thread Cert.GateUpBwd.nD Cert.GateUpBwd.τ).loc Cert.GateUpBwd.main_arg1) = m ((c.tc : Thread Cert.GateUpBwd.nD Cert.GateUpBwd.τ).loc Cert.GateUpBwd.main_arg1)
      ∧ r.2.mem ((c.tc : Thread Cert.GateUpBwd.nD Cert.GateUpBwd.τ).loc Cert.GateUpBwd.main_arg2) = m ((c.tc : Thread Cert.GateUpBwd.nD Cert.GateUpBwd.τ).loc Cert.GateUpBwd.main_arg2)
      ∧ r.2.mem ((c.tc : Thread Cert.GateUpBwd.nD Cert.GateUpBwd.τ).loc Cert.GateUpBwd.main_arg3) = m ((c.tc : Thread Cert.GateUpBwd.nD Cert.GateUpBwd.τ).loc Cert.GateUpBwd.main_arg3)
      ∧ r.2.mem ((c.tc : Thread Cert.GateUpBwd.nD Cert.GateUpBwd.τ).loc Cert.GateUpBwd.main_arg4) = m ((c.tc : Thread Cert.GateUpBwd.nD Cert.GateUpBwd.τ).loc Cert.GateUpBwd.main_arg4)
      ∧ r.2.mem ((c.tc : Thread Cert.GateUpBwd.nD Cert.GateUpBwd.τ).loc Cert.GateUpBwd.main_arg5) = m ((c.tc : Thread Cert.GateUpBwd.nD Cert.GateUpBwd.τ).loc Cert.GateUpBwd.main_arg5)
      ∧ r.2.mem ((c.tc : Thread Cert.GateUpBwd.nD Cert.GateUpBwd.τ).loc Cert.GateUpBwd.main_arg6) = m ((c.tc : Thread Cert.GateUpBwd.nD Cert.GateUpBwd.τ).loc Cert.GateUpBwd.main_arg6)
      ∧ r.2.mem ((c.tc : Thread Cert.GateUpBwd.nD Cert.GateUpBwd.τ).loc Cert.GateUpBwd.main_arg7) = m ((c.tc : Thread Cert.GateUpBwd.nD Cert.GateUpBwd.τ).loc Cert.GateUpBwd.main_arg7)
      ∧ r.2.mem ((c.tc : Thread Cert.GateUpBwd.nD Cert.GateUpBwd.τ).loc Cert.GateUpBwd.main_arg8) = m ((c.tc : Thread Cert.GateUpBwd.nD Cert.GateUpBwd.τ).loc Cert.GateUpBwd.main_arg8)
      ∧ r.2.mem ((c.tc : Thread Cert.GateUpBwd.nD Cert.GateUpBwd.τ).loc Cert.GateUpBwd.main_arg9) = m ((c.tc : Thread Cert.GateUpBwd.nD Cert.GateUpBwd.τ).loc Cert.GateUpBwd.main_arg9))
      ∧ r.2.sem = fun _ => 0)

def quiescent_GateUpBwdIdeal [hGateUpBwdIdeal : Cert.GateUpBwdIdeal.Facts] : Prop :=
  ∀ (m : (ℓ : Loc Cert.GateUpBwdIdeal.nD Cert.GateUpBwdIdeal.τ Cert.GateUpBwdIdeal.sig) → Buf (Elt Ideal) ℓ) (g : Dev Cert.GateUpBwdIdeal.nD → PrngReg), Pre_GateUpBwdIdeal m →
    θ_run (Cert.GateUpBwdIdeal.defs (F := Ideal)) (onTc (τ := Cert.GateUpBwdIdeal.τ) (Cert.GateUpBwdIdeal.main (F := Ideal))) ⟨m, fun _ => 0, g⟩ (fun r => (∀ c : Dev Cert.GateUpBwdIdeal.nD,
      r.2.mem ((c.tc : Thread Cert.GateUpBwdIdeal.nD Cert.GateUpBwdIdeal.τ).loc Cert.GateUpBwdIdeal.main_arg0) = m ((c.tc : Thread Cert.GateUpBwdIdeal.nD Cert.GateUpBwdIdeal.τ).loc Cert.GateUpBwdIdeal.main_arg0)
      ∧ r.2.mem ((c.tc : Thread Cert.GateUpBwdIdeal.nD Cert.GateUpBwdIdeal.τ).loc Cert.GateUpBwdIdeal.main_arg1) = m ((c.tc : Thread Cert.GateUpBwdIdeal.nD Cert.GateUpBwdIdeal.τ).loc Cert.GateUpBwdIdeal.main_arg1)
      ∧ r.2.mem ((c.tc : Thread Cert.GateUpBwdIdeal.nD Cert.GateUpBwdIdeal.τ).loc Cert.GateUpBwdIdeal.main_arg2) = m ((c.tc : Thread Cert.GateUpBwdIdeal.nD Cert.GateUpBwdIdeal.τ).loc Cert.GateUpBwdIdeal.main_arg2)
      ∧ r.2.mem ((c.tc : Thread Cert.GateUpBwdIdeal.nD Cert.GateUpBwdIdeal.τ).loc Cert.GateUpBwdIdeal.main_arg3) = m ((c.tc : Thread Cert.GateUpBwdIdeal.nD Cert.GateUpBwdIdeal.τ).loc Cert.GateUpBwdIdeal.main_arg3)
      ∧ r.2.mem ((c.tc : Thread Cert.GateUpBwdIdeal.nD Cert.GateUpBwdIdeal.τ).loc Cert.GateUpBwdIdeal.main_arg4) = m ((c.tc : Thread Cert.GateUpBwdIdeal.nD Cert.GateUpBwdIdeal.τ).loc Cert.GateUpBwdIdeal.main_arg4)
      ∧ r.2.mem ((c.tc : Thread Cert.GateUpBwdIdeal.nD Cert.GateUpBwdIdeal.τ).loc Cert.GateUpBwdIdeal.main_arg5) = m ((c.tc : Thread Cert.GateUpBwdIdeal.nD Cert.GateUpBwdIdeal.τ).loc Cert.GateUpBwdIdeal.main_arg5)
      ∧ r.2.mem ((c.tc : Thread Cert.GateUpBwdIdeal.nD Cert.GateUpBwdIdeal.τ).loc Cert.GateUpBwdIdeal.main_arg6) = m ((c.tc : Thread Cert.GateUpBwdIdeal.nD Cert.GateUpBwdIdeal.τ).loc Cert.GateUpBwdIdeal.main_arg6)
      ∧ r.2.mem ((c.tc : Thread Cert.GateUpBwdIdeal.nD Cert.GateUpBwdIdeal.τ).loc Cert.GateUpBwdIdeal.main_arg7) = m ((c.tc : Thread Cert.GateUpBwdIdeal.nD Cert.GateUpBwdIdeal.τ).loc Cert.GateUpBwdIdeal.main_arg7)
      ∧ r.2.mem ((c.tc : Thread Cert.GateUpBwdIdeal.nD Cert.GateUpBwdIdeal.τ).loc Cert.GateUpBwdIdeal.main_arg8) = m ((c.tc : Thread Cert.GateUpBwdIdeal.nD Cert.GateUpBwdIdeal.τ).loc Cert.GateUpBwdIdeal.main_arg8)
      ∧ r.2.mem ((c.tc : Thread Cert.GateUpBwdIdeal.nD Cert.GateUpBwdIdeal.τ).loc Cert.GateUpBwdIdeal.main_arg9) = m ((c.tc : Thread Cert.GateUpBwdIdeal.nD Cert.GateUpBwdIdeal.τ).loc Cert.GateUpBwdIdeal.main_arg9))
      ∧ r.2.sem = fun _ => 0)

def quiescent_GateUpBwdRefIdeal [hGateUpBwdRefIdeal : Cert.GateUpBwdRefIdeal.Facts] : Prop :=
  ∀ (m : (ℓ : Loc Cert.GateUpBwdRefIdeal.nD Cert.GateUpBwdRefIdeal.τ Cert.GateUpBwdRefIdeal.sig) → Buf (Elt Ideal) ℓ) (g : Dev Cert.GateUpBwdRefIdeal.nD → PrngReg), Pre_GateUpBwdRefIdeal m →
    θ_run (Cert.GateUpBwdRefIdeal.defs (F := Ideal)) (onTc (τ := Cert.GateUpBwdRefIdeal.τ) (Cert.GateUpBwdRefIdeal.main (F := Ideal))) ⟨m, fun _ => 0, g⟩ (fun r => (∀ c : Dev Cert.GateUpBwdRefIdeal.nD,
      r.2.mem ((c.tc : Thread Cert.GateUpBwdRefIdeal.nD Cert.GateUpBwdRefIdeal.τ).loc Cert.GateUpBwdRefIdeal.main_arg0) = m ((c.tc : Thread Cert.GateUpBwdRefIdeal.nD Cert.GateUpBwdRefIdeal.τ).loc Cert.GateUpBwdRefIdeal.main_arg0)
      ∧ r.2.mem ((c.tc : Thread Cert.GateUpBwdRefIdeal.nD Cert.GateUpBwdRefIdeal.τ).loc Cert.GateUpBwdRefIdeal.main_arg1) = m ((c.tc : Thread Cert.GateUpBwdRefIdeal.nD Cert.GateUpBwdRefIdeal.τ).loc Cert.GateUpBwdRefIdeal.main_arg1)
      ∧ r.2.mem ((c.tc : Thread Cert.GateUpBwdRefIdeal.nD Cert.GateUpBwdRefIdeal.τ).loc Cert.GateUpBwdRefIdeal.main_arg2) = m ((c.tc : Thread Cert.GateUpBwdRefIdeal.nD Cert.GateUpBwdRefIdeal.τ).loc Cert.GateUpBwdRefIdeal.main_arg2)
      ∧ r.2.mem ((c.tc : Thread Cert.GateUpBwdRefIdeal.nD Cert.GateUpBwdRefIdeal.τ).loc Cert.GateUpBwdRefIdeal.main_arg3) = m ((c.tc : Thread Cert.GateUpBwdRefIdeal.nD Cert.GateUpBwdRefIdeal.τ).loc Cert.GateUpBwdRefIdeal.main_arg3)
      ∧ r.2.mem ((c.tc : Thread Cert.GateUpBwdRefIdeal.nD Cert.GateUpBwdRefIdeal.τ).loc Cert.GateUpBwdRefIdeal.main_arg4) = m ((c.tc : Thread Cert.GateUpBwdRefIdeal.nD Cert.GateUpBwdRefIdeal.τ).loc Cert.GateUpBwdRefIdeal.main_arg4)
      ∧ r.2.mem ((c.tc : Thread Cert.GateUpBwdRefIdeal.nD Cert.GateUpBwdRefIdeal.τ).loc Cert.GateUpBwdRefIdeal.main_arg5) = m ((c.tc : Thread Cert.GateUpBwdRefIdeal.nD Cert.GateUpBwdRefIdeal.τ).loc Cert.GateUpBwdRefIdeal.main_arg5)
      ∧ r.2.mem ((c.tc : Thread Cert.GateUpBwdRefIdeal.nD Cert.GateUpBwdRefIdeal.τ).loc Cert.GateUpBwdRefIdeal.main_arg6) = m ((c.tc : Thread Cert.GateUpBwdRefIdeal.nD Cert.GateUpBwdRefIdeal.τ).loc Cert.GateUpBwdRefIdeal.main_arg6)
      ∧ r.2.mem ((c.tc : Thread Cert.GateUpBwdRefIdeal.nD Cert.GateUpBwdRefIdeal.τ).loc Cert.GateUpBwdRefIdeal.main_arg7) = m ((c.tc : Thread Cert.GateUpBwdRefIdeal.nD Cert.GateUpBwdRefIdeal.τ).loc Cert.GateUpBwdRefIdeal.main_arg7)
      ∧ r.2.mem ((c.tc : Thread Cert.GateUpBwdRefIdeal.nD Cert.GateUpBwdRefIdeal.τ).loc Cert.GateUpBwdRefIdeal.main_arg8) = m ((c.tc : Thread Cert.GateUpBwdRefIdeal.nD Cert.GateUpBwdRefIdeal.τ).loc Cert.GateUpBwdRefIdeal.main_arg8)
      ∧ r.2.mem ((c.tc : Thread Cert.GateUpBwdRefIdeal.nD Cert.GateUpBwdRefIdeal.τ).loc Cert.GateUpBwdRefIdeal.main_arg9) = m ((c.tc : Thread Cert.GateUpBwdRefIdeal.nD Cert.GateUpBwdRefIdeal.τ).loc Cert.GateUpBwdRefIdeal.main_arg9))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_PrepDown [hPrepDown : Cert.PrepDown.Facts] : Prop :=
  ∀ (m : (ℓ : Loc Cert.PrepDown.nD Cert.PrepDown.τ Cert.PrepDown.sig) → Buf (Elt Bits) ℓ) (g : Dev Cert.PrepDown.nD → PrngReg), Pre_PrepDown m →
    θ_run (Cert.PrepDown.defs (F := Bits)) (onTc (τ := Cert.PrepDown.τ) (Cert.PrepDown.main (F := Bits))) ⟨m, fun _ => 0, g⟩ (fun r => (∀ c : Dev Cert.PrepDown.nD,
      r.2.mem ((c.tc : Thread Cert.PrepDown.nD Cert.PrepDown.τ).loc Cert.PrepDown.main_arg0) = m ((c.tc : Thread Cert.PrepDown.nD Cert.PrepDown.τ).loc Cert.PrepDown.main_arg0)
      ∧ r.2.mem ((c.tc : Thread Cert.PrepDown.nD Cert.PrepDown.τ).loc Cert.PrepDown.main_arg1) = m ((c.tc : Thread Cert.PrepDown.nD Cert.PrepDown.τ).loc Cert.PrepDown.main_arg1)
      ∧ r.2.mem ((c.tc : Thread Cert.PrepDown.nD Cert.PrepDown.τ).loc Cert.PrepDown.main_arg2) = m ((c.tc : Thread Cert.PrepDown.nD Cert.PrepDown.τ).loc Cert.PrepDown.main_arg2)
      ∧ r.2.mem ((c.tc : Thread Cert.PrepDown.nD Cert.PrepDown.τ).loc Cert.PrepDown.main_arg3) = m ((c.tc : Thread Cert.PrepDown.nD Cert.PrepDown.τ).loc Cert.PrepDown.main_arg3)
      ∧ r.2.mem ((c.tc : Thread Cert.PrepDown.nD Cert.PrepDown.τ).loc Cert.PrepDown.main_arg4) = m ((c.tc : Thread Cert.PrepDown.nD Cert.PrepDown.τ).loc Cert.PrepDown.main_arg4)
      ∧ r.2.mem ((c.tc : Thread Cert.PrepDown.nD Cert.PrepDown.τ).loc Cert.PrepDown.main_arg5) = m ((c.tc : Thread Cert.PrepDown.nD Cert.PrepDown.τ).loc Cert.PrepDown.main_arg5))
      ∧ r.2.sem = fun _ => 0)

def quiescent_PrepDownIdeal [hPrepDownIdeal : Cert.PrepDownIdeal.Facts] : Prop :=
  ∀ (m : (ℓ : Loc Cert.PrepDownIdeal.nD Cert.PrepDownIdeal.τ Cert.PrepDownIdeal.sig) → Buf (Elt Ideal) ℓ) (g : Dev Cert.PrepDownIdeal.nD → PrngReg), Pre_PrepDownIdeal m →
    θ_run (Cert.PrepDownIdeal.defs (F := Ideal)) (onTc (τ := Cert.PrepDownIdeal.τ) (Cert.PrepDownIdeal.main (F := Ideal))) ⟨m, fun _ => 0, g⟩ (fun r => (∀ c : Dev Cert.PrepDownIdeal.nD,
      r.2.mem ((c.tc : Thread Cert.PrepDownIdeal.nD Cert.PrepDownIdeal.τ).loc Cert.PrepDownIdeal.main_arg0) = m ((c.tc : Thread Cert.PrepDownIdeal.nD Cert.PrepDownIdeal.τ).loc Cert.PrepDownIdeal.main_arg0)
      ∧ r.2.mem ((c.tc : Thread Cert.PrepDownIdeal.nD Cert.PrepDownIdeal.τ).loc Cert.PrepDownIdeal.main_arg1) = m ((c.tc : Thread Cert.PrepDownIdeal.nD Cert.PrepDownIdeal.τ).loc Cert.PrepDownIdeal.main_arg1)
      ∧ r.2.mem ((c.tc : Thread Cert.PrepDownIdeal.nD Cert.PrepDownIdeal.τ).loc Cert.PrepDownIdeal.main_arg2) = m ((c.tc : Thread Cert.PrepDownIdeal.nD Cert.PrepDownIdeal.τ).loc Cert.PrepDownIdeal.main_arg2)
      ∧ r.2.mem ((c.tc : Thread Cert.PrepDownIdeal.nD Cert.PrepDownIdeal.τ).loc Cert.PrepDownIdeal.main_arg3) = m ((c.tc : Thread Cert.PrepDownIdeal.nD Cert.PrepDownIdeal.τ).loc Cert.PrepDownIdeal.main_arg3)
      ∧ r.2.mem ((c.tc : Thread Cert.PrepDownIdeal.nD Cert.PrepDownIdeal.τ).loc Cert.PrepDownIdeal.main_arg4) = m ((c.tc : Thread Cert.PrepDownIdeal.nD Cert.PrepDownIdeal.τ).loc Cert.PrepDownIdeal.main_arg4)
      ∧ r.2.mem ((c.tc : Thread Cert.PrepDownIdeal.nD Cert.PrepDownIdeal.τ).loc Cert.PrepDownIdeal.main_arg5) = m ((c.tc : Thread Cert.PrepDownIdeal.nD Cert.PrepDownIdeal.τ).loc Cert.PrepDownIdeal.main_arg5))
      ∧ r.2.sem = fun _ => 0)

def quiescent_PrepDownRefIdeal [hPrepDownRefIdeal : Cert.PrepDownRefIdeal.Facts] : Prop :=
  ∀ (m : (ℓ : Loc Cert.PrepDownRefIdeal.nD Cert.PrepDownRefIdeal.τ Cert.PrepDownRefIdeal.sig) → Buf (Elt Ideal) ℓ) (g : Dev Cert.PrepDownRefIdeal.nD → PrngReg), Pre_PrepDownRefIdeal m →
    θ_run (Cert.PrepDownRefIdeal.defs (F := Ideal)) (onTc (τ := Cert.PrepDownRefIdeal.τ) (Cert.PrepDownRefIdeal.main (F := Ideal))) ⟨m, fun _ => 0, g⟩ (fun r => (∀ c : Dev Cert.PrepDownRefIdeal.nD,
      r.2.mem ((c.tc : Thread Cert.PrepDownRefIdeal.nD Cert.PrepDownRefIdeal.τ).loc Cert.PrepDownRefIdeal.main_arg0) = m ((c.tc : Thread Cert.PrepDownRefIdeal.nD Cert.PrepDownRefIdeal.τ).loc Cert.PrepDownRefIdeal.main_arg0)
      ∧ r.2.mem ((c.tc : Thread Cert.PrepDownRefIdeal.nD Cert.PrepDownRefIdeal.τ).loc Cert.PrepDownRefIdeal.main_arg1) = m ((c.tc : Thread Cert.PrepDownRefIdeal.nD Cert.PrepDownRefIdeal.τ).loc Cert.PrepDownRefIdeal.main_arg1)
      ∧ r.2.mem ((c.tc : Thread Cert.PrepDownRefIdeal.nD Cert.PrepDownRefIdeal.τ).loc Cert.PrepDownRefIdeal.main_arg2) = m ((c.tc : Thread Cert.PrepDownRefIdeal.nD Cert.PrepDownRefIdeal.τ).loc Cert.PrepDownRefIdeal.main_arg2)
      ∧ r.2.mem ((c.tc : Thread Cert.PrepDownRefIdeal.nD Cert.PrepDownRefIdeal.τ).loc Cert.PrepDownRefIdeal.main_arg3) = m ((c.tc : Thread Cert.PrepDownRefIdeal.nD Cert.PrepDownRefIdeal.τ).loc Cert.PrepDownRefIdeal.main_arg3)
      ∧ r.2.mem ((c.tc : Thread Cert.PrepDownRefIdeal.nD Cert.PrepDownRefIdeal.τ).loc Cert.PrepDownRefIdeal.main_arg4) = m ((c.tc : Thread Cert.PrepDownRefIdeal.nD Cert.PrepDownRefIdeal.τ).loc Cert.PrepDownRefIdeal.main_arg4)
      ∧ r.2.mem ((c.tc : Thread Cert.PrepDownRefIdeal.nD Cert.PrepDownRefIdeal.τ).loc Cert.PrepDownRefIdeal.main_arg5) = m ((c.tc : Thread Cert.PrepDownRefIdeal.nD Cert.PrepDownRefIdeal.τ).loc Cert.PrepDownRefIdeal.main_arg5))
      ∧ r.2.sem = fun _ => 0)

def quiescent_PrepGateUp [hPrepGateUp : Cert.PrepGateUp.Facts] : Prop :=
  ∀ (m : (ℓ : Loc Cert.PrepGateUp.nD Cert.PrepGateUp.τ Cert.PrepGateUp.sig) → Buf (Elt Bits) ℓ) (g : Dev Cert.PrepGateUp.nD → PrngReg), Pre_PrepGateUp m →
    θ_run (Cert.PrepGateUp.defs (F := Bits)) (onTc (τ := Cert.PrepGateUp.τ) (Cert.PrepGateUp.main (F := Bits))) ⟨m, fun _ => 0, g⟩ (fun r => (∀ c : Dev Cert.PrepGateUp.nD,
      r.2.mem ((c.tc : Thread Cert.PrepGateUp.nD Cert.PrepGateUp.τ).loc Cert.PrepGateUp.main_arg0) = m ((c.tc : Thread Cert.PrepGateUp.nD Cert.PrepGateUp.τ).loc Cert.PrepGateUp.main_arg0)
      ∧ r.2.mem ((c.tc : Thread Cert.PrepGateUp.nD Cert.PrepGateUp.τ).loc Cert.PrepGateUp.main_arg1) = m ((c.tc : Thread Cert.PrepGateUp.nD Cert.PrepGateUp.τ).loc Cert.PrepGateUp.main_arg1)
      ∧ r.2.mem ((c.tc : Thread Cert.PrepGateUp.nD Cert.PrepGateUp.τ).loc Cert.PrepGateUp.main_arg2) = m ((c.tc : Thread Cert.PrepGateUp.nD Cert.PrepGateUp.τ).loc Cert.PrepGateUp.main_arg2)
      ∧ r.2.mem ((c.tc : Thread Cert.PrepGateUp.nD Cert.PrepGateUp.τ).loc Cert.PrepGateUp.main_arg3) = m ((c.tc : Thread Cert.PrepGateUp.nD Cert.PrepGateUp.τ).loc Cert.PrepGateUp.main_arg3)
      ∧ r.2.mem ((c.tc : Thread Cert.PrepGateUp.nD Cert.PrepGateUp.τ).loc Cert.PrepGateUp.main_arg4) = m ((c.tc : Thread Cert.PrepGateUp.nD Cert.PrepGateUp.τ).loc Cert.PrepGateUp.main_arg4)
      ∧ r.2.mem ((c.tc : Thread Cert.PrepGateUp.nD Cert.PrepGateUp.τ).loc Cert.PrepGateUp.main_arg5) = m ((c.tc : Thread Cert.PrepGateUp.nD Cert.PrepGateUp.τ).loc Cert.PrepGateUp.main_arg5))
      ∧ r.2.sem = fun _ => 0)

def quiescent_PrepGateUpIdeal [hPrepGateUpIdeal : Cert.PrepGateUpIdeal.Facts] : Prop :=
  ∀ (m : (ℓ : Loc Cert.PrepGateUpIdeal.nD Cert.PrepGateUpIdeal.τ Cert.PrepGateUpIdeal.sig) → Buf (Elt Ideal) ℓ) (g : Dev Cert.PrepGateUpIdeal.nD → PrngReg), Pre_PrepGateUpIdeal m →
    θ_run (Cert.PrepGateUpIdeal.defs (F := Ideal)) (onTc (τ := Cert.PrepGateUpIdeal.τ) (Cert.PrepGateUpIdeal.main (F := Ideal))) ⟨m, fun _ => 0, g⟩ (fun r => (∀ c : Dev Cert.PrepGateUpIdeal.nD,
      r.2.mem ((c.tc : Thread Cert.PrepGateUpIdeal.nD Cert.PrepGateUpIdeal.τ).loc Cert.PrepGateUpIdeal.main_arg0) = m ((c.tc : Thread Cert.PrepGateUpIdeal.nD Cert.PrepGateUpIdeal.τ).loc Cert.PrepGateUpIdeal.main_arg0)
      ∧ r.2.mem ((c.tc : Thread Cert.PrepGateUpIdeal.nD Cert.PrepGateUpIdeal.τ).loc Cert.PrepGateUpIdeal.main_arg1) = m ((c.tc : Thread Cert.PrepGateUpIdeal.nD Cert.PrepGateUpIdeal.τ).loc Cert.PrepGateUpIdeal.main_arg1)
      ∧ r.2.mem ((c.tc : Thread Cert.PrepGateUpIdeal.nD Cert.PrepGateUpIdeal.τ).loc Cert.PrepGateUpIdeal.main_arg2) = m ((c.tc : Thread Cert.PrepGateUpIdeal.nD Cert.PrepGateUpIdeal.τ).loc Cert.PrepGateUpIdeal.main_arg2)
      ∧ r.2.mem ((c.tc : Thread Cert.PrepGateUpIdeal.nD Cert.PrepGateUpIdeal.τ).loc Cert.PrepGateUpIdeal.main_arg3) = m ((c.tc : Thread Cert.PrepGateUpIdeal.nD Cert.PrepGateUpIdeal.τ).loc Cert.PrepGateUpIdeal.main_arg3)
      ∧ r.2.mem ((c.tc : Thread Cert.PrepGateUpIdeal.nD Cert.PrepGateUpIdeal.τ).loc Cert.PrepGateUpIdeal.main_arg4) = m ((c.tc : Thread Cert.PrepGateUpIdeal.nD Cert.PrepGateUpIdeal.τ).loc Cert.PrepGateUpIdeal.main_arg4)
      ∧ r.2.mem ((c.tc : Thread Cert.PrepGateUpIdeal.nD Cert.PrepGateUpIdeal.τ).loc Cert.PrepGateUpIdeal.main_arg5) = m ((c.tc : Thread Cert.PrepGateUpIdeal.nD Cert.PrepGateUpIdeal.τ).loc Cert.PrepGateUpIdeal.main_arg5))
      ∧ r.2.sem = fun _ => 0)

def quiescent_PrepGateUpRefIdeal [hPrepGateUpRefIdeal : Cert.PrepGateUpRefIdeal.Facts] : Prop :=
  ∀ (m : (ℓ : Loc Cert.PrepGateUpRefIdeal.nD Cert.PrepGateUpRefIdeal.τ Cert.PrepGateUpRefIdeal.sig) → Buf (Elt Ideal) ℓ) (g : Dev Cert.PrepGateUpRefIdeal.nD → PrngReg), Pre_PrepGateUpRefIdeal m →
    θ_run (Cert.PrepGateUpRefIdeal.defs (F := Ideal)) (onTc (τ := Cert.PrepGateUpRefIdeal.τ) (Cert.PrepGateUpRefIdeal.main (F := Ideal))) ⟨m, fun _ => 0, g⟩ (fun r => (∀ c : Dev Cert.PrepGateUpRefIdeal.nD,
      r.2.mem ((c.tc : Thread Cert.PrepGateUpRefIdeal.nD Cert.PrepGateUpRefIdeal.τ).loc Cert.PrepGateUpRefIdeal.main_arg0) = m ((c.tc : Thread Cert.PrepGateUpRefIdeal.nD Cert.PrepGateUpRefIdeal.τ).loc Cert.PrepGateUpRefIdeal.main_arg0)
      ∧ r.2.mem ((c.tc : Thread Cert.PrepGateUpRefIdeal.nD Cert.PrepGateUpRefIdeal.τ).loc Cert.PrepGateUpRefIdeal.main_arg1) = m ((c.tc : Thread Cert.PrepGateUpRefIdeal.nD Cert.PrepGateUpRefIdeal.τ).loc Cert.PrepGateUpRefIdeal.main_arg1)
      ∧ r.2.mem ((c.tc : Thread Cert.PrepGateUpRefIdeal.nD Cert.PrepGateUpRefIdeal.τ).loc Cert.PrepGateUpRefIdeal.main_arg2) = m ((c.tc : Thread Cert.PrepGateUpRefIdeal.nD Cert.PrepGateUpRefIdeal.τ).loc Cert.PrepGateUpRefIdeal.main_arg2)
      ∧ r.2.mem ((c.tc : Thread Cert.PrepGateUpRefIdeal.nD Cert.PrepGateUpRefIdeal.τ).loc Cert.PrepGateUpRefIdeal.main_arg3) = m ((c.tc : Thread Cert.PrepGateUpRefIdeal.nD Cert.PrepGateUpRefIdeal.τ).loc Cert.PrepGateUpRefIdeal.main_arg3)
      ∧ r.2.mem ((c.tc : Thread Cert.PrepGateUpRefIdeal.nD Cert.PrepGateUpRefIdeal.τ).loc Cert.PrepGateUpRefIdeal.main_arg4) = m ((c.tc : Thread Cert.PrepGateUpRefIdeal.nD Cert.PrepGateUpRefIdeal.τ).loc Cert.PrepGateUpRefIdeal.main_arg4)
      ∧ r.2.mem ((c.tc : Thread Cert.PrepGateUpRefIdeal.nD Cert.PrepGateUpRefIdeal.τ).loc Cert.PrepGateUpRefIdeal.main_arg5) = m ((c.tc : Thread Cert.PrepGateUpRefIdeal.nD Cert.PrepGateUpRefIdeal.τ).loc Cert.PrepGateUpRefIdeal.main_arg5))
      ∧ r.2.sem = fun _ => 0)

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)
      ∧ m' ((c.tc : Thread Cert.DownFwdRefIdeal.nD Cert.DownFwdRefIdeal.τ).loc Cert.DownFwdRefIdeal.main_arg5) = m ((c.tc : Thread Cert.DownFwdIdeal.nD Cert.DownFwdIdeal.τ).loc Cert.DownFwdIdeal.main_arg5)
      ∧ m' ((c.tc : Thread Cert.DownFwdRefIdeal.nD Cert.DownFwdRefIdeal.τ).loc Cert.DownFwdRefIdeal.main_arg6) = m ((c.tc : Thread Cert.DownFwdIdeal.nD Cert.DownFwdIdeal.τ).loc Cert.DownFwdIdeal.main_arg6)
      ∧ m' ((c.tc : Thread Cert.DownFwdRefIdeal.nD Cert.DownFwdRefIdeal.τ).loc Cert.DownFwdRefIdeal.main_arg7) = m ((c.tc : Thread Cert.DownFwdIdeal.nD Cert.DownFwdIdeal.τ).loc Cert.DownFwdIdeal.main_arg7)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)) (v2 : (c : Dev Cert.DownFwdIdeal.nD) → Buf (Elt Ideal) ((c.tc : Thread Cert.DownFwdIdeal.nD Cert.DownFwdIdeal.τ).loc Cert.DownFwdIdeal.main_v0_2)) (v3 : (c : Dev Cert.DownFwdIdeal.nD) → Buf (Elt Ideal) ((c.tc : Thread Cert.DownFwdIdeal.nD Cert.DownFwdIdeal.τ).loc Cert.DownFwdIdeal.main_v0_3)) (v4 : (c : Dev Cert.DownFwdIdeal.nD) → Buf (Elt Ideal) ((c.tc : Thread Cert.DownFwdIdeal.nD Cert.DownFwdIdeal.τ).loc Cert.DownFwdIdeal.main_v0_4)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_v0_2) = v2 c
          ∧ r.2.mem ((c.tc : Thread Cert.DownFwdIdeal.nD Cert.DownFwdIdeal.τ).loc Cert.DownFwdIdeal.main_v0_3) = v3 c
          ∧ r.2.mem ((c.tc : Thread Cert.DownFwdIdeal.nD Cert.DownFwdIdeal.τ).loc Cert.DownFwdIdeal.main_v0_4) = v4 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
          ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
          ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6)
          ∧ r.2.mem ((c.tc : Thread Cert.DownFwdIdeal.nD Cert.DownFwdIdeal.τ).loc Cert.DownFwdIdeal.main_arg7) = m ((c.tc : Thread Cert.DownFwdIdeal.nD Cert.DownFwdIdeal.τ).loc Cert.DownFwdIdeal.main_arg7))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v9) = v0 c
          ∧ r.2.mem ((c.tc : Thread Cert.DownFwdRefIdeal.nD Cert.DownFwdRefIdeal.τ).loc Cert.DownFwdRefIdeal.main_v17) = v1 c
          ∧ r.2.mem ((c.tc : Thread Cert.DownFwdRefIdeal.nD Cert.DownFwdRefIdeal.τ).loc Cert.DownFwdRefIdeal.main_v14) = v2 c
          ∧ r.2.mem ((c.tc : Thread Cert.DownFwdRefIdeal.nD Cert.DownFwdRefIdeal.τ).loc Cert.DownFwdRefIdeal.main_v20) = v3 c
          ∧ r.2.mem ((c.tc : Thread Cert.DownFwdRefIdeal.nD Cert.DownFwdRefIdeal.τ).loc Cert.DownFwdRefIdeal.main_v24) = v4 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4)
          ∧ r.2.mem ((c.tc : Thread Cert.DownFwdRefIdeal.nD Cert.DownFwdRefIdeal.τ).loc Cert.DownFwdRefIdeal.main_arg5) = m' ((c.tc : Thread Cert.DownFwdRefIdeal.nD Cert.DownFwdRefIdeal.τ).loc Cert.DownFwdRefIdeal.main_arg5)
          ∧ r.2.mem ((c.tc : Thread Cert.DownFwdRefIdeal.nD Cert.DownFwdRefIdeal.τ).loc Cert.DownFwdRefIdeal.main_arg6) = m' ((c.tc : Thread Cert.DownFwdRefIdeal.nD Cert.DownFwdRefIdeal.τ).loc Cert.DownFwdRefIdeal.main_arg6)
          ∧ r.2.mem ((c.tc : Thread Cert.DownFwdRefIdeal.nD Cert.DownFwdRefIdeal.τ).loc Cert.DownFwdRefIdeal.main_arg7) = m' ((c.tc : Thread Cert.DownFwdRefIdeal.nD Cert.DownFwdRefIdeal.τ).loc Cert.DownFwdRefIdeal.main_arg7))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v13) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_GateUpFwd_GateUpFwdIdeal : Prop :=
  True

def algebraic_GateUpFwdIdeal_GateUpFwdRefIdeal [hGateUpFwdIdeal : Cert.GateUpFwdIdeal.Facts] [hGateUpFwdRefIdeal : Cert.GateUpFwdRefIdeal.Facts] : Prop :=
  ∀ (m : (ℓ : Loc Cert.GateUpFwdIdeal.nD Cert.GateUpFwdIdeal.τ Cert.GateUpFwdIdeal.sig) → Buf (Elt Ideal) ℓ) (g : Dev Cert.GateUpFwdIdeal.nD → PrngReg)
    (m' : (ℓ : Loc Cert.GateUpFwdRefIdeal.nD Cert.GateUpFwdRefIdeal.τ Cert.GateUpFwdRefIdeal.sig) → Buf (Elt Ideal) ℓ) (g' : Dev Cert.GateUpFwdRefIdeal.nD → PrngReg), Pre_GateUpFwdIdeal m →
    (∀ c : Dev Cert.GateUpFwdIdeal.nD,
      m' ((c.tc : Thread Cert.GateUpFwdRefIdeal.nD Cert.GateUpFwdRefIdeal.τ).loc Cert.GateUpFwdRefIdeal.main_arg0) = m ((c.tc : Thread Cert.GateUpFwdIdeal.nD Cert.GateUpFwdIdeal.τ).loc Cert.GateUpFwdIdeal.main_arg0)
      ∧ m' ((c.tc : Thread Cert.GateUpFwdRefIdeal.nD Cert.GateUpFwdRefIdeal.τ).loc Cert.GateUpFwdRefIdeal.main_arg1) = m ((c.tc : Thread Cert.GateUpFwdIdeal.nD Cert.GateUpFwdIdeal.τ).loc Cert.GateUpFwdIdeal.main_arg1)
      ∧ m' ((c.tc : Thread Cert.GateUpFwdRefIdeal.nD Cert.GateUpFwdRefIdeal.τ).loc Cert.GateUpFwdRefIdeal.main_arg2) = m ((c.tc : Thread Cert.GateUpFwdIdeal.nD Cert.GateUpFwdIdeal.τ).loc Cert.GateUpFwdIdeal.main_arg2)
      ∧ m' ((c.tc : Thread Cert.GateUpFwdRefIdeal.nD Cert.GateUpFwdRefIdeal.τ).loc Cert.GateUpFwdRefIdeal.main_arg3) = m ((c.tc : Thread Cert.GateUpFwdIdeal.nD Cert.GateUpFwdIdeal.τ).loc Cert.GateUpFwdIdeal.main_arg3)
      ∧ m' ((c.tc : Thread Cert.GateUpFwdRefIdeal.nD Cert.GateUpFwdRefIdeal.τ).loc Cert.GateUpFwdRefIdeal.main_arg4) = m ((c.tc : Thread Cert.GateUpFwdIdeal.nD Cert.GateUpFwdIdeal.τ).loc Cert.GateUpFwdIdeal.main_arg4)
      ∧ m' ((c.tc : Thread Cert.GateUpFwdRefIdeal.nD Cert.GateUpFwdRefIdeal.τ).loc Cert.GateUpFwdRefIdeal.main_arg5) = m ((c.tc : Thread Cert.GateUpFwdIdeal.nD Cert.GateUpFwdIdeal.τ).loc Cert.GateUpFwdIdeal.main_arg5)
      ∧ m' ((c.tc : Thread Cert.GateUpFwdRefIdeal.nD Cert.GateUpFwdRefIdeal.τ).loc Cert.GateUpFwdRefIdeal.main_arg6) = m ((c.tc : Thread Cert.GateUpFwdIdeal.nD Cert.GateUpFwdIdeal.τ).loc Cert.GateUpFwdIdeal.main_arg6)
      ∧ m' ((c.tc : Thread Cert.GateUpFwdRefIdeal.nD Cert.GateUpFwdRefIdeal.τ).loc Cert.GateUpFwdRefIdeal.main_arg7) = m ((c.tc : Thread Cert.GateUpFwdIdeal.nD Cert.GateUpFwdIdeal.τ).loc Cert.GateUpFwdIdeal.main_arg7)
      ∧ m' ((c.tc : Thread Cert.GateUpFwdRefIdeal.nD Cert.GateUpFwdRefIdeal.τ).loc Cert.GateUpFwdRefIdeal.main_arg8) = m ((c.tc : Thread Cert.GateUpFwdIdeal.nD Cert.GateUpFwdIdeal.τ).loc Cert.GateUpFwdIdeal.main_arg8)) →
    ∃ (v0 : (c : Dev Cert.GateUpFwdIdeal.nD) → Buf (Elt Ideal) ((c.tc : Thread Cert.GateUpFwdIdeal.nD Cert.GateUpFwdIdeal.τ).loc Cert.GateUpFwdIdeal.main_v0_0)) (v1 : (c : Dev Cert.GateUpFwdIdeal.nD) → Buf (Elt Ideal) ((c.tc : Thread Cert.GateUpFwdIdeal.nD Cert.GateUpFwdIdeal.τ).loc Cert.GateUpFwdIdeal.main_v0_1)) (v2 : (c : Dev Cert.GateUpFwdIdeal.nD) → Buf (Elt Ideal) ((c.tc : Thread Cert.GateUpFwdIdeal.nD Cert.GateUpFwdIdeal.τ).loc Cert.GateUpFwdIdeal.main_v0_2)) (v3 : (c : Dev Cert.GateUpFwdIdeal.nD) → Buf (Elt Ideal) ((c.tc : Thread Cert.GateUpFwdIdeal.nD Cert.GateUpFwdIdeal.τ).loc Cert.GateUpFwdIdeal.main_v0_3)),
      θ_run (Cert.GateUpFwdIdeal.defs (F := Ideal)) (onTc (τ := Cert.GateUpFwdIdeal.τ) (Cert.GateUpFwdIdeal.main (F := Ideal))) ⟨m, fun _ => 0, g⟩ (fun r => ∀ c : Dev Cert.GateUpFwdIdeal.nD,
          r.2.mem ((c.tc : Thread Cert.GateUpFwdIdeal.nD Cert.GateUpFwdIdeal.τ).loc Cert.GateUpFwdIdeal.main_v0_0) = v0 c
          ∧ r.2.mem ((c.tc : Thread Cert.GateUpFwdIdeal.nD Cert.GateUpFwdIdeal.τ).loc Cert.GateUpFwdIdeal.main_v0_1) = v1 c
          ∧ r.2.mem ((c.tc : Thread Cert.GateUpFwdIdeal.nD Cert.GateUpFwdIdeal.τ).loc Cert.GateUpFwdIdeal.main_v0_2) = v2 c
          ∧ r.2.mem ((c.tc : Thread Cert.GateUpFwdIdeal.nD Cert.GateUpFwdIdeal.τ).loc Cert.GateUpFwdIdeal.main_v0_3) = v3 c
          ∧ r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
          ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1)
          ∧ r.2.mem ((c.tc : Thread Cert.GateUpFwdIdeal.nD Cert.GateUpFwdIdeal.τ).loc Cert.GateUpFwdIdeal.main_arg2) = m ((c.tc : Thread Cert.GateUpFwdIdeal.nD Cert.GateUpFwdIdeal.τ).loc Cert.GateUpFwdIdeal.main_arg2)
          ∧ r.2.mem ((c.tc : Thread Cert.GateUpFwdIdeal.nD Cert.GateUpFwdIdeal.τ).loc Cert.GateUpFwdIdeal.main_arg3) = m ((c.tc : Thread Cert.GateUpFwdIdeal.nD Cert.GateUpFwdIdeal.τ).loc Cert.GateUpFwdIdeal.main_arg3)
          ∧ r.2.mem ((c.tc : Thread Cert.GateUpFwdIdeal.nD Cert.GateUpFwdIdeal.τ).loc Cert.GateUpFwdIdeal.main_arg4) = m ((c.tc : Thread Cert.GateUpFwdIdeal.nD Cert.GateUpFwdIdeal.τ).loc Cert.GateUpFwdIdeal.main_arg4)
          ∧ r.2.mem ((c.tc : Thread Cert.GateUpFwdIdeal.nD Cert.GateUpFwdIdeal.τ).loc Cert.GateUpFwdIdeal.main_arg5) = m ((c.tc : Thread Cert.GateUpFwdIdeal.nD Cert.GateUpFwdIdeal.τ).loc Cert.GateUpFwdIdeal.main_arg5)
          ∧ r.2.mem ((c.tc : Thread Cert.GateUpFwdIdeal.nD Cert.GateUpFwdIdeal.τ).loc Cert.GateUpFwdIdeal.main_arg6) = m ((c.tc : Thread Cert.GateUpFwdIdeal.nD Cert.GateUpFwdIdeal.τ).loc Cert.GateUpFwdIdeal.main_arg6)
          ∧ r.2.mem ((c.tc : Thread Cert.GateUpFwdIdeal.nD Cert.GateUpFwdIdeal.τ).loc Cert.GateUpFwdIdeal.main_arg7) = m ((c.tc : Thread Cert.GateUpFwdIdeal.nD Cert.GateUpFwdIdeal.τ).loc Cert.GateUpFwdIdeal.main_arg7)
          ∧ r.2.mem ((c.tc : Thread Cert.GateUpFwdIdeal.nD Cert.GateUpFwdIdeal.τ).loc Cert.GateUpFwdIdeal.main_arg8) = m ((c.tc : Thread Cert.GateUpFwdIdeal.nD Cert.GateUpFwdIdeal.τ).loc Cert.GateUpFwdIdeal.main_arg8))
      ∧ θ_run (Cert.GateUpFwdRefIdeal.defs (F := Ideal)) (onTc (τ := Cert.GateUpFwdRefIdeal.τ) (Cert.GateUpFwdRefIdeal.main (F := Ideal))) ⟨m', fun _ => 0, g'⟩ (fun r => ∀ c : Dev Cert.GateUpFwdRefIdeal.nD,
          r.2.mem ((c.tc : Thread Cert.GateUpFwdRefIdeal.nD Cert.GateUpFwdRefIdeal.τ).loc Cert.GateUpFwdRefIdeal.main_v5) = v0 c
          ∧ r.2.mem ((c.tc : Thread Cert.GateUpFwdRefIdeal.nD Cert.GateUpFwdRefIdeal.τ).loc Cert.GateUpFwdRefIdeal.main_v11) = v1 c
          ∧ r.2.mem ((c.tc : Thread Cert.GateUpFwdRefIdeal.nD Cert.GateUpFwdRefIdeal.τ).loc Cert.GateUpFwdRefIdeal.main_v24) = v2 c
          ∧ r.2.mem ((c.tc : Thread Cert.GateUpFwdRefIdeal.nD Cert.GateUpFwdRefIdeal.τ).loc Cert.GateUpFwdRefIdeal.main_v26) = v3 c
          ∧ r.2.mem ((c.tc : Thread Cert.GateUpFwdRefIdeal.nD Cert.GateUpFwdRefIdeal.τ).loc Cert.GateUpFwdRefIdeal.main_arg0) = m' ((c.tc : Thread Cert.GateUpFwdRefIdeal.nD Cert.GateUpFwdRefIdeal.τ).loc Cert.GateUpFwdRefIdeal.main_arg0)
          ∧ r.2.mem ((c.tc : Thread Cert.GateUpFwdRefIdeal.nD Cert.GateUpFwdRefIdeal.τ).loc Cert.GateUpFwdRefIdeal.main_arg1) = m' ((c.tc : Thread Cert.GateUpFwdRefIdeal.nD Cert.GateUpFwdRefIdeal.τ).loc Cert.GateUpFwdRefIdeal.main_arg1)
          ∧ r.2.mem ((c.tc : Thread Cert.GateUpFwdRefIdeal.nD Cert.GateUpFwdRefIdeal.τ).loc Cert.GateUpFwdRefIdeal.main_arg2) = m' ((c.tc : Thread Cert.GateUpFwdRefIdeal.nD Cert.GateUpFwdRefIdeal.τ).loc Cert.GateUpFwdRefIdeal.main_arg2)
          ∧ r.2.mem ((c.tc : Thread Cert.GateUpFwdRefIdeal.nD Cert.GateUpFwdRefIdeal.τ).loc Cert.GateUpFwdRefIdeal.main_arg3) = m' ((c.tc : Thread Cert.GateUpFwdRefIdeal.nD Cert.GateUpFwdRefIdeal.τ).loc Cert.GateUpFwdRefIdeal.main_arg3)
          ∧ r.2.mem ((c.tc : Thread Cert.GateUpFwdRefIdeal.nD Cert.GateUpFwdRefIdeal.τ).loc Cert.GateUpFwdRefIdeal.main_arg4) = m' ((c.tc : Thread Cert.GateUpFwdRefIdeal.nD Cert.GateUpFwdRefIdeal.τ).loc Cert.GateUpFwdRefIdeal.main_arg4)
          ∧ r.2.mem ((c.tc : Thread Cert.GateUpFwdRefIdeal.nD Cert.GateUpFwdRefIdeal.τ).loc Cert.GateUpFwdRefIdeal.main_arg5) = m' ((c.tc : Thread Cert.GateUpFwdRefIdeal.nD Cert.GateUpFwdRefIdeal.τ).loc Cert.GateUpFwdRefIdeal.main_arg5)
          ∧ r.2.mem ((c.tc : Thread Cert.GateUpFwdRefIdeal.nD Cert.GateUpFwdRefIdeal.τ).loc Cert.GateUpFwdRefIdeal.main_arg6) = m' ((c.tc : Thread Cert.GateUpFwdRefIdeal.nD Cert.GateUpFwdRefIdeal.τ).loc Cert.GateUpFwdRefIdeal.main_arg6)
          ∧ r.2.mem ((c.tc : Thread Cert.GateUpFwdRefIdeal.nD Cert.GateUpFwdRefIdeal.τ).loc Cert.GateUpFwdRefIdeal.main_arg7) = m' ((c.tc : Thread Cert.GateUpFwdRefIdeal.nD Cert.GateUpFwdRefIdeal.τ).loc Cert.GateUpFwdRefIdeal.main_arg7)
          ∧ r.2.mem ((c.tc : Thread Cert.GateUpFwdRefIdeal.nD Cert.GateUpFwdRefIdeal.τ).loc Cert.GateUpFwdRefIdeal.main_arg8) = m' ((c.tc : Thread Cert.GateUpFwdRefIdeal.nD Cert.GateUpFwdRefIdeal.τ).loc Cert.GateUpFwdRefIdeal.main_arg8))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)
      ∧ m' ((c.tc : Thread Cert.DownBwdRefIdeal.nD Cert.DownBwdRefIdeal.τ).loc Cert.DownBwdRefIdeal.main_arg4) = m ((c.tc : Thread Cert.DownBwdIdeal.nD Cert.DownBwdIdeal.τ).loc Cert.DownBwdIdeal.main_arg4)
      ∧ m' ((c.tc : Thread Cert.DownBwdRefIdeal.nD Cert.DownBwdRefIdeal.τ).loc Cert.DownBwdRefIdeal.main_arg5) = m ((c.tc : Thread Cert.DownBwdIdeal.nD Cert.DownBwdIdeal.τ).loc Cert.DownBwdIdeal.main_arg5)
      ∧ m' ((c.tc : Thread Cert.DownBwdRefIdeal.nD Cert.DownBwdRefIdeal.τ).loc Cert.DownBwdRefIdeal.main_arg6) = m ((c.tc : Thread Cert.DownBwdIdeal.nD Cert.DownBwdIdeal.τ).loc Cert.DownBwdIdeal.main_arg6)
      ∧ m' ((c.tc : Thread Cert.DownBwdRefIdeal.nD Cert.DownBwdRefIdeal.τ).loc Cert.DownBwdRefIdeal.main_arg7) = m ((c.tc : Thread Cert.DownBwdIdeal.nD Cert.DownBwdIdeal.τ).loc Cert.DownBwdIdeal.main_arg7)
      ∧ m' ((c.tc : Thread Cert.DownBwdRefIdeal.nD Cert.DownBwdRefIdeal.τ).loc Cert.DownBwdRefIdeal.main_arg8) = m ((c.tc : Thread Cert.DownBwdIdeal.nD Cert.DownBwdIdeal.τ).loc Cert.DownBwdIdeal.main_arg8)
      ∧ m' ((c.tc : Thread Cert.DownBwdRefIdeal.nD Cert.DownBwdRefIdeal.τ).loc Cert.DownBwdRefIdeal.main_arg9) = m ((c.tc : Thread Cert.DownBwdIdeal.nD Cert.DownBwdIdeal.τ).loc Cert.DownBwdIdeal.main_arg9)
      ∧ m' ((c.tc : Thread Cert.DownBwdRefIdeal.nD Cert.DownBwdRefIdeal.τ).loc Cert.DownBwdRefIdeal.main_arg10) = m ((c.tc : Thread Cert.DownBwdIdeal.nD Cert.DownBwdIdeal.τ).loc Cert.DownBwdIdeal.main_arg10)
      ∧ m' ((c.tc : Thread Cert.DownBwdRefIdeal.nD Cert.DownBwdRefIdeal.τ).loc Cert.DownBwdRefIdeal.main_arg11) = m ((c.tc : Thread Cert.DownBwdIdeal.nD Cert.DownBwdIdeal.τ).loc Cert.DownBwdIdeal.main_arg11)
      ∧ m' ((c.tc : Thread Cert.DownBwdRefIdeal.nD Cert.DownBwdRefIdeal.τ).loc Cert.DownBwdRefIdeal.main_arg12) = m ((c.tc : Thread Cert.DownBwdIdeal.nD Cert.DownBwdIdeal.τ).loc Cert.DownBwdIdeal.main_arg12)
      ∧ m' ((c.tc : Thread Cert.DownBwdRefIdeal.nD Cert.DownBwdRefIdeal.τ).loc Cert.DownBwdRefIdeal.main_arg13) = m ((c.tc : Thread Cert.DownBwdIdeal.nD Cert.DownBwdIdeal.τ).loc Cert.DownBwdIdeal.main_arg13)) →
    ∃ (v0 : (c : Dev Cert.DownBwdIdeal.nD) → Buf (Elt Ideal) ((c.tc : Thread Cert.DownBwdIdeal.nD Cert.DownBwdIdeal.τ).loc Cert.DownBwdIdeal.main_v0_0)) (v1 : (c : Dev Cert.DownBwdIdeal.nD) → Buf (Elt Ideal) ((c.tc : Thread Cert.DownBwdIdeal.nD Cert.DownBwdIdeal.τ).loc Cert.DownBwdIdeal.main_v0_1)) (v2 : (c : Dev Cert.DownBwdIdeal.nD) → Buf (Elt Ideal) ((c.tc : Thread Cert.DownBwdIdeal.nD Cert.DownBwdIdeal.τ).loc Cert.DownBwdIdeal.main_v0_2)) (v3 : (c : Dev Cert.DownBwdIdeal.nD) → Buf (Elt Ideal) ((c.tc : Thread Cert.DownBwdIdeal.nD Cert.DownBwdIdeal.τ).loc Cert.DownBwdIdeal.main_v0_3)) (v4 : (c : Dev Cert.DownBwdIdeal.nD) → Buf (Elt Ideal) ((c.tc : Thread Cert.DownBwdIdeal.nD Cert.DownBwdIdeal.τ).loc Cert.DownBwdIdeal.main_v0_4)) (v5 : (c : Dev Cert.DownBwdIdeal.nD) → Buf (Elt Ideal) ((c.tc : Thread Cert.DownBwdIdeal.nD Cert.DownBwdIdeal.τ).loc Cert.DownBwdIdeal.main_v0_5)) (v6 : (c : Dev Cert.DownBwdIdeal.nD) → Buf (Elt Ideal) ((c.tc : Thread Cert.DownBwdIdeal.nD Cert.DownBwdIdeal.τ).loc Cert.DownBwdIdeal.main_v0_6)) (v7 : (c : Dev Cert.DownBwdIdeal.nD) → Buf (Elt Ideal) ((c.tc : Thread Cert.DownBwdIdeal.nD Cert.DownBwdIdeal.τ).loc Cert.DownBwdIdeal.main_v0_7)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0_0) = v0 c
          ∧ r.2.mem ((c.tc : Thread Cert.DownBwdIdeal.nD Cert.DownBwdIdeal.τ).loc Cert.DownBwdIdeal.main_v0_1) = v1 c
          ∧ r.2.mem ((c.tc : Thread Cert.DownBwdIdeal.nD Cert.DownBwdIdeal.τ).loc Cert.DownBwdIdeal.main_v0_2) = v2 c
          ∧ r.2.mem ((c.tc : Thread Cert.DownBwdIdeal.nD Cert.DownBwdIdeal.τ).loc Cert.DownBwdIdeal.main_v0_3) = v3 c
          ∧ r.2.mem ((c.tc : Thread Cert.DownBwdIdeal.nD Cert.DownBwdIdeal.τ).loc Cert.DownBwdIdeal.main_v0_4) = v4 c
          ∧ r.2.mem ((c.tc : Thread Cert.DownBwdIdeal.nD Cert.DownBwdIdeal.τ).loc Cert.DownBwdIdeal.main_v0_5) = v5 c
          ∧ r.2.mem ((c.tc : Thread Cert.DownBwdIdeal.nD Cert.DownBwdIdeal.τ).loc Cert.DownBwdIdeal.main_v0_6) = v6 c
          ∧ r.2.mem ((c.tc : Thread Cert.DownBwdIdeal.nD Cert.DownBwdIdeal.τ).loc Cert.DownBwdIdeal.main_v0_7) = v7 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
          ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4)
          ∧ r.2.mem ((c.tc : Thread Cert.DownBwdIdeal.nD Cert.DownBwdIdeal.τ).loc Cert.DownBwdIdeal.main_arg5) = m ((c.tc : Thread Cert.DownBwdIdeal.nD Cert.DownBwdIdeal.τ).loc Cert.DownBwdIdeal.main_arg5)
          ∧ r.2.mem ((c.tc : Thread Cert.DownBwdIdeal.nD Cert.DownBwdIdeal.τ).loc Cert.DownBwdIdeal.main_arg6) = m ((c.tc : Thread Cert.DownBwdIdeal.nD Cert.DownBwdIdeal.τ).loc Cert.DownBwdIdeal.main_arg6)
          ∧ r.2.mem ((c.tc : Thread Cert.DownBwdIdeal.nD Cert.DownBwdIdeal.τ).loc Cert.DownBwdIdeal.main_arg7) = m ((c.tc : Thread Cert.DownBwdIdeal.nD Cert.DownBwdIdeal.τ).loc Cert.DownBwdIdeal.main_arg7)
          ∧ r.2.mem ((c.tc : Thread Cert.DownBwdIdeal.nD Cert.DownBwdIdeal.τ).loc Cert.DownBwdIdeal.main_arg8) = m ((c.tc : Thread Cert.DownBwdIdeal.nD Cert.DownBwdIdeal.τ).loc Cert.DownBwdIdeal.main_arg8)
          ∧ r.2.mem ((c.tc : Thread Cert.DownBwdIdeal.nD Cert.DownBwdIdeal.τ).loc Cert.DownBwdIdeal.main_arg9) = m ((c.tc : Thread Cert.DownBwdIdeal.nD Cert.DownBwdIdeal.τ).loc Cert.DownBwdIdeal.main_arg9)
          ∧ r.2.mem ((c.tc : Thread Cert.DownBwdIdeal.nD Cert.DownBwdIdeal.τ).loc Cert.DownBwdIdeal.main_arg10) = m ((c.tc : Thread Cert.DownBwdIdeal.nD Cert.DownBwdIdeal.τ).loc Cert.DownBwdIdeal.main_arg10)
          ∧ r.2.mem ((c.tc : Thread Cert.DownBwdIdeal.nD Cert.DownBwdIdeal.τ).loc Cert.DownBwdIdeal.main_arg11) = m ((c.tc : Thread Cert.DownBwdIdeal.nD Cert.DownBwdIdeal.τ).loc Cert.DownBwdIdeal.main_arg11)
          ∧ r.2.mem ((c.tc : Thread Cert.DownBwdIdeal.nD Cert.DownBwdIdeal.τ).loc Cert.DownBwdIdeal.main_arg12) = m ((c.tc : Thread Cert.DownBwdIdeal.nD Cert.DownBwdIdeal.τ).loc Cert.DownBwdIdeal.main_arg12)
          ∧ r.2.mem ((c.tc : Thread Cert.DownBwdIdeal.nD Cert.DownBwdIdeal.τ).loc Cert.DownBwdIdeal.main_arg13) = m ((c.tc : Thread Cert.DownBwdIdeal.nD Cert.DownBwdIdeal.τ).loc Cert.DownBwdIdeal.main_arg13))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v34) = v0 c
          ∧ r.2.mem ((c.tc : Thread Cert.DownBwdRefIdeal.nD Cert.DownBwdRefIdeal.τ).loc Cert.DownBwdRefIdeal.main_v37) = v1 c
          ∧ r.2.mem ((c.tc : Thread Cert.DownBwdRefIdeal.nD Cert.DownBwdRefIdeal.τ).loc Cert.DownBwdRefIdeal.main_v3) = v2 c
          ∧ r.2.mem ((c.tc : Thread Cert.DownBwdRefIdeal.nD Cert.DownBwdRefIdeal.τ).loc Cert.DownBwdRefIdeal.main_v27) = v3 c
          ∧ r.2.mem ((c.tc : Thread Cert.DownBwdRefIdeal.nD Cert.DownBwdRefIdeal.τ).loc Cert.DownBwdRefIdeal.main_v31) = v4 c
          ∧ r.2.mem ((c.tc : Thread Cert.DownBwdRefIdeal.nD Cert.DownBwdRefIdeal.τ).loc Cert.DownBwdRefIdeal.main_v41) = v5 c
          ∧ r.2.mem ((c.tc : Thread Cert.DownBwdRefIdeal.nD Cert.DownBwdRefIdeal.τ).loc Cert.DownBwdRefIdeal.main_v45) = v6 c
          ∧ r.2.mem ((c.tc : Thread Cert.DownBwdRefIdeal.nD Cert.DownBwdRefIdeal.τ).loc Cert.DownBwdRefIdeal.main_v54) = v7 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3)
          ∧ r.2.mem ((c.tc : Thread Cert.DownBwdRefIdeal.nD Cert.DownBwdRefIdeal.τ).loc Cert.DownBwdRefIdeal.main_arg4) = m' ((c.tc : Thread Cert.DownBwdRefIdeal.nD Cert.DownBwdRefIdeal.τ).loc Cert.DownBwdRefIdeal.main_arg4)
          ∧ r.2.mem ((c.tc : Thread Cert.DownBwdRefIdeal.nD Cert.DownBwdRefIdeal.τ).loc Cert.DownBwdRefIdeal.main_arg5) = m' ((c.tc : Thread Cert.DownBwdRefIdeal.nD Cert.DownBwdRefIdeal.τ).loc Cert.DownBwdRefIdeal.main_arg5)
          ∧ r.2.mem ((c.tc : Thread Cert.DownBwdRefIdeal.nD Cert.DownBwdRefIdeal.τ).loc Cert.DownBwdRefIdeal.main_arg6) = m' ((c.tc : Thread Cert.DownBwdRefIdeal.nD Cert.DownBwdRefIdeal.τ).loc Cert.DownBwdRefIdeal.main_arg6)
          ∧ r.2.mem ((c.tc : Thread Cert.DownBwdRefIdeal.nD Cert.DownBwdRefIdeal.τ).loc Cert.DownBwdRefIdeal.main_arg7) = m' ((c.tc : Thread Cert.DownBwdRefIdeal.nD Cert.DownBwdRefIdeal.τ).loc Cert.DownBwdRefIdeal.main_arg7)
          ∧ r.2.mem ((c.tc : Thread Cert.DownBwdRefIdeal.nD Cert.DownBwdRefIdeal.τ).loc Cert.DownBwdRefIdeal.main_arg8) = m' ((c.tc : Thread Cert.DownBwdRefIdeal.nD Cert.DownBwdRefIdeal.τ).loc Cert.DownBwdRefIdeal.main_arg8)
          ∧ r.2.mem ((c.tc : Thread Cert.DownBwdRefIdeal.nD Cert.DownBwdRefIdeal.τ).loc Cert.DownBwdRefIdeal.main_arg9) = m' ((c.tc : Thread Cert.DownBwdRefIdeal.nD Cert.DownBwdRefIdeal.τ).loc Cert.DownBwdRefIdeal.main_arg9)
          ∧ r.2.mem ((c.tc : Thread Cert.DownBwdRefIdeal.nD Cert.DownBwdRefIdeal.τ).loc Cert.DownBwdRefIdeal.main_arg10) = m' ((c.tc : Thread Cert.DownBwdRefIdeal.nD Cert.DownBwdRefIdeal.τ).loc Cert.DownBwdRefIdeal.main_arg10)
          ∧ r.2.mem ((c.tc : Thread Cert.DownBwdRefIdeal.nD Cert.DownBwdRefIdeal.τ).loc Cert.DownBwdRefIdeal.main_arg11) = m' ((c.tc : Thread Cert.DownBwdRefIdeal.nD Cert.DownBwdRefIdeal.τ).loc Cert.DownBwdRefIdeal.main_arg11)
          ∧ r.2.mem ((c.tc : Thread Cert.DownBwdRefIdeal.nD Cert.DownBwdRefIdeal.τ).loc Cert.DownBwdRefIdeal.main_arg12) = m' ((c.tc : Thread Cert.DownBwdRefIdeal.nD Cert.DownBwdRefIdeal.τ).loc Cert.DownBwdRefIdeal.main_arg12)
          ∧ r.2.mem ((c.tc : Thread Cert.DownBwdRefIdeal.nD Cert.DownBwdRefIdeal.τ).loc Cert.DownBwdRefIdeal.main_arg13) = m' ((c.tc : Thread Cert.DownBwdRefIdeal.nD Cert.DownBwdRefIdeal.τ).loc Cert.DownBwdRefIdeal.main_arg13))

def preserves_GateUpBwd_GateUpBwdIdeal : Prop :=
  True

def algebraic_GateUpBwdIdeal_GateUpBwdRefIdeal [hGateUpBwdIdeal : Cert.GateUpBwdIdeal.Facts] [hGateUpBwdRefIdeal : Cert.GateUpBwdRefIdeal.Facts] : Prop :=
  ∀ (m : (ℓ : Loc Cert.GateUpBwdIdeal.nD Cert.GateUpBwdIdeal.τ Cert.GateUpBwdIdeal.sig) → Buf (Elt Ideal) ℓ) (g : Dev Cert.GateUpBwdIdeal.nD → PrngReg)
    (m' : (ℓ : Loc Cert.GateUpBwdRefIdeal.nD Cert.GateUpBwdRefIdeal.τ Cert.GateUpBwdRefIdeal.sig) → Buf (Elt Ideal) ℓ) (g' : Dev Cert.GateUpBwdRefIdeal.nD → PrngReg), Pre_GateUpBwdIdeal m →
    (∀ c : Dev Cert.GateUpBwdIdeal.nD,
      m' ((c.tc : Thread Cert.GateUpBwdRefIdeal.nD Cert.GateUpBwdRefIdeal.τ).loc Cert.GateUpBwdRefIdeal.main_arg0) = m ((c.tc : Thread Cert.GateUpBwdIdeal.nD Cert.GateUpBwdIdeal.τ).loc Cert.GateUpBwdIdeal.main_arg0)
      ∧ m' ((c.tc : Thread Cert.GateUpBwdRefIdeal.nD Cert.GateUpBwdRefIdeal.τ).loc Cert.GateUpBwdRefIdeal.main_arg1) = m ((c.tc : Thread Cert.GateUpBwdIdeal.nD Cert.GateUpBwdIdeal.τ).loc Cert.GateUpBwdIdeal.main_arg1)
      ∧ m' ((c.tc : Thread Cert.GateUpBwdRefIdeal.nD Cert.GateUpBwdRefIdeal.τ).loc Cert.GateUpBwdRefIdeal.main_arg2) = m ((c.tc : Thread Cert.GateUpBwdIdeal.nD Cert.GateUpBwdIdeal.τ).loc Cert.GateUpBwdIdeal.main_arg2)
      ∧ m' ((c.tc : Thread Cert.GateUpBwdRefIdeal.nD Cert.GateUpBwdRefIdeal.τ).loc Cert.GateUpBwdRefIdeal.main_arg3) = m ((c.tc : Thread Cert.GateUpBwdIdeal.nD Cert.GateUpBwdIdeal.τ).loc Cert.GateUpBwdIdeal.main_arg3)
      ∧ m' ((c.tc : Thread Cert.GateUpBwdRefIdeal.nD Cert.GateUpBwdRefIdeal.τ).loc Cert.GateUpBwdRefIdeal.main_arg4) = m ((c.tc : Thread Cert.GateUpBwdIdeal.nD Cert.GateUpBwdIdeal.τ).loc Cert.GateUpBwdIdeal.main_arg4)
      ∧ m' ((c.tc : Thread Cert.GateUpBwdRefIdeal.nD Cert.GateUpBwdRefIdeal.τ).loc Cert.GateUpBwdRefIdeal.main_arg5) = m ((c.tc : Thread Cert.GateUpBwdIdeal.nD Cert.GateUpBwdIdeal.τ).loc Cert.GateUpBwdIdeal.main_arg5)
      ∧ m' ((c.tc : Thread Cert.GateUpBwdRefIdeal.nD Cert.GateUpBwdRefIdeal.τ).loc Cert.GateUpBwdRefIdeal.main_arg6) = m ((c.tc : Thread Cert.GateUpBwdIdeal.nD Cert.GateUpBwdIdeal.τ).loc Cert.GateUpBwdIdeal.main_arg6)
      ∧ m' ((c.tc : Thread Cert.GateUpBwdRefIdeal.nD Cert.GateUpBwdRefIdeal.τ).loc Cert.GateUpBwdRefIdeal.main_arg7) = m ((c.tc : Thread Cert.GateUpBwdIdeal.nD Cert.GateUpBwdIdeal.τ).loc Cert.GateUpBwdIdeal.main_arg7)
      ∧ m' ((c.tc : Thread Cert.GateUpBwdRefIdeal.nD Cert.GateUpBwdRefIdeal.τ).loc Cert.GateUpBwdRefIdeal.main_arg8) = m ((c.tc : Thread Cert.GateUpBwdIdeal.nD Cert.GateUpBwdIdeal.τ).loc Cert.GateUpBwdIdeal.main_arg8)
      ∧ m' ((c.tc : Thread Cert.GateUpBwdRefIdeal.nD Cert.GateUpBwdRefIdeal.τ).loc Cert.GateUpBwdRefIdeal.main_arg9) = m ((c.tc : Thread Cert.GateUpBwdIdeal.nD Cert.GateUpBwdIdeal.τ).loc Cert.GateUpBwdIdeal.main_arg9)) →
    ∃ (v0 : (c : Dev Cert.GateUpBwdIdeal.nD) → Buf (Elt Ideal) ((c.tc : Thread Cert.GateUpBwdIdeal.nD Cert.GateUpBwdIdeal.τ).loc Cert.GateUpBwdIdeal.main_v0_0)) (v1 : (c : Dev Cert.GateUpBwdIdeal.nD) → Buf (Elt Ideal) ((c.tc : Thread Cert.GateUpBwdIdeal.nD Cert.GateUpBwdIdeal.τ).loc Cert.GateUpBwdIdeal.main_v0_1)) (v2 : (c : Dev Cert.GateUpBwdIdeal.nD) → Buf (Elt Ideal) ((c.tc : Thread Cert.GateUpBwdIdeal.nD Cert.GateUpBwdIdeal.τ).loc Cert.GateUpBwdIdeal.main_v0_2)),
      θ_run (Cert.GateUpBwdIdeal.defs (F := Ideal)) (onTc (τ := Cert.GateUpBwdIdeal.τ) (Cert.GateUpBwdIdeal.main (F := Ideal))) ⟨m, fun _ => 0, g⟩ (fun r => ∀ c : Dev Cert.GateUpBwdIdeal.nD,
          r.2.mem ((c.tc : Thread Cert.GateUpBwdIdeal.nD Cert.GateUpBwdIdeal.τ).loc Cert.GateUpBwdIdeal.main_v0_0) = v0 c
          ∧ r.2.mem ((c.tc : Thread Cert.GateUpBwdIdeal.nD Cert.GateUpBwdIdeal.τ).loc Cert.GateUpBwdIdeal.main_v0_1) = v1 c
          ∧ r.2.mem ((c.tc : Thread Cert.GateUpBwdIdeal.nD Cert.GateUpBwdIdeal.τ).loc Cert.GateUpBwdIdeal.main_v0_2) = v2 c
          ∧ r.2.mem ((c.tc : Thread Cert.GateUpBwdIdeal.nD Cert.GateUpBwdIdeal.τ).loc Cert.GateUpBwdIdeal.main_arg0) = m ((c.tc : Thread Cert.GateUpBwdIdeal.nD Cert.GateUpBwdIdeal.τ).loc Cert.GateUpBwdIdeal.main_arg0)
          ∧ r.2.mem ((c.tc : Thread Cert.GateUpBwdIdeal.nD Cert.GateUpBwdIdeal.τ).loc Cert.GateUpBwdIdeal.main_arg1) = m ((c.tc : Thread Cert.GateUpBwdIdeal.nD Cert.GateUpBwdIdeal.τ).loc Cert.GateUpBwdIdeal.main_arg1)
          ∧ r.2.mem ((c.tc : Thread Cert.GateUpBwdIdeal.nD Cert.GateUpBwdIdeal.τ).loc Cert.GateUpBwdIdeal.main_arg2) = m ((c.tc : Thread Cert.GateUpBwdIdeal.nD Cert.GateUpBwdIdeal.τ).loc Cert.GateUpBwdIdeal.main_arg2)
          ∧ r.2.mem ((c.tc : Thread Cert.GateUpBwdIdeal.nD Cert.GateUpBwdIdeal.τ).loc Cert.GateUpBwdIdeal.main_arg3) = m ((c.tc : Thread Cert.GateUpBwdIdeal.nD Cert.GateUpBwdIdeal.τ).loc Cert.GateUpBwdIdeal.main_arg3)
          ∧ r.2.mem ((c.tc : Thread Cert.GateUpBwdIdeal.nD Cert.GateUpBwdIdeal.τ).loc Cert.GateUpBwdIdeal.main_arg4) = m ((c.tc : Thread Cert.GateUpBwdIdeal.nD Cert.GateUpBwdIdeal.τ).loc Cert.GateUpBwdIdeal.main_arg4)
          ∧ r.2.mem ((c.tc : Thread Cert.GateUpBwdIdeal.nD Cert.GateUpBwdIdeal.τ).loc Cert.GateUpBwdIdeal.main_arg5) = m ((c.tc : Thread Cert.GateUpBwdIdeal.nD Cert.GateUpBwdIdeal.τ).loc Cert.GateUpBwdIdeal.main_arg5)
          ∧ r.2.mem ((c.tc : Thread Cert.GateUpBwdIdeal.nD Cert.GateUpBwdIdeal.τ).loc Cert.GateUpBwdIdeal.main_arg6) = m ((c.tc : Thread Cert.GateUpBwdIdeal.nD Cert.GateUpBwdIdeal.τ).loc Cert.GateUpBwdIdeal.main_arg6)
          ∧ r.2.mem ((c.tc : Thread Cert.GateUpBwdIdeal.nD Cert.GateUpBwdIdeal.τ).loc Cert.GateUpBwdIdeal.main_arg7) = m ((c.tc : Thread Cert.GateUpBwdIdeal.nD Cert.GateUpBwdIdeal.τ).loc Cert.GateUpBwdIdeal.main_arg7)
          ∧ r.2.mem ((c.tc : Thread Cert.GateUpBwdIdeal.nD Cert.GateUpBwdIdeal.τ).loc Cert.GateUpBwdIdeal.main_arg8) = m ((c.tc : Thread Cert.GateUpBwdIdeal.nD Cert.GateUpBwdIdeal.τ).loc Cert.GateUpBwdIdeal.main_arg8)
          ∧ r.2.mem ((c.tc : Thread Cert.GateUpBwdIdeal.nD Cert.GateUpBwdIdeal.τ).loc Cert.GateUpBwdIdeal.main_arg9) = m ((c.tc : Thread Cert.GateUpBwdIdeal.nD Cert.GateUpBwdIdeal.τ).loc Cert.GateUpBwdIdeal.main_arg9))
      ∧ θ_run (Cert.GateUpBwdRefIdeal.defs (F := Ideal)) (onTc (τ := Cert.GateUpBwdRefIdeal.τ) (Cert.GateUpBwdRefIdeal.main (F := Ideal))) ⟨m', fun _ => 0, g'⟩ (fun r => ∀ c : Dev Cert.GateUpBwdRefIdeal.nD,
          r.2.mem ((c.tc : Thread Cert.GateUpBwdRefIdeal.nD Cert.GateUpBwdRefIdeal.τ).loc Cert.GateUpBwdRefIdeal.main_v12) = v0 c
          ∧ r.2.mem ((c.tc : Thread Cert.GateUpBwdRefIdeal.nD Cert.GateUpBwdRefIdeal.τ).loc Cert.GateUpBwdRefIdeal.main_v13) = v1 c
          ∧ r.2.mem ((c.tc : Thread Cert.GateUpBwdRefIdeal.nD Cert.GateUpBwdRefIdeal.τ).loc Cert.GateUpBwdRefIdeal.main_v23) = v2 c
          ∧ r.2.mem ((c.tc : Thread Cert.GateUpBwdRefIdeal.nD Cert.GateUpBwdRefIdeal.τ).loc Cert.GateUpBwdRefIdeal.main_arg0) = m' ((c.tc : Thread Cert.GateUpBwdRefIdeal.nD Cert.GateUpBwdRefIdeal.τ).loc Cert.GateUpBwdRefIdeal.main_arg0)
          ∧ r.2.mem ((c.tc : Thread Cert.GateUpBwdRefIdeal.nD Cert.GateUpBwdRefIdeal.τ).loc Cert.GateUpBwdRefIdeal.main_arg1) = m' ((c.tc : Thread Cert.GateUpBwdRefIdeal.nD Cert.GateUpBwdRefIdeal.τ).loc Cert.GateUpBwdRefIdeal.main_arg1)
          ∧ r.2.mem ((c.tc : Thread Cert.GateUpBwdRefIdeal.nD Cert.GateUpBwdRefIdeal.τ).loc Cert.GateUpBwdRefIdeal.main_arg2) = m' ((c.tc : Thread Cert.GateUpBwdRefIdeal.nD Cert.GateUpBwdRefIdeal.τ).loc Cert.GateUpBwdRefIdeal.main_arg2)
          ∧ r.2.mem ((c.tc : Thread Cert.GateUpBwdRefIdeal.nD Cert.GateUpBwdRefIdeal.τ).loc Cert.GateUpBwdRefIdeal.main_arg3) = m' ((c.tc : Thread Cert.GateUpBwdRefIdeal.nD Cert.GateUpBwdRefIdeal.τ).loc Cert.GateUpBwdRefIdeal.main_arg3)
          ∧ r.2.mem ((c.tc : Thread Cert.GateUpBwdRefIdeal.nD Cert.GateUpBwdRefIdeal.τ).loc Cert.GateUpBwdRefIdeal.main_arg4) = m' ((c.tc : Thread Cert.GateUpBwdRefIdeal.nD Cert.GateUpBwdRefIdeal.τ).loc Cert.GateUpBwdRefIdeal.main_arg4)
          ∧ r.2.mem ((c.tc : Thread Cert.GateUpBwdRefIdeal.nD Cert.GateUpBwdRefIdeal.τ).loc Cert.GateUpBwdRefIdeal.main_arg5) = m' ((c.tc : Thread Cert.GateUpBwdRefIdeal.nD Cert.GateUpBwdRefIdeal.τ).loc Cert.GateUpBwdRefIdeal.main_arg5)
          ∧ r.2.mem ((c.tc : Thread Cert.GateUpBwdRefIdeal.nD Cert.GateUpBwdRefIdeal.τ).loc Cert.GateUpBwdRefIdeal.main_arg6) = m' ((c.tc : Thread Cert.GateUpBwdRefIdeal.nD Cert.GateUpBwdRefIdeal.τ).loc Cert.GateUpBwdRefIdeal.main_arg6)
          ∧ r.2.mem ((c.tc : Thread Cert.GateUpBwdRefIdeal.nD Cert.GateUpBwdRefIdeal.τ).loc Cert.GateUpBwdRefIdeal.main_arg7) = m' ((c.tc : Thread Cert.GateUpBwdRefIdeal.nD Cert.GateUpBwdRefIdeal.τ).loc Cert.GateUpBwdRefIdeal.main_arg7)
          ∧ r.2.mem ((c.tc : Thread Cert.GateUpBwdRefIdeal.nD Cert.GateUpBwdRefIdeal.τ).loc Cert.GateUpBwdRefIdeal.main_arg8) = m' ((c.tc : Thread Cert.GateUpBwdRefIdeal.nD Cert.GateUpBwdRefIdeal.τ).loc Cert.GateUpBwdRefIdeal.main_arg8)
          ∧ r.2.mem ((c.tc : Thread Cert.GateUpBwdRefIdeal.nD Cert.GateUpBwdRefIdeal.τ).loc Cert.GateUpBwdRefIdeal.main_arg9) = m' ((c.tc : Thread Cert.GateUpBwdRefIdeal.nD Cert.GateUpBwdRefIdeal.τ).loc Cert.GateUpBwdRefIdeal.main_arg9))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_v16) = v1 c
          ∧ r.2.mem ((c.tc : Thread Cert.NormRefIdeal.nD Cert.NormRefIdeal.τ).loc Cert.NormRefIdeal.main_v18) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_PrepDown_PrepDownIdeal : Prop :=
  True

def algebraic_PrepDownIdeal_PrepDownRefIdeal [hPrepDownIdeal : Cert.PrepDownIdeal.Facts] [hPrepDownRefIdeal : Cert.PrepDownRefIdeal.Facts] : Prop :=
  ∀ (m : (ℓ : Loc Cert.PrepDownIdeal.nD Cert.PrepDownIdeal.τ Cert.PrepDownIdeal.sig) → Buf (Elt Ideal) ℓ) (g : Dev Cert.PrepDownIdeal.nD → PrngReg)
    (m' : (ℓ : Loc Cert.PrepDownRefIdeal.nD Cert.PrepDownRefIdeal.τ Cert.PrepDownRefIdeal.sig) → Buf (Elt Ideal) ℓ) (g' : Dev Cert.PrepDownRefIdeal.nD → PrngReg), Pre_PrepDownIdeal m →
    (∀ c : Dev Cert.PrepDownIdeal.nD,
      m' ((c.tc : Thread Cert.PrepDownRefIdeal.nD Cert.PrepDownRefIdeal.τ).loc Cert.PrepDownRefIdeal.main_arg0) = m ((c.tc : Thread Cert.PrepDownIdeal.nD Cert.PrepDownIdeal.τ).loc Cert.PrepDownIdeal.main_arg0)
      ∧ m' ((c.tc : Thread Cert.PrepDownRefIdeal.nD Cert.PrepDownRefIdeal.τ).loc Cert.PrepDownRefIdeal.main_arg1) = m ((c.tc : Thread Cert.PrepDownIdeal.nD Cert.PrepDownIdeal.τ).loc Cert.PrepDownIdeal.main_arg1)
      ∧ m' ((c.tc : Thread Cert.PrepDownRefIdeal.nD Cert.PrepDownRefIdeal.τ).loc Cert.PrepDownRefIdeal.main_arg2) = m ((c.tc : Thread Cert.PrepDownIdeal.nD Cert.PrepDownIdeal.τ).loc Cert.PrepDownIdeal.main_arg2)
      ∧ m' ((c.tc : Thread Cert.PrepDownRefIdeal.nD Cert.PrepDownRefIdeal.τ).loc Cert.PrepDownRefIdeal.main_arg3) = m ((c.tc : Thread Cert.PrepDownIdeal.nD Cert.PrepDownIdeal.τ).loc Cert.PrepDownIdeal.main_arg3)
      ∧ m' ((c.tc : Thread Cert.PrepDownRefIdeal.nD Cert.PrepDownRefIdeal.τ).loc Cert.PrepDownRefIdeal.main_arg4) = m ((c.tc : Thread Cert.PrepDownIdeal.nD Cert.PrepDownIdeal.τ).loc Cert.PrepDownIdeal.main_arg4)
      ∧ m' ((c.tc : Thread Cert.PrepDownRefIdeal.nD Cert.PrepDownRefIdeal.τ).loc Cert.PrepDownRefIdeal.main_arg5) = m ((c.tc : Thread Cert.PrepDownIdeal.nD Cert.PrepDownIdeal.τ).loc Cert.PrepDownIdeal.main_arg5)) →
    ∃ (v0 : (c : Dev Cert.PrepDownIdeal.nD) → Buf (Elt Ideal) ((c.tc : Thread Cert.PrepDownIdeal.nD Cert.PrepDownIdeal.τ).loc Cert.PrepDownIdeal.main_v0_0)) (v1 : (c : Dev Cert.PrepDownIdeal.nD) → Buf (Elt Ideal) ((c.tc : Thread Cert.PrepDownIdeal.nD Cert.PrepDownIdeal.τ).loc Cert.PrepDownIdeal.main_v0_1)) (v2 : (c : Dev Cert.PrepDownIdeal.nD) → Buf (Elt Ideal) ((c.tc : Thread Cert.PrepDownIdeal.nD Cert.PrepDownIdeal.τ).loc Cert.PrepDownIdeal.main_v0_2)),
      θ_run (Cert.PrepDownIdeal.defs (F := Ideal)) (onTc (τ := Cert.PrepDownIdeal.τ) (Cert.PrepDownIdeal.main (F := Ideal))) ⟨m, fun _ => 0, g⟩ (fun r => ∀ c : Dev Cert.PrepDownIdeal.nD,
          r.2.mem ((c.tc : Thread Cert.PrepDownIdeal.nD Cert.PrepDownIdeal.τ).loc Cert.PrepDownIdeal.main_v0_0) = v0 c
          ∧ r.2.mem ((c.tc : Thread Cert.PrepDownIdeal.nD Cert.PrepDownIdeal.τ).loc Cert.PrepDownIdeal.main_v0_1) = v1 c
          ∧ r.2.mem ((c.tc : Thread Cert.PrepDownIdeal.nD Cert.PrepDownIdeal.τ).loc Cert.PrepDownIdeal.main_v0_2) = v2 c
          ∧ r.2.mem ((c.tc : Thread Cert.PrepDownIdeal.nD Cert.PrepDownIdeal.τ).loc Cert.PrepDownIdeal.main_arg0) = m ((c.tc : Thread Cert.PrepDownIdeal.nD Cert.PrepDownIdeal.τ).loc Cert.PrepDownIdeal.main_arg0)
          ∧ r.2.mem ((c.tc : Thread Cert.PrepDownIdeal.nD Cert.PrepDownIdeal.τ).loc Cert.PrepDownIdeal.main_arg1) = m ((c.tc : Thread Cert.PrepDownIdeal.nD Cert.PrepDownIdeal.τ).loc Cert.PrepDownIdeal.main_arg1)
          ∧ r.2.mem ((c.tc : Thread Cert.PrepDownIdeal.nD Cert.PrepDownIdeal.τ).loc Cert.PrepDownIdeal.main_arg2) = m ((c.tc : Thread Cert.PrepDownIdeal.nD Cert.PrepDownIdeal.τ).loc Cert.PrepDownIdeal.main_arg2)
          ∧ r.2.mem ((c.tc : Thread Cert.PrepDownIdeal.nD Cert.PrepDownIdeal.τ).loc Cert.PrepDownIdeal.main_arg3) = m ((c.tc : Thread Cert.PrepDownIdeal.nD Cert.PrepDownIdeal.τ).loc Cert.PrepDownIdeal.main_arg3)
          ∧ r.2.mem ((c.tc : Thread Cert.PrepDownIdeal.nD Cert.PrepDownIdeal.τ).loc Cert.PrepDownIdeal.main_arg4) = m ((c.tc : Thread Cert.PrepDownIdeal.nD Cert.PrepDownIdeal.τ).loc Cert.PrepDownIdeal.main_arg4)
          ∧ r.2.mem ((c.tc : Thread Cert.PrepDownIdeal.nD Cert.PrepDownIdeal.τ).loc Cert.PrepDownIdeal.main_arg5) = m ((c.tc : Thread Cert.PrepDownIdeal.nD Cert.PrepDownIdeal.τ).loc Cert.PrepDownIdeal.main_arg5))
      ∧ θ_run (Cert.PrepDownRefIdeal.defs (F := Ideal)) (onTc (τ := Cert.PrepDownRefIdeal.τ) (Cert.PrepDownRefIdeal.main (F := Ideal))) ⟨m', fun _ => 0, g'⟩ (fun r => ∀ c : Dev Cert.PrepDownRefIdeal.nD,
          r.2.mem ((c.tc : Thread Cert.PrepDownRefIdeal.nD Cert.PrepDownRefIdeal.τ).loc Cert.PrepDownRefIdeal.main_v27) = v0 c
          ∧ r.2.mem ((c.tc : Thread Cert.PrepDownRefIdeal.nD Cert.PrepDownRefIdeal.τ).loc Cert.PrepDownRefIdeal.main_v47) = v1 c
          ∧ r.2.mem ((c.tc : Thread Cert.PrepDownRefIdeal.nD Cert.PrepDownRefIdeal.τ).loc Cert.PrepDownRefIdeal.main_v48) = v2 c
          ∧ r.2.mem ((c.tc : Thread Cert.PrepDownRefIdeal.nD Cert.PrepDownRefIdeal.τ).loc Cert.PrepDownRefIdeal.main_arg0) = m' ((c.tc : Thread Cert.PrepDownRefIdeal.nD Cert.PrepDownRefIdeal.τ).loc Cert.PrepDownRefIdeal.main_arg0)
          ∧ r.2.mem ((c.tc : Thread Cert.PrepDownRefIdeal.nD Cert.PrepDownRefIdeal.τ).loc Cert.PrepDownRefIdeal.main_arg1) = m' ((c.tc : Thread Cert.PrepDownRefIdeal.nD Cert.PrepDownRefIdeal.τ).loc Cert.PrepDownRefIdeal.main_arg1)
          ∧ r.2.mem ((c.tc : Thread Cert.PrepDownRefIdeal.nD Cert.PrepDownRefIdeal.τ).loc Cert.PrepDownRefIdeal.main_arg2) = m' ((c.tc : Thread Cert.PrepDownRefIdeal.nD Cert.PrepDownRefIdeal.τ).loc Cert.PrepDownRefIdeal.main_arg2)
          ∧ r.2.mem ((c.tc : Thread Cert.PrepDownRefIdeal.nD Cert.PrepDownRefIdeal.τ).loc Cert.PrepDownRefIdeal.main_arg3) = m' ((c.tc : Thread Cert.PrepDownRefIdeal.nD Cert.PrepDownRefIdeal.τ).loc Cert.PrepDownRefIdeal.main_arg3)
          ∧ r.2.mem ((c.tc : Thread Cert.PrepDownRefIdeal.nD Cert.PrepDownRefIdeal.τ).loc Cert.PrepDownRefIdeal.main_arg4) = m' ((c.tc : Thread Cert.PrepDownRefIdeal.nD Cert.PrepDownRefIdeal.τ).loc Cert.PrepDownRefIdeal.main_arg4)
          ∧ r.2.mem ((c.tc : Thread Cert.PrepDownRefIdeal.nD Cert.PrepDownRefIdeal.τ).loc Cert.PrepDownRefIdeal.main_arg5) = m' ((c.tc : Thread Cert.PrepDownRefIdeal.nD Cert.PrepDownRefIdeal.τ).loc Cert.PrepDownRefIdeal.main_arg5))

def preserves_PrepGateUp_PrepGateUpIdeal : Prop :=
  True

def algebraic_PrepGateUpIdeal_PrepGateUpRefIdeal [hPrepGateUpIdeal : Cert.PrepGateUpIdeal.Facts] [hPrepGateUpRefIdeal : Cert.PrepGateUpRefIdeal.Facts] : Prop :=
  ∀ (m : (ℓ : Loc Cert.PrepGateUpIdeal.nD Cert.PrepGateUpIdeal.τ Cert.PrepGateUpIdeal.sig) → Buf (Elt Ideal) ℓ) (g : Dev Cert.PrepGateUpIdeal.nD → PrngReg)
    (m' : (ℓ : Loc Cert.PrepGateUpRefIdeal.nD Cert.PrepGateUpRefIdeal.τ Cert.PrepGateUpRefIdeal.sig) → Buf (Elt Ideal) ℓ) (g' : Dev Cert.PrepGateUpRefIdeal.nD → PrngReg), Pre_PrepGateUpIdeal m →
    (∀ c : Dev Cert.PrepGateUpIdeal.nD,
      m' ((c.tc : Thread Cert.PrepGateUpRefIdeal.nD Cert.PrepGateUpRefIdeal.τ).loc Cert.PrepGateUpRefIdeal.main_arg0) = m ((c.tc : Thread Cert.PrepGateUpIdeal.nD Cert.PrepGateUpIdeal.τ).loc Cert.PrepGateUpIdeal.main_arg0)
      ∧ m' ((c.tc : Thread Cert.PrepGateUpRefIdeal.nD Cert.PrepGateUpRefIdeal.τ).loc Cert.PrepGateUpRefIdeal.main_arg1) = m ((c.tc : Thread Cert.PrepGateUpIdeal.nD Cert.PrepGateUpIdeal.τ).loc Cert.PrepGateUpIdeal.main_arg1)
      ∧ m' ((c.tc : Thread Cert.PrepGateUpRefIdeal.nD Cert.PrepGateUpRefIdeal.τ).loc Cert.PrepGateUpRefIdeal.main_arg2) = m ((c.tc : Thread Cert.PrepGateUpIdeal.nD Cert.PrepGateUpIdeal.τ).loc Cert.PrepGateUpIdeal.main_arg2)
      ∧ m' ((c.tc : Thread Cert.PrepGateUpRefIdeal.nD Cert.PrepGateUpRefIdeal.τ).loc Cert.PrepGateUpRefIdeal.main_arg3) = m ((c.tc : Thread Cert.PrepGateUpIdeal.nD Cert.PrepGateUpIdeal.τ).loc Cert.PrepGateUpIdeal.main_arg3)
      ∧ m' ((c.tc : Thread Cert.PrepGateUpRefIdeal.nD Cert.PrepGateUpRefIdeal.τ).loc Cert.PrepGateUpRefIdeal.main_arg4) = m ((c.tc : Thread Cert.PrepGateUpIdeal.nD Cert.PrepGateUpIdeal.τ).loc Cert.PrepGateUpIdeal.main_arg4)
      ∧ m' ((c.tc : Thread Cert.PrepGateUpRefIdeal.nD Cert.PrepGateUpRefIdeal.τ).loc Cert.PrepGateUpRefIdeal.main_arg5) = m ((c.tc : Thread Cert.PrepGateUpIdeal.nD Cert.PrepGateUpIdeal.τ).loc Cert.PrepGateUpIdeal.main_arg5)) →
    ∃ (v0 : (c : Dev Cert.PrepGateUpIdeal.nD) → Buf (Elt Ideal) ((c.tc : Thread Cert.PrepGateUpIdeal.nD Cert.PrepGateUpIdeal.τ).loc Cert.PrepGateUpIdeal.main_v0_0)) (v1 : (c : Dev Cert.PrepGateUpIdeal.nD) → Buf (Elt Ideal) ((c.tc : Thread Cert.PrepGateUpIdeal.nD Cert.PrepGateUpIdeal.τ).loc Cert.PrepGateUpIdeal.main_v0_1)) (v2 : (c : Dev Cert.PrepGateUpIdeal.nD) → Buf (Elt Ideal) ((c.tc : Thread Cert.PrepGateUpIdeal.nD Cert.PrepGateUpIdeal.τ).loc Cert.PrepGateUpIdeal.main_v0_2)),
      θ_run (Cert.PrepGateUpIdeal.defs (F := Ideal)) (onTc (τ := Cert.PrepGateUpIdeal.τ) (Cert.PrepGateUpIdeal.main (F := Ideal))) ⟨m, fun _ => 0, g⟩ (fun r => ∀ c : Dev Cert.PrepGateUpIdeal.nD,
          r.2.mem ((c.tc : Thread Cert.PrepGateUpIdeal.nD Cert.PrepGateUpIdeal.τ).loc Cert.PrepGateUpIdeal.main_v0_0) = v0 c
          ∧ r.2.mem ((c.tc : Thread Cert.PrepGateUpIdeal.nD Cert.PrepGateUpIdeal.τ).loc Cert.PrepGateUpIdeal.main_v0_1) = v1 c
          ∧ r.2.mem ((c.tc : Thread Cert.PrepGateUpIdeal.nD Cert.PrepGateUpIdeal.τ).loc Cert.PrepGateUpIdeal.main_v0_2) = v2 c
          ∧ r.2.mem ((c.tc : Thread Cert.PrepGateUpIdeal.nD Cert.PrepGateUpIdeal.τ).loc Cert.PrepGateUpIdeal.main_arg0) = m ((c.tc : Thread Cert.PrepGateUpIdeal.nD Cert.PrepGateUpIdeal.τ).loc Cert.PrepGateUpIdeal.main_arg0)
          ∧ r.2.mem ((c.tc : Thread Cert.PrepGateUpIdeal.nD Cert.PrepGateUpIdeal.τ).loc Cert.PrepGateUpIdeal.main_arg1) = m ((c.tc : Thread Cert.PrepGateUpIdeal.nD Cert.PrepGateUpIdeal.τ).loc Cert.PrepGateUpIdeal.main_arg1)
          ∧ r.2.mem ((c.tc : Thread Cert.PrepGateUpIdeal.nD Cert.PrepGateUpIdeal.τ).loc Cert.PrepGateUpIdeal.main_arg2) = m ((c.tc : Thread Cert.PrepGateUpIdeal.nD Cert.PrepGateUpIdeal.τ).loc Cert.PrepGateUpIdeal.main_arg2)
          ∧ r.2.mem ((c.tc : Thread Cert.PrepGateUpIdeal.nD Cert.PrepGateUpIdeal.τ).loc Cert.PrepGateUpIdeal.main_arg3) = m ((c.tc : Thread Cert.PrepGateUpIdeal.nD Cert.PrepGateUpIdeal.τ).loc Cert.PrepGateUpIdeal.main_arg3)
          ∧ r.2.mem ((c.tc : Thread Cert.PrepGateUpIdeal.nD Cert.PrepGateUpIdeal.τ).loc Cert.PrepGateUpIdeal.main_arg4) = m ((c.tc : Thread Cert.PrepGateUpIdeal.nD Cert.PrepGateUpIdeal.τ).loc Cert.PrepGateUpIdeal.main_arg4)
          ∧ r.2.mem ((c.tc : Thread Cert.PrepGateUpIdeal.nD Cert.PrepGateUpIdeal.τ).loc Cert.PrepGateUpIdeal.main_arg5) = m ((c.tc : Thread Cert.PrepGateUpIdeal.nD Cert.PrepGateUpIdeal.τ).loc Cert.PrepGateUpIdeal.main_arg5))
      ∧ θ_run (Cert.PrepGateUpRefIdeal.defs (F := Ideal)) (onTc (τ := Cert.PrepGateUpRefIdeal.τ) (Cert.PrepGateUpRefIdeal.main (F := Ideal))) ⟨m', fun _ => 0, g'⟩ (fun r => ∀ c : Dev Cert.PrepGateUpRefIdeal.nD,
          r.2.mem ((c.tc : Thread Cert.PrepGateUpRefIdeal.nD Cert.PrepGateUpRefIdeal.τ).loc Cert.PrepGateUpRefIdeal.main_v27) = v0 c
          ∧ r.2.mem ((c.tc : Thread Cert.PrepGateUpRefIdeal.nD Cert.PrepGateUpRefIdeal.τ).loc Cert.PrepGateUpRefIdeal.main_v47) = v1 c
          ∧ r.2.mem ((c.tc : Thread Cert.PrepGateUpRefIdeal.nD Cert.PrepGateUpRefIdeal.τ).loc Cert.PrepGateUpRefIdeal.main_v48) = v2 c
          ∧ r.2.mem ((c.tc : Thread Cert.PrepGateUpRefIdeal.nD Cert.PrepGateUpRefIdeal.τ).loc Cert.PrepGateUpRefIdeal.main_arg0) = m' ((c.tc : Thread Cert.PrepGateUpRefIdeal.nD Cert.PrepGateUpRefIdeal.τ).loc Cert.PrepGateUpRefIdeal.main_arg0)
          ∧ r.2.mem ((c.tc : Thread Cert.PrepGateUpRefIdeal.nD Cert.PrepGateUpRefIdeal.τ).loc Cert.PrepGateUpRefIdeal.main_arg1) = m' ((c.tc : Thread Cert.PrepGateUpRefIdeal.nD Cert.PrepGateUpRefIdeal.τ).loc Cert.PrepGateUpRefIdeal.main_arg1)
          ∧ r.2.mem ((c.tc : Thread Cert.PrepGateUpRefIdeal.nD Cert.PrepGateUpRefIdeal.τ).loc Cert.PrepGateUpRefIdeal.main_arg2) = m' ((c.tc : Thread Cert.PrepGateUpRefIdeal.nD Cert.PrepGateUpRefIdeal.τ).loc Cert.PrepGateUpRefIdeal.main_arg2)
          ∧ r.2.mem ((c.tc : Thread Cert.PrepGateUpRefIdeal.nD Cert.PrepGateUpRefIdeal.τ).loc Cert.PrepGateUpRefIdeal.main_arg3) = m' ((c.tc : Thread Cert.PrepGateUpRefIdeal.nD Cert.PrepGateUpRefIdeal.τ).loc Cert.PrepGateUpRefIdeal.main_arg3)
          ∧ r.2.mem ((c.tc : Thread Cert.PrepGateUpRefIdeal.nD Cert.PrepGateUpRefIdeal.τ).loc Cert.PrepGateUpRefIdeal.main_arg4) = m' ((c.tc : Thread Cert.PrepGateUpRefIdeal.nD Cert.PrepGateUpRefIdeal.τ).loc Cert.PrepGateUpRefIdeal.main_arg4)
          ∧ r.2.mem ((c.tc : Thread Cert.PrepGateUpRefIdeal.nD Cert.PrepGateUpRefIdeal.τ).loc Cert.PrepGateUpRefIdeal.main_arg5) = m' ((c.tc : Thread Cert.PrepGateUpRefIdeal.nD Cert.PrepGateUpRefIdeal.τ).loc Cert.PrepGateUpRefIdeal.main_arg5))

def Claim : Prop :=
  ∃ (hDownFwd : Cert.DownFwd.Facts) (hDownFwdIdeal : Cert.DownFwdIdeal.Facts) (hDownFwdRefIdeal : Cert.DownFwdRefIdeal.Facts) (hDx : Cert.Dx.Facts) (hDxIdeal : Cert.DxIdeal.Facts) (hDxRefIdeal : Cert.DxRefIdeal.Facts) (hGateUpFwd : Cert.GateUpFwd.Facts) (hGateUpFwdIdeal : Cert.GateUpFwdIdeal.Facts) (hGateUpFwdRefIdeal : Cert.GateUpFwdRefIdeal.Facts) (hDownBwd : Cert.DownBwd.Facts) (hDownBwdIdeal : Cert.DownBwdIdeal.Facts) (hDownBwdRefIdeal : Cert.DownBwdRefIdeal.Facts) (hGateUpBwd : Cert.GateUpBwd.Facts) (hGateUpBwdIdeal : Cert.GateUpBwdIdeal.Facts) (hGateUpBwdRefIdeal : Cert.GateUpBwdRefIdeal.Facts) (hNorm : Cert.Norm.Facts) (hNormIdeal : Cert.NormIdeal.Facts) (hNormRefIdeal : Cert.NormRefIdeal.Facts) (hPrepDown : Cert.PrepDown.Facts) (hPrepDownIdeal : Cert.PrepDownIdeal.Facts) (hPrepDownRefIdeal : Cert.PrepDownRefIdeal.Facts) (hPrepGateUp : Cert.PrepGateUp.Facts) (hPrepGateUpIdeal : Cert.PrepGateUpIdeal.Facts) (hPrepGateUpRefIdeal : Cert.PrepGateUpRefIdeal.Facts),
    quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_Dx (hDx := hDx)
    ∧ quiescent_DxIdeal (hDxIdeal := hDxIdeal)
    ∧ quiescent_DxRefIdeal (hDxRefIdeal := hDxRefIdeal)
    ∧ quiescent_GateUpFwd (hGateUpFwd := hGateUpFwd)
    ∧ quiescent_GateUpFwdIdeal (hGateUpFwdIdeal := hGateUpFwdIdeal)
    ∧ quiescent_GateUpFwdRefIdeal (hGateUpFwdRefIdeal := hGateUpFwdRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_GateUpBwd (hGateUpBwd := hGateUpBwd)
    ∧ quiescent_GateUpBwdIdeal (hGateUpBwdIdeal := hGateUpBwdIdeal)
    ∧ quiescent_GateUpBwdRefIdeal (hGateUpBwdRefIdeal := hGateUpBwdRefIdeal)
    ∧ quiescent_Norm (hNorm := hNorm)
    ∧ quiescent_NormIdeal (hNormIdeal := hNormIdeal)
    ∧ quiescent_NormRefIdeal (hNormRefIdeal := hNormRefIdeal)
    ∧ quiescent_PrepDown (hPrepDown := hPrepDown)
    ∧ quiescent_PrepDownIdeal (hPrepDownIdeal := hPrepDownIdeal)
    ∧ quiescent_PrepDownRefIdeal (hPrepDownRefIdeal := hPrepDownRefIdeal)
    ∧ quiescent_PrepGateUp (hPrepGateUp := hPrepGateUp)
    ∧ quiescent_PrepGateUpIdeal (hPrepGateUpIdeal := hPrepGateUpIdeal)
    ∧ quiescent_PrepGateUpRefIdeal (hPrepGateUpRefIdeal := hPrepGateUpRefIdeal)
    ∧ preserves_DownFwd_DownFwdIdeal
    ∧ algebraic_DownFwdIdeal_DownFwdRefIdeal (hDownFwdIdeal := hDownFwdIdeal) (hDownFwdRefIdeal := hDownFwdRefIdeal)
    ∧ preserves_Dx_DxIdeal
    ∧ algebraic_DxIdeal_DxRefIdeal (hDxIdeal := hDxIdeal) (hDxRefIdeal := hDxRefIdeal)
    ∧ preserves_GateUpFwd_GateUpFwdIdeal
    ∧ algebraic_GateUpFwdIdeal_GateUpFwdRefIdeal (hGateUpFwdIdeal := hGateUpFwdIdeal) (hGateUpFwdRefIdeal := hGateUpFwdRefIdeal)
    ∧ preserves_DownBwd_DownBwdIdeal
    ∧ algebraic_DownBwdIdeal_DownBwdRefIdeal (hDownBwdIdeal := hDownBwdIdeal) (hDownBwdRefIdeal := hDownBwdRefIdeal)
    ∧ preserves_GateUpBwd_GateUpBwdIdeal
    ∧ algebraic_GateUpBwdIdeal_GateUpBwdRefIdeal (hGateUpBwdIdeal := hGateUpBwdIdeal) (hGateUpBwdRefIdeal := hGateUpBwdRefIdeal)
    ∧ preserves_Norm_NormIdeal
    ∧ algebraic_NormIdeal_NormRefIdeal (hNormIdeal := hNormIdeal) (hNormRefIdeal := hNormRefIdeal)
    ∧ preserves_PrepDown_PrepDownIdeal
    ∧ algebraic_PrepDownIdeal_PrepDownRefIdeal (hPrepDownIdeal := hPrepDownIdeal) (hPrepDownRefIdeal := hPrepDownRefIdeal)
    ∧ preserves_PrepGateUp_PrepGateUpIdeal
    ∧ algebraic_PrepGateUpIdeal_PrepGateUpRefIdeal (hPrepGateUpIdeal := hPrepGateUpIdeal) (hPrepGateUpRefIdeal := hPrepGateUpRefIdeal)
-- ==== DownFwd.lean ====
abbrev S2048x3584 : Shape := ⟨2, ![2048, 3584]⟩
abbrev S8192x3584 : Shape := ⟨2, ![8192, 3584]⟩
abbrev S2048x64 : Shape := ⟨2, ![2048, 64]⟩
abbrev S8192x64 : Shape := ⟨2, ![8192, 64]⟩
abbrev S1x8192 : Shape := ⟨2, ![1, 8192]⟩
abbrev S2048x8192 : Shape := ⟨2, ![2048, 8192]⟩
abbrev S512x3584 : Shape := ⟨2, ![512, 3584]⟩
abbrev S512x64 : Shape := ⟨2, ![512, 64]⟩
abbrev S1x512 : Shape := ⟨2, ![1, 512]⟩
abbrev S2048x512 : Shape := ⟨2, ![2048, 512]⟩
abbrev S512x512 : Shape := ⟨2, ![512, 512]⟩
abbrev S512 : Shape := ⟨1, ![512]⟩
abbrev S64x512 : Shape := ⟨2, ![64, 512]⟩

abbrev nBuf : Space → Nat
  | .hbm => 13
  | .vmem => 24
  | .smem => 0
  | _ => 0

abbrev bufTy : (tb : Table) → Fin (tcTables nBuf tb) → BufTy
  | .hbm, ⟨0, _⟩ => ⟨S2048x3584, .bf16⟩
  | .hbm, ⟨1, _⟩ => ⟨S8192x3584, .bf16⟩
  | .hbm, ⟨2, _⟩ => ⟨S2048x64, .bf16⟩
  | .hbm, ⟨3, _⟩ => ⟨S8192x64, .bf16⟩
  | .hbm, ⟨4, _⟩ => ⟨S1x8192, .f32⟩
  | .hbm, ⟨5, _⟩ => ⟨S1x8192, .f32⟩
  | .hbm, ⟨6, _⟩ => ⟨S2048x8192, .bf16⟩
  | .hbm, ⟨7, _⟩ => ⟨S2048x8192, .bf16⟩
  | .hbm, ⟨8, _⟩ => ⟨S2048x8192, .bf16⟩
  | .hbm, ⟨9, _⟩ => ⟨S2048x8192, .bf16⟩
  | .hbm, ⟨10, _⟩ => ⟨S1x8192, .f32⟩
  | .hbm, ⟨11, _⟩ => ⟨S8192x64, .f32⟩
  | .hbm, ⟨12, _⟩ => ⟨S2048x64, .bf16⟩
  | .local _ .vmem, ⟨0, _⟩ => ⟨S2048x3584, .bf16⟩
  | .local _ .vmem, ⟨1, _⟩ => ⟨S512x3584, .bf16⟩
  | .local _ .vmem, ⟨2, _⟩ => ⟨S512x3584, .bf16⟩
  | .local _ .vmem, ⟨3, _⟩ => ⟨S2048x64, .bf16⟩
  | .local _ .vmem, ⟨4, _⟩ => ⟨S512x64, .bf16⟩
  | .local _ .vmem, ⟨5, _⟩ => ⟨S512x64, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S1x512, .f32⟩
  | .local _ .vmem, ⟨19, _⟩ => ⟨S1x512, .f32⟩
  | .local _ .vmem, ⟨20, _⟩ => ⟨S512x64, .f32⟩
  | .local _ .vmem, ⟨21, _⟩ => ⟨S512x64, .f32⟩
  | .local _ .vmem, ⟨22, _⟩ => ⟨S2048x64, .bf16⟩
  | .local _ .vmem, ⟨23, _⟩ => ⟨S2048x64, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c15_i32 : BitVec 32 := 15#32
  let v168 : BitVec 1 := Scalar.cmpi .eq arg0 c15_i32
  let v169 : BitVec 32 := Scalar.extui v168
  let c0_i32_143 : BitVec 32 := 0#32
  let v170 : BitVec 1 := Scalar.cmpi .ne v169 c0_i32_143
  v170

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DownFwdRefIdeal.lean ====
abbrev S2048x3584 : Shape := ⟨2, ![2048, 3584]⟩
abbrev S8192x3584 : Shape := ⟨2, ![8192, 3584]⟩
abbrev S2048x64 : Shape := ⟨2, ![2048, 64]⟩
abbrev S8192x64 : Shape := ⟨2, ![8192, 64]⟩
abbrev S1x8192 : Shape := ⟨2, ![1, 8192]⟩
abbrev S2048x8192 : Shape := ⟨2, ![2048, 8192]⟩
abbrev S_ : Shape := ⟨0, ![]⟩
abbrev S8192 : Shape := ⟨1, ![8192]⟩

abbrev nBuf : Space → Nat
  | .hbm => 37
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S8192x3584, .bf16⟩
  | .hbm, ⟨2, _⟩ => ⟨S2048x64, .bf16⟩
  | .hbm, ⟨3, _⟩ => ⟨S8192x64, .bf16⟩
  | .hbm, ⟨4, _⟩ => ⟨S1x8192, .f32⟩
  | .hbm, ⟨5, _⟩ => ⟨S1x8192, .f32⟩
  | .hbm, ⟨6, _⟩ => ⟨S2048x8192, .bf16⟩
  | .hbm, ⟨7, _⟩ => ⟨S2048x8192, .bf16⟩
  | .hbm, ⟨8, _⟩ => ⟨S2048x8192, .f32⟩
  | .hbm, ⟨9, _⟩ => ⟨S2048x8192, .f32⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .bf16⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S8192, .f32⟩
  | .hbm, ⟨23, _⟩ => ⟨S1x8192, .f32⟩
  | .hbm, ⟨24, _⟩ => ⟨S1x8192, .f32⟩
  | .hbm, ⟨25, _⟩ => ⟨S2048x8192, .f32⟩
  | .hbm, ⟨26, _⟩ => ⟨S2048x8192, .f32⟩
  | .hbm, ⟨27, _⟩ => ⟨S2048x8192, .bf16⟩
  | .hbm, ⟨28, _⟩ => ⟨S8192x64, .f32⟩
  | .hbm, ⟨29, _⟩ => ⟨S_, .f32⟩
  | .hbm, ⟨30, _⟩ => ⟨S8192x64, .f32⟩
  | .hbm, ⟨31, _⟩ => ⟨S8192x64, .f32⟩
  | .hbm, ⟨32, _⟩ => ⟨S2048x64, .f32⟩
  | .hbm, ⟨33, _⟩ => ⟨S_, .f32⟩
  | .hbm, ⟨34, _⟩ => ⟨S2048x64, .f32⟩
  | .hbm, ⟨35, _⟩ => ⟨S2048x64, .f32⟩
  | .hbm, ⟨36, _⟩ => ⟨S2048x64, .bf16⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Dx.lean ====
abbrev S2048x8192 : Shape := ⟨2, ![2048, 8192]⟩
abbrev S2048x128 : Shape := ⟨2, ![2048, 128]⟩
abbrev S128x8192 : Shape := ⟨2, ![128, 8192]⟩
abbrev S128x128 : Shape := ⟨2, ![128, 128]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S2048x8192, .bf16⟩
  | .hbm, ⟨3, _⟩ => ⟨S2048x128, .f32⟩
  | .hbm, ⟨4, _⟩ => ⟨S2048x128, .f32⟩
  | .hbm, ⟨5, _⟩ => ⟨S2048x8192, .bf16⟩
  | .local _ .vmem, ⟨0, _⟩ => ⟨S128x8192, .f32⟩
  | .local _ .vmem, ⟨1, _⟩ => ⟨S128x8192, .f32⟩
  | .local _ .vmem, ⟨2, _⟩ => ⟨S128x8192, .bf16⟩
  | .local _ .vmem, ⟨3, _⟩ => ⟨S128x8192, .bf16⟩
  | .local _ .vmem, ⟨4, _⟩ => ⟨S128x8192, .bf16⟩
  | .local _ .vmem, ⟨5, _⟩ => ⟨S128x8192, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x8192, .bf16⟩
  | .local _ .vmem, ⟨11, _⟩ => ⟨S128x8192, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxRefIdeal.lean ====
abbrev S2048x8192 : Shape := ⟨2, ![2048, 8192]⟩
abbrev S2048x128 : Shape := ⟨2, ![2048, 128]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S2048x8192, .bf16⟩
  | .hbm, ⟨3, _⟩ => ⟨S2048x128, .f32⟩
  | .hbm, ⟨4, _⟩ => ⟨S2048x128, .f32⟩
  | .hbm, ⟨5, _⟩ => ⟨S2048x8192, .f32⟩
  | .hbm, ⟨6, _⟩ => ⟨S2048x1, .f32⟩
  | .hbm, ⟨7, _⟩ => ⟨S2048x8192, .f32⟩
  | .hbm, ⟨8, _⟩ => ⟨S2048x8192, .f32⟩
  | .hbm, ⟨9, _⟩ => ⟨S2048x1, .f32⟩
  | .hbm, ⟨10, _⟩ => ⟨S2048x1, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateUpFwd.lean ====
abbrev S2048x8192 : Shape := ⟨2, ![2048, 8192]⟩
abbrev S3584x8192 : Shape := ⟨2, ![3584, 8192]⟩
abbrev S2048x128 : Shape := ⟨2, ![2048, 128]⟩
abbrev S3584x64 : Shape := ⟨2, ![3584, 64]⟩
abbrev S1x3584 : Shape := ⟨2, ![1, 3584]⟩
abbrev S64x3584 : Shape := ⟨2, ![64, 3584]⟩
abbrev S2048x3584 : Shape := ⟨2, ![2048, 3584]⟩
abbrev S2048x64 : Shape := ⟨2, ![2048, 64]⟩
abbrev S256x8192 : Shape := ⟨2, ![256, 8192]⟩
abbrev S256x64 : Shape := ⟨2, ![256, 64]⟩
abbrev S1x256 : Shape := ⟨2, ![1, 256]⟩
abbrev S64x256 : Shape := ⟨2, ![64, 256]⟩
abbrev S2048x256 : Shape := ⟨2, ![2048, 256]⟩
abbrev S512x8192 : Shape := ⟨2, ![512, 8192]⟩
abbrev S512x256 : Shape := ⟨2, ![512, 256]⟩
abbrev S512x64 : Shape := ⟨2, ![512, 64]⟩

abbrev nBuf : Space → Nat
  | .hbm => 13
  | .vmem => 24
  | .smem => 0
  | _ => 0

abbrev bufTy : (tb : Table) → Fin (tcTables nBuf tb) → BufTy
  | .hbm, ⟨0, _⟩ => ⟨S2048x8192, .bf16⟩
  | .hbm, ⟨1, _⟩ => ⟨S3584x8192, .bf16⟩
  | .hbm, ⟨2, _⟩ => ⟨S3584x8192, .bf16⟩
  | .hbm, ⟨3, _⟩ => ⟨S2048x128, .bf16⟩
  | .hbm, ⟨4, _⟩ => ⟨S3584x64, .bf16⟩
  | .hbm, ⟨5, _⟩ => ⟨S3584x64, .bf16⟩
  | .hbm, ⟨6, _⟩ => ⟨S1x3584, .f32⟩
  | .hbm, ⟨7, _⟩ => ⟨S1x3584, .f32⟩
  | .hbm, ⟨8, _⟩ => ⟨S64x3584, .bf16⟩
  | .hbm, ⟨9, _⟩ => ⟨S2048x3584, .f32⟩
  | .hbm, ⟨10, _⟩ => ⟨S2048x3584, .f32⟩
  | .hbm, ⟨11, _⟩ => ⟨S2048x3584, .bf16⟩
  | .hbm, ⟨12, _⟩ => ⟨S2048x64, .bf16⟩
  | .local _ .vmem, ⟨0, _⟩ => ⟨S2048x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S256x8192, .bf16⟩
  | .local _ .vmem, ⟨5, _⟩ => ⟨S2048x128, .bf16⟩
  | .local _ .vmem, ⟨6, _⟩ => ⟨S256x64, .bf16⟩
  | .local _ .vmem, ⟨7, _⟩ => ⟨S256x64, .bf16⟩
  | .local _ .vmem, ⟨8, _⟩ => ⟨S256x64, .bf16⟩
  | .local _ .vmem, ⟨9, _⟩ => ⟨S256x64, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S64x256, .bf16⟩
  | .local _ .vmem, ⟨15, _⟩ => ⟨S64x256, .bf16⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .bf16⟩
  | .local _ .vmem, ⟨21, _⟩ => ⟨S2048x256, .bf16⟩
  | .local _ .vmem, ⟨22, _⟩ => ⟨S2048x64, .bf16⟩
  | .local _ .vmem, ⟨23, _⟩ => ⟨S2048x64, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c13_i32 : BitVec 32 := 13#32
  let v160 : BitVec 1 := Scalar.cmpi .eq arg0 c13_i32
  let v161 : BitVec 32 := Scalar.extui v160
  let c0_i32_153 : BitVec 32 := 0#32
  let v162 : BitVec 1 := Scalar.cmpi .ne v161 c0_i32_153
  v162

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GateUpFwdRefIdeal.lean ====
abbrev S2048x8192 : Shape := ⟨2, ![2048, 8192]⟩
abbrev S3584x8192 : Shape := ⟨2, ![3584, 8192]⟩
abbrev S2048x128 : Shape := ⟨2, ![2048, 128]⟩
abbrev S3584x64 : Shape := ⟨2, ![3584, 64]⟩
abbrev S1x3584 : Shape := ⟨2, ![1, 3584]⟩
abbrev S64x3584 : Shape := ⟨2, ![64, 3584]⟩
abbrev S2048x3584 : Shape := ⟨2, ![2048, 3584]⟩
abbrev S2048x64 : Shape := ⟨2, ![2048, 64]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S3584x8192, .bf16⟩
  | .hbm, ⟨2, _⟩ => ⟨S3584x8192, .bf16⟩
  | .hbm, ⟨3, _⟩ => ⟨S2048x128, .bf16⟩
  | .hbm, ⟨4, _⟩ => ⟨S3584x64, .bf16⟩
  | .hbm, ⟨5, _⟩ => ⟨S3584x64, .bf16⟩
  | .hbm, ⟨6, _⟩ => ⟨S1x3584, .f32⟩
  | .hbm, ⟨7, _⟩ => ⟨S1x3584, .f32⟩
  | .hbm, ⟨8, _⟩ => ⟨S64x3584, .bf16⟩
  | .hbm, ⟨9, _⟩ => ⟨S2048x3584, .f32⟩
  | .hbm, ⟨10, _⟩ => ⟨S2048x64, .bf16⟩
  | .hbm, ⟨11, _⟩ => ⟨S2048x3584, .f32⟩
  | .hbm, ⟨12, _⟩ => ⟨S_, .f32⟩
  | .hbm, ⟨13, _⟩ => ⟨S2048x3584, .f32⟩
  | .hbm, ⟨14, _⟩ => ⟨S2048x3584, .f32⟩
  | .hbm, ⟨15, _⟩ => ⟨S2048x3584, .f32⟩
  | .hbm, ⟨16, _⟩ => ⟨S2048x3584, .f32⟩
  | .hbm, ⟨17, _⟩ => ⟨S2048x64, .bf16⟩
  | .hbm, ⟨18, _⟩ => ⟨S2048x3584, .f32⟩
  | .hbm, ⟨19, _⟩ => ⟨S_, .f32⟩
  | .hbm, ⟨20, _⟩ => ⟨S2048x3584, .f32⟩
  | .hbm, ⟨21, _⟩ => ⟨S2048x3584, .f32⟩
  | .hbm, ⟨22, _⟩ => ⟨S2048x3584, .f32⟩
  | .hbm, ⟨23, _⟩ => ⟨S2048x3584, .f32⟩
  | .hbm, ⟨24, _⟩ => ⟨S2048x3584, .f32⟩
  | .hbm, ⟨25, _⟩ => ⟨S2048x3584, .f32⟩
  | .hbm, ⟨26, _⟩ => ⟨S2048x3584, .f32⟩
  | .hbm, ⟨27, _⟩ => ⟨S2048x3584, .f32⟩
  | .hbm, ⟨28, _⟩ => ⟨S2048x3584, .f32⟩
  | .hbm, ⟨29, _⟩ => ⟨S_, .f32⟩
  | .hbm, ⟨30, _⟩ => ⟨S2048x3584, .f32⟩
  | .hbm, ⟨31, _⟩ => ⟨S2048x3584, .f32⟩
  | .hbm, ⟨32, _⟩ => ⟨S_, .f32⟩
  | .hbm, ⟨33, _⟩ => ⟨S2048x3584, .f32⟩
  | .hbm, ⟨34, _⟩ => ⟨S2048x3584, .f32⟩
  | .hbm, ⟨35, _⟩ => ⟨S2048x3584, .f32⟩
  | .hbm, ⟨36, _⟩ => ⟨S2048x3584, .f32⟩
  | .hbm, ⟨37, _⟩ => ⟨S2048x3584, .bf16⟩
  | .hbm, ⟨38, _⟩ => ⟨S2048x64, .f32⟩
  | .hbm, ⟨39, _⟩ => ⟨S2048x64, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== DownBwd.lean ====
abbrev S2048x8192 : Shape := ⟨2, ![2048, 8192]⟩
abbrev S8192x3584 : Shape := ⟨2, ![8192, 3584]⟩
abbrev S2048x64 : Shape := ⟨2, ![2048, 64]⟩
abbrev S64x3584 : Shape := ⟨2, ![64, 3584]⟩
abbrev S2048x3584 : Shape := ⟨2, ![2048, 3584]⟩
abbrev S2048x128 : Shape := ⟨2, ![2048, 128]⟩
abbrev S3584x64 : Shape := ⟨2, ![3584, 64]⟩
abbrev S1x3584 : Shape := ⟨2, ![1, 3584]⟩
abbrev S8192x256 : Shape := ⟨2, ![8192, 256]⟩
abbrev S64x256 : Shape := ⟨2, ![64, 256]⟩
abbrev S2048x256 : Shape := ⟨2, ![2048, 256]⟩
abbrev S256x64 : Shape := ⟨2, ![256, 64]⟩
abbrev S1x256 : Shape := ⟨2, ![1, 256]⟩
abbrev S512x8192 : Shape := ⟨2, ![512, 8192]⟩
abbrev S512x256 : Shape := ⟨2, ![512, 256]⟩
abbrev S512x64 : Shape := ⟨2, ![512, 64]⟩
abbrev S256 : Shape := ⟨1, ![256]⟩
abbrev S512x128 : Shape := ⟨2, ![512, 128]⟩

abbrev nBuf : Space → Nat
  | .hbm => 22
  | .vmem => 41
  | .smem => 0
  | _ => 0

abbrev bufTy : (tb : Table) → Fin (tcTables nBuf tb) → BufTy
  | .hbm, ⟨0, _⟩ => ⟨S2048x8192, .bf16⟩
  | .hbm, ⟨1, _⟩ => ⟨S8192x3584, .bf16⟩
  | .hbm, ⟨2, _⟩ => ⟨S2048x64, .bf16⟩
  | .hbm, ⟨3, _⟩ => ⟨S64x3584, .bf16⟩
  | .hbm, ⟨4, _⟩ => ⟨S2048x3584, .bf16⟩
  | .hbm, ⟨5, _⟩ => ⟨S2048x3584, .f32⟩
  | .hbm, ⟨6, _⟩ => ⟨S2048x3584, .f32⟩
  | .hbm, ⟨7, _⟩ => ⟨S2048x128, .bf16⟩
  | .hbm, ⟨8, _⟩ => ⟨S3584x64, .bf16⟩
  | .hbm, ⟨9, _⟩ => ⟨S3584x64, .bf16⟩
  | .hbm, ⟨10, _⟩ => ⟨S1x3584, .f32⟩
  | .hbm, ⟨11, _⟩ => ⟨S1x3584, .f32⟩
  | .hbm, ⟨12, _⟩ => ⟨S1x3584, .f32⟩
  | .hbm, ⟨13, _⟩ => ⟨S1x3584, .f32⟩
  | .hbm, ⟨14, _⟩ => ⟨S2048x3584, .bf16⟩
  | .hbm, ⟨15, _⟩ => ⟨S2048x3584, .bf16⟩
  | .hbm, ⟨16, _⟩ => ⟨S64x3584, .f32⟩
  | .hbm, ⟨17, _⟩ => ⟨S1x3584, .f32⟩
  | .hbm, ⟨18, _⟩ => ⟨S1x3584, .f32⟩
  | .hbm, ⟨19, _⟩ => ⟨S3584x64, .f32⟩
  | .hbm, ⟨20, _⟩ => ⟨S3584x64, .f32⟩
  | .hbm, ⟨21, _⟩ => ⟨S2048x128, .bf16⟩
  | .local _ .vmem, ⟨0, _⟩ => ⟨S2048x8192, .bf16⟩
  | .local _ .vmem, ⟨1, _⟩ => ⟨S8192x256, .bf16⟩
  | .local _ .vmem, ⟨2, _⟩ => ⟨S8192x256, .bf16⟩
  | .local _ .vmem, ⟨3, _⟩ => ⟨S2048x64, .bf16⟩
  | .local _ .vmem, ⟨4, _⟩ => ⟨S64x256, .bf16⟩
  | .local _ .vmem, ⟨5, _⟩ => ⟨S64x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x128, .bf16⟩
  | .local _ .vmem, ⟨13, _⟩ => ⟨S256x64, .bf16⟩
  | .local _ .vmem, ⟨14, _⟩ => ⟨S256x64, .bf16⟩
  | .local _ .vmem, ⟨15, _⟩ => ⟨S256x64, .bf16⟩
  | .local _ .vmem, ⟨16, _⟩ => ⟨S256x64, .bf16⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S64x256, .f32⟩
  | .local _ .vmem, ⟨30, _⟩ => ⟨S64x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S256x64, .f32⟩
  | .local _ .vmem, ⟨36, _⟩ => ⟨S256x64, .f32⟩
  | .local _ .vmem, ⟨37, _⟩ => ⟨S256x64, .f32⟩
  | .local _ .vmem, ⟨38, _⟩ => ⟨S256x64, .f32⟩
  | .local _ .vmem, ⟨39, _⟩ => ⟨S2048x128, .bf16⟩
  | .local _ .vmem, ⟨40, _⟩ => ⟨S2048x128, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_scratch0 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c13_i32 : BitVec 32 := 13#32
  let v268 : BitVec 1 := Scalar.cmpi .eq arg0 c13_i32
  let v269 : BitVec 32 := Scalar.extui v268
  let c0_i32_206 : BitVec 32 := 0#32
  let v270 : BitVec 1 := Scalar.cmpi .ne v269 c0_i32_206
  v270

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S2048x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== DownBwdRefIdeal.lean ====
abbrev S2048x8192 : Shape := ⟨2, ![2048, 8192]⟩
abbrev S8192x3584 : Shape := ⟨2, ![8192, 3584]⟩
abbrev S2048x64 : Shape := ⟨2, ![2048, 64]⟩
abbrev S64x3584 : Shape := ⟨2, ![64, 3584]⟩
abbrev S2048x3584 : Shape := ⟨2, ![2048, 3584]⟩
abbrev S2048x128 : Shape := ⟨2, ![2048, 128]⟩
abbrev S3584x64 : Shape := ⟨2, ![3584, 64]⟩
abbrev S1x3584 : Shape := ⟨2, ![1, 3584]⟩
abbrev S_ : Shape := ⟨0, ![]⟩
abbrev S3584 : Shape := ⟨1, ![3584]⟩

abbrev nBuf : Space → Nat
  | .hbm => 79
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x3584, .bf16⟩
  | .hbm, ⟨2, _⟩ => ⟨S2048x64, .bf16⟩
  | .hbm, ⟨3, _⟩ => ⟨S64x3584, .bf16⟩
  | .hbm, ⟨4, _⟩ => ⟨S2048x3584, .bf16⟩
  | .hbm, ⟨5, _⟩ => ⟨S2048x3584, .f32⟩
  | .hbm, ⟨6, _⟩ => ⟨S2048x3584, .f32⟩
  | .hbm, ⟨7, _⟩ => ⟨S2048x128, .bf16⟩
  | .hbm, ⟨8, _⟩ => ⟨S3584x64, .bf16⟩
  | .hbm, ⟨9, _⟩ => ⟨S3584x64, .bf16⟩
  | .hbm, ⟨10, _⟩ => ⟨S1x3584, .f32⟩
  | .hbm, ⟨11, _⟩ => ⟨S1x3584, .f32⟩
  | .hbm, ⟨12, _⟩ => ⟨S1x3584, .f32⟩
  | .hbm, ⟨13, _⟩ => ⟨S1x3584, .f32⟩
  | .hbm, ⟨14, _⟩ => ⟨S2048x3584, .f32⟩
  | .hbm, ⟨15, _⟩ => ⟨S2048x3584, .f32⟩
  | .hbm, ⟨16, _⟩ => ⟨S2048x3584, .f32⟩
  | .hbm, ⟨17, _⟩ => ⟨S64x3584, .f32⟩
  | .hbm, ⟨18, _⟩ => ⟨S2048x3584, .f32⟩
  | .hbm, ⟨19, _⟩ => ⟨S2048x3584, .f32⟩
  | .hbm, ⟨20, _⟩ => ⟨S2048x3584, .f32⟩
  | .hbm, ⟨21, _⟩ => ⟨S2048x3584, .f32⟩
  | .hbm, ⟨22, _⟩ => ⟨S2048x3584, .f32⟩
  | .hbm, ⟨23, _⟩ => ⟨S2048x3584, .f32⟩
  | .hbm, ⟨24, _⟩ => ⟨S_, .f32⟩
  | .hbm, ⟨25, _⟩ => ⟨S2048x3584, .f32⟩
  | .hbm, ⟨26, _⟩ => ⟨S2048x3584, .f32⟩
  | .hbm, ⟨27, _⟩ => ⟨S_, .f32⟩
  | .hbm, ⟨28, _⟩ => ⟨S2048x3584, .f32⟩
  | .hbm, ⟨29, _⟩ => ⟨S2048x3584, .f32⟩
  | .hbm, ⟨30, _⟩ => ⟨S2048x3584, .f32⟩
  | .hbm, ⟨31, _⟩ => ⟨S2048x3584, .f32⟩
  | .hbm, ⟨32, _⟩ => ⟨S2048x3584, .f32⟩
  | .hbm, ⟨33, _⟩ => ⟨S2048x3584, .f32⟩
  | .hbm, ⟨34, _⟩ => ⟨S_, .f32⟩
  | .hbm, ⟨35, _⟩ => ⟨S2048x3584, .f32⟩
  | .hbm, ⟨36, _⟩ => ⟨S2048x3584, .f32⟩
  | .hbm, ⟨37, _⟩ => ⟨S2048x3584, .f32⟩
  | .hbm, ⟨38, _⟩ => ⟨S_, .f32⟩
  | .hbm, ⟨39, _⟩ => ⟨S2048x3584, .f32⟩
  | .hbm, ⟨40, _⟩ => ⟨S2048x3584, .f32⟩
  | .hbm, ⟨41, _⟩ => ⟨S2048x3584, .f32⟩
  | .hbm, ⟨42, _⟩ => ⟨S2048x3584, .f32⟩
  | .hbm, ⟨43, _⟩ => ⟨S_, .f32⟩
  | .hbm, ⟨44, _⟩ => ⟨S3584, .f32⟩
  | .hbm, ⟨45, _⟩ => ⟨S1x3584, .f32⟩
  | .hbm, ⟨46, _⟩ => ⟨S1x3584, .f32⟩
  | .hbm, ⟨47, _⟩ => ⟨S2048x3584, .f32⟩
  | .hbm, ⟨48, _⟩ => ⟨S_, .f32⟩
  | .hbm, ⟨49, _⟩ => ⟨S3584, .f32⟩
  | .hbm, ⟨50, _⟩ => ⟨S1x3584, .f32⟩
  | .hbm, ⟨51, _⟩ => ⟨S1x3584, .f32⟩
  | .hbm, ⟨52, _⟩ => ⟨S2048x3584, .f32⟩
  | .hbm, ⟨53, _⟩ => ⟨S2048x3584, .f32⟩
  | .hbm, ⟨54, _⟩ => ⟨S2048x3584, .bf16⟩
  | .hbm, ⟨55, _⟩ => ⟨S2048x3584, .f32⟩
  | .hbm, ⟨56, _⟩ => ⟨S2048x3584, .f32⟩
  | .hbm, ⟨57, _⟩ => ⟨S2048x3584, .bf16⟩
  | .hbm, ⟨58, _⟩ => ⟨S2048x64, .bf16⟩
  | .hbm, ⟨59, _⟩ => ⟨S3584x64, .f32⟩
  | .hbm, ⟨60, _⟩ => ⟨S_, .f32⟩
  | .hbm, ⟨61, _⟩ => ⟨S3584x64, .f32⟩
  | .hbm, ⟨62, _⟩ => ⟨S3584x64, .f32⟩
  | .hbm, ⟨63, _⟩ => ⟨S2048x64, .bf16⟩
  | .hbm, ⟨64, _⟩ => ⟨S3584x64, .f32⟩
  | .hbm, ⟨65, _⟩ => ⟨S_, .f32⟩
  | .hbm, ⟨66, _⟩ => ⟨S3584x64, .f32⟩
  | .hbm, ⟨67, _⟩ => ⟨S3584x64, .f32⟩
  | .hbm, ⟨68, _⟩ => ⟨S2048x64, .f32⟩
  | .hbm, ⟨69, _⟩ => ⟨S_, .f32⟩
  | .hbm, ⟨70, _⟩ => ⟨S2048x64, .f32⟩
  | .hbm, ⟨71, _⟩ => ⟨S2048x64, .f32⟩
  | .hbm, ⟨72, _⟩ => ⟨S2048x64, .bf16⟩
  | .hbm, ⟨73, _⟩ => ⟨S2048x64, .f32⟩
  | .hbm, ⟨74, _⟩ => ⟨S_, .f32⟩
  | .hbm, ⟨75, _⟩ => ⟨S2048x64, .f32⟩
  | .hbm, ⟨76, _⟩ => ⟨S2048x64, .f32⟩
  | .hbm, ⟨77, _⟩ => ⟨S2048x64, .bf16⟩
  | .hbm, ⟨78, _⟩ => ⟨S2048x128, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== GateUpBwd.lean ====
abbrev S2048x3584 : Shape := ⟨2, ![2048, 3584]⟩
abbrev S3584x8192 : Shape := ⟨2, ![3584, 8192]⟩
abbrev S2048x128 : Shape := ⟨2, ![2048, 128]⟩
abbrev S128x8192 : Shape := ⟨2, ![128, 8192]⟩
abbrev S2048x8192 : Shape := ⟨2, ![2048, 8192]⟩
abbrev S1x8192 : Shape := ⟨2, ![1, 8192]⟩
abbrev S3584x256 : Shape := ⟨2, ![3584, 256]⟩
abbrev S128x256 : Shape := ⟨2, ![128, 256]⟩
abbrev S2048x256 : Shape := ⟨2, ![2048, 256]⟩
abbrev S1x256 : Shape := ⟨2, ![1, 256]⟩
abbrev S512x3584 : Shape := ⟨2, ![512, 3584]⟩
abbrev S512x256 : Shape := ⟨2, ![512, 256]⟩
abbrev S512x128 : Shape := ⟨2, ![512, 128]⟩
abbrev S512x1 : Shape := ⟨2, ![512, 1]⟩
abbrev S2048 : Shape := ⟨1, ![2048]⟩
abbrev S2048x1 : Shape := ⟨2, ![2048, 1]⟩

abbrev nBuf : Space → Nat
  | .hbm => 13
  | .vmem => 21
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S3584x8192, .bf16⟩
  | .hbm, ⟨3, _⟩ => ⟨S3584x8192, .bf16⟩
  | .hbm, ⟨4, _⟩ => ⟨S2048x128, .bf16⟩
  | .hbm, ⟨5, _⟩ => ⟨S128x8192, .bf16⟩
  | .hbm, ⟨6, _⟩ => ⟨S2048x8192, .bf16⟩
  | .hbm, ⟨7, _⟩ => ⟨S2048x8192, .bf16⟩
  | .hbm, ⟨8, _⟩ => ⟨S2048x128, .f32⟩
  | .hbm, ⟨9, _⟩ => ⟨S1x8192, .f32⟩
  | .hbm, ⟨10, _⟩ => ⟨S2048x8192, .f32⟩
  | .hbm, ⟨11, _⟩ => ⟨S128x8192, .f32⟩
  | .hbm, ⟨12, _⟩ => ⟨S2048x128, .f32⟩
  | .local _ .vmem, ⟨0, _⟩ => ⟨S2048x3584, .bf16⟩
  | .local _ .vmem, ⟨1, _⟩ => ⟨S2048x3584, .bf16⟩
  | .local _ .vmem, ⟨2, _⟩ => ⟨S3584x256, .bf16⟩
  | .local _ .vmem, ⟨3, _⟩ => ⟨S3584x256, .bf16⟩
  | .local _ .vmem, ⟨4, _⟩ => ⟨S3584x256, .bf16⟩
  | .local _ .vmem, ⟨5, _⟩ => ⟨S3584x256, .bf16⟩
  | .local _ .vmem, ⟨6, _⟩ => ⟨S2048x128, .bf16⟩
  | .local _ .vmem, ⟨7, _⟩ => ⟨S128x256, .bf16⟩
  | .local _ .vmem, ⟨8, _⟩ => ⟨S128x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x128, .f32⟩
  | .local _ .vmem, ⟨14, _⟩ => ⟨S1x256, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | .local _ .vmem, ⟨18, _⟩ => ⟨S128x256, .f32⟩
  | .local _ .vmem, ⟨19, _⟩ => ⟨S128x256, .f32⟩
  | .local _ .vmem, ⟨20, _⟩ => ⟨S2048x128, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GateUpBwdRefIdeal.lean ====
abbrev S2048x3584 : Shape := ⟨2, ![2048, 3584]⟩
abbrev S3584x8192 : Shape := ⟨2, ![3584, 8192]⟩
abbrev S2048x128 : Shape := ⟨2, ![2048, 128]⟩
abbrev S128x8192 : Shape := ⟨2, ![128, 8192]⟩
abbrev S2048x8192 : Shape := ⟨2, ![2048, 8192]⟩
abbrev S1x8192 : Shape := ⟨2, ![1, 8192]⟩
abbrev S2048x64 : Shape := ⟨2, ![2048, 64]⟩
abbrev S64x8192 : Shape := ⟨2, ![64, 8192]⟩
abbrev S2048x1 : Shape := ⟨2, ![2048, 1]⟩
abbrev S_ : Shape := ⟨0, ![]⟩
abbrev S2048 : Shape := ⟨1, ![2048]⟩

abbrev nBuf : Space → Nat
  | .hbm => 36
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S3584x8192, .bf16⟩
  | .hbm, ⟨3, _⟩ => ⟨S3584x8192, .bf16⟩
  | .hbm, ⟨4, _⟩ => ⟨S2048x128, .bf16⟩
  | .hbm, ⟨5, _⟩ => ⟨S128x8192, .bf16⟩
  | .hbm, ⟨6, _⟩ => ⟨S2048x8192, .bf16⟩
  | .hbm, ⟨7, _⟩ => ⟨S2048x8192, .bf16⟩
  | .hbm, ⟨8, _⟩ => ⟨S2048x128, .f32⟩
  | .hbm, ⟨9, _⟩ => ⟨S1x8192, .f32⟩
  | .hbm, ⟨10, _⟩ => ⟨S2048x8192, .f32⟩
  | .hbm, ⟨11, _⟩ => ⟨S2048x64, .bf16⟩
  | .hbm, ⟨12, _⟩ => ⟨S64x8192, .bf16⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x64, .bf16⟩
  | .hbm, ⟨17, _⟩ => ⟨S64x8192, .bf16⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S2048x8192, .f32⟩
  | .hbm, ⟨22, _⟩ => ⟨S2048x8192, .f32⟩
  | .hbm, ⟨23, _⟩ => ⟨S128x8192, .f32⟩
  | .hbm, ⟨24, _⟩ => ⟨S2048x8192, .f32⟩
  | .hbm, ⟨25, _⟩ => ⟨S2048x1, .f32⟩
  | .hbm, ⟨26, _⟩ => ⟨S2048x8192, .f32⟩
  | .hbm, ⟨27, _⟩ => ⟨S2048x8192, .f32⟩
  | .hbm, ⟨28, _⟩ => ⟨S2048x8192, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x128, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Norm.lean ====
abbrev S2048x8192 : Shape := ⟨2, ![2048, 8192]⟩
abbrev S1x8192 : Shape := ⟨2, ![1, 8192]⟩
abbrev S128x8192 : Shape := ⟨2, ![128, 8192]⟩
abbrev S2048x128 : Shape := ⟨2, ![2048, 128]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x8192, .bf16⟩
  | .hbm, ⟨1, _⟩ => ⟨S1x8192, .f32⟩
  | .hbm, ⟨2, _⟩ => ⟨S128x8192, .bf16⟩
  | .hbm, ⟨3, _⟩ => ⟨S2048x8192, .bf16⟩
  | .hbm, ⟨4, _⟩ => ⟨S2048x128, .f32⟩
  | .hbm, ⟨5, _⟩ => ⟨S2048x128, .bf16⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S128x8192, .bf16⟩
  | .local _ .vmem, ⟨4, _⟩ => ⟨S256x8192, .bf16⟩
  | .local _ .vmem, ⟨5, _⟩ => ⟨S256x8192, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S2048x8192 : Shape := ⟨2, ![2048, 8192]⟩
abbrev S1x8192 : Shape := ⟨2, ![1, 8192]⟩
abbrev S128x8192 : Shape := ⟨2, ![128, 8192]⟩
abbrev S_ : Shape := ⟨0, ![]⟩
abbrev S2048 : Shape := ⟨1, ![2048]⟩
abbrev S2048x1 : Shape := ⟨2, ![2048, 1]⟩
abbrev S2048x128 : Shape := ⟨2, ![2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S1x8192, .f32⟩
  | .hbm, ⟨2, _⟩ => ⟨S128x8192, .bf16⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S2048x8192, .f32⟩
  | .hbm, ⟨22, _⟩ => ⟨S2048x8192, .bf16⟩
  | .hbm, ⟨23, _⟩ => ⟨S2048x128, .f32⟩
  | .hbm, ⟨24, _⟩ => ⟨S2048x128, .f32⟩
  | .hbm, ⟨25, _⟩ => ⟨S2048x128, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== PrepDown.lean ====
abbrev S8192x1792 : Shape := ⟨2, ![8192, 1792]⟩
abbrev S8192x128 : Shape := ⟨2, ![8192, 128]⟩
abbrev S64x3584 : Shape := ⟨2, ![64, 3584]⟩
abbrev S64x8192 : Shape := ⟨2, ![64, 8192]⟩
abbrev S1x8192 : Shape := ⟨2, ![1, 8192]⟩
abbrev S8192x3584 : Shape := ⟨2, ![8192, 3584]⟩
abbrev S512x1792 : Shape := ⟨2, ![512, 1792]⟩
abbrev S512x128 : Shape := ⟨2, ![512, 128]⟩
abbrev S64x512 : Shape := ⟨2, ![64, 512]⟩
abbrev S1x512 : Shape := ⟨2, ![1, 512]⟩
abbrev S512x3584 : Shape := ⟨2, ![512, 3584]⟩
abbrev S64x64 : Shape := ⟨2, ![64, 64]⟩
abbrev S128x128 : Shape := ⟨2, ![128, 128]⟩
abbrev S512x128x1 : Shape := ⟨3, ![512, 128, 1]⟩
abbrev S128x512 : Shape := ⟨2, ![128, 512]⟩
abbrev S512 : Shape := ⟨1, ![512]⟩

abbrev nBuf : Space → Nat
  | .hbm => 9
  | .vmem => 18
  | .smem => 0
  | _ => 0

abbrev bufTy : (tb : Table) → Fin (tcTables nBuf tb) → BufTy
  | .hbm, ⟨0, _⟩ => ⟨S8192x1792, .i8⟩
  | .hbm, ⟨1, _⟩ => ⟨S8192x128, .bf16⟩
  | .hbm, ⟨2, _⟩ => ⟨S8192x128, .bf16⟩
  | .hbm, ⟨3, _⟩ => ⟨S64x3584, .bf16⟩
  | .hbm, ⟨4, _⟩ => ⟨S64x8192, .bf16⟩
  | .hbm, ⟨5, _⟩ => ⟨S1x8192, .f32⟩
  | .hbm, ⟨6, _⟩ => ⟨S8192x3584, .bf16⟩
  | .hbm, ⟨7, _⟩ => ⟨S1x8192, .f32⟩
  | .hbm, ⟨8, _⟩ => ⟨S1x8192, .f32⟩
  | .local _ .vmem, ⟨0, _⟩ => ⟨S512x1792, .i8⟩
  | .local _ .vmem, ⟨1, _⟩ => ⟨S512x1792, .i8⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S64x3584, .bf16⟩
  | .local _ .vmem, ⟨7, _⟩ => ⟨S64x512, .bf16⟩
  | .local _ .vmem, ⟨8, _⟩ => ⟨S64x512, .bf16⟩
  | .local _ .vmem, ⟨9, _⟩ => ⟨S1x512, .f32⟩
  | .local _ .vmem, ⟨10, _⟩ => ⟨S1x512, .f32⟩
  | .local _ .vmem, ⟨11, _⟩ => ⟨S512x3584, .bf16⟩
  | .local _ .vmem, ⟨12, _⟩ => ⟨S512x3584, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S64x64, .f32⟩
  | _, _ => ⟨S8192x1792, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1792 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepDownIdeal.lean ====
abbrev S8192x1792 : Shape := ⟨2, ![8192, 1792]⟩
abbrev S8192x128 : Shape := ⟨2, ![8192, 128]⟩
abbrev S64x3584 : Shape := ⟨2, ![64, 3584]⟩
abbrev S64x8192 : Shape := ⟨2, ![64, 8192]⟩
abbrev S1x8192 : Shape := ⟨2, ![1, 8192]⟩
abbrev S8192x3584 : Shape := ⟨2, ![8192, 3584]⟩
abbrev S512x1792 : Shape := ⟨2, ![512, 1792]⟩
abbrev S512x128 : Shape := ⟨2, ![512, 128]⟩
abbrev S64x512 : Shape := ⟨2, ![64, 512]⟩
abbrev S1x512 : Shape := ⟨2, ![1, 512]⟩
abbrev S512x3584 : Shape := ⟨2, ![512, 3584]⟩
abbrev S64x64 : Shape := ⟨2, ![64, 64]⟩
abbrev S128x128 : Shape := ⟨2, ![128, 128]⟩
abbrev S512x128x1 : Shape := ⟨3, ![512, 128, 1]⟩
abbrev S128x512 : Shape := ⟨2, ![128, 512]⟩
abbrev S512 : Shape := ⟨1, ![512]⟩

abbrev nBuf : Space → Nat
  | .hbm => 9
  | .vmem => 18
  | .smem => 0
  | _ => 0

abbrev bufTy : (tb : Table) → Fin (tcTables nBuf tb) → BufTy
  | .hbm, ⟨0, _⟩ => ⟨S8192x1792, .i8⟩
  | .hbm, ⟨1, _⟩ => ⟨S8192x128, .bf16⟩
  | .hbm, ⟨2, _⟩ => ⟨S8192x128, .bf16⟩
  | .hbm, ⟨3, _⟩ => ⟨S64x3584, .bf16⟩
  | .hbm, ⟨4, _⟩ => ⟨S64x8192, .bf16⟩
  | .hbm, ⟨5, _⟩ => ⟨S1x8192, .f32⟩
  | .hbm, ⟨6, _⟩ => ⟨S8192x3584, .bf16⟩
  | .hbm, ⟨7, _⟩ => ⟨S1x8192, .f32⟩
  | .hbm, ⟨8, _⟩ => ⟨S1x8192, .f32⟩
  | .local _ .vmem, ⟨0, _⟩ => ⟨S512x1792, .i8⟩
  | .local _ .vmem, ⟨1, _⟩ => ⟨S512x1792, .i8⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S64x3584, .bf16⟩
  | .local _ .vmem, ⟨7, _⟩ => ⟨S64x512, .bf16⟩
  | .local _ .vmem, ⟨8, _⟩ => ⟨S64x512, .bf16⟩
  | .local _ .vmem, ⟨9, _⟩ => ⟨S1x512, .f32⟩
  | .local _ .vmem, ⟨10, _⟩ => ⟨S1x512, .f32⟩
  | .local _ .vmem, ⟨11, _⟩ => ⟨S512x3584, .bf16⟩
  | .local _ .vmem, ⟨12, _⟩ => ⟨S512x3584, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S64x64, .f32⟩
  | _, _ => ⟨S8192x1792, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1792 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepDownRefIdeal.lean ====
abbrev S8192x1792 : Shape := ⟨2, ![8192, 1792]⟩
abbrev S8192x128 : Shape := ⟨2, ![8192, 128]⟩
abbrev S64x3584 : Shape := ⟨2, ![64, 3584]⟩
abbrev S64x8192 : Shape := ⟨2, ![64, 8192]⟩
abbrev S1x8192 : Shape := ⟨2, ![1, 8192]⟩
abbrev S_ : Shape := ⟨0, ![]⟩
abbrev S8192x28 : Shape := ⟨2, ![8192, 28]⟩
abbrev S8192x28x64 : Shape := ⟨3, ![8192, 28, 64]⟩
abbrev S8192x28x1 : Shape := ⟨3, ![8192, 28, 1]⟩
abbrev S8192x3584 : Shape := ⟨2, ![8192, 3584]⟩
abbrev S8192 : Shape := ⟨1, ![8192]⟩
abbrev S8192x64 : Shape := ⟨2, ![8192, 64]⟩
abbrev S64x64 : Shape := ⟨2, ![64, 64]⟩

abbrev nBuf : Space → Nat
  | .hbm => 62
  | .vmem => 0
  | .smem => 0
  | _ => 0

abbrev bufTy : (tb : Table) → Fin (tcTables nBuf tb) → BufTy
  | .hbm, ⟨0, _⟩ => ⟨S8192x1792, .i8⟩
  | .hbm, ⟨1, _⟩ => ⟨S8192x128, .bf16⟩
  | .hbm, ⟨2, _⟩ => ⟨S8192x128, .bf16⟩
  | .hbm, ⟨3, _⟩ => ⟨S64x3584, .bf16⟩
  | .hbm, ⟨4, _⟩ => ⟨S64x8192, .bf16⟩
  | .hbm, ⟨5, _⟩ => ⟨S1x8192, .f32⟩
  | .hbm, ⟨6, _⟩ => ⟨S8192x1792, .i32⟩
  | .hbm, ⟨7, _⟩ => ⟨S_, .i32⟩
  | .hbm, ⟨8, _⟩ => ⟨S8192x1792, .i32⟩
  | .hbm, ⟨9, _⟩ => ⟨S8192x1792, .i32⟩
  | .hbm, ⟨10, _⟩ => ⟨S8192x1792, .bf16⟩
  | .hbm, ⟨11, _⟩ => ⟨S_, .i32⟩
  | .hbm, ⟨12, _⟩ => ⟨S8192x1792, .i32⟩
  | .hbm, ⟨13, _⟩ => ⟨S8192x1792, .i32⟩
  | .hbm, ⟨14, _⟩ => ⟨S8192x1792, .bf16⟩
  | .hbm, ⟨15, _⟩ => ⟨S8192x28, .bf16⟩
  | .hbm, ⟨16, _⟩ => ⟨S8192x28, .bf16⟩
  | .hbm, ⟨17, _⟩ => ⟨S8192x28x64, .bf16⟩
  | .hbm, ⟨18, _⟩ => ⟨S8192x28x1, .bf16⟩
  | .hbm, ⟨19, _⟩ => ⟨S8192x28x64, .bf16⟩
  | .hbm, ⟨20, _⟩ => ⟨S8192x28x64, .bf16⟩
  | .hbm, ⟨21, _⟩ => ⟨S8192x28x1, .bf16⟩
  | .hbm, ⟨22, _⟩ => ⟨S8192x28x64, .bf16⟩
  | .hbm, ⟨23, _⟩ => ⟨S8192x28x64, .bf16⟩
  | .hbm, ⟨24, _⟩ => ⟨S8192x1792, .bf16⟩
  | .hbm, ⟨25, _⟩ => ⟨S8192x28, .bf16⟩
  | .hbm, ⟨26, _⟩ => ⟨S8192x28, .bf16⟩
  | .hbm, ⟨27, _⟩ => ⟨S8192x28x64, .bf16⟩
  | .hbm, ⟨28, _⟩ => ⟨S8192x28x1, .bf16⟩
  | .hbm, ⟨29, _⟩ => ⟨S8192x28x64, .bf16⟩
  | .hbm, ⟨30, _⟩ => ⟨S8192x28x64, .bf16⟩
  | .hbm, ⟨31, _⟩ => ⟨S8192x28x1, .bf16⟩
  | .hbm, ⟨32, _⟩ => ⟨S8192x28x64, .bf16⟩
  | .hbm, ⟨33, _⟩ => ⟨S8192x28x64, .bf16⟩
  | .hbm, ⟨34, _⟩ => ⟨S8192x1792, .bf16⟩
  | .hbm, ⟨35, _⟩ => ⟨S8192x3584, .bf16⟩
  | .hbm, ⟨36, _⟩ => ⟨S8192x3584, .f32⟩
  | .hbm, ⟨37, _⟩ => ⟨S8192x3584, .f32⟩
  | .hbm, ⟨38, _⟩ => ⟨S_, .f32⟩
  | .hbm, ⟨39, _⟩ => ⟨S8192, .f32⟩
  | .hbm, ⟨40, _⟩ => ⟨S8192x64, .f32⟩
  | .hbm, ⟨41, _⟩ => ⟨S64x64, .f32⟩
  | .hbm, ⟨42, _⟩ => ⟨S8192x64, .bf16⟩
  | .hbm, ⟨43, _⟩ => ⟨S8192x64, .f32⟩
  | .hbm, ⟨44, _⟩ => ⟨S8192x64, .f32⟩
  | .hbm, ⟨45, _⟩ => ⟨S8192x64, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192x64, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S1x8192, .f32⟩
  | .hbm, ⟨61, _⟩ => ⟨S1x8192, .f32⟩
  | _, _ => ⟨S8192x1792, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== PrepGateUp.lean ====
abbrev S3584x4096 : Shape := ⟨2, ![3584, 4096]⟩
abbrev S3584x128 : Shape := ⟨2, ![3584, 128]⟩
abbrev S64x8192 : Shape := ⟨2, ![64, 8192]⟩
abbrev S64x3584 : Shape := ⟨2, ![64, 3584]⟩
abbrev S1x3584 : Shape := ⟨2, ![1, 3584]⟩
abbrev S3584x8192 : Shape := ⟨2, ![3584, 8192]⟩
abbrev S256x4096 : Shape := ⟨2, ![256, 4096]⟩
abbrev S256x128 : Shape := ⟨2, ![256, 128]⟩
abbrev S64x256 : Shape := ⟨2, ![64, 256]⟩
abbrev S1x256 : Shape := ⟨2, ![1, 256]⟩
abbrev S256x8192 : Shape := ⟨2, ![256, 8192]⟩
abbrev S64x64 : Shape := ⟨2, ![64, 64]⟩
abbrev S64x128 : Shape := ⟨2, ![64, 128]⟩
abbrev S256x128x1 : Shape := ⟨3, ![256, 128, 1]⟩
abbrev S128x256 : Shape := ⟨2, ![128, 256]⟩
abbrev S256 : Shape := ⟨1, ![256]⟩

abbrev nBuf : Space → Nat
  | .hbm => 9
  | .vmem => 18
  | .smem => 0
  | _ => 0

abbrev bufTy : (tb : Table) → Fin (tcTables nBuf tb) → BufTy
  | .hbm, ⟨0, _⟩ => ⟨S3584x4096, .i8⟩
  | .hbm, ⟨1, _⟩ => ⟨S3584x128, .bf16⟩
  | .hbm, ⟨2, _⟩ => ⟨S3584x128, .bf16⟩
  | .hbm, ⟨3, _⟩ => ⟨S64x8192, .bf16⟩
  | .hbm, ⟨4, _⟩ => ⟨S64x3584, .bf16⟩
  | .hbm, ⟨5, _⟩ => ⟨S1x3584, .f32⟩
  | .hbm, ⟨6, _⟩ => ⟨S3584x8192, .bf16⟩
  | .hbm, ⟨7, _⟩ => ⟨S1x3584, .f32⟩
  | .hbm, ⟨8, _⟩ => ⟨S1x3584, .f32⟩
  | .local _ .vmem, ⟨0, _⟩ => ⟨S256x4096, .i8⟩
  | .local _ .vmem, ⟨1, _⟩ => ⟨S256x4096, .i8⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S64x8192, .bf16⟩
  | .local _ .vmem, ⟨7, _⟩ => ⟨S64x256, .bf16⟩
  | .local _ .vmem, ⟨8, _⟩ => ⟨S64x256, .bf16⟩
  | .local _ .vmem, ⟨9, _⟩ => ⟨S1x256, .f32⟩
  | .local _ .vmem, ⟨10, _⟩ => ⟨S1x256, .f32⟩
  | .local _ .vmem, ⟨11, _⟩ => ⟨S256x8192, .bf16⟩
  | .local _ .vmem, ⟨12, _⟩ => ⟨S256x8192, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S64x64, .f32⟩
  | _, _ => ⟨S3584x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepGateUpRefIdeal.lean ====
abbrev S3584x4096 : Shape := ⟨2, ![3584, 4096]⟩
abbrev S3584x128 : Shape := ⟨2, ![3584, 128]⟩
abbrev S64x8192 : Shape := ⟨2, ![64, 8192]⟩
abbrev S64x3584 : Shape := ⟨2, ![64, 3584]⟩
abbrev S1x3584 : Shape := ⟨2, ![1, 3584]⟩
abbrev S_ : Shape := ⟨0, ![]⟩
abbrev S3584x64 : Shape := ⟨2, ![3584, 64]⟩
abbrev S3584x64x64 : Shape := ⟨3, ![3584, 64, 64]⟩
abbrev S3584x64x1 : Shape := ⟨3, ![3584, 64, 1]⟩
abbrev S3584x8192 : Shape := ⟨2, ![3584, 8192]⟩
abbrev S3584 : Shape := ⟨1, ![3584]⟩
abbrev S64x64 : Shape := ⟨2, ![64, 64]⟩

abbrev nBuf : Space → Nat
  | .hbm => 62
  | .vmem => 0
  | .smem => 0
  | _ => 0

abbrev bufTy : (tb : Table) → Fin (tcTables nBuf tb) → BufTy
  | .hbm, ⟨0, _⟩ => ⟨S3584x4096, .i8⟩
  | .hbm, ⟨1, _⟩ => ⟨S3584x128, .bf16⟩
  | .hbm, ⟨2, _⟩ => ⟨S3584x128, .bf16⟩
  | .hbm, ⟨3, _⟩ => ⟨S64x8192, .bf16⟩
  | .hbm, ⟨4, _⟩ => ⟨S64x3584, .bf16⟩
  | .hbm, ⟨5, _⟩ => ⟨S1x3584, .f32⟩
  | .hbm, ⟨6, _⟩ => ⟨S3584x4096, .i32⟩
  | .hbm, ⟨7, _⟩ => ⟨S_, .i32⟩
  | .hbm, ⟨8, _⟩ => ⟨S3584x4096, .i32⟩
  | .hbm, ⟨9, _⟩ => ⟨S3584x4096, .i32⟩
  | .hbm, ⟨10, _⟩ => ⟨S3584x4096, .bf16⟩
  | .hbm, ⟨11, _⟩ => ⟨S_, .i32⟩
  | .hbm, ⟨12, _⟩ => ⟨S3584x4096, .i32⟩
  | .hbm, ⟨13, _⟩ => ⟨S3584x4096, .i32⟩
  | .hbm, ⟨14, _⟩ => ⟨S3584x4096, .bf16⟩
  | .hbm, ⟨15, _⟩ => ⟨S3584x64, .bf16⟩
  | .hbm, ⟨16, _⟩ => ⟨S3584x64, .bf16⟩
  | .hbm, ⟨17, _⟩ => ⟨S3584x64x64, .bf16⟩
  | .hbm, ⟨18, _⟩ => ⟨S3584x64x1, .bf16⟩
  | .hbm, ⟨19, _⟩ => ⟨S3584x64x64, .bf16⟩
  | .hbm, ⟨20, _⟩ => ⟨S3584x64x64, .bf16⟩
  | .hbm, ⟨21, _⟩ => ⟨S3584x64x1, .bf16⟩
  | .hbm, ⟨22, _⟩ => ⟨S3584x64x64, .bf16⟩
  | .hbm, ⟨23, _⟩ => ⟨S3584x64x64, .bf16⟩
  | .hbm, ⟨24, _⟩ => ⟨S3584x4096, .bf16⟩
  | .hbm, ⟨25, _⟩ => ⟨S3584x64, .bf16⟩
  | .hbm, ⟨26, _⟩ => ⟨S3584x64, .bf16⟩
  | .hbm, ⟨27, _⟩ => ⟨S3584x64x64, .bf16⟩
  | .hbm, ⟨28, _⟩ => ⟨S3584x64x1, .bf16⟩
  | .hbm, ⟨29, _⟩ => ⟨S3584x64x64, .bf16⟩
  | .hbm, ⟨30, _⟩ => ⟨S3584x64x64, .bf16⟩
  | .hbm, ⟨31, _⟩ => ⟨S3584x64x1, .bf16⟩
  | .hbm, ⟨32, _⟩ => ⟨S3584x64x64, .bf16⟩
  | .hbm, ⟨33, _⟩ => ⟨S3584x64x64, .bf16⟩
  | .hbm, ⟨34, _⟩ => ⟨S3584x4096, .bf16⟩
  | .hbm, ⟨35, _⟩ => ⟨S3584x8192, .bf16⟩
  | .hbm, ⟨36, _⟩ => ⟨S3584x8192, .f32⟩
  | .hbm, ⟨37, _⟩ => ⟨S3584x8192, .f32⟩
  | .hbm, ⟨38, _⟩ => ⟨S_, .f32⟩
  | .hbm, ⟨39, _⟩ => ⟨S3584, .f32⟩
  | .hbm, ⟨40, _⟩ => ⟨S3584x64, .f32⟩
  | .hbm, ⟨41, _⟩ => ⟨S64x64, .f32⟩
  | .hbm, ⟨42, _⟩ => ⟨S3584x64, .bf16⟩
  | .hbm, ⟨43, _⟩ => ⟨S3584x64, .f32⟩
  | .hbm, ⟨44, _⟩ => ⟨S3584x64, .f32⟩
  | .hbm, ⟨45, _⟩ => ⟨S3584x64, .f32⟩
  | .hbm, ⟨46, _⟩ => ⟨S_, .f32⟩
  | .hbm, ⟨47, _⟩ => ⟨S3584, .f32⟩
  | .hbm, ⟨48, _⟩ => ⟨S_, .f32⟩
  | .hbm, ⟨49, _⟩ => ⟨S3584, .f32⟩
  | .hbm, ⟨50, _⟩ => ⟨S3584, .f32⟩
  | .hbm, ⟨51, _⟩ => ⟨S3584, .f32⟩
  | .hbm, ⟨52, _⟩ => ⟨S3584x64, .f32⟩
  | .hbm, ⟨53, _⟩ => ⟨S_, .f32⟩
  | .hbm, ⟨54, _⟩ => ⟨S3584, .f32⟩
  | .hbm, ⟨55, _⟩ => ⟨S_, .f32⟩
  | .hbm, ⟨56, _⟩ => ⟨S3584, .f32⟩
  | .hbm, ⟨57, _⟩ => ⟨S3584, .f32⟩
  | .hbm, ⟨58, _⟩ => ⟨S3584, .f32⟩
  | .hbm, ⟨59, _⟩ => ⟨S3584, .f32⟩
  | .hbm, ⟨60, _⟩ => ⟨S1x3584, .f32⟩
  | .hbm, ⟨61, _⟩ => ⟨S1x3584, .f32⟩
  | _, _ => ⟨S3584x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Proof.DownFwd.Kit.lean ====
module

public import proofs.«01_k».proof.Proof.Gen.DownFwdIdeal.Frame
public import proofs.«01_k».proof.Proof.Gen.DownFwdIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownFwdIdeal.Body

open Cert.DownFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, as the grid coordinates give it. -/
abbrev cond (i : grid0.Coords) : Prop := k0_cond1 i = 1#1

/-- The branch is taken at the last point only. -/
theorem hcond : ∀ t : Fin cfg0.N, cond (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond, k0_cond1, e0]
    word_cmp
   : ∀ t : Fin grid0.N, cond (grid0.coords t) ↔ t.val % 16 = 15)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl

/-- Output window 12 is idle, and not written back, before the last point; at the last point it is stored. -/
theorem idle12 : ∀ t : Fin cfg0.N, ¬cond (grid0.coords t) → cfg0.idle 12 (grid0.coords t) = true := by decide +kernel
theorem noFlush12 : ∀ t : Fin cfg0.N, ¬cond (grid0.coords t) → (cfg0.win 12).flush t = false := by decide +kernel
theorem live12 : ∀ t : Fin cfg0.N, cond (grid0.coords t) → cfg0.idle 12 (grid0.coords t) = false := by decide +kernel

/-! The staging memrefs of a point, the buffers through which what an output holds is stated, the scratch. -/

abbrev VO8 : View sig .tc .vmem S2048x512 .bf16 := (Memref.whole cc0_stg8_0 : Memref sig .tc .vmem S2048x512 .bf16).view
abbrev VO9 : View sig .tc .vmem S2048x512 .bf16 := (Memref.whole cc0_stg9_0 : Memref sig .tc .vmem S2048x512 .bf16).view
abbrev VO10 : View sig .tc .vmem S1x512 .f32 := (Memref.whole cc0_stg10_0 : Memref sig .tc .vmem S1x512 .f32).view
abbrev VO11 : View sig .tc .vmem S512x64 .f32 := (Memref.whole cc0_stg11_0 : Memref sig .tc .vmem S512x64 .f32).view
abbrev VO12 : View sig .tc .vmem S2048x64 .bf16 := (Memref.whole cc0_stg12_0 : Memref sig .tc .vmem S2048x64 .bf16).view
abbrev ms0 (t : Fin cfg0.N) : Memref sig .tc .vmem S2048x3584 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x3584 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x64 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x512 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S2048x64 .bf16 := win0_12.stage (cfg0.slots t 12)
abbrev hs12 (t : Fin cfg0.N) : (ms12 t).IsWhole := hstage0_12 ((cfg0.slots t 12).cast nbuf0_12)
abbrev scM0 : Memref sig .tc .vmem S2048x64 .f32 := Memref.whole cc0_scratch0
abbrev VS0 : View sig .tc .vmem S2048x64 .f32 := scM0.view

/-- The invariant a region starts and ends with, its scratch as memrefs owned at some contents. -/
theorem PhiA_eq (c : Dev nD) :
    (Pipeline.ΦA spec0 c : sProp 𝕄) = iprop(iprop((∃ d, owns (c : Thread nD τ) scM0 fullShare d)) ∗ (∃ r, prngReg c r)) := by
  unfold Pipeline.ΦA; rw [scopedRest0_eq]; simp only [scM0, owns_whole]; try rfl

end Cert.DownFwdIdeal.Body

end
-- ==== Proof.DownFwd.Mid.lean ====
module

public import proofs.«01_k».proof.Proof.DownFwd.Kit

@[expose] public section

set_option maxRecDepth 16384

noncomputable section

namespace Cert.DownFwdIdeal.Body

open Cert.DownFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x3584 .bf16) (harg1 : arg1.IsWhole) (arg2 : Memref sig .tc .vmem S512x3584 .bf16) (harg2 : arg2.IsWhole) (arg3 : Memref sig .tc .vmem S2048x64 .bf16) (harg3 : arg3.IsWhole) (arg4 : Memref sig .tc .vmem S512x64 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x512 .f32) (harg11 : arg11.IsWhole) (arg12 : Memref sig .tc .vmem S512x64 .f32) (harg12 : arg12.IsWhole) (arg13 : Memref sig .tc .vmem S2048x64 .bf16) (harg13 : arg13.IsWhole) (arg14 : Memref sig .tc .vmem S2048x64 .f32) (harg14 : arg14.IsWhole)

set_option maxHeartbeats 4000000 in
/-- The body before the last point, on whole staging memrefs: the inputs at their contents, the carried scratch at any contents, an
    output at any contents. It runs to its continuation with the inputs as they were, every buffer it stores into holding
    the pieces listed (the witnesses the run finds, last store first), and an output it does not touch handed back. -/
def runMid (hc : ¬cond i) (x0 : Vec F S2048x3584 .bf16) (x1 : Vec F S512x3584 .bf16) (x2 : Vec F S2048x64 .bf16) (x3 : Vec F S512x64 .bf16) (x4 : Vec F S1x512 .f32) (x5 : Vec F S1x512 .f32) (x6 : Vec F S2048x512 .bf16) (x7 : Vec F S2048x512 .bf16) (xs0 : Vec F S2048x64 .f32) :
    Σ' (L8 : List (View.Piece (Elt F) S2048x512 .bf16)), Σ' (L9 : List (View.Piece (Elt F) S2048x512 .bf16)), Σ' (L10 : List (View.Piece (Elt F) S1x512 .f32)), Σ' (L11 : List (View.Piece (Elt F) S512x64 .f32)), { LS0 : List (View.Piece (Elt F) S2048x64 .f32) //
      ∀ (xi12 : Vec F S2048x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xi12 ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc0_down_fwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xi12 E K => ?run⟩
  case run =>
    simp only [cc0_down_fwd_eq_skeleton]; unfold cc0_down_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hf12; obtain rfl := harg14.eq_unread hfs0
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; iexact H10
    isplitl [H11]
    · iexists _; iexact H11
    isplitl [H12]
    · iexists _; isplitr; · ipureintro; exact harg13.read_unread _
      iexact H12
    iexists _; iexact HS0

end Cert.DownFwdIdeal.Body

end
-- ==== Proof.DownFwd.Last.lean ====
module

public import proofs.«01_k».proof.Proof.DownFwd.Mid

@[expose] public section

set_option maxRecDepth 16384

noncomputable section

namespace Cert.DownFwdIdeal.Body

open Cert.DownFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x3584 .bf16) (harg1 : arg1.IsWhole) (arg2 : Memref sig .tc .vmem S512x3584 .bf16) (harg2 : arg2.IsWhole) (arg3 : Memref sig .tc .vmem S2048x64 .bf16) (harg3 : arg3.IsWhole) (arg4 : Memref sig .tc .vmem S512x64 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x512 .f32) (harg11 : arg11.IsWhole) (arg12 : Memref sig .tc .vmem S512x64 .f32) (harg12 : arg12.IsWhole) (arg13 : Memref sig .tc .vmem S2048x64 .bf16) (harg13 : arg13.IsWhole) (arg14 : Memref sig .tc .vmem S2048x64 .f32) (harg14 : arg14.IsWhole)

set_option maxHeartbeats 4000000 in
/-- The body at the last point, on whole staging memrefs: the inputs at their contents, the carried scratch at any contents, an
    output at any contents. It runs to its continuation with the inputs as they were, every buffer it stores into holding
    the pieces listed (the witnesses the run finds, last store first), and an output it does not touch handed back. -/
def runLast (hc : cond i) (x0 : Vec F S2048x3584 .bf16) (x1 : Vec F S512x3584 .bf16) (x2 : Vec F S2048x64 .bf16) (x3 : Vec F S512x64 .bf16) (x4 : Vec F S1x512 .f32) (x5 : Vec F S1x512 .f32) (x6 : Vec F S2048x512 .bf16) (x7 : Vec F S2048x512 .bf16) (xs0 : Vec F S2048x64 .f32) :
    Σ' (L8 : List (View.Piece (Elt F) S2048x512 .bf16)), Σ' (L9 : List (View.Piece (Elt F) S2048x512 .bf16)), Σ' (L10 : List (View.Piece (Elt F) S1x512 .f32)), Σ' (L11 : List (View.Piece (Elt F) S512x64 .f32)), Σ' (L12 : List (View.Piece (Elt F) S2048x64 .bf16)), { LS0 : List (View.Piece (Elt F) S2048x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc0_down_fwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_down_fwd_eq_skeleton]; unfold cc0_down_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hfs0
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; iexact H10
    isplitl [H11]
    · iexists _; iexact H11
    isplitl [H12]
    · iexists _; iexact H12
    iexists _; iexact HS0

end Cert.DownFwdIdeal.Body

end
-- ==== Proof.DownFwd.Track.lean ====
module

public import proofs.«01_k».proof.Proof.DownFwd.Last
public import Idealize.ShloMosaic.Lib.Claim

@[expose] public section

set_option maxRecDepth 16384

noncomputable section

namespace Cert.DownFwdIdeal.Body

open Cert.DownFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The ordinary run at point `t`'s own staging memrefs and input blocks, the scratch starting at the contents given. -/
abbrev midAt (c : Dev nD) (t : Fin cfg0.N) (h : ¬cond (grid0.coords t)) (xs0 : Vec F S2048x64 .f32) :=
  runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) h (iblk m c 0 t) (iblk m c 1 t) (iblk m c 2 t) (iblk m c 3 t) (iblk m c 4 t) (iblk m c 5 t) (iblk m c 6 t) (iblk m c 7 t) xs0

theorem mid_cover_8 (c : Dev nD) (t : Fin cfg0.N) (h : ¬cond (grid0.coords t)) (xs0 : Vec F S2048x64 .f32) :
    ∀ y : S2048x512.Idx, ∃ p ∈ (midAt m c t h xs0).1, y ∈ p.1.set := fun y =>
  View.cover_of_tiledL (midAt m c t h xs0).1 S512x512.size (by sl_kernel_rfl) y
def mid_8 (c : Dev nD) (t : Fin cfg0.N) (h : ¬cond (grid0.coords t)) (xs0 : Vec F S2048x64 .f32) : Vec F S2048x512 .bf16 :=
  VO8.read (Elt F) (VO8.writes (Elt F) VO8.junk (midAt m c t h xs0).1)
theorem mid_cover_9 (c : Dev nD) (t : Fin cfg0.N) (h : ¬cond (grid0.coords t)) (xs0 : Vec F S2048x64 .f32) :
    ∀ y : S2048x512.Idx, ∃ p ∈ (midAt m c t h xs0).2.1, y ∈ p.1.set := fun y =>
  View.cover_of_tiledL (midAt m c t h xs0).2.1 S512x512.size (by sl_kernel_rfl) y
def mid_9 (c : Dev nD) (t : Fin cfg0.N) (h : ¬cond (grid0.coords t)) (xs0 : Vec F S2048x64 .f32) : Vec F S2048x512 .bf16 :=
  VO9.read (Elt F) (VO9.writes (Elt F) VO9.junk (midAt m c t h xs0).2.1)
theorem mid_cover_10 (c : Dev nD) (t : Fin cfg0.N) (h : ¬cond (grid0.coords t)) (xs0 : Vec F S2048x64 .f32) :
    ∀ y : S1x512.Idx, ∃ p ∈ (midAt m c t h xs0).2.2.1, y ∈ p.1.set := fun y =>
  View.cover_of_wholeMem (midAt m c t h xs0).2.2.1 (by sl_whole_mem) y
def mid_10 (c : Dev nD) (t : Fin cfg0.N) (h : ¬cond (grid0.coords t)) (xs0 : Vec F S2048x64 .f32) : Vec F S1x512 .f32 :=
  VO10.read (Elt F) (VO10.writes (Elt F) VO10.junk (midAt m c t h xs0).2.2.1)
theorem mid_cover_11 (c : Dev nD) (t : Fin cfg0.N) (h : ¬cond (grid0.coords t)) (xs0 : Vec F S2048x64 .f32) :
    ∀ y : S512x64.Idx, ∃ p ∈ (midAt m c t h xs0).2.2.2.1, y ∈ p.1.set := fun y =>
  View.cover_of_wholeMem (midAt m c t h xs0).2.2.2.1 (by sl_whole_mem) y
def mid_11 (c : Dev nD) (t : Fin cfg0.N) (h : ¬cond (grid0.coords t)) (xs0 : Vec F S2048x64 .f32) : Vec F S512x64 .f32 :=
  VO11.read (Elt F) (VO11.writes (Elt F) VO11.junk (midAt m c t h xs0).2.2.2.1)
theorem mid_cover_s0 (c : Dev nD) (t : Fin cfg0.N) (h : ¬cond (grid0.coords t)) (xs0 : Vec F S2048x64 .f32) :
    ∀ y : S2048x64.Idx, ∃ p ∈ (midAt m c t h xs0).2.2.2.2.1, y ∈ p.1.set := fun y =>
  View.cover_of_tiledL (midAt m c t h xs0).2.2.2.2.1 S512x64.size (by sl_kernel_rfl) y
def mid_s0 (c : Dev nD) (t : Fin cfg0.N) (h : ¬cond (grid0.coords t)) (xs0 : Vec F S2048x64 .f32) : Vec F S2048x64 .f32 :=
  VS0.read (Elt F) (VS0.writes (Elt F) VS0.junk (midAt m c t h xs0).2.2.2.2.1)
/-- The last run at point `t`'s own staging memrefs and input blocks, the scratch starting at the contents given. -/
abbrev lastAt (c : Dev nD) (t : Fin cfg0.N) (h : cond (grid0.coords t)) (xs0 : Vec F S2048x64 .f32) :=
  runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) h (iblk m c 0 t) (iblk m c 1 t) (iblk m c 2 t) (iblk m c 3 t) (iblk m c 4 t) (iblk m c 5 t) (iblk m c 6 t) (iblk m c 7 t) xs0

theorem last_cover_8 (c : Dev nD) (t : Fin cfg0.N) (h : cond (grid0.coords t)) (xs0 : Vec F S2048x64 .f32) :
    ∀ y : S2048x512.Idx, ∃ p ∈ (lastAt m c t h xs0).1, y ∈ p.1.set := fun y =>
  View.cover_of_tiledL (lastAt m c t h xs0).1 S512x512.size (by sl_kernel_rfl) y
def last_8 (c : Dev nD) (t : Fin cfg0.N) (h : cond (grid0.coords t)) (xs0 : Vec F S2048x64 .f32) : Vec F S2048x512 .bf16 :=
  VO8.read (Elt F) (VO8.writes (Elt F) VO8.junk (lastAt m c t h xs0).1)
theorem last_cover_9 (c : Dev nD) (t : Fin cfg0.N) (h : cond (grid0.coords t)) (xs0 : Vec F S2048x64 .f32) :
    ∀ y : S2048x512.Idx, ∃ p ∈ (lastAt m c t h xs0).2.1, y ∈ p.1.set := fun y =>
  View.cover_of_tiledL (lastAt m c t h xs0).2.1 S512x512.size (by sl_kernel_rfl) y
def last_9 (c : Dev nD) (t : Fin cfg0.N) (h : cond (grid0.coords t)) (xs0 : Vec F S2048x64 .f32) : Vec F S2048x512 .bf16 :=
  VO9.read (Elt F) (VO9.writes (Elt F) VO9.junk (lastAt m c t h xs0).2.1)
theorem last_cover_10 (c : Dev nD) (t : Fin cfg0.N) (h : cond (grid0.coords t)) (xs0 : Vec F S2048x64 .f32) :
    ∀ y : S1x512.Idx, ∃ p ∈ (lastAt m c t h xs0).2.2.1, y ∈ p.1.set := fun y =>
  View.cover_of_wholeMem (lastAt m c t h xs0).2.2.1 (by sl_whole_mem) y
def last_10 (c : Dev nD) (t : Fin cfg0.N) (h : cond (grid0.coords t)) (xs0 : Vec F S2048x64 .f32) : Vec F S1x512 .f32 :=
  VO10.read (Elt F) (VO10.writes (Elt F) VO10.junk (lastAt m c t h xs0).2.2.1)
theorem last_cover_11 (c : Dev nD) (t : Fin cfg0.N) (h : cond (grid0.coords t)) (xs0 : Vec F S2048x64 .f32) :
    ∀ y : S512x64.Idx, ∃ p ∈ (lastAt m c t h xs0).2.2.2.1, y ∈ p.1.set := fun y =>
  View.cover_of_wholeMem (lastAt m c t h xs0).2.2.2.1 (by sl_whole_mem) y
def last_11 (c : Dev nD) (t : Fin cfg0.N) (h : cond (grid0.coords t)) (xs0 : Vec F S2048x64 .f32) : Vec F S512x64 .f32 :=
  VO11.read (Elt F) (VO11.writes (Elt F) VO11.junk (lastAt m c t h xs0).2.2.2.1)
theorem last_cover_12 (c : Dev nD) (t : Fin cfg0.N) (h : cond (grid0.coords t)) (xs0 : Vec F S2048x64 .f32) :
    ∀ y : S2048x64.Idx, ∃ p ∈ (lastAt m c t h xs0).2.2.2.2.1, y ∈ p.1.set := fun y =>
  View.cover_of_wholeMem (lastAt m c t h xs0).2.2.2.2.1 (by sl_whole_mem) y
def last_12 (c : Dev nD) (t : Fin cfg0.N) (h : cond (grid0.coords t)) (xs0 : Vec F S2048x64 .f32) : Vec F S2048x64 .bf16 :=
  VO12.read (Elt F) (VO12.writes (Elt F) VO12.junk (lastAt m c t h xs0).2.2.2.2.1)
theorem last_cover_s0 (c : Dev nD) (t : Fin cfg0.N) (h : cond (grid0.coords t)) (xs0 : Vec F S2048x64 .f32) :
    ∀ y : S2048x64.Idx, ∃ p ∈ (lastAt m c t h xs0).2.2.2.2.2.1, y ∈ p.1.set := fun y =>
  View.cover_of_tiledL (lastAt m c t h xs0).2.2.2.2.2.1 S512x64.size (by sl_kernel_rfl) y
def last_s0 (c : Dev nD) (t : Fin cfg0.N) (h : cond (grid0.coords t)) (xs0 : Vec F S2048x64 .f32) : Vec F S2048x64 .f32 :=
  VS0.read (Elt F) (VS0.writes (Elt F) VS0.junk (lastAt m c t h xs0).2.2.2.2.2.1)

/-- What one point leaves: the output blocks, then the scratch, from the scratch it starts with. -/
def step (c : Dev nD) (t : Fin cfg0.N) (xs0 : Vec F S2048x64 .f32) : Vec F S2048x512 .bf16 × Vec F S2048x512 .bf16 × Vec F S1x512 .f32 × Vec F S512x64 .f32 × Vec F S2048x64 .bf16 × Vec F S2048x64 .f32 :=
  if h : cond (grid0.coords t) then
    (last_8 m c t h xs0, last_9 m c t h xs0, last_10 m c t h xs0, last_11 m c t h xs0, last_12 m c t h xs0, last_s0 m c t h xs0)
  else
    (mid_8 m c t h xs0, mid_9 m c t h xs0, mid_10 m c t h xs0, mid_11 m c t h xs0, VO12.read (Elt F) VO12.junk, mid_s0 m c t h xs0)

theorem step_last (c : Dev nD) (t : Fin cfg0.N) (h : cond (grid0.coords t)) (xs0 : Vec F S2048x64 .f32) :
    step m c t xs0 = (last_8 m c t h xs0, last_9 m c t h xs0, last_10 m c t h xs0, last_11 m c t h xs0, last_12 m c t h xs0, last_s0 m c t h xs0) := dif_pos h
theorem step_mid (c : Dev nD) (t : Fin cfg0.N) (h : ¬cond (grid0.coords t)) (xs0 : Vec F S2048x64 .f32) :
    step m c t xs0 = (mid_8 m c t h xs0, mid_9 m c t h xs0, mid_10 m c t h xs0, mid_11 m c t h xs0, VO12.read (Elt F) VO12.junk, mid_s0 m c t h xs0) := dif_neg h

/-! At the first point the scratch is stored without being looked at. -/

theorem pay10_first (v : Vec F S512x512 .bf16) (w : Vec F S512x64 .bf16) (x y : Vec F S512x64 .f32) :
    k0_pay10 0#32 v w x = k0_pay10 0#32 v w y := rfl
theorem pay17_first (v : Vec F S512x512 .bf16) (w : Vec F S512x64 .bf16) (x y : Vec F S512x64 .f32) :
    k0_pay17 0#32 v w x = k0_pay17 0#32 v w y := rfl
theorem pay24_first (v : Vec F S512x512 .bf16) (w : Vec F S512x64 .bf16) (x y : Vec F S512x64 .f32) :
    k0_pay24 0#32 v w x = k0_pay24 0#32 v w y := rfl
theorem pay1_first (v x y : FVec F S512x64 .f32) : k0_pay1 v 1#1 x = k0_pay1 v 1#1 y := rfl

theorem mid_s0_first (c : Dev nD) (t : Fin cfg0.N) (h : ¬cond (grid0.coords t)) (h0 : t.val = 0) (xs ys : Vec F S2048x64 .f32) :
    mid_s0 m c t h xs = mid_s0 m c t h ys := by
  have e0 : (grid0.coords t 0).val = 0 := by
    rw [show (grid0.coords t 0).val = t.val / 1 % 16 from Pipeline.Grid.coords_val t 0 (by decide) rfl, h0]
  have ew : BitVec.ofNat 32 (grid0.coords t 0).val = 0#32 := by rw [e0]
  unfold mid_s0
  refine congrArg (fun L => VS0.read (Elt F) (VS0.writes (Elt F) VS0.junk L)) ?_
  unfold midAt runMid
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  · rw [show runMid.sl.v150 (grid0.coords t) = 1#1 from by unfold runMid.sl.v150; rw [ew]; rfl]
    exact pay1_first _ _ _
  · rw [ew]; exact pay24_first _ _ _ _
  · rw [ew]; exact pay17_first _ _ _ _
  · rw [ew]; exact pay10_first _ _ _ _

theorem step_first (c : Dev nD) (t : Fin cfg0.N) (h0 : t.val = 0) (xs ys : Vec F S2048x64 .f32) :
    step m c t xs = step m c t ys := by
  have h : ¬cond (grid0.coords t) := fun h => by have := (hcond t).mp h; omega
  rw [step_mid m c t h, step_mid m c t h, mid_s0_first m c t h h0 xs ys]
  rfl

/-- What every point leaves, point by point: the first point starts from a scratch nobody reads. -/
def outs (c : Dev nD) : (n : ℕ) → n < cfg0.N → Vec F S2048x512 .bf16 × Vec F S2048x512 .bf16 × Vec F S1x512 .f32 × Vec F S512x64 .f32 × Vec F S2048x64 .bf16 × Vec F S2048x64 .f32
  | 0, h => step m c ⟨0, h⟩ (VS0.read (Elt F) VS0.junk)
  | n + 1, h => step m c ⟨n + 1, h⟩ (outs c n (Nat.lt_of_succ_lt h)).2.2.2.2.2

/-- A point's step from what the scratch holds there, whichever point it is. -/
theorem outs_eq (c : Dev nD) (t : Fin cfg0.N) (xs0 : Vec F S2048x64 .f32) (hx0 : ∀ h : t.val ≠ 0, xs0 = (outs m c (t.val - 1) (Nat.lt_of_le_of_lt (Nat.sub_le _ _) t.isLt)).2.2.2.2.2) :
    outs m c t.val t.isLt = step m c t xs0 := by
  obtain ⟨n, hn⟩ := t
  cases n with
  | zero => exact step_first m c _ rfl _ _
  | succ n => obtain rfl := hx0 (Nat.succ_ne_zero n); rfl

/-- The invariant before point `n`: the scratch at what the point before left (at anything before the first point), and
    the generator register at some state. -/
def Inv (c : Dev nD) (n : ℕ) (hn : n ≤ cfg0.N) : sProp 𝕄 :=
  iprop((∃ xs0 : Vec F S2048x64 .f32, ⌜(∀ h : n ≠ 0, xs0 = (outs m c (n - 1) (by omega)).2.2.2.2.2)⌝ ∗ owns (c : Thread nD τ) scM0 fullShare xs0) ∗ (∃ r, prngReg c r))

/-- The region's proof data: the arrays as the region finds them; after point `t` an input's staging buffer holds its block
    and an output's what `outs` says; the invariant `Inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2.1
    | ⟨12, _⟩ => (outs m c t.val t.isLt).2.2.2.2.1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = (outs m c t.val t.isLt).1 := by dsimp only [dats]
theorem after9 (c : Dev nD) (t : Fin cfg0.N) : (dats m 0 c).after 9 t = (outs m c t.val t.isLt).2.1 := by dsimp only [dats]
theorem after10 (c : Dev nD) (t : Fin cfg0.N) : (dats m 0 c).after 10 t = (outs m c t.val t.isLt).2.2.1 := by dsimp only [dats]
theorem after11 (c : Dev nD) (t : Fin cfg0.N) : (dats m 0 c).after 11 t = (outs m c t.val t.isLt).2.2.2.1 := by dsimp only [dats]
theorem after12 (c : Dev nD) (t : Fin cfg0.N) : (dats m 0 c).after 12 t = (outs m c t.val t.isLt).2.2.2.2.1 := by dsimp only [dats]
theorem leaves0 (c : Dev nD) (t : Fin cfg0.N) : (dats m 0 c).leavesExact 0 t
    = owns (c : Thread nD τ) (ms0 t) fullShare ((dats m 0 c).after 0 t) := by
  unfold Dat.leavesExact; rw [live0 t]
theorem leaves1 (c : Dev nD) (t : Fin cfg0.N) : (dats m 0 c).leavesExact 1 t
    = owns (c : Thread nD τ) (ms1 t) fullShare ((dats m 0 c).after 1 t) := by
  unfold Dat.leavesExact; rw [live1 t]
theorem leaves2 (c : Dev nD) (t : Fin cfg0.N) : (dats m 0 c).leavesExact 2 t
    = owns (c : Thread nD τ) (ms2 t) fullShare ((dats m 0 c).after 2 t) := by
  unfold Dat.leavesExact; rw [live2 t]
theorem leaves3 (c : Dev nD) (t : Fin cfg0.N) : (dats m 0 c).leavesExact 3 t
    = owns (c : Thread nD τ) (ms3 t) fullShare ((dats m 0 c).after 3 t) := by
  unfold Dat.leavesExact; rw [live3 t]
theorem leaves4 (c : Dev nD) (t : Fin cfg0.N) : (dats m 0 c).leavesExact 4 t
    = owns (c : Thread nD τ) (ms4 t) fullShare ((dats m 0 c).after 4 t) := by
  unfold Dat.leavesExact; rw [live4 t]
theorem leaves5 (c : Dev nD) (t : Fin cfg0.N) : (dats m 0 c).leavesExact 5 t
    = owns (c : Thread nD τ) (ms5 t) fullShare ((dats m 0 c).after 5 t) := by
  unfold Dat.leavesExact; rw [live5 t]
theorem leaves6 (c : Dev nD) (t : Fin cfg0.N) : (dats m 0 c).leavesExact 6 t
    = owns (c : Thread nD τ) (ms6 t) fullShare ((dats m 0 c).after 6 t) := by
  unfold Dat.leavesExact; rw [live6 t]
theorem leaves7 (c : Dev nD) (t : Fin cfg0.N) : (dats m 0 c).leavesExact 7 t
    = owns (c : Thread nD τ) (ms7 t) fullShare ((dats m 0 c).after 7 t) := by
  unfold Dat.leavesExact; rw [live7 t]
theorem leaves8 (c : Dev nD) (t : Fin cfg0.N) : (dats m 0 c).leavesExact 8 t
    = owns (c : Thread nD τ) (ms8 t) fullShare ((dats m 0 c).after 8 t) := by
  unfold Dat.leavesExact; rw [live8 t]
theorem leaves9 (c : Dev nD) (t : Fin cfg0.N) : (dats m 0 c).leavesExact 9 t
    = owns (c : Thread nD τ) (ms9 t) fullShare ((dats m 0 c).after 9 t) := by
  unfold Dat.leavesExact; rw [live9 t]
theorem leaves10 (c : Dev nD) (t : Fin cfg0.N) : (dats m 0 c).leavesExact 10 t
    = owns (c : Thread nD τ) (ms10 t) fullShare ((dats m 0 c).after 10 t) := by
  unfold Dat.leavesExact; rw [live10 t]
theorem leaves11 (c : Dev nD) (t : Fin cfg0.N) : (dats m 0 c).leavesExact 11 t
    = owns (c : Thread nD τ) (ms11 t) fullShare ((dats m 0 c).after 11 t) := by
  unfold Dat.leavesExact; rw [live11 t]
theorem leaves12 (c : Dev nD) (t : Fin cfg0.N) (h : cond (grid0.coords t)) : (dats m 0 c).leavesExact 12 t
    = owns (c : Thread nD τ) (ms12 t) fullShare ((dats m 0 c).after 12 t) := by
  unfold Dat.leavesExact; rw [live12 t h]

/-- What the body at point `t` is given, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 14400000 in
/-- The body at any point: the inputs' memrefs hold their blocks, the scratch what the point before left (anything at the first
    point); the run of the case the point is in applies, and what it leaves is what `outs` says by `outs_eq`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Inv m c (t.val + 1) t.isLt from rfl,
    show (dats m 0 c).Φ t.castSucc = Inv m c t.val (Nat.le_of_lt t.isLt) from rfl]
  unfold Inv
  rw [leaves0, leaves1, leaves2, leaves3, leaves4, leaves5, leaves6, leaves7, leaves8, leaves9, leaves10, leaves11]
  simp only [after0, after1, after2, after3, after4, after5, after6, after7, after8, after9, after10, after11]
  by_cases h : cond (grid0.coords t)
  · rw [leaves12 m c t h]
    simp only [after12]
    iintro ⟨⟨⟨%xs0, %hx, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have e := (outs_eq m c t xs0 hx).trans (step_last m c t h xs0)
    simp only [e]
    iapply (lastAt m c t h xs0).2.2.2.2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%es0, HS0⟩⟩
    isplitl [HS0 Hg]
    · isplitl [HS0]
      · iexists last_s0 m c t h xs0; isplitr
        · ipureintro; exact fun _ => (congrArg (fun q => q.2.2.2.2.2) e).symm
        unfold owns; iexists _; isplitr
        swap; · iexact HS0
        ipureintro; exact View.read_writes_of_cover _ _ _ _ _ (last_cover_s0 m c t h xs0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (last_cover_8 m c t h xs0)
    isplitl [H9]
    · unfold owns; iexists _; isplitr
      swap; · iexact H9
      ipureintro; exact View.read_writes_of_cover _ _ _ _ _ (last_cover_9 m c t h xs0)
    isplitl [H10]
    · unfold owns; iexists _; isplitr
      swap; · iexact H10
      ipureintro; exact View.read_writes_of_cover _ _ _ _ _ (last_cover_10 m c t h xs0)
    isplitl [H11]
    · unfold owns; iexists _; isplitr
      swap; · iexact H11
      ipureintro; exact View.read_writes_of_cover _ _ _ _ _ (last_cover_11 m c t h xs0)
    unfold owns; iexists _; isplitr
    swap; · iexact H12
    ipureintro; exact View.read_writes_of_cover _ _ _ _ _ (last_cover_12 m c t h xs0)
  · rw [Dat.leavesExact_idle (dats m 0 c) 12 t (idle12 t h) (noFlush12 t h)]
    iintro ⟨⟨⟨%xs0, %hx, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have e := (outs_eq m c t xs0 hx).trans (step_mid m c t h xs0)
    simp only [e]
    iapply (midAt m c t h xs0).2.2.2.2.2 _ Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [HS0]; · iexact HS0
    iintro ⟨H0, H1, H2, H3, H4, H5, H6, H7, ⟨%e8, H8⟩, ⟨%e9, H9⟩, ⟨%e10, H10⟩, ⟨%e11, H11⟩, H12, ⟨%es0, HS0⟩⟩
    isplitl [HS0 Hg]
    · isplitl [HS0]
      · iexists mid_s0 m c t h xs0; isplitr
        · ipureintro; exact fun _ => (congrArg (fun q => q.2.2.2.2.2) e).symm
        unfold owns; iexists _; isplitr
        swap; · iexact HS0
        ipureintro; exact View.read_writes_of_cover _ _ _ _ _ (mid_cover_s0 m c t h xs0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (mid_cover_8 m c t h xs0)
    isplitl [H9]
    · unfold owns; iexists _; isplitr
      swap; · iexact H9
      ipureintro; exact View.read_writes_of_cover _ _ _ _ _ (mid_cover_9 m c t h xs0)
    isplitl [H10]
    · unfold owns; iexists _; isplitr
      swap; · iexact H10
      ipureintro; exact View.read_writes_of_cover _ _ _ _ _ (mid_cover_10 m c t h xs0)
    isplitl [H11]
    · unfold owns; iexists _; isplitr
      swap; · iexact H11
      ipureintro; exact View.read_writes_of_cover _ _ _ _ _ (mid_cover_11 m c t h xs0)
    iexists _; iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Inv m c 0 (Nat.zero_le _) from rfl, PhiA_eq]
  unfold Inv
  iintro ⟨⟨%d0, HS0⟩, Hg⟩
  isplitr [Hg]
  · iexists d0; isplitr
    · ipureintro; exact fun h => absurd rfl h
    iexact HS0
  iexact Hg

/-- and after the last point the invariant, its contents forgotten, is what the launch takes back. -/
theorem hout (c : Dev nD) : (dats m 0 c).Φ (Fin.last cfg0.N) ⊢ Pipeline.ΦA spec0 c := by
  rw [show (dats m 0 c).Φ (Fin.last cfg0.N) = Inv m c (Fin.last cfg0.N).val (Nat.le_refl _) from rfl, PhiA_eq]
  unfold Inv
  iintro ⟨⟨%xs0, %hx, HS0⟩, Hg⟩
  isplitr [Hg]
  · iexists _; iexact HS0
  iexact Hg

variable (ρ : Dev nD → PrngReg)

-- the launch theorem's implicit arguments are found by unifying its conclusion with this one
set_option backward.isDefEq.respectTransparency.types false in
/-- The launch: every execution of @main terminates with every array as the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: every execution terminates, the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_quiescent m ρ))

end Cert.DownFwdIdeal.Body

end
-- ==== Proof.DownFwd.FrameBits.lean ====
module

public import proofs.«01_k».proof.Defs
public import proofs.«01_k».proof.Proof.Gen.DownFwd
public import proofs.«01_k».proof.Proof.Gen.DownFwdIdeal
public import proofs.«01_k».proof.Proof.DownFwd.Track
public import Idealize.ShloMosaic.Adequacy
public import Idealize.ShloMosaic.Init
public import Idealize.ShloMosaic.Lib.Tactic

@[expose] public section

noncomputable section

/-! The frame of the program at its machine words. The printed program and the one the algebraic claim is about are the same text, and its frame is proved at every float instance: at the words it is the claim. -/

namespace Cert.DownFwdBits

open Idealize Idealize.ShloMosaic Idealize.SL.Sem

attribute [local instance] Cert.DownFwd.Gen.facts Cert.DownFwdIdeal.Gen.facts

/-- The frame, at any float instance. -/
def FrameI (F : FTy → Type) [FloatOps F] : Prop :=
  ∀ (m : (ℓ : Loc Cert.DownFwdIdeal.nD Cert.DownFwdIdeal.τ Cert.DownFwdIdeal.sig) → Buf (Elt F) ℓ) (g : Dev Cert.DownFwdIdeal.nD → PrngReg), True →
    θ_run (Cert.DownFwdIdeal.defs (F := F)) (onTc (τ := Cert.DownFwdIdeal.τ) (Cert.DownFwdIdeal.main (F := F))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
      ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
      ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6)
      ∧ r.2.mem ((c.tc : Thread Cert.DownFwdIdeal.nD Cert.DownFwdIdeal.τ).loc Cert.DownFwdIdeal.main_arg7) = m ((c.tc : Thread Cert.DownFwdIdeal.nD Cert.DownFwdIdeal.τ).loc Cert.DownFwdIdeal.main_arg7))
      ∧ r.2.sem = fun _ => 0)

theorem frameI (F : FTy → Type) [FloatOps F] : FrameI F := fun m ρ _ => Cert.DownFwdIdeal.Body.frame m ρ

theorem eq_frame : Cert.quiescent_DownFwd = FrameI Bits := by sl_kernel_rfl

/-- Every execution terminates with the arguments unchanged and every counter at zero, at the machine's words. -/
theorem frame : Cert.quiescent_DownFwd := eq_frame ▸ frameI Bits

end Cert.DownFwdBits

end
-- ==== Proof.DownFwd.Block.lean ====
module

public import proofs.«01_k».proof.Proof.DownFwd.Track
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.DownFwdIdeal.Body

open Cert.DownFwdIdeal.Gen
open Idealize.ShloMosaic Idealize.ShloMosaic.TcCoe Idealize.ShloMosaic.Tactic
open Idealize.SL Idealize.SL.Sem

variable (m : (ℓ : Loc nD τ sig) → Buf (Elt Ideal) ℓ)

/-! What one point of the grid leaves in its output blocks, element by element, over the extended reals. -/

/-- Input block 0 at point `t`, as extended reals. -/
abbrev ib0 (c : Dev nD) (t : Fin cfg0.N) : S2048x3584.Idx → EReal := iblk m c 0 t
/-- Input block 1 at point `t`, as extended reals. -/
abbrev ib1 (c : Dev nD) (t : Fin cfg0.N) : S512x3584.Idx → EReal := iblk m c 1 t
/-- Input block 2 at point `t`, as extended reals. -/
abbrev ib2 (c : Dev nD) (t : Fin cfg0.N) : S2048x64.Idx → EReal := iblk m c 2 t
/-- Input block 3 at point `t`, as extended reals. -/
abbrev ib3 (c : Dev nD) (t : Fin cfg0.N) : S512x64.Idx → EReal := iblk m c 3 t
/-- Input block 4 at point `t`, as extended reals. -/
abbrev ib4 (c : Dev nD) (t : Fin cfg0.N) : S1x512.Idx → EReal := iblk m c 4 t
/-- Input block 5 at point `t`, as extended reals. -/
abbrev ib5 (c : Dev nD) (t : Fin cfg0.N) : S1x512.Idx → EReal := iblk m c 5 t
/-- Input block 6 at point `t`, as extended reals. -/
abbrev ib6 (c : Dev nD) (t : Fin cfg0.N) : S2048x512.Idx → EReal := iblk m c 6 t
/-- Input block 7 at point `t`, as extended reals. -/
abbrev ib7 (c : Dev nD) (t : Fin cfg0.N) : S2048x512.Idx → EReal := iblk m c 7 t

/-- Entry `(r, o)` of the adapted product at point `t`: the row of `act` times the row of `wd`, plus the scale times the low-rank part. -/
def uB (c : Dev nD) (t : Fin cfg0.N) (r : Fin 2048) (o : Fin 512) : EReal :=
  ∑ k : Fin 3584, ib0 m c t (ix2 r k) * ib1 m c t (ix2 o k)
    + (Ideal.ofBits FTy.f32 1052770304#32 : EReal) * ∑ q : Fin 64, ib2 m c t (ix2 r q) * ib3 m c t (ix2 o q)

/-- Entry `(r, q)` of what point `t` adds to the accumulated low-rank gradient. -/
def sB (c : Dev nD) (t : Fin cfg0.N) (r : Fin 2048) (q : Fin 64) : EReal :=
  ∑ o : Fin 512, ib7 m c t (ix2 r o) * ib5 m c t (ix2 0 o) * ib3 m c t (ix2 o q)

/-- A choice on "this is point 0", the point's number a 32-bit word. -/
theorem select_first {S : Type} (n : ℕ) (hn : n < 16) (a b : S) :
    Scalar.select (Scalar.cmpi CmpIPredicate.eq (BitVec.ofNat 32 n) 0#32) a b = if n % 16 = 0 then a else b := by
  interval_cases n <;> rfl

theorem coord_val (t : Fin cfg0.N) : (grid0.coords t 0).val = t.val := by
  have h : t.val < 16 := t.isLt
  rw [show (grid0.coords t 0).val = t.val / 1 % 16 from Pipeline.Grid.coords_val t 0 (by decide) rfl]; omega

/-- 512 rows four times are 2048 rows. -/
theorem sum_chunks (f : Fin 2048 → EReal) :
    ∑ k : Fin 2048, f k = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [Fin.sum_univ_two_halves 512 1536 rfl f, Fin.sum_univ_two_halves 512 1024 rfl, Fin.sum_univ_two_halves 512 512 rfl]
  simp only [← add_assoc, Nat.reduceAdd]

theorem ixy {a b : ℕ} (y : (⟨2, ![a, b]⟩ : Shape).Idx) : y = ix2 (y 0) (y 1) := by
  funext i; refine Fin.cases rfl (fun j => ?_) i; refine Fin.cases rfl (fun k => k.elim0) j

/-- Output 8 (`y`) at a point before the last point. -/
theorem mid_8_apply (c : Dev nD) (t : Fin cfg0.N) (h : ¬cond (grid0.coords t)) (xs0 : Vec Ideal S2048x64 .f32) (y : S2048x512.Idx) :
    mid_8 m c t h xs0 y = ib6 m c t (ix2 (y 0) (y 1)) + ib5 m c t (ix2 0 (y 1)) * uB m c t (y 0) (y 1) := by
  unfold mid_8 midAt
  frame_open
  rw [View.read_writes_junk_eq_canon]
  obtain ⟨⟨r, hr⟩, o, rfl⟩ : ∃ r o, y = ix2 r o := ⟨y 0, y 1, ixy y⟩
  canon_tiles x hx using (mid_cover_8 m c t h xs0 _)
  all_goals simp only [View.readAt_eq_ld, Memref.IsWhole.read_unread]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  all_goals (have e0 : r = _ := hx0; have e1 : o = x 1 := Fin.ext hx1; subst e0 e1)
  all_goals rfl

/-- Output 9 (`g`) at a point before the last point. -/
theorem mid_9_apply (c : Dev nD) (t : Fin cfg0.N) (h : ¬cond (grid0.coords t)) (xs0 : Vec Ideal S2048x64 .f32) (y : S2048x512.Idx) :
    mid_9 m c t h xs0 y = ib7 m c t (ix2 (y 0) (y 1)) * ib5 m c t (ix2 0 (y 1)) := by
  unfold mid_9 midAt
  frame_open
  rw [View.read_writes_junk_eq_canon]
  obtain ⟨⟨r, hr⟩, o, rfl⟩ : ∃ r o, y = ix2 r o := ⟨y 0, y 1, ixy y⟩
  canon_tiles x hx using (mid_cover_9 m c t h xs0 _)
  all_goals simp only [View.readAt_eq_ld, Memref.IsWhole.read_unread]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  all_goals (have e0 : r = _ := hx0; have e1 : o = x 1 := Fin.ext hx1; subst e0 e1)
  all_goals rfl

/-- Output 10 (the gradient of the magnitude) at a point before the last point. -/
theorem mid_10_apply (c : Dev nD) (t : Fin cfg0.N) (h : ¬cond (grid0.coords t)) (xs0 : Vec Ideal S2048x64 .f32) (y : S1x512.Idx) :
    mid_10 m c t h xs0 y
      = Ideal.div (∑ r : Fin 2048, ib7 m c t (ix2 r (y 1)) * uB m c t r (y 1)) (ib4 m c t y) := by
  unfold mid_10 midAt
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  rw [sum_chunks]
  rfl

/-- Output 11 (the gradient of `b_down`) at a point before the last point. -/
theorem mid_11_apply (c : Dev nD) (t : Fin cfg0.N) (h : ¬cond (grid0.coords t)) (xs0 : Vec Ideal S2048x64 .f32) (y : S512x64.Idx) :
    mid_11 m c t h xs0 y = (Ideal.ofBits FTy.f32 1052770304#32 : EReal)
      * ∑ r : Fin 2048, ib2 m c t (ix2 r (y 1)) * (ib7 m c t (ix2 r (y 0)) * ib5 m c t (ix2 0 (y 0))) := by
  have e := funext (mid_9_apply m c t h xs0)
  unfold mid_9 midAt at e
  frame_open at e
  rw [View.read_writes_junk_eq_canon] at e
  simp (disch := decide) only [View.readAt_eq_ld, Memref.IsWhole.read_unread, View.ld_unit_lit'] at e
  unfold mid_11 midAt
  frame_out
  simp only [View.readCov_eq_canon']
  rw [e]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

/-- The scratch after a point before the last point. -/
theorem mid_s0_apply (c : Dev nD) (t : Fin cfg0.N) (h : ¬cond (grid0.coords t)) (xs0 : Vec Ideal S2048x64 .f32) (y : S2048x64.Idx) :
    mid_s0 m c t h xs0 y = if t.val % 16 = 0 then sB m c t (y 0) (y 1) else xs0 y + sB m c t (y 0) (y 1) := by
  unfold mid_s0 midAt
  frame_open
  rw [View.read_writes_junk_eq_canon]
  obtain ⟨⟨r, hr⟩, o, rfl⟩ : ∃ r o, y = ix2 r o := ⟨y 0, y 1, ixy y⟩
  canon_tiles x hx using (mid_cover_s0 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  all_goals simp only [read_unread_whole]
  all_goals rw [coord_val, select_first _ t.isLt]
  all_goals (have e0 : r = _ := hx0; have e1 : o = x 1 := Fin.ext hx1; subst e0 e1)
  all_goals rfl

/-- Output 8 (`y`) at the last point. -/
theorem last_8_apply (c : Dev nD) (t : Fin cfg0.N) (h : cond (grid0.coords t)) (xs0 : Vec Ideal S2048x64 .f32) (y : S2048x512.Idx) :
    last_8 m c t h xs0 y = ib6 m c t (ix2 (y 0) (y 1)) + ib5 m c t (ix2 0 (y 1)) * uB m c t (y 0) (y 1) := by
  unfold last_8 lastAt
  frame_open
  rw [View.read_writes_junk_eq_canon]
  obtain ⟨⟨r, hr⟩, o, rfl⟩ : ∃ r o, y = ix2 r o := ⟨y 0, y 1, ixy y⟩
  canon_tiles x hx using (last_cover_8 m c t h xs0 _)
  all_goals simp only [View.readAt_eq_ld, Memref.IsWhole.read_unread]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  all_goals (have e0 : r = _ := hx0; have e1 : o = x 1 := Fin.ext hx1; subst e0 e1)
  all_goals rfl

/-- Output 9 (`g`) at the last point. -/
theorem last_9_apply (c : Dev nD) (t : Fin cfg0.N) (h : cond (grid0.coords t)) (xs0 : Vec Ideal S2048x64 .f32) (y : S2048x512.Idx) :
    last_9 m c t h xs0 y = ib7 m c t (ix2 (y 0) (y 1)) * ib5 m c t (ix2 0 (y 1)) := by
  unfold last_9 lastAt
  frame_open
  rw [View.read_writes_junk_eq_canon]
  obtain ⟨⟨r, hr⟩, o, rfl⟩ : ∃ r o, y = ix2 r o := ⟨y 0, y 1, ixy y⟩
  canon_tiles x hx using (last_cover_9 m c t h xs0 _)
  all_goals simp only [View.readAt_eq_ld, Memref.IsWhole.read_unread]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  all_goals (have e0 : r = _ := hx0; have e1 : o = x 1 := Fin.ext hx1; subst e0 e1)
  all_goals rfl

/-- Output 10 (the gradient of the magnitude) at the last point. -/
theorem last_10_apply (c : Dev nD) (t : Fin cfg0.N) (h : cond (grid0.coords t)) (xs0 : Vec Ideal S2048x64 .f32) (y : S1x512.Idx) :
    last_10 m c t h xs0 y
      = Ideal.div (∑ r : Fin 2048, ib7 m c t (ix2 r (y 1)) * uB m c t r (y 1)) (ib4 m c t y) := by
  unfold last_10 lastAt
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  rw [sum_chunks]
  rfl

/-- Output 11 (the gradient of `b_down`) at the last point. -/
theorem last_11_apply (c : Dev nD) (t : Fin cfg0.N) (h : cond (grid0.coords t)) (xs0 : Vec Ideal S2048x64 .f32) (y : S512x64.Idx) :
    last_11 m c t h xs0 y = (Ideal.ofBits FTy.f32 1052770304#32 : EReal)
      * ∑ r : Fin 2048, ib2 m c t (ix2 r (y 1)) * (ib7 m c t (ix2 r (y 0)) * ib5 m c t (ix2 0 (y 0))) := by
  have e := funext (last_9_apply m c t h xs0)
  unfold last_9 lastAt at e
  frame_open at e
  rw [View.read_writes_junk_eq_canon] at e
  simp (disch := decide) only [View.readAt_eq_ld, Memref.IsWhole.read_unread, View.ld_unit_lit'] at e
  unfold last_11 lastAt
  frame_out
  simp only [View.readCov_eq_canon']
  rw [e]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

/-- The scratch after the last point. -/
theorem last_s0_apply (c : Dev nD) (t : Fin cfg0.N) (h : cond (grid0.coords t)) (xs0 : Vec Ideal S2048x64 .f32) (y : S2048x64.Idx) :
    last_s0 m c t h xs0 y = if t.val % 16 = 0 then sB m c t (y 0) (y 1) else xs0 y + sB m c t (y 0) (y 1) := by
  unfold last_s0 lastAt
  frame_open
  rw [View.read_writes_junk_eq_canon]
  obtain ⟨⟨r, hr⟩, o, rfl⟩ : ∃ r o, y = ix2 r o := ⟨y 0, y 1, ixy y⟩
  canon_tiles x hx using (last_cover_s0 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  all_goals simp only [read_unread_whole]
  all_goals rw [coord_val, select_first _ t.isLt]
  all_goals (have e0 : r = _ := hx0; have e1 : o = x 1 := Fin.ext hx1; subst e0 e1)
  all_goals rfl

/-- Output 12 (the gradient the down projection passes to its low-rank input) at the last point: the scale times the scratch it has just completed. -/
theorem last_12_apply (c : Dev nD) (t : Fin cfg0.N) (h : cond (grid0.coords t)) (xs0 : Vec Ideal S2048x64 .f32) (y : S2048x64.Idx) :
    last_12 m c t h xs0 y = (Ideal.ofBits FTy.f32 1052770304#32 : EReal) * last_s0 m c t h xs0 y := by
  unfold last_s0 last_12 lastAt
  frame_out
  simp only [View.readCov_eq_canon']
  pointwise [k0_pay4]

end Cert.DownFwdIdeal.Body

end
-- ==== Proof.DownFwd.Arrays.lean ====
module

public import proofs.«01_k».proof.Proof.DownFwd.Block
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.DownFwdIdeal.Body

open Cert.DownFwdIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-! The result arrays after the run, as functions of the argument arrays. -/

/-- Argument 0, as extended reals. -/
abbrev A0 (c : Dev nD) : S2048x3584.Idx → EReal := V m c main_arg0
/-- Argument 1, as extended reals. -/
abbrev A1 (c : Dev nD) : S8192x3584.Idx → EReal := V m c main_arg1
/-- Argument 2, as extended reals. -/
abbrev A2 (c : Dev nD) : S2048x64.Idx → EReal := V m c main_arg2
/-- Argument 3, as extended reals. -/
abbrev A3 (c : Dev nD) : S8192x64.Idx → EReal := V m c main_arg3
/-- Argument 4, as extended reals. -/
abbrev A4 (c : Dev nD) : S1x8192.Idx → EReal := V m c main_arg4
/-- Argument 5, as extended reals. -/
abbrev A5 (c : Dev nD) : S1x8192.Idx → EReal := V m c main_arg5
/-- Argument 6, as extended reals. -/
abbrev A6 (c : Dev nD) : S2048x8192.Idx → EReal := V m c main_arg6
/-- Argument 7, as extended reals. -/
abbrev A7 (c : Dev nD) : S2048x8192.Idx → EReal := V m c main_arg7

/-- Column `o` of point `t`'s block, in the whole array. -/
abbrev col (t : Fin cfg0.N) (o : Fin 512) : Fin 8192 := ⟨t.val * 512 + o.val, by have h : t.val < 16 := t.isLt; omega⟩

theorem e0 : ∀ t : Fin cfg0.N, win0_0.index t = ![0, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, t.val] := (by decide +kernel : ∀ t : Fin grid0.N, _)
theorem e8 : ∀ t : Fin cfg0.N, win0_8.index t = ![0, t.val] := (by decide +kernel : ∀ t : Fin grid0.N, _)
theorem e9 : ∀ t : Fin cfg0.N, win0_9.index t = ![0, t.val] := (by decide +kernel : ∀ t : Fin grid0.N, _)
theorem e10 : ∀ t : Fin cfg0.N, win0_10.index t = ![0, t.val] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![0, 0] := (by decide +kernel : ∀ t : Fin grid0.N, _)

/-! An input block at an index is its array at the index the block places. -/

theorem ib0_at (c : Dev nD) (t : Fin cfg0.N) (r : Fin 2048) (q : Fin 3584) : ib0 m c t (ix2 r q) = A0 m c (ix2 (r) (q)) := by
  blk_simp [ib0, iblk]
  exact congrArg (V m c main_arg0) (by blk_ext [e0 t])
theorem ib1_at (c : Dev nD) (t : Fin cfg0.N) (r : Fin 512) (q : Fin 3584) : ib1 m c t (ix2 r q) = A1 m c (ix2 (col t r) (q)) := by
  blk_simp [ib1, iblk]
  exact congrArg (V m c main_arg1) (by blk_ext [e1 t])
theorem ib2_at (c : Dev nD) (t : Fin cfg0.N) (r : Fin 2048) (q : Fin 64) : ib2 m c t (ix2 r q) = A2 m c (ix2 (r) (q)) := by
  blk_simp [ib2, iblk]
  exact congrArg (V m c main_arg2) (by blk_ext [e2 t])
theorem ib3_at (c : Dev nD) (t : Fin cfg0.N) (r : Fin 512) (q : Fin 64) : ib3 m c t (ix2 r q) = A3 m c (ix2 (col t r) (q)) := by
  blk_simp [ib3, iblk]
  exact congrArg (V m c main_arg3) (by blk_ext [e3 t])
theorem ib4_at (c : Dev nD) (t : Fin cfg0.N) (r : Fin 1) (q : Fin 512) : ib4 m c t (ix2 r q) = A4 m c (ix2 (r) (col t q)) := by
  blk_simp [ib4, iblk]
  exact congrArg (V m c main_arg4) (by blk_ext [e4 t])
theorem ib5_at (c : Dev nD) (t : Fin cfg0.N) (r : Fin 1) (q : Fin 512) : ib5 m c t (ix2 r q) = A5 m c (ix2 (r) (col t q)) := by
  blk_simp [ib5, iblk]
  exact congrArg (V m c main_arg5) (by blk_ext [e5 t])
theorem ib6_at (c : Dev nD) (t : Fin cfg0.N) (r : Fin 2048) (q : Fin 512) : ib6 m c t (ix2 r q) = A6 m c (ix2 (r) (col t q)) := by
  blk_simp [ib6, iblk]
  exact congrArg (V m c main_arg6) (by blk_ext [e6 t])
theorem ib7_at (c : Dev nD) (t : Fin cfg0.N) (r : Fin 2048) (q : Fin 512) : ib7 m c t (ix2 r q) = A7 m c (ix2 (r) (col t q)) := by
  blk_simp [ib7, iblk]
  exact congrArg (V m c main_arg7) (by blk_ext [e7 t])

/-- Entry `(r, o)` of the adapted product: a row of `act` times a row of `wd`, plus the scale times the low-rank part. -/
def u (c : Dev nD) (r : Fin 2048) (o : Fin 8192) : EReal :=
  ∑ k : Fin 3584, A0 m c (ix2 r k) * A1 m c (ix2 o k)
    + (Ideal.ofBits FTy.f32 1052770304#32 : EReal) * ∑ q : Fin 64, A2 m c (ix2 r q) * A3 m c (ix2 o q)

theorem uB_eq (c : Dev nD) (t : Fin cfg0.N) (r : Fin 2048) (o : Fin 512) : uB m c t r o = u m c r (col t o) := by
  unfold uB u
  simp only [ib0_at, ib1_at, ib2_at, ib3_at]

/-- The result `y`. -/
def res0 (c : Dev nD) (i : S2048x8192.Idx) : EReal := A6 m c (ix2 (i 0) (i 1)) + A5 m c (ix2 0 (i 1)) * u m c (i 0) (i 1)
/-- The gradient at the adapted product. -/
def res1 (c : Dev nD) (i : S2048x8192.Idx) : EReal := A7 m c (ix2 (i 0) (i 1)) * A5 m c (ix2 0 (i 1))
/-- The gradient of the magnitude. -/
def res2 (c : Dev nD) (i : S1x8192.Idx) : EReal :=
  Ideal.div (∑ r : Fin 2048, A7 m c (ix2 r (i 1)) * u m c r (i 1)) (A4 m c (ix2 (i 0) (i 1)))
/-- The gradient of `b_down`. -/
def res3 (c : Dev nD) (i : S8192x64.Idx) : EReal := (Ideal.ofBits FTy.f32 1052770304#32 : EReal)
  * ∑ r : Fin 2048, A2 m c (ix2 r (i 1)) * (A7 m c (ix2 r (i 0)) * A5 m c (ix2 0 (i 0)))
/-- The gradient at the low-rank input. -/
def res4 (c : Dev nD) (i : S2048x64.Idx) : EReal := (Ideal.ofBits FTy.f32 1052770304#32 : EReal)
  * ∑ o : Fin 8192, A7 m c (ix2 (i 0) o) * A5 m c (ix2 0 o) * A3 m c (ix2 o (i 1))

/-- What the scratch holds when point `t` starts. -/
def start (c : Dev nD) (t : Fin cfg0.N) : Vec Ideal S2048x64 .f32 := (outs m c (t.val - 1) (Nat.lt_of_le_of_lt (Nat.sub_le _ _) t.isLt)).2.2.2.2.2

theorem outs_start (c : Dev nD) (t : Fin cfg0.N) : outs m c t.val t.isLt = step m c t (start m c t) :=
  outs_eq m c t _ fun _ => rfl

attribute [local irreducible] outs step mid_8 mid_9 mid_10 mid_11 mid_s0 last_8 last_9 last_10 last_11 last_12 last_s0

theorem outs_8 (c : Dev nD) (t : Fin cfg0.N) (y : S2048x512.Idx) : (outs m c t.val t.isLt).1 y = ib6 m c t (ix2 (y 0) (y 1)) + ib5 m c t (ix2 0 (y 1)) * uB m c t (y 0) (y 1) := by
  by_cases h : cond (grid0.coords t)
  · rw [(outs_start m c t).trans (step_last m c t h (start m c t))]
    exact last_8_apply m c t h (start m c t) y
  · rw [(outs_start m c t).trans (step_mid m c t h (start m c t))]
    exact mid_8_apply m c t h (start m c t) y

theorem outs_9 (c : Dev nD) (t : Fin cfg0.N) (y : S2048x512.Idx) : (outs m c t.val t.isLt).2.1 y = ib7 m c t (ix2 (y 0) (y 1)) * ib5 m c t (ix2 0 (y 1)) := by
  by_cases h : cond (grid0.coords t)
  · rw [(outs_start m c t).trans (step_last m c t h (start m c t))]
    exact last_9_apply m c t h (start m c t) y
  · rw [(outs_start m c t).trans (step_mid m c t h (start m c t))]
    exact mid_9_apply m c t h (start m c t) y

theorem outs_10 (c : Dev nD) (t : Fin cfg0.N) (y : S1x512.Idx) : (outs m c t.val t.isLt).2.2.1 y = Ideal.div (∑ r : Fin 2048, ib7 m c t (ix2 r (y 1)) * uB m c t r (y 1)) (ib4 m c t y) := by
  by_cases h : cond (grid0.coords t)
  · rw [(outs_start m c t).trans (step_last m c t h (start m c t))]
    exact last_10_apply m c t h (start m c t) y
  · rw [(outs_start m c t).trans (step_mid m c t h (start m c t))]
    exact mid_10_apply m c t h (start m c t) y

theorem outs_11 (c : Dev nD) (t : Fin cfg0.N) (y : S512x64.Idx) : (outs m c t.val t.isLt).2.2.2.1 y = (Ideal.ofBits FTy.f32 1052770304#32 : EReal)
      * ∑ r : Fin 2048, ib2 m c t (ix2 r (y 1)) * (ib7 m c t (ix2 r (y 0)) * ib5 m c t (ix2 0 (y 0))) := by
  by_cases h : cond (grid0.coords t)
  · rw [(outs_start m c t).trans (step_last m c t h (start m c t))]
    exact last_11_apply m c t h (start m c t) y
  · rw [(outs_start m c t).trans (step_mid m c t h (start m c t))]
    exact mid_11_apply m c t h (start m c t) y

theorem outs_s0 (c : Dev nD) (t : Fin cfg0.N) (y : S2048x64.Idx) : (outs m c t.val t.isLt).2.2.2.2.2 y = if t.val % 16 = 0 then sB m c t (y 0) (y 1) else start m c t y + sB m c t (y 0) (y 1) := by
  by_cases h : cond (grid0.coords t)
  · rw [(outs_start m c t).trans (step_last m c t h (start m c t))]
    exact last_s0_apply m c t h (start m c t) y
  · rw [(outs_start m c t).trans (step_mid m c t h (start m c t))]
    exact mid_s0_apply m c t h (start m c t) y

/-- The scratch after the last point: every point's part, summed. -/
theorem scratch_end (c : Dev nD) (t : Fin cfg0.N) (ht : t.val + 1 = cfg0.N) (y : S2048x64.Idx) :
    (outs m c t.val t.isLt).2.2.2.2.2 y = ∑ p : Fin cfg0.N, sB m c p (y 0) (y 1) := by
  rw [Pipeline.eq_sum_fin_of_reset_step_apply_last (fun n h => (fun y => ((outs m c n h).2.2.2.2.2 y : EReal))) 16 (fun _ => (0 : EReal)) (fun t y => sB m c t (y 0) (y 1))
    (fun t h j => by rw [outs_s0, if_pos h, zero_add]) (fun t h j => by rw [outs_s0, if_neg h]; rfl)
    (le_of_eq N_0) t ht y, zero_add]

theorem scratch_sum (c : Dev nD) (r : Fin 2048) (q : Fin 64) :
    ∑ p : Fin cfg0.N, sB m c p r q = ∑ o : Fin 8192, A7 m c (ix2 r o) * A5 m c (ix2 0 o) * A3 m c (ix2 o q) := by
  rw [Fin.sum_univ_tiles 16 512 rfl]
  refine Finset.sum_congr rfl fun t _ => ?_
  unfold sB
  simp only [ib3_at, ib5_at, ib7_at]

/-- The last point's output 12. -/
theorem outs_12 (c : Dev nD) (t : Fin cfg0.N) (ht : t.val + 1 = cfg0.N) (y : S2048x64.Idx) : (outs m c t.val t.isLt).2.2.2.2.1 y = res4 m c y := by
  have h : cond (grid0.coords t) := (hcond t).mpr (by have h16 : cfg0.N = 16 := N_0; omega)
  have e := scratch_end m c t ht y
  have o := (outs_start m c t).trans (step_last m c t h (start m c t))
  have e' : last_s0 m c t h (start m c t) y = _ := (congrFun (congrArg (fun z => z.2.2.2.2.2) o) y).symm.trans e
  exact (congrFun (congrArg (fun z => z.2.2.2.2.1) o) y).trans ((last_12_apply m c t h (start m c t) y).trans
    (congrArg (fun z : EReal => (Ideal.ofBits FTy.f32 1052770304#32 : EReal) * z) (e'.trans (scratch_sum m c (y 0) (y 1)))))

/-! Block values over whole arrays. -/

theorem blk8_eq (c : Dev nD) (t : Fin cfg0.N) (r : Fin 2048) (q : Fin 512) : ib6 m c t (ix2 r q) + ib5 m c t (ix2 0 q) * uB m c t r q
    = A6 m c (ix2 r (col t q)) + A5 m c (ix2 0 (col t q)) * u m c r (col t q) := by
  simp only [uB_eq, ib5_at, ib6_at]

/-- Result 0 after the run. -/
theorem final8 (c : Dev nD) : (dats m 0 c).arrAt 8 cfg0.N = res0 m c := by
  refine (dats m 0 c).arrAt_eq_of_covers 8 _ (by decide +kernel) fun t hf y => ?_
  blk_simp
  rw [after8]
  refine (outs_8 m c t y).trans ?_
  rw [show (win0_8.blk t).view.emb y = ix2 (y 0) (col t (y 1)) from by blk_ext [e8 t]]
  exact blk8_eq m c t (y 0) (y 1)

theorem blk9_eq (c : Dev nD) (t : Fin cfg0.N) (r : Fin 2048) (q : Fin 512) : ib7 m c t (ix2 r q) * ib5 m c t (ix2 0 q)
    = A7 m c (ix2 r (col t q)) * A5 m c (ix2 0 (col t q)) := by
  simp only [ib5_at, ib7_at]

/-- Result 1 after the run. -/
theorem final9 (c : Dev nD) : (dats m 0 c).arrAt 9 cfg0.N = res1 m c := by
  refine (dats m 0 c).arrAt_eq_of_covers 9 _ (by decide +kernel) fun t hf y => ?_
  blk_simp
  rw [after9]
  refine (outs_9 m c t y).trans ?_
  rw [show (win0_9.blk t).view.emb y = ix2 (y 0) (col t (y 1)) from by blk_ext [e9 t]]
  exact blk9_eq m c t (y 0) (y 1)

theorem blk10_eq (c : Dev nD) (t : Fin cfg0.N) (r : Fin 1) (q : Fin 512) : Ideal.div (∑ k : Fin 2048, ib7 m c t (ix2 k q) * uB m c t k q) (ib4 m c t (ix2 r q))
    = Ideal.div (∑ k : Fin 2048, A7 m c (ix2 k (col t q)) * u m c k (col t q)) (A4 m c (ix2 r (col t q))) := by
  simp only [uB_eq, ib4_at, ib7_at]

/-- Result 2 after the run. -/
theorem final10 (c : Dev nD) : (dats m 0 c).arrAt 10 cfg0.N = res2 m c := by
  refine (dats m 0 c).arrAt_eq_of_covers 10 _ (by decide +kernel) fun t hf y => ?_
  blk_simp
  rw [after10]
  refine (outs_10 m c t y).trans ?_
  rw [show (win0_10.blk t).view.emb y = ix2 (y 0) (col t (y 1)) from by blk_ext [e10 t]]
  rw [show ib4 m c t y = ib4 m c t (ix2 (y 0) (y 1)) from congrArg _ (ixy y)]
  exact blk10_eq m c t (y 0) (y 1)

theorem blk11_eq (c : Dev nD) (t : Fin cfg0.N) (r : Fin 512) (q : Fin 64) : (Ideal.ofBits FTy.f32 1052770304#32 : EReal)
      * ∑ k : Fin 2048, ib2 m c t (ix2 k q) * (ib7 m c t (ix2 k r) * ib5 m c t (ix2 0 r))
    = (Ideal.ofBits FTy.f32 1052770304#32 : EReal)
      * ∑ k : Fin 2048, A2 m c (ix2 k q) * (A7 m c (ix2 k (col t r)) * A5 m c (ix2 0 (col t r))) := by
  simp only [ib2_at, ib5_at, ib7_at]

/-- Result 3 after the run. -/
theorem final11 (c : Dev nD) : (dats m 0 c).arrAt 11 cfg0.N = res3 m c := by
  refine (dats m 0 c).arrAt_eq_of_covers 11 _ (by decide +kernel) fun t hf y => ?_
  blk_simp
  rw [after11]
  refine (outs_11 m c t y).trans ?_
  rw [show (win0_11.blk t).view.emb y = ix2 (col t (y 0)) (y 1) from by blk_ext [e11 t]]
  exact blk11_eq m c t (y 0) (y 1)

/-- Result 4 after the run: written back once, by the last point. -/
theorem final12 (c : Dev nD) : (dats m 0 c).arrAt 12 cfg0.N = res4 m c := by
  refine (dats m 0 c).arrAt_eq_of_after_last 12 t0_15 (by decide +kernel) _ fun y => ?_
  blk_simp
  rw [after12]
  exact outs_12 m c t0_15 rfl y

end Cert.DownFwdIdeal.Body

end
-- ==== Proof.DownFwd.Claim.lean ====
module

public import proofs.«01_k».proof.Defs
public import proofs.«01_k».proof.Proof.DownFwd.Arrays
public import proofs.«01_k».proof.Proof.Gen.DownFwdRefIdeal.Read
public import Idealize.ShloMosaic.Lib.Pointwise
public import Idealize.ShloMosaic.Lib.Claim
public import Idealize.ShloMosaic.Lib.Quiescent

@[expose] public section

set_option maxRecDepth 16384

noncomputable section

namespace Cert.DownFwdIdeal.Body

open Cert.DownFwdIdeal.Gen
open Idealize.ShloMosaic Idealize.ShloMosaic.TcCoe Idealize.ShloMosaic.Tactic
open Idealize.SL Idealize.SL.Sem

variable (m : (ℓ : Loc nD τ sig) → Buf (Elt Ideal) ℓ)

/-! The reference's results are the same functions of the argument arrays. -/

theorem ref0 (c : Dev nD) : Cert.DownFwdRefIdeal.Read.val_main_v9 (F := Ideal) (V m c main_arg0) (V m c main_arg1) (V m c main_arg2) (V m c main_arg3) (V m c main_arg5) (V m c main_arg6) = res0 m c := by
  funext i
  pointwise [Cert.DownFwdRefIdeal.Read.val_main_v0, Cert.DownFwdRefIdeal.Read.val_main_v1, Cert.DownFwdRefIdeal.Read.val_main_cst, Cert.DownFwdRefIdeal.Read.val_main_v2, Cert.DownFwdRefIdeal.Read.val_main_v3, Cert.DownFwdRefIdeal.Read.val_main_v4, Cert.DownFwdRefIdeal.Read.val_main_v5, Cert.DownFwdRefIdeal.Read.val_main_v6, Cert.DownFwdRefIdeal.Read.val_main_v7, Cert.DownFwdRefIdeal.Read.val_main_v8, Cert.DownFwdRefIdeal.Read.val_main_v9, Cert.DownFwdRefIdeal.Read.val_main_v10, Cert.DownFwdRefIdeal.Read.val_main_v11, Cert.DownFwdRefIdeal.Read.val_main_cst_0, Cert.DownFwdRefIdeal.Read.val_main_v12, Cert.DownFwdRefIdeal.Read.val_main_v13, Cert.DownFwdRefIdeal.Read.val_main_v14, Cert.DownFwdRefIdeal.Read.val_main_v15, Cert.DownFwdRefIdeal.Read.val_main_v16, Cert.DownFwdRefIdeal.Read.val_main_v17, Cert.DownFwdRefIdeal.Read.val_main_v18, Cert.DownFwdRefIdeal.Read.val_main_cst_1, Cert.DownFwdRefIdeal.Read.val_main_v19, Cert.DownFwdRefIdeal.Read.val_main_v20, Cert.DownFwdRefIdeal.Read.val_main_v21, Cert.DownFwdRefIdeal.Read.val_main_cst_2, Cert.DownFwdRefIdeal.Read.val_main_v22, Cert.DownFwdRefIdeal.Read.val_main_v23, Cert.DownFwdRefIdeal.Read.val_main_v24]
  unfold res0
  unfold u
  exact congrArg₂ _ (congrArg _ (ixy i)) rfl

theorem ref1 (c : Dev nD) : Cert.DownFwdRefIdeal.Read.val_main_v17 (F := Ideal) (V m c main_arg5) (V m c main_arg7) = res1 m c := by
  funext i
  pointwise [Cert.DownFwdRefIdeal.Read.val_main_v0, Cert.DownFwdRefIdeal.Read.val_main_v1, Cert.DownFwdRefIdeal.Read.val_main_cst, Cert.DownFwdRefIdeal.Read.val_main_v2, Cert.DownFwdRefIdeal.Read.val_main_v3, Cert.DownFwdRefIdeal.Read.val_main_v4, Cert.DownFwdRefIdeal.Read.val_main_v5, Cert.DownFwdRefIdeal.Read.val_main_v6, Cert.DownFwdRefIdeal.Read.val_main_v7, Cert.DownFwdRefIdeal.Read.val_main_v8, Cert.DownFwdRefIdeal.Read.val_main_v9, Cert.DownFwdRefIdeal.Read.val_main_v10, Cert.DownFwdRefIdeal.Read.val_main_v11, Cert.DownFwdRefIdeal.Read.val_main_cst_0, Cert.DownFwdRefIdeal.Read.val_main_v12, Cert.DownFwdRefIdeal.Read.val_main_v13, Cert.DownFwdRefIdeal.Read.val_main_v14, Cert.DownFwdRefIdeal.Read.val_main_v15, Cert.DownFwdRefIdeal.Read.val_main_v16, Cert.DownFwdRefIdeal.Read.val_main_v17, Cert.DownFwdRefIdeal.Read.val_main_v18, Cert.DownFwdRefIdeal.Read.val_main_cst_1, Cert.DownFwdRefIdeal.Read.val_main_v19, Cert.DownFwdRefIdeal.Read.val_main_v20, Cert.DownFwdRefIdeal.Read.val_main_v21, Cert.DownFwdRefIdeal.Read.val_main_cst_2, Cert.DownFwdRefIdeal.Read.val_main_v22, Cert.DownFwdRefIdeal.Read.val_main_v23, Cert.DownFwdRefIdeal.Read.val_main_v24]
  unfold res1
  exact congrArg₂ _ (congrArg _ (ixy i)) rfl

theorem ref2 (c : Dev nD) : Cert.DownFwdRefIdeal.Read.val_main_v14 (F := Ideal) (V m c main_arg0) (V m c main_arg1) (V m c main_arg2) (V m c main_arg3) (V m c main_arg4) (V m c main_arg7) = res2 m c := by
  funext i
  pointwise [Cert.DownFwdRefIdeal.Read.val_main_v0, Cert.DownFwdRefIdeal.Read.val_main_v1, Cert.DownFwdRefIdeal.Read.val_main_cst, Cert.DownFwdRefIdeal.Read.val_main_v2, Cert.DownFwdRefIdeal.Read.val_main_v3, Cert.DownFwdRefIdeal.Read.val_main_v4, Cert.DownFwdRefIdeal.Read.val_main_v5, Cert.DownFwdRefIdeal.Read.val_main_v6, Cert.DownFwdRefIdeal.Read.val_main_v7, Cert.DownFwdRefIdeal.Read.val_main_v8, Cert.DownFwdRefIdeal.Read.val_main_v9, Cert.DownFwdRefIdeal.Read.val_main_v10, Cert.DownFwdRefIdeal.Read.val_main_v11, Cert.DownFwdRefIdeal.Read.val_main_cst_0, Cert.DownFwdRefIdeal.Read.val_main_v12, Cert.DownFwdRefIdeal.Read.val_main_v13, Cert.DownFwdRefIdeal.Read.val_main_v14, Cert.DownFwdRefIdeal.Read.val_main_v15, Cert.DownFwdRefIdeal.Read.val_main_v16, Cert.DownFwdRefIdeal.Read.val_main_v17, Cert.DownFwdRefIdeal.Read.val_main_v18, Cert.DownFwdRefIdeal.Read.val_main_cst_1, Cert.DownFwdRefIdeal.Read.val_main_v19, Cert.DownFwdRefIdeal.Read.val_main_v20, Cert.DownFwdRefIdeal.Read.val_main_v21, Cert.DownFwdRefIdeal.Read.val_main_cst_2, Cert.DownFwdRefIdeal.Read.val_main_v22, Cert.DownFwdRefIdeal.Read.val_main_v23, Cert.DownFwdRefIdeal.Read.val_main_v24]
  unfold res2
  unfold u
  exact congrArg _ (congrArg _ (ixy i))

theorem ref3 (c : Dev nD) : Cert.DownFwdRefIdeal.Read.val_main_v20 (F := Ideal) (V m c main_arg2) (V m c main_arg5) (V m c main_arg7) = res3 m c := by
  funext i
  pointwise [Cert.DownFwdRefIdeal.Read.val_main_v0, Cert.DownFwdRefIdeal.Read.val_main_v1, Cert.DownFwdRefIdeal.Read.val_main_cst, Cert.DownFwdRefIdeal.Read.val_main_v2, Cert.DownFwdRefIdeal.Read.val_main_v3, Cert.DownFwdRefIdeal.Read.val_main_v4, Cert.DownFwdRefIdeal.Read.val_main_v5, Cert.DownFwdRefIdeal.Read.val_main_v6, Cert.DownFwdRefIdeal.Read.val_main_v7, Cert.DownFwdRefIdeal.Read.val_main_v8, Cert.DownFwdRefIdeal.Read.val_main_v9, Cert.DownFwdRefIdeal.Read.val_main_v10, Cert.DownFwdRefIdeal.Read.val_main_v11, Cert.DownFwdRefIdeal.Read.val_main_cst_0, Cert.DownFwdRefIdeal.Read.val_main_v12, Cert.DownFwdRefIdeal.Read.val_main_v13, Cert.DownFwdRefIdeal.Read.val_main_v14, Cert.DownFwdRefIdeal.Read.val_main_v15, Cert.DownFwdRefIdeal.Read.val_main_v16, Cert.DownFwdRefIdeal.Read.val_main_v17, Cert.DownFwdRefIdeal.Read.val_main_v18, Cert.DownFwdRefIdeal.Read.val_main_cst_1, Cert.DownFwdRefIdeal.Read.val_main_v19, Cert.DownFwdRefIdeal.Read.val_main_v20, Cert.DownFwdRefIdeal.Read.val_main_v21, Cert.DownFwdRefIdeal.Read.val_main_cst_2, Cert.DownFwdRefIdeal.Read.val_main_v22, Cert.DownFwdRefIdeal.Read.val_main_v23, Cert.DownFwdRefIdeal.Read.val_main_v24]
  unfold res3
  exact congrArg _ (Finset.sum_congr rfl fun r _ => mul_comm _ _)

theorem ref4 (c : Dev nD) : Cert.DownFwdRefIdeal.Read.val_main_v24 (F := Ideal) (V m c main_arg3) (V m c main_arg5) (V m c main_arg7) = res4 m c := by
  funext i
  pointwise [Cert.DownFwdRefIdeal.Read.val_main_v0, Cert.DownFwdRefIdeal.Read.val_main_v1, Cert.DownFwdRefIdeal.Read.val_main_cst, Cert.DownFwdRefIdeal.Read.val_main_v2, Cert.DownFwdRefIdeal.Read.val_main_v3, Cert.DownFwdRefIdeal.Read.val_main_v4, Cert.DownFwdRefIdeal.Read.val_main_v5, Cert.DownFwdRefIdeal.Read.val_main_v6, Cert.DownFwdRefIdeal.Read.val_main_v7, Cert.DownFwdRefIdeal.Read.val_main_v8, Cert.DownFwdRefIdeal.Read.val_main_v9, Cert.DownFwdRefIdeal.Read.val_main_v10, Cert.DownFwdRefIdeal.Read.val_main_v11, Cert.DownFwdRefIdeal.Read.val_main_cst_0, Cert.DownFwdRefIdeal.Read.val_main_v12, Cert.DownFwdRefIdeal.Read.val_main_v13, Cert.DownFwdRefIdeal.Read.val_main_v14, Cert.DownFwdRefIdeal.Read.val_main_v15, Cert.DownFwdRefIdeal.Read.val_main_v16, Cert.DownFwdRefIdeal.Read.val_main_v17, Cert.DownFwdRefIdeal.Read.val_main_v18, Cert.DownFwdRefIdeal.Read.val_main_cst_1, Cert.DownFwdRefIdeal.Read.val_main_v19, Cert.DownFwdRefIdeal.Read.val_main_v20, Cert.DownFwdRefIdeal.Read.val_main_v21, Cert.DownFwdRefIdeal.Read.val_main_cst_2, Cert.DownFwdRefIdeal.Read.val_main_v22, Cert.DownFwdRefIdeal.Read.val_main_v23, Cert.DownFwdRefIdeal.Read.val_main_v24]
  unfold res4
  rfl

/-- The reference's frame: a straight line of host operations on its arguments, with no semaphore. -/
theorem frameRef : Cert.quiescent_DownFwdRefIdeal (hDownFwdRefIdeal := Cert.DownFwdRefIdeal.Gen.facts) := fun m ρ _ =>
  (θ_run Cert.DownFwdRefIdeal.defs _ _).mono (fun r h => ⟨fun c => (h c).2.2.2.2.2, sem_eq_zero_of_no_sems (by decide) r.2⟩)
    (Cert.DownFwdRefIdeal.Value.run (F := Ideal) m ρ)

/-- The algebraic claim: over the extended reals the kernel and the reference end with equal results. -/
theorem algebraic : Cert.algebraic_DownFwdIdeal_DownFwdRefIdeal (hDownFwdIdeal := Cert.DownFwdIdeal.Gen.facts)
    (hDownFwdRefIdeal := Cert.DownFwdRefIdeal.Gen.facts) := by
  intro m g m' g' _ hargs
  refine ⟨res0 m, res1 m, res2 m, res3 m, res4 m, ?_, ?_⟩
  · refine (θ_run (defs (F := Ideal)) _ _).mono (fun r h c => ?_) (θ_run_and (run m g) (frame m g))
    exact ⟨(h.1.out_eq c 8).trans (final8 m c), (h.1.out_eq c 9).trans (final9 m c), (h.1.out_eq c 10).trans (final10 m c),
      (h.1.out_eq c 11).trans (final11 m c), (h.1.out_eq c 12).trans (final12 m c), h.2.1 c⟩
  · refine (θ_run (Cert.DownFwdRefIdeal.defs (F := Ideal)) _ _).mono (fun r h c => ?_) (Cert.DownFwdRefIdeal.Value.run (F := Ideal) m' g')
    obtain ⟨h0, h1, h2, h3, h4, ha⟩ := h c
    obtain ⟨a0, a1, a2, a3, a4, a5, a6, a7⟩ := hargs c
    rw [a0, a1, a2, a3, a5, a6] at h0
    rw [a5, a7] at h1
    rw [a0, a1, a2, a3, a4, a7] at h2
    rw [a2, a5, a7] at h3
    rw [a3, a5, a7] at h4
    exact ⟨h0.trans (ref0 m c), h1.trans (ref1 m c), h2.trans (ref2 m c), h3.trans (ref3 m c), h4.trans (ref4 m c), ha⟩

end Cert.DownFwdIdeal.Body

end
-- ==== Proof.Dx.FrameBits.lean ====
module

public import proofs.«01_k».proof.Defs
public import proofs.«01_k».proof.Proof.Gen.Dx
public import proofs.«01_k».proof.Proof.Gen.DxIdeal
public import proofs.«01_k».proof.Proof.Gen.DxIdeal.Frame
public import Idealize.ShloMosaic.Adequacy
public import Idealize.ShloMosaic.Init
public import Idealize.ShloMosaic.Lib.Tactic

@[expose] public section

noncomputable section

/-! The frame of the program at its machine words. The printed program and the one the algebraic claim is about are the same text, and its frame is proved at every float instance: at the words it is the claim. -/

namespace Cert.DxBits

open Idealize Idealize.ShloMosaic Idealize.SL.Sem

attribute [local instance] Cert.Dx.Gen.facts Cert.DxIdeal.Gen.facts

/-- The frame, at any float instance. -/
def FrameI (F : FTy → Type) [FloatOps F] : Prop :=
  ∀ (m : (ℓ : Loc Cert.DxIdeal.nD Cert.DxIdeal.τ Cert.DxIdeal.sig) → Buf (Elt F) ℓ) (g : Dev Cert.DxIdeal.nD → PrngReg), True →
    θ_run (Cert.DxIdeal.defs (F := F)) (onTc (τ := Cert.DxIdeal.τ) (Cert.DxIdeal.main (F := F))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

theorem frameI (F : FTy → Type) [FloatOps F] : FrameI F := fun m ρ _ => Cert.DxIdeal.Gen.frame m ρ

theorem eq_frame : Cert.quiescent_Dx = FrameI Bits := by sl_kernel_rfl

/-- Every execution terminates with the arguments unchanged and every counter at zero, at the machine's words. -/
theorem frame : Cert.quiescent_Dx := eq_frame ▸ frameI Bits

end Cert.DxBits

end
-- ==== Proof.Dx.Claim.lean ====
module

public import proofs.«01_k».proof.Defs
public import proofs.«01_k».proof.Proof.Gen.DxIdeal.Frame
public import proofs.«01_k».proof.Proof.Gen.DxIdeal.Value
public import proofs.«01_k».proof.Proof.Gen.DxRefIdeal.Read
public import Idealize.ShloMosaic.Lib.Pointwise
public import Idealize.ShloMosaic.Lib.Claim
public import Idealize.ShloMosaic.Lib.Quiescent
public import Idealize.ShloMosaic.Lib.Pipeline.ReadBack
public import Idealize.ShloMosaic.Lib.Pipeline.ValueKit.Tiles
public import Idealize.ShloMosaic.Lib.Pipeline.ValueKit.Acc
public import Idealize.ShloMosaic.Lib.Pipeline.ValueKit.Geometry

@[expose] public section

set_option maxRecDepth 16384

noncomputable section

namespace Cert.DxIdeal.Body

open Cert.DxIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-! The gradient of the input: what the call computes, and that the reference computes it. -/

theorem ixy {a b : ℕ} (y : (⟨2, ![a, b]⟩ : Shape).Idx) : y = ix2 (y 0) (y 1) := by
  funext i; refine Fin.cases rfl (fun j => ?_) i; refine Fin.cases rfl (fun k => k.elim0) j

/-- Argument 0, and its block at point `t`, as extended reals. -/
abbrev A0 (c : Dev nD) : S2048x8192.Idx → EReal := V m c main_arg0
abbrev ib0 (c : Dev nD) (t : Fin cfg0.N) : S128x8192.Idx → EReal := iblk m c 0 t
/-- Argument 1, and its block at point `t`, as extended reals. -/
abbrev A1 (c : Dev nD) : S2048x8192.Idx → EReal := V m c main_arg1
abbrev ib1 (c : Dev nD) (t : Fin cfg0.N) : S128x8192.Idx → EReal := iblk m c 1 t
/-- Argument 2, and its block at point `t`, as extended reals. -/
abbrev A2 (c : Dev nD) : S2048x8192.Idx → EReal := V m c main_arg2
abbrev ib2 (c : Dev nD) (t : Fin cfg0.N) : S128x8192.Idx → EReal := iblk m c 2 t
/-- Argument 3, and its block at point `t`, as extended reals. -/
abbrev A3 (c : Dev nD) : S2048x128.Idx → EReal := V m c main_arg3
abbrev ib3 (c : Dev nD) (t : Fin cfg0.N) : S128x128.Idx → EReal := iblk m c 3 t
/-- Argument 4, and its block at point `t`, as extended reals. -/
abbrev A4 (c : Dev nD) : S2048x128.Idx → EReal := V m c main_arg4
abbrev ib4 (c : Dev nD) (t : Fin cfg0.N) : S128x128.Idx → EReal := iblk m c 4 t

/-- Row `r` of point `t`'s block, in the whole array. -/
abbrev row (t : Fin cfg0.N) (r : Fin 128) : Fin 2048 := ⟨t.val * 128 + r.val, by have h : t.val < 16 := t.isLt; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem ib0_at (c : Dev nD) (t : Fin cfg0.N) (r : Fin 128) (q : Fin 8192) : ib0 m c t (ix2 r q) = A0 m c (ix2 (row t r) q) := by
  blk_simp [ib0, iblk]
  exact congrArg (V m c main_arg0) (by blk_ext [e0 t])
theorem ib1_at (c : Dev nD) (t : Fin cfg0.N) (r : Fin 128) (q : Fin 8192) : ib1 m c t (ix2 r q) = A1 m c (ix2 (row t r) q) := by
  blk_simp [ib1, iblk]
  exact congrArg (V m c main_arg1) (by blk_ext [e1 t])
theorem ib2_at (c : Dev nD) (t : Fin cfg0.N) (r : Fin 128) (q : Fin 8192) : ib2 m c t (ix2 r q) = A2 m c (ix2 (row t r) q) := by
  blk_simp [ib2, iblk]
  exact congrArg (V m c main_arg2) (by blk_ext [e2 t])
theorem ib3_at (c : Dev nD) (t : Fin cfg0.N) (r : Fin 128) (q : Fin 128) : ib3 m c t (ix2 r q) = A3 m c (ix2 (row t r) q) := by
  blk_simp [ib3, iblk]
  exact congrArg (V m c main_arg3) (by blk_ext [e3 t])
theorem ib4_at (c : Dev nD) (t : Fin cfg0.N) (r : Fin 128) (q : Fin 128) : ib4 m c t (ix2 r q) = A4 m c (ix2 (row t r) q) := by
  blk_simp [ib4, iblk]
  exact congrArg (V m c main_arg4) (by blk_ext [e4 t])

/-- The output block at a point, element by element. -/
theorem out5_apply (c : Dev nD) (t : Fin cfg0.N) (y : S128x8192.Idx) :
    out0_5 (iblk m c 0 t) (iblk m c 1 t) (iblk m c 2 t) (iblk m c 3 t) (iblk m c 4 t) y
      = ib2 m c t (ix2 (y 0) (y 1)) + ib3 m c t (ix2 (y 0) 0)
        * (ib0 m c t (ix2 (y 0) (y 1)) - ib1 m c t (ix2 (y 0) (y 1)) * ib3 m c t (ix2 (y 0) 0) * ib4 m c t (ix2 (y 0) 0)) := by
  unfold out0_5
  rw [Cert.DxIdeal.Value.canon5_eq]
  pointwise [k0_pay1]

/-- The gradient of the input. -/
def res0 (c : Dev nD) (i : S2048x8192.Idx) : EReal :=
  A2 m c (ix2 (i 0) (i 1)) + A3 m c (ix2 (i 0) 0)
    * (A0 m c (ix2 (i 0) (i 1)) - A1 m c (ix2 (i 0) (i 1)) * A3 m c (ix2 (i 0) 0) * A4 m c (ix2 (i 0) 0))

theorem blk5_eq (c : Dev nD) (t : Fin cfg0.N) (r : Fin 128) (q : Fin 8192) :
    ib2 m c t (ix2 r q) + ib3 m c t (ix2 r 0) * (ib0 m c t (ix2 r q) - ib1 m c t (ix2 r q) * ib3 m c t (ix2 r 0) * ib4 m c t (ix2 r 0))
      = res0 m c (ix2 (row t r) q) := by
  simp only [ib0_at, ib1_at, ib2_at, ib3_at, ib4_at]
  rfl

/-- The result array after the run. -/
theorem final5 (c : Dev nD) : (dats m 0 c).arrAt 5 cfg0.N = res0 m c := by
  refine (dats m 0 c).arrAt_eq_of_covers 5 _ (by decide +kernel) fun t hf y => ?_
  blk_simp
  rw [after0_5]
  refine (out5_apply m c t y).trans ?_
  rw [show (win0_5.blk t).view.emb y = ix2 (row t (y 0)) (y 1) from by blk_ext [e5 t]]
  exact blk5_eq m c t (y 0) (y 1)

/-- The reference's result is the same function of the arguments. -/
theorem ref0 (c : Dev nD) : Cert.DxRefIdeal.Read.val_main_v13 (F := Ideal) (V m c main_arg0) (V m c main_arg1) (V m c main_arg2) (V m c main_arg3) (V m c main_arg4) = res0 m c := by
  funext i
  obtain ⟨r, o, rfl⟩ : ∃ r o, i = ix2 r o := ⟨i 0, i 1, ixy i⟩
  pointwise [Cert.DxRefIdeal.Read.val_main_v0, Cert.DxRefIdeal.Read.val_main_v1, Cert.DxRefIdeal.Read.val_main_v2, Cert.DxRefIdeal.Read.val_main_v3, Cert.DxRefIdeal.Read.val_main_v4, Cert.DxRefIdeal.Read.val_main_v5, Cert.DxRefIdeal.Read.val_main_v6, Cert.DxRefIdeal.Read.val_main_v7, Cert.DxRefIdeal.Read.val_main_v8, Cert.DxRefIdeal.Read.val_main_v9, Cert.DxRefIdeal.Read.val_main_v10, Cert.DxRefIdeal.Read.val_main_v11, Cert.DxRefIdeal.Read.val_main_v12, Cert.DxRefIdeal.Read.val_main_v13]
  rfl

/-- The reference's frame: a straight line of host operations on its arguments, with no semaphore. -/
theorem frameRef : Cert.quiescent_DxRefIdeal (hDxRefIdeal := Cert.DxRefIdeal.Gen.facts) := fun m ρ _ =>
  (θ_run Cert.DxRefIdeal.defs _ _).mono (fun r h => ⟨fun c => (h c).2, sem_eq_zero_of_no_sems (by decide) r.2⟩)
    (Cert.DxRefIdeal.Value.run (F := Ideal) m ρ)

/-- The algebraic claim: over the extended reals the kernel and the reference end with equal results. -/
theorem algebraic : Cert.algebraic_DxIdeal_DxRefIdeal (hDxIdeal := Cert.DxIdeal.Gen.facts)
    (hDxRefIdeal := Cert.DxRefIdeal.Gen.facts) := by
  intro m g m' g' _ hargs
  refine ⟨res0 m, ?_, ?_⟩
  · refine (θ_run (defs (F := Ideal)) _ _).mono (fun r h c => ?_) (θ_run_and (run_main m g) (frame m g))
    exact ⟨(h.1.out_eq c 5).trans (final5 m c), h.2.1 c⟩
  · refine (θ_run (Cert.DxRefIdeal.defs (F := Ideal)) _ _).mono (fun r h c => ?_) (Cert.DxRefIdeal.Value.run (F := Ideal) m' g')
    obtain ⟨h0, ha⟩ := h c
    obtain ⟨a0, a1, a2, a3, a4⟩ := hargs c
    rw [a0, a1, a2, a3, a4] at h0
    exact ⟨h0.trans (ref0 m c), ha⟩

end Cert.DxIdeal.Body

end
-- ==== Proof.GateUpFwd.Kit.lean ====
module

public import proofs.«01_k».proof.Proof.Gen.GateUpFwdIdeal.Frame
public import proofs.«01_k».proof.Proof.Gen.GateUpFwdIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUpFwdIdeal.Body

open Cert.GateUpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, as the grid coordinates give it. -/
abbrev cond (i : grid0.Coords) : Prop := k0_cond1 i = 1#1

/-- The branch is taken at the last point only. -/
theorem hcond : ∀ t : Fin cfg0.N, cond (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond, k0_cond1, e0]
    word_cmp
   : ∀ t : Fin grid0.N, cond (grid0.coords t) ↔ t.val % 14 = 13)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl

/-- Output window 12 is idle, and not written back, before the last point; at the last point it is stored. -/
theorem idle12 : ∀ t : Fin cfg0.N, ¬cond (grid0.coords t) → cfg0.idle 12 (grid0.coords t) = true := by decide +kernel
theorem noFlush12 : ∀ t : Fin cfg0.N, ¬cond (grid0.coords t) → (cfg0.win 12).flush t = false := by decide +kernel
theorem live12 : ∀ t : Fin cfg0.N, cond (grid0.coords t) → cfg0.idle 12 (grid0.coords t) = false := by decide +kernel

/-! The staging memrefs of a point, the buffers through which what an output holds is stated, the scratch. -/

abbrev VO9 : View sig .tc .vmem S2048x256 .f32 := (Memref.whole cc0_stg9_0 : Memref sig .tc .vmem S2048x256 .f32).view
abbrev VO10 : View sig .tc .vmem S2048x256 .f32 := (Memref.whole cc0_stg10_0 : Memref sig .tc .vmem S2048x256 .f32).view
abbrev VO11 : View sig .tc .vmem S2048x256 .bf16 := (Memref.whole cc0_stg11_0 : Memref sig .tc .vmem S2048x256 .bf16).view
abbrev VO12 : View sig .tc .vmem S2048x64 .bf16 := (Memref.whole cc0_stg12_0 : Memref sig .tc .vmem S2048x64 .bf16).view
abbrev ms0 (t : Fin cfg0.N) : Memref sig .tc .vmem S2048x8192 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x8192 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x8192 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x64 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x64 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2048x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2048x64 .bf16 := win0_12.stage (cfg0.slots t 12)
abbrev hs12 (t : Fin cfg0.N) : (ms12 t).IsWhole := hstage0_12 ((cfg0.slots t 12).cast nbuf0_12)
abbrev scM0 : Memref sig .tc .vmem S2048x64 .f32 := Memref.whole cc0_scratch0
abbrev VS0 : View sig .tc .vmem S2048x64 .f32 := scM0.view

/-- The invariant a region starts and ends with, its scratch as memrefs owned at some contents. -/
theorem PhiA_eq (c : Dev nD) :
    (Pipeline.ΦA spec0 c : sProp 𝕄) = iprop(iprop((∃ d, owns (c : Thread nD τ) scM0 fullShare d)) ∗ (∃ r, prngReg c r)) := by
  unfold Pipeline.ΦA; rw [scopedRest0_eq]; simp only [scM0, owns_whole]; try rfl

end Cert.GateUpFwdIdeal.Body

end
-- ==== Proof.GateUpFwd.Mid.lean ====
module

public import proofs.«01_k».proof.Proof.GateUpFwd.Kit

@[expose] public section

set_option maxRecDepth 16384

noncomputable section

namespace Cert.GateUpFwdIdeal.Body

open Cert.GateUpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x8192 .bf16) (harg1 : arg1.IsWhole) (arg2 : Memref sig .tc .vmem S256x8192 .bf16) (harg2 : arg2.IsWhole) (arg3 : Memref sig .tc .vmem S256x8192 .bf16) (harg3 : arg3.IsWhole) (arg4 : Memref sig .tc .vmem S2048x128 .bf16) (harg4 : arg4.IsWhole) (arg5 : Memref sig .tc .vmem S256x64 .bf16) (harg5 : arg5.IsWhole) (arg6 : Memref sig .tc .vmem S256x64 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S64x256 .bf16) (harg9 : arg9.IsWhole) (arg10 : Memref sig .tc .vmem S2048x256 .f32) (harg10 : arg10.IsWhole) (arg11 : Memref sig .tc .vmem S2048x256 .f32) (harg11 : arg11.IsWhole) (arg12 : Memref sig .tc .vmem S2048x256 .bf16) (harg12 : arg12.IsWhole) (arg13 : Memref sig .tc .vmem S2048x64 .bf16) (harg13 : arg13.IsWhole) (arg14 : Memref sig .tc .vmem S2048x64 .f32) (harg14 : arg14.IsWhole)

set_option maxHeartbeats 4000000 in
/-- The body before the last point, on whole staging memrefs: the inputs at their contents, the carried scratch at any contents, an
    output at any contents. It runs to its continuation with the inputs as they were, every buffer it stores into holding
    the pieces listed (the witnesses the run finds, last store first), and an output it does not touch handed back. -/
def runMid (hc : ¬cond i) (x0 : Vec F S2048x8192 .bf16) (x1 : Vec F S256x8192 .bf16) (x2 : Vec F S256x8192 .bf16) (x3 : Vec F S2048x128 .bf16) (x4 : Vec F S256x64 .bf16) (x5 : Vec F S256x64 .bf16) (x6 : Vec F S1x256 .f32) (x7 : Vec F S1x256 .f32) (x8 : Vec F S64x256 .bf16) (xs0 : Vec F S2048x64 .f32) :
    Σ' (L9 : List (View.Piece (Elt F) S2048x256 .f32)), Σ' (L10 : List (View.Piece (Elt F) S2048x256 .f32)), Σ' (L11 : List (View.Piece (Elt F) S2048x256 .bf16)), { LS0 : List (View.Piece (Elt F) S2048x64 .f32) //
      ∀ (xi12 : Vec F S2048x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xi12 ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc0_gate_up_fwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi12 E K => ?run⟩
  case run =>
    simp only [cc0_gate_up_fwd_eq_skeleton]; unfold cc0_gate_up_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf12; obtain rfl := harg14.eq_unread hfs0
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    isplitl [H11]
    · iexists _; iexact H11
    isplitl [H12]
    · iexists _; isplitr; · ipureintro; exact harg13.read_unread _
      iexact H12
    iexists _; iexact HS0

end Cert.GateUpFwdIdeal.Body

end
-- ==== Proof.GateUpFwd.Last.lean ====
module

public import proofs.«01_k».proof.Proof.GateUpFwd.Mid

@[expose] public section

set_option maxRecDepth 16384

noncomputable section

namespace Cert.GateUpFwdIdeal.Body

open Cert.GateUpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x8192 .bf16) (harg1 : arg1.IsWhole) (arg2 : Memref sig .tc .vmem S256x8192 .bf16) (harg2 : arg2.IsWhole) (arg3 : Memref sig .tc .vmem S256x8192 .bf16) (harg3 : arg3.IsWhole) (arg4 : Memref sig .tc .vmem S2048x128 .bf16) (harg4 : arg4.IsWhole) (arg5 : Memref sig .tc .vmem S256x64 .bf16) (harg5 : arg5.IsWhole) (arg6 : Memref sig .tc .vmem S256x64 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S64x256 .bf16) (harg9 : arg9.IsWhole) (arg10 : Memref sig .tc .vmem S2048x256 .f32) (harg10 : arg10.IsWhole) (arg11 : Memref sig .tc .vmem S2048x256 .f32) (harg11 : arg11.IsWhole) (arg12 : Memref sig .tc .vmem S2048x256 .bf16) (harg12 : arg12.IsWhole) (arg13 : Memref sig .tc .vmem S2048x64 .bf16) (harg13 : arg13.IsWhole) (arg14 : Memref sig .tc .vmem S2048x64 .f32) (harg14 : arg14.IsWhole)

set_option maxHeartbeats 4000000 in
/-- The body at the last point, on whole staging memrefs: the inputs at their contents, the carried scratch at any contents, an
    output at any contents. It runs to its continuation with the inputs as they were, every buffer it stores into holding
    the pieces listed (the witnesses the run finds, last store first), and an output it does not touch handed back. -/
def runLast (hc : cond i) (x0 : Vec F S2048x8192 .bf16) (x1 : Vec F S256x8192 .bf16) (x2 : Vec F S256x8192 .bf16) (x3 : Vec F S2048x128 .bf16) (x4 : Vec F S256x64 .bf16) (x5 : Vec F S256x64 .bf16) (x6 : Vec F S1x256 .f32) (x7 : Vec F S1x256 .f32) (x8 : Vec F S64x256 .bf16) (xs0 : Vec F S2048x64 .f32) :
    Σ' (L9 : List (View.Piece (Elt F) S2048x256 .f32)), Σ' (L10 : List (View.Piece (Elt F) S2048x256 .f32)), Σ' (L11 : List (View.Piece (Elt F) S2048x256 .bf16)), Σ' (L12 : List (View.Piece (Elt F) S2048x64 .bf16)), { LS0 : List (View.Piece (Elt F) S2048x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc0_gate_up_fwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_gate_up_fwd_eq_skeleton]; unfold cc0_gate_up_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hfs0
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    isplitl [H11]
    · iexists _; iexact H11
    isplitl [H12]
    · iexists _; iexact H12
    iexists _; iexact HS0

end Cert.GateUpFwdIdeal.Body

end
-- ==== Proof.GateUpFwd.Track.lean ====
module

public import proofs.«01_k».proof.Proof.GateUpFwd.Last
public import Idealize.ShloMosaic.Lib.Claim

@[expose] public section

set_option maxRecDepth 16384

noncomputable section

namespace Cert.GateUpFwdIdeal.Body

open Cert.GateUpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The ordinary run at point `t`'s own staging memrefs and input blocks, the scratch starting at the contents given. -/
abbrev midAt (c : Dev nD) (t : Fin cfg0.N) (h : ¬cond (grid0.coords t)) (xs0 : Vec F S2048x64 .f32) :=
  runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) h (iblk m c 0 t) (iblk m c 1 t) (iblk m c 2 t) (iblk m c 3 t) (iblk m c 4 t) (iblk m c 5 t) (iblk m c 6 t) (iblk m c 7 t) (iblk m c 8 t) xs0

theorem mid_cover_9 (c : Dev nD) (t : Fin cfg0.N) (h : ¬cond (grid0.coords t)) (xs0 : Vec F S2048x64 .f32) :
    ∀ y : S2048x256.Idx, ∃ p ∈ (midAt m c t h xs0).1, y ∈ p.1.set := fun y =>
  View.cover_of_tiledL (midAt m c t h xs0).1 S512x256.size (by sl_kernel_rfl) y
def mid_9 (c : Dev nD) (t : Fin cfg0.N) (h : ¬cond (grid0.coords t)) (xs0 : Vec F S2048x64 .f32) : Vec F S2048x256 .f32 :=
  VO9.read (Elt F) (VO9.writes (Elt F) VO9.junk (midAt m c t h xs0).1)
theorem mid_cover_10 (c : Dev nD) (t : Fin cfg0.N) (h : ¬cond (grid0.coords t)) (xs0 : Vec F S2048x64 .f32) :
    ∀ y : S2048x256.Idx, ∃ p ∈ (midAt m c t h xs0).2.1, y ∈ p.1.set := fun y =>
  View.cover_of_tiledL (midAt m c t h xs0).2.1 S512x256.size (by sl_kernel_rfl) y
def mid_10 (c : Dev nD) (t : Fin cfg0.N) (h : ¬cond (grid0.coords t)) (xs0 : Vec F S2048x64 .f32) : Vec F S2048x256 .f32 :=
  VO10.read (Elt F) (VO10.writes (Elt F) VO10.junk (midAt m c t h xs0).2.1)
theorem mid_cover_11 (c : Dev nD) (t : Fin cfg0.N) (h : ¬cond (grid0.coords t)) (xs0 : Vec F S2048x64 .f32) :
    ∀ y : S2048x256.Idx, ∃ p ∈ (midAt m c t h xs0).2.2.1, y ∈ p.1.set := fun y =>
  View.cover_of_tiledL (midAt m c t h xs0).2.2.1 S512x256.size (by sl_kernel_rfl) y
def mid_11 (c : Dev nD) (t : Fin cfg0.N) (h : ¬cond (grid0.coords t)) (xs0 : Vec F S2048x64 .f32) : Vec F S2048x256 .bf16 :=
  VO11.read (Elt F) (VO11.writes (Elt F) VO11.junk (midAt m c t h xs0).2.2.1)
theorem mid_cover_s0 (c : Dev nD) (t : Fin cfg0.N) (h : ¬cond (grid0.coords t)) (xs0 : Vec F S2048x64 .f32) :
    ∀ y : S2048x64.Idx, ∃ p ∈ (midAt m c t h xs0).2.2.2.1, y ∈ p.1.set := fun y =>
  View.cover_of_tiledL (midAt m c t h xs0).2.2.2.1 S512x64.size (by sl_kernel_rfl) y
def mid_s0 (c : Dev nD) (t : Fin cfg0.N) (h : ¬cond (grid0.coords t)) (xs0 : Vec F S2048x64 .f32) : Vec F S2048x64 .f32 :=
  VS0.read (Elt F) (VS0.writes (Elt F) VS0.junk (midAt m c t h xs0).2.2.2.1)
/-- The last run at point `t`'s own staging memrefs and input blocks, the scratch starting at the contents given. -/
abbrev lastAt (c : Dev nD) (t : Fin cfg0.N) (h : cond (grid0.coords t)) (xs0 : Vec F S2048x64 .f32) :=
  runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) h (iblk m c 0 t) (iblk m c 1 t) (iblk m c 2 t) (iblk m c 3 t) (iblk m c 4 t) (iblk m c 5 t) (iblk m c 6 t) (iblk m c 7 t) (iblk m c 8 t) xs0

theorem last_cover_9 (c : Dev nD) (t : Fin cfg0.N) (h : cond (grid0.coords t)) (xs0 : Vec F S2048x64 .f32) :
    ∀ y : S2048x256.Idx, ∃ p ∈ (lastAt m c t h xs0).1, y ∈ p.1.set := fun y =>
  View.cover_of_tiledL (lastAt m c t h xs0).1 S512x256.size (by sl_kernel_rfl) y
def last_9 (c : Dev nD) (t : Fin cfg0.N) (h : cond (grid0.coords t)) (xs0 : Vec F S2048x64 .f32) : Vec F S2048x256 .f32 :=
  VO9.read (Elt F) (VO9.writes (Elt F) VO9.junk (lastAt m c t h xs0).1)
theorem last_cover_10 (c : Dev nD) (t : Fin cfg0.N) (h : cond (grid0.coords t)) (xs0 : Vec F S2048x64 .f32) :
    ∀ y : S2048x256.Idx, ∃ p ∈ (lastAt m c t h xs0).2.1, y ∈ p.1.set := fun y =>
  View.cover_of_tiledL (lastAt m c t h xs0).2.1 S512x256.size (by sl_kernel_rfl) y
def last_10 (c : Dev nD) (t : Fin cfg0.N) (h : cond (grid0.coords t)) (xs0 : Vec F S2048x64 .f32) : Vec F S2048x256 .f32 :=
  VO10.read (Elt F) (VO10.writes (Elt F) VO10.junk (lastAt m c t h xs0).2.1)
theorem last_cover_11 (c : Dev nD) (t : Fin cfg0.N) (h : cond (grid0.coords t)) (xs0 : Vec F S2048x64 .f32) :
    ∀ y : S2048x256.Idx, ∃ p ∈ (lastAt m c t h xs0).2.2.1, y ∈ p.1.set := fun y =>
  View.cover_of_tiledL (lastAt m c t h xs0).2.2.1 S512x256.size (by sl_kernel_rfl) y
def last_11 (c : Dev nD) (t : Fin cfg0.N) (h : cond (grid0.coords t)) (xs0 : Vec F S2048x64 .f32) : Vec F S2048x256 .bf16 :=
  VO11.read (Elt F) (VO11.writes (Elt F) VO11.junk (lastAt m c t h xs0).2.2.1)
theorem last_cover_12 (c : Dev nD) (t : Fin cfg0.N) (h : cond (grid0.coords t)) (xs0 : Vec F S2048x64 .f32) :
    ∀ y : S2048x64.Idx, ∃ p ∈ (lastAt m c t h xs0).2.2.2.1, y ∈ p.1.set := fun y =>
  View.cover_of_wholeMem (lastAt m c t h xs0).2.2.2.1 (by sl_whole_mem) y
def last_12 (c : Dev nD) (t : Fin cfg0.N) (h : cond (grid0.coords t)) (xs0 : Vec F S2048x64 .f32) : Vec F S2048x64 .bf16 :=
  VO12.read (Elt F) (VO12.writes (Elt F) VO12.junk (lastAt m c t h xs0).2.2.2.1)
theorem last_cover_s0 (c : Dev nD) (t : Fin cfg0.N) (h : cond (grid0.coords t)) (xs0 : Vec F S2048x64 .f32) :
    ∀ y : S2048x64.Idx, ∃ p ∈ (lastAt m c t h xs0).2.2.2.2.1, y ∈ p.1.set := fun y =>
  View.cover_of_tiledL (lastAt m c t h xs0).2.2.2.2.1 S512x64.size (by sl_kernel_rfl) y
def last_s0 (c : Dev nD) (t : Fin cfg0.N) (h : cond (grid0.coords t)) (xs0 : Vec F S2048x64 .f32) : Vec F S2048x64 .f32 :=
  VS0.read (Elt F) (VS0.writes (Elt F) VS0.junk (lastAt m c t h xs0).2.2.2.2.1)

/-- What one point leaves: the output blocks, then the scratch, from the scratch it starts with. -/
def step (c : Dev nD) (t : Fin cfg0.N) (xs0 : Vec F S2048x64 .f32) : Vec F S2048x256 .f32 × Vec F S2048x256 .f32 × Vec F S2048x256 .bf16 × Vec F S2048x64 .bf16 × Vec F S2048x64 .f32 :=
  if h : cond (grid0.coords t) then
    (last_9 m c t h xs0, last_10 m c t h xs0, last_11 m c t h xs0, last_12 m c t h xs0, last_s0 m c t h xs0)
  else
    (mid_9 m c t h xs0, mid_10 m c t h xs0, mid_11 m c t h xs0, VO12.read (Elt F) VO12.junk, mid_s0 m c t h xs0)

theorem step_last (c : Dev nD) (t : Fin cfg0.N) (h : cond (grid0.coords t)) (xs0 : Vec F S2048x64 .f32) :
    step m c t xs0 = (last_9 m c t h xs0, last_10 m c t h xs0, last_11 m c t h xs0, last_12 m c t h xs0, last_s0 m c t h xs0) := dif_pos h
theorem step_mid (c : Dev nD) (t : Fin cfg0.N) (h : ¬cond (grid0.coords t)) (xs0 : Vec F S2048x64 .f32) :
    step m c t xs0 = (mid_9 m c t h xs0, mid_10 m c t h xs0, mid_11 m c t h xs0, VO12.read (Elt F) VO12.junk, mid_s0 m c t h xs0) := dif_neg h

/-! At the first point the scratch is stored without being looked at. -/

theorem pay2_first (v128 : FVec F S512x256 .f32) (v137 : FVec F S512x256 .f32) (v140 : Vec F S1x256 .f32) (v145 : Vec F S1x256 .f32) (v151 : Vec F S64x256 .bf16) (x y : Vec F S512x64 .f32) :
    k0_pay2 0#32 v128 v137 v140 v145 v151 x = k0_pay2 0#32 v128 v137 v140 v145 v151 y := rfl
theorem pay9_first (v17 : FVec F S512x256 .f32) (v24 : FVec F S512x256 .f32) (v26 : FVec F S512x256 .f32) (v31 : Vec F S64x256 .bf16) (x y : Vec F S512x64 .f32) :
    k0_pay9 0#32 v17 v24 v26 v31 x = k0_pay9 0#32 v17 v24 v26 v31 y := rfl
theorem pay14_first (v48 : FVec F S512x256 .f32) (v51 : FVec F S512x256 .f32) (v52 : Vec F S512x64 .bf16) (v53 : Vec F S256x64 .bf16) (cst_55 : FVec F S512x256 .f32) (v60 : Vec F S1x256 .f32) (v65 : Vec F S1x256 .f32) (v71 : Vec F S64x256 .bf16) (x y : Vec F S512x64 .f32) :
    k0_pay14 0#32 v48 v51 v52 v53 cst_55 v60 v65 v71 x = k0_pay14 0#32 v48 v51 v52 v53 cst_55 v60 v65 v71 y := rfl
theorem pay20_first (v112 : FVec F S512x64 .f32) (x y : Vec F S512x64 .f32) :
    k0_pay20 0#32 v112 x = k0_pay20 0#32 v112 y := rfl

theorem mid_s0_first (c : Dev nD) (t : Fin cfg0.N) (h : ¬cond (grid0.coords t)) (h0 : t.val = 0) (xs ys : Vec F S2048x64 .f32) :
    mid_s0 m c t h xs = mid_s0 m c t h ys := by
  have e0 : (grid0.coords t 0).val = 0 := by
    rw [show (grid0.coords t 0).val = t.val / 1 % 14 from Pipeline.Grid.coords_val t 0 (by decide) rfl, h0]
  have ew : BitVec.ofNat 32 (grid0.coords t 0).val = 0#32 := by rw [e0]
  unfold mid_s0
  refine congrArg (fun L => VS0.read (Elt F) (VS0.writes (Elt F) VS0.junk L)) ?_
  unfold midAt runMid
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  · rw [ew]; exact pay2_first _ _ _ _ _ _ _
  · rw [ew]; exact pay20_first _ _ _
  · rw [ew]; exact pay14_first _ _ _ _ _ _ _ _ _ _
  · rw [ew]; exact pay9_first _ _ _ _ _ _

theorem step_first (c : Dev nD) (t : Fin cfg0.N) (h0 : t.val = 0) (xs ys : Vec F S2048x64 .f32) :
    step m c t xs = step m c t ys := by
  have h : ¬cond (grid0.coords t) := fun h => by have := (hcond t).mp h; omega
  rw [step_mid m c t h, step_mid m c t h, mid_s0_first m c t h h0 xs ys]
  rfl

/-- What every point leaves, point by point: the first point starts from a scratch nobody reads. -/
def outs (c : Dev nD) : (n : ℕ) → n < cfg0.N → Vec F S2048x256 .f32 × Vec F S2048x256 .f32 × Vec F S2048x256 .bf16 × Vec F S2048x64 .bf16 × Vec F S2048x64 .f32
  | 0, h => step m c ⟨0, h⟩ (VS0.read (Elt F) VS0.junk)
  | n + 1, h => step m c ⟨n + 1, h⟩ (outs c n (Nat.lt_of_succ_lt h)).2.2.2.2

/-- A point's step from what the scratch holds there, whichever point it is. -/
theorem outs_eq (c : Dev nD) (t : Fin cfg0.N) (xs0 : Vec F S2048x64 .f32) (hx0 : ∀ h : t.val ≠ 0, xs0 = (outs m c (t.val - 1) (Nat.lt_of_le_of_lt (Nat.sub_le _ _) t.isLt)).2.2.2.2) :
    outs m c t.val t.isLt = step m c t xs0 := by
  obtain ⟨n, hn⟩ := t
  cases n with
  | zero => exact step_first m c _ rfl _ _
  | succ n => obtain rfl := hx0 (Nat.succ_ne_zero n); rfl

/-- The invariant before point `n`: the scratch at what the point before left (at anything before the first point), and
    the generator register at some state. -/
def Inv (c : Dev nD) (n : ℕ) (hn : n ≤ cfg0.N) : sProp 𝕄 :=
  iprop((∃ xs0 : Vec F S2048x64 .f32, ⌜(∀ h : n ≠ 0, xs0 = (outs m c (n - 1) (by omega)).2.2.2.2)⌝ ∗ owns (c : Thread nD τ) scM0 fullShare xs0) ∗ (∃ r, prngReg c r))

/-- The region's proof data: the arrays as the region finds them; after point `t` an input's staging buffer holds its block
    and an output's what `outs` says; the invariant `Inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outs m c t.val t.isLt).1
    | ⟨10, _⟩ => (outs m c t.val t.isLt).2.1
    | ⟨11, _⟩ => (outs m c t.val t.isLt).2.2.1
    | ⟨12, _⟩ => (outs m c t.val t.isLt).2.2.2.1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = (outs m c t.val t.isLt).1 := by dsimp only [dats]
theorem after10 (c : Dev nD) (t : Fin cfg0.N) : (dats m 0 c).after 10 t = (outs m c t.val t.isLt).2.1 := by dsimp only [dats]
theorem after11 (c : Dev nD) (t : Fin cfg0.N) : (dats m 0 c).after 11 t = (outs m c t.val t.isLt).2.2.1 := by dsimp only [dats]
theorem after12 (c : Dev nD) (t : Fin cfg0.N) : (dats m 0 c).after 12 t = (outs m c t.val t.isLt).2.2.2.1 := by dsimp only [dats]
theorem leaves0 (c : Dev nD) (t : Fin cfg0.N) : (dats m 0 c).leavesExact 0 t
    = owns (c : Thread nD τ) (ms0 t) fullShare ((dats m 0 c).after 0 t) := by
  unfold Dat.leavesExact; rw [live0 t]
theorem leaves1 (c : Dev nD) (t : Fin cfg0.N) : (dats m 0 c).leavesExact 1 t
    = owns (c : Thread nD τ) (ms1 t) fullShare ((dats m 0 c).after 1 t) := by
  unfold Dat.leavesExact; rw [live1 t]
theorem leaves2 (c : Dev nD) (t : Fin cfg0.N) : (dats m 0 c).leavesExact 2 t
    = owns (c : Thread nD τ) (ms2 t) fullShare ((dats m 0 c).after 2 t) := by
  unfold Dat.leavesExact; rw [live2 t]
theorem leaves3 (c : Dev nD) (t : Fin cfg0.N) : (dats m 0 c).leavesExact 3 t
    = owns (c : Thread nD τ) (ms3 t) fullShare ((dats m 0 c).after 3 t) := by
  unfold Dat.leavesExact; rw [live3 t]
theorem leaves4 (c : Dev nD) (t : Fin cfg0.N) : (dats m 0 c).leavesExact 4 t
    = owns (c : Thread nD τ) (ms4 t) fullShare ((dats m 0 c).after 4 t) := by
  unfold Dat.leavesExact; rw [live4 t]
theorem leaves5 (c : Dev nD) (t : Fin cfg0.N) : (dats m 0 c).leavesExact 5 t
    = owns (c : Thread nD τ) (ms5 t) fullShare ((dats m 0 c).after 5 t) := by
  unfold Dat.leavesExact; rw [live5 t]
theorem leaves6 (c : Dev nD) (t : Fin cfg0.N) : (dats m 0 c).leavesExact 6 t
    = owns (c : Thread nD τ) (ms6 t) fullShare ((dats m 0 c).after 6 t) := by
  unfold Dat.leavesExact; rw [live6 t]
theorem leaves7 (c : Dev nD) (t : Fin cfg0.N) : (dats m 0 c).leavesExact 7 t
    = owns (c : Thread nD τ) (ms7 t) fullShare ((dats m 0 c).after 7 t) := by
  unfold Dat.leavesExact; rw [live7 t]
theorem leaves8 (c : Dev nD) (t : Fin cfg0.N) : (dats m 0 c).leavesExact 8 t
    = owns (c : Thread nD τ) (ms8 t) fullShare ((dats m 0 c).after 8 t) := by
  unfold Dat.leavesExact; rw [live8 t]
theorem leaves9 (c : Dev nD) (t : Fin cfg0.N) : (dats m 0 c).leavesExact 9 t
    = owns (c : Thread nD τ) (ms9 t) fullShare ((dats m 0 c).after 9 t) := by
  unfold Dat.leavesExact; rw [live9 t]
theorem leaves10 (c : Dev nD) (t : Fin cfg0.N) : (dats m 0 c).leavesExact 10 t
    = owns (c : Thread nD τ) (ms10 t) fullShare ((dats m 0 c).after 10 t) := by
  unfold Dat.leavesExact; rw [live10 t]
theorem leaves11 (c : Dev nD) (t : Fin cfg0.N) : (dats m 0 c).leavesExact 11 t
    = owns (c : Thread nD τ) (ms11 t) fullShare ((dats m 0 c).after 11 t) := by
  unfold Dat.leavesExact; rw [live11 t]
theorem leaves12 (c : Dev nD) (t : Fin cfg0.N) (h : cond (grid0.coords t)) : (dats m 0 c).leavesExact 12 t
    = owns (c : Thread nD τ) (ms12 t) fullShare ((dats m 0 c).after 12 t) := by
  unfold Dat.leavesExact; rw [live12 t h]

/-- What the body at point `t` is given, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 14400000 in
/-- The body at any point: the inputs' memrefs hold their blocks, the scratch what the point before left (anything at the first
    point); the run of the case the point is in applies, and what it leaves is what `outs` says by `outs_eq`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = Inv m c (t.val + 1) t.isLt from rfl,
    show (dats m 0 c).Φ t.castSucc = Inv m c t.val (Nat.le_of_lt t.isLt) from rfl]
  unfold Inv
  rw [leaves0, leaves1, leaves2, leaves3, leaves4, leaves5, leaves6, leaves7, leaves8, leaves9, leaves10, leaves11]
  simp only [after0, after1, after2, after3, after4, after5, after6, after7, after8, after9, after10, after11]
  by_cases h : cond (grid0.coords t)
  · rw [leaves12 m c t h]
    simp only [after12]
    iintro ⟨⟨⟨%xs0, %hx, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have e := (outs_eq m c t xs0 hx).trans (step_last m c t h xs0)
    simp only [e]
    iapply (lastAt m c t h xs0).2.2.2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, H8, ⟨%e9, H9⟩, ⟨%e10, H10⟩, ⟨%e11, H11⟩, ⟨%e12, H12⟩, ⟨%es0, HS0⟩⟩
    isplitl [HS0 Hg]
    · isplitl [HS0]
      · iexists last_s0 m c t h xs0; isplitr
        · ipureintro; exact fun _ => (congrArg (fun q => q.2.2.2.2) e).symm
        unfold owns; iexists _; isplitr
        swap; · iexact HS0
        ipureintro; exact View.read_writes_of_cover _ _ _ _ _ (last_cover_s0 m c t h xs0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (last_cover_9 m c t h xs0)
    isplitl [H10]
    · unfold owns; iexists _; isplitr
      swap; · iexact H10
      ipureintro; exact View.read_writes_of_cover _ _ _ _ _ (last_cover_10 m c t h xs0)
    isplitl [H11]
    · unfold owns; iexists _; isplitr
      swap; · iexact H11
      ipureintro; exact View.read_writes_of_cover _ _ _ _ _ (last_cover_11 m c t h xs0)
    unfold owns; iexists _; isplitr
    swap; · iexact H12
    ipureintro; exact View.read_writes_of_cover _ _ _ _ _ (last_cover_12 m c t h xs0)
  · rw [Dat.leavesExact_idle (dats m 0 c) 12 t (idle12 t h) (noFlush12 t h)]
    iintro ⟨⟨⟨%xs0, %hx, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have e := (outs_eq m c t xs0 hx).trans (step_mid m c t h xs0)
    simp only [e]
    iapply (midAt m c t h xs0).2.2.2.2 _ Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [HS0]; · iexact HS0
    iintro ⟨H0, H1, H2, H3, H4, H5, H6, H7, H8, ⟨%e9, H9⟩, ⟨%e10, H10⟩, ⟨%e11, H11⟩, H12, ⟨%es0, HS0⟩⟩
    isplitl [HS0 Hg]
    · isplitl [HS0]
      · iexists mid_s0 m c t h xs0; isplitr
        · ipureintro; exact fun _ => (congrArg (fun q => q.2.2.2.2) e).symm
        unfold owns; iexists _; isplitr
        swap; · iexact HS0
        ipureintro; exact View.read_writes_of_cover _ _ _ _ _ (mid_cover_s0 m c t h xs0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (mid_cover_9 m c t h xs0)
    isplitl [H10]
    · unfold owns; iexists _; isplitr
      swap; · iexact H10
      ipureintro; exact View.read_writes_of_cover _ _ _ _ _ (mid_cover_10 m c t h xs0)
    isplitl [H11]
    · unfold owns; iexists _; isplitr
      swap; · iexact H11
      ipureintro; exact View.read_writes_of_cover _ _ _ _ _ (mid_cover_11 m c t h xs0)
    iexists _; iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Inv m c 0 (Nat.zero_le _) from rfl, PhiA_eq]
  unfold Inv
  iintro ⟨⟨%d0, HS0⟩, Hg⟩
  isplitr [Hg]
  · iexists d0; isplitr
    · ipureintro; exact fun h => absurd rfl h
    iexact HS0
  iexact Hg

/-- and after the last point the invariant, its contents forgotten, is what the launch takes back. -/
theorem hout (c : Dev nD) : (dats m 0 c).Φ (Fin.last cfg0.N) ⊢ Pipeline.ΦA spec0 c := by
  rw [show (dats m 0 c).Φ (Fin.last cfg0.N) = Inv m c (Fin.last cfg0.N).val (Nat.le_refl _) from rfl, PhiA_eq]
  unfold Inv
  iintro ⟨⟨%xs0, %hx, HS0⟩, Hg⟩
  isplitr [Hg]
  · iexists _; iexact HS0
  iexact Hg

variable (ρ : Dev nD → PrngReg)

-- the launch theorem's implicit arguments are found by unifying its conclusion with this one
set_option backward.isDefEq.respectTransparency.types false in
/-- The launch: every execution of @main terminates with every array as the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: every execution terminates, the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run m ρ)) ((θ_run defs _ _).mono (fun _ h => h.2) (run_quiescent m ρ))

end Cert.GateUpFwdIdeal.Body

end
-- ==== Proof.GateUpFwd.FrameBits.lean ====
module

public import proofs.«01_k».proof.Defs
public import proofs.«01_k».proof.Proof.Gen.GateUpFwd
public import proofs.«01_k».proof.Proof.Gen.GateUpFwdIdeal
public import proofs.«01_k».proof.Proof.GateUpFwd.Track
public import Idealize.ShloMosaic.Adequacy
public import Idealize.ShloMosaic.Init
public import Idealize.ShloMosaic.Lib.Tactic

@[expose] public section

noncomputable section

/-! The frame of the program at its machine words. The printed program and the one the algebraic claim is about are the same text, and its frame is proved at every float instance: at the words it is the claim. -/

namespace Cert.GateUpFwdBits

open Idealize Idealize.ShloMosaic Idealize.SL.Sem

attribute [local instance] Cert.GateUpFwd.Gen.facts Cert.GateUpFwdIdeal.Gen.facts

/-- The frame, at any float instance. -/
def FrameI (F : FTy → Type) [FloatOps F] : Prop :=
  ∀ (m : (ℓ : Loc Cert.GateUpFwdIdeal.nD Cert.GateUpFwdIdeal.τ Cert.GateUpFwdIdeal.sig) → Buf (Elt F) ℓ) (g : Dev Cert.GateUpFwdIdeal.nD → PrngReg), True →
    θ_run (Cert.GateUpFwdIdeal.defs (F := F)) (onTc (τ := Cert.GateUpFwdIdeal.τ) (Cert.GateUpFwdIdeal.main (F := F))) ⟨m, fun _ => 0, g⟩ (fun r => (∀ c : Dev Cert.GateUpFwdIdeal.nD,
      r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
      ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1)
      ∧ r.2.mem ((c.tc : Thread Cert.GateUpFwdIdeal.nD Cert.GateUpFwdIdeal.τ).loc Cert.GateUpFwdIdeal.main_arg2) = m ((c.tc : Thread Cert.GateUpFwdIdeal.nD Cert.GateUpFwdIdeal.τ).loc Cert.GateUpFwdIdeal.main_arg2)
      ∧ r.2.mem ((c.tc : Thread Cert.GateUpFwdIdeal.nD Cert.GateUpFwdIdeal.τ).loc Cert.GateUpFwdIdeal.main_arg3) = m ((c.tc : Thread Cert.GateUpFwdIdeal.nD Cert.GateUpFwdIdeal.τ).loc Cert.GateUpFwdIdeal.main_arg3)
      ∧ r.2.mem ((c.tc : Thread Cert.GateUpFwdIdeal.nD Cert.GateUpFwdIdeal.τ).loc Cert.GateUpFwdIdeal.main_arg4) = m ((c.tc : Thread Cert.GateUpFwdIdeal.nD Cert.GateUpFwdIdeal.τ).loc Cert.GateUpFwdIdeal.main_arg4)
      ∧ r.2.mem ((c.tc : Thread Cert.GateUpFwdIdeal.nD Cert.GateUpFwdIdeal.τ).loc Cert.GateUpFwdIdeal.main_arg5) = m ((c.tc : Thread Cert.GateUpFwdIdeal.nD Cert.GateUpFwdIdeal.τ).loc Cert.GateUpFwdIdeal.main_arg5)
      ∧ r.2.mem ((c.tc : Thread Cert.GateUpFwdIdeal.nD Cert.GateUpFwdIdeal.τ).loc Cert.GateUpFwdIdeal.main_arg6) = m ((c.tc : Thread Cert.GateUpFwdIdeal.nD Cert.GateUpFwdIdeal.τ).loc Cert.GateUpFwdIdeal.main_arg6)
      ∧ r.2.mem ((c.tc : Thread Cert.GateUpFwdIdeal.nD Cert.GateUpFwdIdeal.τ).loc Cert.GateUpFwdIdeal.main_arg7) = m ((c.tc : Thread Cert.GateUpFwdIdeal.nD Cert.GateUpFwdIdeal.τ).loc Cert.GateUpFwdIdeal.main_arg7)
      ∧ r.2.mem ((c.tc : Thread Cert.GateUpFwdIdeal.nD Cert.GateUpFwdIdeal.τ).loc Cert.GateUpFwdIdeal.main_arg8) = m ((c.tc : Thread Cert.GateUpFwdIdeal.nD Cert.GateUpFwdIdeal.τ).loc Cert.GateUpFwdIdeal.main_arg8))
      ∧ r.2.sem = fun _ => 0)

theorem frameI (F : FTy → Type) [FloatOps F] : FrameI F := fun m ρ _ => Cert.GateUpFwdIdeal.Body.frame m ρ

theorem eq_frame : Cert.quiescent_GateUpFwd = FrameI Bits := by sl_kernel_rfl

/-- Every execution terminates with the arguments unchanged and every counter at zero, at the machine's words. -/
theorem frame : Cert.quiescent_GateUpFwd := eq_frame ▸ frameI Bits

end Cert.GateUpFwdBits

end
-- ==== Proof.GateUpFwd.Block.lean ====
module

public import proofs.«01_k».proof.Proof.GateUpFwd.Track
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.GateUpFwdIdeal.Body

open Cert.GateUpFwdIdeal.Gen
open Idealize.ShloMosaic Idealize.ShloMosaic.TcCoe Idealize.ShloMosaic.Tactic
open Idealize.SL Idealize.SL.Sem

variable (m : (ℓ : Loc nD τ sig) → Buf (Elt Ideal) ℓ)

/-! What one point of the grid leaves in its output blocks, element by element, over the extended reals. -/

/-- Input block 0 at point `t`, as extended reals. -/
abbrev ib0 (c : Dev nD) (t : Fin cfg0.N) : S2048x8192.Idx → EReal := iblk m c 0 t
/-- Input block 1 at point `t`, as extended reals. -/
abbrev ib1 (c : Dev nD) (t : Fin cfg0.N) : S256x8192.Idx → EReal := iblk m c 1 t
/-- Input block 2 at point `t`, as extended reals. -/
abbrev ib2 (c : Dev nD) (t : Fin cfg0.N) : S256x8192.Idx → EReal := iblk m c 2 t
/-- Input block 3 at point `t`, as extended reals. -/
abbrev ib3 (c : Dev nD) (t : Fin cfg0.N) : S2048x128.Idx → EReal := iblk m c 3 t
/-- Input block 4 at point `t`, as extended reals. -/
abbrev ib4 (c : Dev nD) (t : Fin cfg0.N) : S256x64.Idx → EReal := iblk m c 4 t
/-- Input block 5 at point `t`, as extended reals. -/
abbrev ib5 (c : Dev nD) (t : Fin cfg0.N) : S256x64.Idx → EReal := iblk m c 5 t
/-- Input block 6 at point `t`, as extended reals. -/
abbrev ib6 (c : Dev nD) (t : Fin cfg0.N) : S1x256.Idx → EReal := iblk m c 6 t
/-- Input block 7 at point `t`, as extended reals. -/
abbrev ib7 (c : Dev nD) (t : Fin cfg0.N) : S1x256.Idx → EReal := iblk m c 7 t
/-- Input block 8 at point `t`, as extended reals. -/
abbrev ib8 (c : Dev nD) (t : Fin cfg0.N) : S64x256.Idx → EReal := iblk m c 8 t

/-- Lane `q` of the first and of the second half of 128 lanes. -/
abbrev lo (q : Fin 64) : Fin 128 := ⟨q.val, by omega⟩
abbrev hi (q : Fin 64) : Fin 128 := ⟨64 + q.val, by omega⟩

/-- Entry `(r, o)` of the adapted gate product at point `t`: the row of the normalised input times the row of the weight, plus the scale times the low-rank part. -/
def gB (c : Dev nD) (t : Fin cfg0.N) (r : Fin 2048) (o : Fin 256) : EReal :=
  ∑ k : Fin 8192, ib0 m c t (ix2 r k) * ib1 m c t (ix2 o k)
    + (Ideal.ofBits FTy.f32 1052770304#32 : EReal) * ∑ q : Fin 64, ib3 m c t (ix2 r (lo q)) * ib4 m c t (ix2 o q)

/-- Entry `(r, o)` of the adapted up product at point `t`. -/
def pB (c : Dev nD) (t : Fin cfg0.N) (r : Fin 2048) (o : Fin 256) : EReal :=
  ∑ k : Fin 8192, ib0 m c t (ix2 r k) * ib2 m c t (ix2 o k)
    + (Ideal.ofBits FTy.f32 1052770304#32 : EReal) * ∑ q : Fin 64, ib3 m c t (ix2 r (hi q)) * ib5 m c t (ix2 o q)

/-- Entry `(r, o)` of the activation at point `t`. -/
def aB (c : Dev nD) (t : Fin cfg0.N) (r : Fin 2048) (o : Fin 256) : EReal :=
  ib6 m c t (ix2 0 o) * gB m c t r o * Ideal.logistic (ib6 m c t (ix2 0 o) * gB m c t r o) * (ib7 m c t (ix2 0 o) * pB m c t r o)

/-- Entry `(r, q)` of what point `t` adds to the accumulated low-rank product. -/
def tB (c : Dev nD) (t : Fin cfg0.N) (r : Fin 2048) (q : Fin 64) : EReal :=
  ∑ o : Fin 256, aB m c t r o * ib8 m c t (ix2 q o)

/-- A choice on "this is point 0", the point's number a 32-bit word. -/
theorem select_first {S : Type} (n : ℕ) (hn : n < 14) (a b : S) :
    Scalar.select (Scalar.cmpi CmpIPredicate.eq (BitVec.ofNat 32 n) 0#32) a b = if n % 14 = 0 then a else b := by
  interval_cases n <;> rfl

theorem coord_val (t : Fin cfg0.N) : (grid0.coords t 0).val = t.val := by
  have h : t.val < 14 := t.isLt
  rw [show (grid0.coords t 0).val = t.val / 1 % 14 from Pipeline.Grid.coords_val t 0 (by decide) rfl]; omega

theorem ixy {a b : ℕ} (y : (⟨2, ![a, b]⟩ : Shape).Idx) : y = ix2 (y 0) (y 1) := by
  funext i; refine Fin.cases rfl (fun j => ?_) i; refine Fin.cases rfl (fun k => k.elim0) j

set_option maxHeartbeats 2000000 in
/-- Output 9 (the gate product) at a point before the last. -/
theorem mid_9_apply (c : Dev nD) (t : Fin cfg0.N) (h : ¬cond (grid0.coords t)) (xs0 : Vec Ideal S2048x64 .f32) (y : S2048x256.Idx) :
    mid_9 m c t h xs0 y = gB m c t (y 0) (y 1) := by
  unfold mid_9 midAt
  frame_open
  rw [View.read_writes_junk_eq_canon]
  obtain ⟨⟨r, hr⟩, o, rfl⟩ : ∃ r o, y = ix2 r o := ⟨y 0, y 1, ixy y⟩
  canon_tiles x hx using (mid_cover_9 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  all_goals (have e0 : r = _ := hx0; have e1 : o = x 1 := Fin.ext hx1; subst e0 e1)
  all_goals rfl

set_option maxHeartbeats 2000000 in
/-- Output 10 (the up product) at a point before the last. -/
theorem mid_10_apply (c : Dev nD) (t : Fin cfg0.N) (h : ¬cond (grid0.coords t)) (xs0 : Vec Ideal S2048x64 .f32) (y : S2048x256.Idx) :
    mid_10 m c t h xs0 y = pB m c t (y 0) (y 1) := by
  unfold mid_10 midAt
  frame_open
  rw [View.read_writes_junk_eq_canon]
  obtain ⟨⟨r, hr⟩, o, rfl⟩ : ∃ r o, y = ix2 r o := ⟨y 0, y 1, ixy y⟩
  canon_tiles x hx using (mid_cover_10 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  all_goals (have e0 : r = _ := hx0; have e1 : o = x 1 := Fin.ext hx1; subst e0 e1)
  all_goals rfl

set_option maxHeartbeats 2000000 in
/-- Output 11 (the activation) at a point before the last. -/
theorem mid_11_apply (c : Dev nD) (t : Fin cfg0.N) (h : ¬cond (grid0.coords t)) (xs0 : Vec Ideal S2048x64 .f32) (y : S2048x256.Idx) :
    mid_11 m c t h xs0 y = aB m c t (y 0) (y 1) := by
  unfold mid_11 midAt
  frame_open
  rw [View.read_writes_junk_eq_canon]
  obtain ⟨⟨r, hr⟩, o, rfl⟩ : ∃ r o, y = ix2 r o := ⟨y 0, y 1, ixy y⟩
  canon_tiles x hx using (mid_cover_11 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  all_goals (have e0 : r = _ := hx0; have e1 : o = x 1 := Fin.ext hx1; subst e0 e1)
  all_goals rfl

set_option maxHeartbeats 2000000 in
/-- The scratch at a point before the last. -/
theorem mid_s0_apply (c : Dev nD) (t : Fin cfg0.N) (h : ¬cond (grid0.coords t)) (xs0 : Vec Ideal S2048x64 .f32) (y : S2048x64.Idx) :
    mid_s0 m c t h xs0 y = if t.val % 14 = 0 then tB m c t (y 0) (y 1) else xs0 y + tB m c t (y 0) (y 1) := by
  unfold mid_s0 midAt
  frame_open
  rw [View.read_writes_junk_eq_canon]
  obtain ⟨⟨r, hr⟩, o, rfl⟩ : ∃ r o, y = ix2 r o := ⟨y 0, y 1, ixy y⟩
  canon_tiles x hx using (mid_cover_s0 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  all_goals simp only [read_unread_whole]
  all_goals rw [coord_val, select_first _ t.isLt]
  all_goals (have e0 : r = _ := hx0; have e1 : o = x 1 := Fin.ext hx1; subst e0 e1)
  all_goals rfl

set_option maxHeartbeats 2000000 in
/-- Output 9 (the gate product) at the last point. -/
theorem last_9_apply (c : Dev nD) (t : Fin cfg0.N) (h : cond (grid0.coords t)) (xs0 : Vec Ideal S2048x64 .f32) (y : S2048x256.Idx) :
    last_9 m c t h xs0 y = gB m c t (y 0) (y 1) := by
  unfold last_9 lastAt
  frame_open
  rw [View.read_writes_junk_eq_canon]
  obtain ⟨⟨r, hr⟩, o, rfl⟩ : ∃ r o, y = ix2 r o := ⟨y 0, y 1, ixy y⟩
  canon_tiles x hx using (last_cover_9 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  all_goals (have e0 : r = _ := hx0; have e1 : o = x 1 := Fin.ext hx1; subst e0 e1)
  all_goals rfl

set_option maxHeartbeats 2000000 in
/-- Output 10 (the up product) at the last point. -/
theorem last_10_apply (c : Dev nD) (t : Fin cfg0.N) (h : cond (grid0.coords t)) (xs0 : Vec Ideal S2048x64 .f32) (y : S2048x256.Idx) :
    last_10 m c t h xs0 y = pB m c t (y 0) (y 1) := by
  unfold last_10 lastAt
  frame_open
  rw [View.read_writes_junk_eq_canon]
  obtain ⟨⟨r, hr⟩, o, rfl⟩ : ∃ r o, y = ix2 r o := ⟨y 0, y 1, ixy y⟩
  canon_tiles x hx using (last_cover_10 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  all_goals (have e0 : r = _ := hx0; have e1 : o = x 1 := Fin.ext hx1; subst e0 e1)
  all_goals rfl

set_option maxHeartbeats 2000000 in
/-- Output 11 (the activation) at the last point. -/
theorem last_11_apply (c : Dev nD) (t : Fin cfg0.N) (h : cond (grid0.coords t)) (xs0 : Vec Ideal S2048x64 .f32) (y : S2048x256.Idx) :
    last_11 m c t h xs0 y = aB m c t (y 0) (y 1) := by
  unfold last_11 lastAt
  frame_open
  rw [View.read_writes_junk_eq_canon]
  obtain ⟨⟨r, hr⟩, o, rfl⟩ : ∃ r o, y = ix2 r o := ⟨y 0, y 1, ixy y⟩
  canon_tiles x hx using (last_cover_11 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  all_goals (have e0 : r = _ := hx0; have e1 : o = x 1 := Fin.ext hx1; subst e0 e1)
  all_goals rfl

set_option maxHeartbeats 2000000 in
/-- The scratch at the last point. -/
theorem last_s0_apply (c : Dev nD) (t : Fin cfg0.N) (h : cond (grid0.coords t)) (xs0 : Vec Ideal S2048x64 .f32) (y : S2048x64.Idx) :
    last_s0 m c t h xs0 y = if t.val % 14 = 0 then tB m c t (y 0) (y 1) else xs0 y + tB m c t (y 0) (y 1) := by
  unfold last_s0 lastAt
  frame_open
  rw [View.read_writes_junk_eq_canon]
  obtain ⟨⟨r, hr⟩, o, rfl⟩ : ∃ r o, y = ix2 r o := ⟨y 0, y 1, ixy y⟩
  canon_tiles x hx using (last_cover_s0 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  all_goals simp only [read_unread_whole]
  all_goals rw [coord_val, select_first _ t.isLt]
  all_goals (have e0 : r = _ := hx0; have e1 : o = x 1 := Fin.ext hx1; subst e0 e1)
  all_goals rfl

/-- Output 12 at the last point: the scratch it has just completed. -/
theorem last_12_apply (c : Dev nD) (t : Fin cfg0.N) (h : cond (grid0.coords t)) (xs0 : Vec Ideal S2048x64 .f32) (y : S2048x64.Idx) :
    last_12 m c t h xs0 y = (last_s0 m c t h xs0 y : EReal) := by
  unfold last_s0 last_12 lastAt
  frame_out
  simp only [View.readCov_eq_canon']
  pointwise [k0_pay3]

end Cert.GateUpFwdIdeal.Body

end
-- ==== Proof.GateUpFwd.Arrays.lean ====
module

public import proofs.«01_k».proof.Proof.GateUpFwd.Block
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.GateUpFwdIdeal.Body

open Cert.GateUpFwdIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-! The result arrays after the run, as functions of the argument arrays. -/

/-- Argument 0, as extended reals. -/
abbrev A0 (c : Dev nD) : S2048x8192.Idx → EReal := V m c main_arg0
/-- Argument 1, as extended reals. -/
abbrev A1 (c : Dev nD) : S3584x8192.Idx → EReal := V m c main_arg1
/-- Argument 2, as extended reals. -/
abbrev A2 (c : Dev nD) : S3584x8192.Idx → EReal := V m c main_arg2
/-- Argument 3, as extended reals. -/
abbrev A3 (c : Dev nD) : S2048x128.Idx → EReal := V m c main_arg3
/-- Argument 4, as extended reals. -/
abbrev A4 (c : Dev nD) : S3584x64.Idx → EReal := V m c main_arg4
/-- Argument 5, as extended reals. -/
abbrev A5 (c : Dev nD) : S3584x64.Idx → EReal := V m c main_arg5
/-- Argument 6, as extended reals. -/
abbrev A6 (c : Dev nD) : S1x3584.Idx → EReal := V m c main_arg6
/-- Argument 7, as extended reals. -/
abbrev A7 (c : Dev nD) : S1x3584.Idx → EReal := V m c main_arg7
/-- Argument 8, as extended reals. -/
abbrev A8 (c : Dev nD) : S64x3584.Idx → EReal := V m c main_arg8

/-- Column `o` of point `t`'s block, in the whole array. -/
abbrev col (t : Fin cfg0.N) (o : Fin 256) : Fin 3584 := ⟨t.val * 256 + o.val, by have h : t.val < 14 := t.isLt; omega⟩

theorem e0 : ∀ t : Fin cfg0.N, win0_0.index t = ![0, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, t.val] := (by decide +kernel : ∀ t : Fin grid0.N, _)
theorem e8 : ∀ t : Fin cfg0.N, win0_8.index t = ![0, t.val] := (by decide +kernel : ∀ t : Fin grid0.N, _)
theorem e9 : ∀ t : Fin cfg0.N, win0_9.index t = ![0, t.val] := (by decide +kernel : ∀ t : Fin grid0.N, _)
theorem e10 : ∀ t : Fin cfg0.N, win0_10.index t = ![0, t.val] := (by decide +kernel : ∀ t : Fin grid0.N, _)
theorem e11 : ∀ t : Fin cfg0.N, win0_11.index t = ![0, t.val] := (by decide +kernel : ∀ t : Fin grid0.N, _)
theorem e12 : ∀ t : Fin cfg0.N, win0_12.index t = ![0, 0] := (by decide +kernel : ∀ t : Fin grid0.N, _)

/-! An input block at an index is its array at the index the block places. -/

theorem ib0_at (c : Dev nD) (t : Fin cfg0.N) (r : Fin 2048) (q : Fin 8192) : ib0 m c t (ix2 r q) = A0 m c (ix2 (r) (q)) := by
  blk_simp [ib0, iblk]
  exact congrArg (V m c main_arg0) (by blk_ext [e0 t])
theorem ib1_at (c : Dev nD) (t : Fin cfg0.N) (r : Fin 256) (q : Fin 8192) : ib1 m c t (ix2 r q) = A1 m c (ix2 (col t r) (q)) := by
  blk_simp [ib1, iblk]
  exact congrArg (V m c main_arg1) (by blk_ext [e1 t])
theorem ib2_at (c : Dev nD) (t : Fin cfg0.N) (r : Fin 256) (q : Fin 8192) : ib2 m c t (ix2 r q) = A2 m c (ix2 (col t r) (q)) := by
  blk_simp [ib2, iblk]
  exact congrArg (V m c main_arg2) (by blk_ext [e2 t])
theorem ib3_at (c : Dev nD) (t : Fin cfg0.N) (r : Fin 2048) (q : Fin 128) : ib3 m c t (ix2 r q) = A3 m c (ix2 (r) (q)) := by
  blk_simp [ib3, iblk]
  exact congrArg (V m c main_arg3) (by blk_ext [e3 t])
theorem ib4_at (c : Dev nD) (t : Fin cfg0.N) (r : Fin 256) (q : Fin 64) : ib4 m c t (ix2 r q) = A4 m c (ix2 (col t r) (q)) := by
  blk_simp [ib4, iblk]
  exact congrArg (V m c main_arg4) (by blk_ext [e4 t])
theorem ib5_at (c : Dev nD) (t : Fin cfg0.N) (r : Fin 256) (q : Fin 64) : ib5 m c t (ix2 r q) = A5 m c (ix2 (col t r) (q)) := by
  blk_simp [ib5, iblk]
  exact congrArg (V m c main_arg5) (by blk_ext [e5 t])
theorem ib6_at (c : Dev nD) (t : Fin cfg0.N) (r : Fin 1) (q : Fin 256) : ib6 m c t (ix2 r q) = A6 m c (ix2 (r) (col t q)) := by
  blk_simp [ib6, iblk]
  exact congrArg (V m c main_arg6) (by blk_ext [e6 t])
theorem ib7_at (c : Dev nD) (t : Fin cfg0.N) (r : Fin 1) (q : Fin 256) : ib7 m c t (ix2 r q) = A7 m c (ix2 (r) (col t q)) := by
  blk_simp [ib7, iblk]
  exact congrArg (V m c main_arg7) (by blk_ext [e7 t])
theorem ib8_at (c : Dev nD) (t : Fin cfg0.N) (r : Fin 64) (q : Fin 256) : ib8 m c t (ix2 r q) = A8 m c (ix2 (r) (col t q)) := by
  blk_simp [ib8, iblk]
  exact congrArg (V m c main_arg8) (by blk_ext [e8 t])

/-- Entry `(r, o)` of the adapted gate product: a row of the normalised input times a row of the weight, plus the scale times the low-rank part. -/
def ug (c : Dev nD) (r : Fin 2048) (o : Fin 3584) : EReal :=
  ∑ k : Fin 8192, A0 m c (ix2 r k) * A1 m c (ix2 o k) + (Ideal.ofBits FTy.f32 1052770304#32 : EReal) * ∑ q : Fin 64, A3 m c (ix2 r (lo q)) * A4 m c (ix2 o q)
/-- Entry `(r, o)` of the adapted up product. -/
def uu (c : Dev nD) (r : Fin 2048) (o : Fin 3584) : EReal :=
  ∑ k : Fin 8192, A0 m c (ix2 r k) * A2 m c (ix2 o k) + (Ideal.ofBits FTy.f32 1052770304#32 : EReal) * ∑ q : Fin 64, A3 m c (ix2 r (hi q)) * A5 m c (ix2 o q)
/-- Entry `(r, o)` of the activation. -/
def act (c : Dev nD) (r : Fin 2048) (o : Fin 3584) : EReal :=
  A6 m c (ix2 0 o) * ug m c r o * Ideal.logistic (A6 m c (ix2 0 o) * ug m c r o) * (A7 m c (ix2 0 o) * uu m c r o)

theorem gB_eq (c : Dev nD) (t : Fin cfg0.N) (r : Fin 2048) (o : Fin 256) : gB m c t r o = ug m c r (col t o) := by
  unfold gB ug
  simp only [ib0_at, ib1_at, ib3_at, ib4_at]
theorem pB_eq (c : Dev nD) (t : Fin cfg0.N) (r : Fin 2048) (o : Fin 256) : pB m c t r o = uu m c r (col t o) := by
  unfold pB uu
  simp only [ib0_at, ib2_at, ib3_at, ib5_at]
theorem aB_eq (c : Dev nD) (t : Fin cfg0.N) (r : Fin 2048) (o : Fin 256) : aB m c t r o = act m c r (col t o) := by
  unfold aB act
  simp only [gB_eq, pB_eq, ib6_at, ib7_at]

/-- The gate product, the up product and the activation. -/
def res0 (c : Dev nD) (i : S2048x3584.Idx) : EReal := ug m c (i 0) (i 1)
def res1 (c : Dev nD) (i : S2048x3584.Idx) : EReal := uu m c (i 0) (i 1)
def res2 (c : Dev nD) (i : S2048x3584.Idx) : EReal := act m c (i 0) (i 1)
/-- The low-rank input of the down projection. -/
def res3 (c : Dev nD) (i : S2048x64.Idx) : EReal := ∑ o : Fin 3584, act m c (i 0) o * A8 m c (ix2 (i 1) o)

/-- What the scratch holds when point `t` starts. -/
def start (c : Dev nD) (t : Fin cfg0.N) : Vec Ideal S2048x64 .f32 := (outs m c (t.val - 1) (Nat.lt_of_le_of_lt (Nat.sub_le _ _) t.isLt)).2.2.2.2

theorem outs_start (c : Dev nD) (t : Fin cfg0.N) : outs m c t.val t.isLt = step m c t (start m c t) :=
  outs_eq m c t _ fun _ => rfl

attribute [local irreducible] outs step mid_9 mid_10 mid_11 mid_s0 last_9 last_10 last_11 last_12 last_s0

theorem outs_9 (c : Dev nD) (t : Fin cfg0.N) (y : S2048x256.Idx) : (outs m c t.val t.isLt).1 y = gB m c t (y 0) (y 1) := by
  by_cases h : cond (grid0.coords t)
  · rw [(outs_start m c t).trans (step_last m c t h (start m c t))]
    exact last_9_apply m c t h (start m c t) y
  · rw [(outs_start m c t).trans (step_mid m c t h (start m c t))]
    exact mid_9_apply m c t h (start m c t) y

theorem outs_10 (c : Dev nD) (t : Fin cfg0.N) (y : S2048x256.Idx) : (outs m c t.val t.isLt).2.1 y = pB m c t (y 0) (y 1) := by
  by_cases h : cond (grid0.coords t)
  · rw [(outs_start m c t).trans (step_last m c t h (start m c t))]
    exact last_10_apply m c t h (start m c t) y
  · rw [(outs_start m c t).trans (step_mid m c t h (start m c t))]
    exact mid_10_apply m c t h (start m c t) y

theorem outs_11 (c : Dev nD) (t : Fin cfg0.N) (y : S2048x256.Idx) : (outs m c t.val t.isLt).2.2.1 y = aB m c t (y 0) (y 1) := by
  by_cases h : cond (grid0.coords t)
  · rw [(outs_start m c t).trans (step_last m c t h (start m c t))]
    exact last_11_apply m c t h (start m c t) y
  · rw [(outs_start m c t).trans (step_mid m c t h (start m c t))]
    exact mid_11_apply m c t h (start m c t) y

theorem outs_s0 (c : Dev nD) (t : Fin cfg0.N) (y : S2048x64.Idx) : (outs m c t.val t.isLt).2.2.2.2 y = if t.val % 14 = 0 then tB m c t (y 0) (y 1) else start m c t y + tB m c t (y 0) (y 1) := by
  by_cases h : cond (grid0.coords t)
  · rw [(outs_start m c t).trans (step_last m c t h (start m c t))]
    exact last_s0_apply m c t h (start m c t) y
  · rw [(outs_start m c t).trans (step_mid m c t h (start m c t))]
    exact mid_s0_apply m c t h (start m c t) y

/-- The scratch after the last point: every point's part, summed. -/
theorem scratch_end (c : Dev nD) (t : Fin cfg0.N) (ht : t.val + 1 = cfg0.N) (y : S2048x64.Idx) :
    (outs m c t.val t.isLt).2.2.2.2 y = ∑ p : Fin cfg0.N, tB m c p (y 0) (y 1) := by
  rw [Pipeline.eq_sum_fin_of_reset_step_apply_last (fun n h => (fun y => ((outs m c n h).2.2.2.2 y : EReal))) 14 (fun _ => (0 : EReal)) (fun t y => tB m c t (y 0) (y 1))
    (fun t h j => by rw [outs_s0, if_pos h, zero_add]) (fun t h j => by rw [outs_s0, if_neg h]; rfl)
    (le_of_eq N_0) t ht y, zero_add]

theorem scratch_sum (c : Dev nD) (r : Fin 2048) (q : Fin 64) :
    ∑ p : Fin cfg0.N, tB m c p r q = ∑ o : Fin 3584, act m c r o * A8 m c (ix2 q o) := by
  rw [Fin.sum_univ_tiles 14 256 rfl]
  refine Finset.sum_congr rfl fun t _ => ?_
  unfold tB
  simp only [aB_eq, ib8_at]

/-- The last point's output 12. -/
theorem outs_12 (c : Dev nD) (t : Fin cfg0.N) (ht : t.val + 1 = cfg0.N) (y : S2048x64.Idx) : (outs m c t.val t.isLt).2.2.2.1 y = res3 m c y := by
  have h : cond (grid0.coords t) := (hcond t).mpr (by have h14 : cfg0.N = 14 := N_0; omega)
  have e := scratch_end m c t ht y
  have o := (outs_start m c t).trans (step_last m c t h (start m c t))
  have e' : last_s0 m c t h (start m c t) y = _ := (congrFun (congrArg (fun z => z.2.2.2.2) o) y).symm.trans e
  exact (congrFun (congrArg (fun z => z.2.2.2.1) o) y).trans ((last_12_apply m c t h (start m c t) y).trans
    (e'.trans (scratch_sum m c (y 0) (y 1))))

/-- Result 0 after the run. -/
theorem final9 (c : Dev nD) : (dats m 0 c).arrAt 9 cfg0.N = res0 m c := by
  refine (dats m 0 c).arrAt_eq_of_covers 9 _ (by decide +kernel) fun t hf y => ?_
  blk_simp
  rw [after9]
  refine (outs_9 m c t y).trans ?_
  rw [show (win0_9.blk t).view.emb y = ix2 (y 0) (col t (y 1)) from by blk_ext [e9 t]]
  exact gB_eq m c t (y 0) (y 1)

/-- Result 1 after the run. -/
theorem final10 (c : Dev nD) : (dats m 0 c).arrAt 10 cfg0.N = res1 m c := by
  refine (dats m 0 c).arrAt_eq_of_covers 10 _ (by decide +kernel) fun t hf y => ?_
  blk_simp
  rw [after10]
  refine (outs_10 m c t y).trans ?_
  rw [show (win0_10.blk t).view.emb y = ix2 (y 0) (col t (y 1)) from by blk_ext [e10 t]]
  exact pB_eq m c t (y 0) (y 1)

/-- Result 2 after the run. -/
theorem final11 (c : Dev nD) : (dats m 0 c).arrAt 11 cfg0.N = res2 m c := by
  refine (dats m 0 c).arrAt_eq_of_covers 11 _ (by decide +kernel) fun t hf y => ?_
  blk_simp
  rw [after11]
  refine (outs_11 m c t y).trans ?_
  rw [show (win0_11.blk t).view.emb y = ix2 (y 0) (col t (y 1)) from by blk_ext [e11 t]]
  exact aB_eq m c t (y 0) (y 1)

/-- Result 3 after the run: written back once, by the last point. -/
theorem final12 (c : Dev nD) : (dats m 0 c).arrAt 12 cfg0.N = res3 m c := by
  refine (dats m 0 c).arrAt_eq_of_after_last 12 t0_13 (by decide +kernel) _ fun y => ?_
  blk_simp
  rw [after12]
  exact outs_12 m c t0_13 rfl y

end Cert.GateUpFwdIdeal.Body

end
-- ==== Proof.GateUpFwd.Claim.lean ====
module

public import proofs.«01_k».proof.Defs
public import proofs.«01_k».proof.Proof.GateUpFwd.Arrays
public import proofs.«01_k».proof.Proof.Gen.GateUpFwdRefIdeal.Read
public import Idealize.ShloMosaic.Lib.Pointwise
public import Idealize.ShloMosaic.Lib.Claim
public import Idealize.ShloMosaic.Lib.Quiescent

@[expose] public section

set_option maxRecDepth 16384

noncomputable section

namespace Cert.GateUpFwdIdeal.Body

open Cert.GateUpFwdIdeal.Gen
open Idealize.ShloMosaic Idealize.ShloMosaic.TcCoe Idealize.ShloMosaic.Tactic
open Idealize.SL Idealize.SL.Sem

variable (m : (ℓ : Loc nD τ sig) → Buf (Elt Ideal) ℓ)

/-! The reference's results are the same functions of the argument arrays. -/

theorem ref0 (c : Dev nD) : Cert.GateUpFwdRefIdeal.Read.val_main_v5 (F := Ideal) (V m c main_arg0) (V m c main_arg1) (V m c main_arg3) (V m c main_arg4) = res0 m c := by
  funext i
  obtain ⟨r, o, rfl⟩ : ∃ r o, i = ix2 r o := ⟨i 0, i 1, ixy i⟩
  pointwise [Cert.GateUpFwdRefIdeal.Read.val_main_v0, Cert.GateUpFwdRefIdeal.Read.val_main_v1, Cert.GateUpFwdRefIdeal.Read.val_main_v2, Cert.GateUpFwdRefIdeal.Read.val_main_cst, Cert.GateUpFwdRefIdeal.Read.val_main_v3, Cert.GateUpFwdRefIdeal.Read.val_main_v4, Cert.GateUpFwdRefIdeal.Read.val_main_v5, Cert.GateUpFwdRefIdeal.Read.val_main_v6, Cert.GateUpFwdRefIdeal.Read.val_main_v7, Cert.GateUpFwdRefIdeal.Read.val_main_v8, Cert.GateUpFwdRefIdeal.Read.val_main_cst_0, Cert.GateUpFwdRefIdeal.Read.val_main_v9, Cert.GateUpFwdRefIdeal.Read.val_main_v10, Cert.GateUpFwdRefIdeal.Read.val_main_v11, Cert.GateUpFwdRefIdeal.Read.val_main_v12, Cert.GateUpFwdRefIdeal.Read.val_main_v13, Cert.GateUpFwdRefIdeal.Read.val_main_v14, Cert.GateUpFwdRefIdeal.Read.val_main_v15, Cert.GateUpFwdRefIdeal.Read.val_main_v16, Cert.GateUpFwdRefIdeal.Read.val_main_v17, Cert.GateUpFwdRefIdeal.Read.val_main_cst_1, Cert.GateUpFwdRefIdeal.Read.val_main_v18, Cert.GateUpFwdRefIdeal.Read.val_main_v19, Cert.GateUpFwdRefIdeal.Read.val_main_cst_2, Cert.GateUpFwdRefIdeal.Read.val_main_v20, Cert.GateUpFwdRefIdeal.Read.val_main_v21, Cert.GateUpFwdRefIdeal.Read.val_main_v22, Cert.GateUpFwdRefIdeal.Read.val_main_v23, Cert.GateUpFwdRefIdeal.Read.val_main_v24, Cert.GateUpFwdRefIdeal.Read.val_main_v25, Cert.GateUpFwdRefIdeal.Read.val_main_v26]
  rfl

theorem ref1 (c : Dev nD) : Cert.GateUpFwdRefIdeal.Read.val_main_v11 (F := Ideal) (V m c main_arg0) (V m c main_arg2) (V m c main_arg3) (V m c main_arg5) = res1 m c := by
  funext i
  obtain ⟨r, o, rfl⟩ : ∃ r o, i = ix2 r o := ⟨i 0, i 1, ixy i⟩
  pointwise [Cert.GateUpFwdRefIdeal.Read.val_main_v0, Cert.GateUpFwdRefIdeal.Read.val_main_v1, Cert.GateUpFwdRefIdeal.Read.val_main_v2, Cert.GateUpFwdRefIdeal.Read.val_main_cst, Cert.GateUpFwdRefIdeal.Read.val_main_v3, Cert.GateUpFwdRefIdeal.Read.val_main_v4, Cert.GateUpFwdRefIdeal.Read.val_main_v5, Cert.GateUpFwdRefIdeal.Read.val_main_v6, Cert.GateUpFwdRefIdeal.Read.val_main_v7, Cert.GateUpFwdRefIdeal.Read.val_main_v8, Cert.GateUpFwdRefIdeal.Read.val_main_cst_0, Cert.GateUpFwdRefIdeal.Read.val_main_v9, Cert.GateUpFwdRefIdeal.Read.val_main_v10, Cert.GateUpFwdRefIdeal.Read.val_main_v11, Cert.GateUpFwdRefIdeal.Read.val_main_v12, Cert.GateUpFwdRefIdeal.Read.val_main_v13, Cert.GateUpFwdRefIdeal.Read.val_main_v14, Cert.GateUpFwdRefIdeal.Read.val_main_v15, Cert.GateUpFwdRefIdeal.Read.val_main_v16, Cert.GateUpFwdRefIdeal.Read.val_main_v17, Cert.GateUpFwdRefIdeal.Read.val_main_cst_1, Cert.GateUpFwdRefIdeal.Read.val_main_v18, Cert.GateUpFwdRefIdeal.Read.val_main_v19, Cert.GateUpFwdRefIdeal.Read.val_main_cst_2, Cert.GateUpFwdRefIdeal.Read.val_main_v20, Cert.GateUpFwdRefIdeal.Read.val_main_v21, Cert.GateUpFwdRefIdeal.Read.val_main_v22, Cert.GateUpFwdRefIdeal.Read.val_main_v23, Cert.GateUpFwdRefIdeal.Read.val_main_v24, Cert.GateUpFwdRefIdeal.Read.val_main_v25, Cert.GateUpFwdRefIdeal.Read.val_main_v26]
  rfl

theorem ref2 (c : Dev nD) : Cert.GateUpFwdRefIdeal.Read.val_main_v24 (F := Ideal) (V m c main_arg0) (V m c main_arg1) (V m c main_arg2) (V m c main_arg3) (V m c main_arg4) (V m c main_arg5) (V m c main_arg6) (V m c main_arg7) = res2 m c := by
  funext i
  obtain ⟨r, o, rfl⟩ : ∃ r o, i = ix2 r o := ⟨i 0, i 1, ixy i⟩
  pointwise [Cert.GateUpFwdRefIdeal.Read.val_main_v0, Cert.GateUpFwdRefIdeal.Read.val_main_v1, Cert.GateUpFwdRefIdeal.Read.val_main_v2, Cert.GateUpFwdRefIdeal.Read.val_main_cst, Cert.GateUpFwdRefIdeal.Read.val_main_v3, Cert.GateUpFwdRefIdeal.Read.val_main_v4, Cert.GateUpFwdRefIdeal.Read.val_main_v5, Cert.GateUpFwdRefIdeal.Read.val_main_v6, Cert.GateUpFwdRefIdeal.Read.val_main_v7, Cert.GateUpFwdRefIdeal.Read.val_main_v8, Cert.GateUpFwdRefIdeal.Read.val_main_cst_0, Cert.GateUpFwdRefIdeal.Read.val_main_v9, Cert.GateUpFwdRefIdeal.Read.val_main_v10, Cert.GateUpFwdRefIdeal.Read.val_main_v11, Cert.GateUpFwdRefIdeal.Read.val_main_v12, Cert.GateUpFwdRefIdeal.Read.val_main_v13, Cert.GateUpFwdRefIdeal.Read.val_main_v14, Cert.GateUpFwdRefIdeal.Read.val_main_v15, Cert.GateUpFwdRefIdeal.Read.val_main_v16, Cert.GateUpFwdRefIdeal.Read.val_main_v17, Cert.GateUpFwdRefIdeal.Read.val_main_cst_1, Cert.GateUpFwdRefIdeal.Read.val_main_v18, Cert.GateUpFwdRefIdeal.Read.val_main_v19, Cert.GateUpFwdRefIdeal.Read.val_main_cst_2, Cert.GateUpFwdRefIdeal.Read.val_main_v20, Cert.GateUpFwdRefIdeal.Read.val_main_v21, Cert.GateUpFwdRefIdeal.Read.val_main_v22, Cert.GateUpFwdRefIdeal.Read.val_main_v23, Cert.GateUpFwdRefIdeal.Read.val_main_v24, Cert.GateUpFwdRefIdeal.Read.val_main_v25, Cert.GateUpFwdRefIdeal.Read.val_main_v26]
  rfl

theorem ref3 (c : Dev nD) : Cert.GateUpFwdRefIdeal.Read.val_main_v26 (F := Ideal) (V m c main_arg0) (V m c main_arg1) (V m c main_arg2) (V m c main_arg3) (V m c main_arg4) (V m c main_arg5) (V m c main_arg6) (V m c main_arg7) (V m c main_arg8) = res3 m c := by
  funext i
  obtain ⟨r, o, rfl⟩ : ∃ r o, i = ix2 r o := ⟨i 0, i 1, ixy i⟩
  pointwise [Cert.GateUpFwdRefIdeal.Read.val_main_v0, Cert.GateUpFwdRefIdeal.Read.val_main_v1, Cert.GateUpFwdRefIdeal.Read.val_main_v2, Cert.GateUpFwdRefIdeal.Read.val_main_cst, Cert.GateUpFwdRefIdeal.Read.val_main_v3, Cert.GateUpFwdRefIdeal.Read.val_main_v4, Cert.GateUpFwdRefIdeal.Read.val_main_v5, Cert.GateUpFwdRefIdeal.Read.val_main_v6, Cert.GateUpFwdRefIdeal.Read.val_main_v7, Cert.GateUpFwdRefIdeal.Read.val_main_v8, Cert.GateUpFwdRefIdeal.Read.val_main_cst_0, Cert.GateUpFwdRefIdeal.Read.val_main_v9, Cert.GateUpFwdRefIdeal.Read.val_main_v10, Cert.GateUpFwdRefIdeal.Read.val_main_v11, Cert.GateUpFwdRefIdeal.Read.val_main_v12, Cert.GateUpFwdRefIdeal.Read.val_main_v13, Cert.GateUpFwdRefIdeal.Read.val_main_v14, Cert.GateUpFwdRefIdeal.Read.val_main_v15, Cert.GateUpFwdRefIdeal.Read.val_main_v16, Cert.GateUpFwdRefIdeal.Read.val_main_v17, Cert.GateUpFwdRefIdeal.Read.val_main_cst_1, Cert.GateUpFwdRefIdeal.Read.val_main_v18, Cert.GateUpFwdRefIdeal.Read.val_main_v19, Cert.GateUpFwdRefIdeal.Read.val_main_cst_2, Cert.GateUpFwdRefIdeal.Read.val_main_v20, Cert.GateUpFwdRefIdeal.Read.val_main_v21, Cert.GateUpFwdRefIdeal.Read.val_main_v22, Cert.GateUpFwdRefIdeal.Read.val_main_v23, Cert.GateUpFwdRefIdeal.Read.val_main_v24, Cert.GateUpFwdRefIdeal.Read.val_main_v25, Cert.GateUpFwdRefIdeal.Read.val_main_v26]
  rfl

/-- The reference's frame: a straight line of host operations on its arguments, with no semaphore. -/
theorem frameRef : Cert.quiescent_GateUpFwdRefIdeal (hGateUpFwdRefIdeal := Cert.GateUpFwdRefIdeal.Gen.facts) := fun m ρ _ =>
  (θ_run Cert.GateUpFwdRefIdeal.defs _ _).mono (fun r h => ⟨fun c => (h c).2.2.2.2, sem_eq_zero_of_no_sems (by decide) r.2⟩)
    (Cert.GateUpFwdRefIdeal.Value.run (F := Ideal) m ρ)

/-- The algebraic claim: over the extended reals the kernel and the reference end with equal results. -/
theorem algebraic : Cert.algebraic_GateUpFwdIdeal_GateUpFwdRefIdeal (hGateUpFwdIdeal := Cert.GateUpFwdIdeal.Gen.facts)
    (hGateUpFwdRefIdeal := Cert.GateUpFwdRefIdeal.Gen.facts) := by
  intro m g m' g' _ hargs
  refine ⟨res0 m, res1 m, res2 m, res3 m, ?_, ?_⟩
  · refine (θ_run (defs (F := Ideal)) _ _).mono (fun r h c => ?_) (θ_run_and (run m g) (frame m g))
    exact ⟨(h.1.out_eq c 9).trans (final9 m c), (h.1.out_eq c 10).trans (final10 m c), (h.1.out_eq c 11).trans (final11 m c), (h.1.out_eq c 12).trans (final12 m c), h.2.1 c⟩
  · refine (θ_run (Cert.GateUpFwdRefIdeal.defs (F := Ideal)) _ _).mono (fun r h c => ?_) (Cert.GateUpFwdRefIdeal.Value.run (F := Ideal) m' g')
    obtain ⟨h0, h1, h2, h3, ha⟩ := h c
    obtain ⟨a0, a1, a2, a3, a4, a5, a6, a7, a8⟩ := hargs c
    rw [a0, a1, a3, a4] at h0
    rw [a0, a2, a3, a5] at h1
    rw [a0, a1, a2, a3, a4, a5, a6, a7] at h2
    rw [a0, a1, a2, a3, a4, a5, a6, a7, a8] at h3
    exact ⟨h0.trans (ref0 m c), h1.trans (ref1 m c), h2.trans (ref2 m c), h3.trans (ref3 m c), ha⟩

end Cert.GateUpFwdIdeal.Body

end
-- ==== Proof.DownBwd.Kit.lean ====
module

public import proofs.«01_k».proof.Proof.Gen.DownBwdIdeal.Frame
public import proofs.«01_k».proof.Proof.Gen.DownBwdIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownBwdIdeal.Body

open Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, as the grid coordinates give it. -/
abbrev cond (i : grid0.Coords) : Prop := k0_cond1 i = 1#1

/-- The branch is taken at the last point only. -/
theorem hcond : ∀ t : Fin cfg0.N, cond (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond, k0_cond1, e0]
    word_cmp
   : ∀ t : Fin grid0.N, cond (grid0.coords t) ↔ t.val % 14 = 13)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl
theorem live13 : ∀ t : Fin cfg0.N, cfg0.idle 13 (grid0.coords t) = false := fun _ => rfl
theorem live14 : ∀ t : Fin cfg0.N, cfg0.idle 14 (grid0.coords t) = false := fun _ => rfl
theorem live15 : ∀ t : Fin cfg0.N, cfg0.idle 15 (grid0.coords t) = false := fun _ => rfl
theorem live16 : ∀ t : Fin cfg0.N, cfg0.idle 16 (grid0.coords t) = false := fun _ => rfl
theorem live17 : ∀ t : Fin cfg0.N, cfg0.idle 17 (grid0.coords t) = false := fun _ => rfl
theorem live18 : ∀ t : Fin cfg0.N, cfg0.idle 18 (grid0.coords t) = false := fun _ => rfl
theorem live19 : ∀ t : Fin cfg0.N, cfg0.idle 19 (grid0.coords t) = false := fun _ => rfl
theorem live20 : ∀ t : Fin cfg0.N, cfg0.idle 20 (grid0.coords t) = false := fun _ => rfl

/-- Output window 21 is idle, and not written back, before the last point; at the last point it is stored. -/
theorem idle21 : ∀ t : Fin cfg0.N, ¬cond (grid0.coords t) → cfg0.idle 21 (grid0.coords t) = true := by decide +kernel
theorem noFlush21 : ∀ t : Fin cfg0.N, ¬cond (grid0.coords t) → (cfg0.win 21).flush t = false := by decide +kernel
theorem live21 : ∀ t : Fin cfg0.N, cond (grid0.coords t) → cfg0.idle 21 (grid0.coords t) = false := by decide +kernel

/-! The staging memrefs of a point, the buffers through which what an output holds is stated, the scratch. -/

abbrev VO14 : View sig .tc .vmem S2048x256 .bf16 := (Memref.whole cc0_stg14_0 : Memref sig .tc .vmem S2048x256 .bf16).view
abbrev VO15 : View sig .tc .vmem S2048x256 .bf16 := (Memref.whole cc0_stg15_0 : Memref sig .tc .vmem S2048x256 .bf16).view
abbrev VO16 : View sig .tc .vmem S64x256 .f32 := (Memref.whole cc0_stg16_0 : Memref sig .tc .vmem S64x256 .f32).view
abbrev VO17 : View sig .tc .vmem S1x256 .f32 := (Memref.whole cc0_stg17_0 : Memref sig .tc .vmem S1x256 .f32).view
abbrev VO18 : View sig .tc .vmem S1x256 .f32 := (Memref.whole cc0_stg18_0 : Memref sig .tc .vmem S1x256 .f32).view
abbrev VO19 : View sig .tc .vmem S256x64 .f32 := (Memref.whole cc0_stg19_0 : Memref sig .tc .vmem S256x64 .f32).view
abbrev VO20 : View sig .tc .vmem S256x64 .f32 := (Memref.whole cc0_stg20_0 : Memref sig .tc .vmem S256x64 .f32).view
abbrev VO21 : View sig .tc .vmem S2048x128 .bf16 := (Memref.whole cc0_stg21_0 : Memref sig .tc .vmem S2048x128 .bf16).view
abbrev ms0 (t : Fin cfg0.N) : Memref sig .tc .vmem S2048x8192 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x64 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x64 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S2048x256 .bf16 := win0_14.stage (cfg0.slots t 14)
abbrev hs14 (t : Fin cfg0.N) : (ms14 t).IsWhole := hstage0_14 ((cfg0.slots t 14).cast nbuf0_14)
abbrev ms15 (t : Fin cfg0.N) : Memref sig .tc .vmem S2048x256 .bf16 := win0_15.stage (cfg0.slots t 15)
abbrev hs15 (t : Fin cfg0.N) : (ms15 t).IsWhole := hstage0_15 ((cfg0.slots t 15).cast nbuf0_15)
abbrev ms16 (t : Fin cfg0.N) : Memref sig .tc .vmem S64x256 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x256 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x256 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S256x64 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S256x64 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S2048x128 .bf16 := win0_21.stage (cfg0.slots t 21)
abbrev hs21 (t : Fin cfg0.N) : (ms21 t).IsWhole := hstage0_21 ((cfg0.slots t 21).cast nbuf0_21)
abbrev scM0 : Memref sig .tc .vmem S2048x128 .f32 := Memref.whole cc0_scratch0
abbrev VS0 : View sig .tc .vmem S2048x128 .f32 := scM0.view

/-- The invariant a region starts and ends with, its scratch as memrefs owned at some contents. -/
theorem PhiA_eq (c : Dev nD) :
    (Pipeline.ΦA spec0 c : sProp 𝕄) = iprop(iprop((∃ d, owns (c : Thread nD τ) scM0 fullShare d)) ∗ (∃ r, prngReg c r)) := by
  unfold Pipeline.ΦA; rw [scopedRest0_eq]; simp only [scM0, owns_whole]; try rfl

end Cert.DownBwdIdeal.Body

end
-- ==== Proof.DownBwd.Mid.lean ====
module

public import proofs.«01_k».proof.Proof.DownBwd.Kit

@[expose] public section

set_option maxRecDepth 16384

noncomputable section

namespace Cert.DownBwdIdeal.Body

open Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x8192 .bf16) (harg1 : arg1.IsWhole) (arg2 : Memref sig .tc .vmem S8192x256 .bf16) (harg2 : arg2.IsWhole) (arg3 : Memref sig .tc .vmem S2048x64 .bf16) (harg3 : arg3.IsWhole) (arg4 : Memref sig .tc .vmem S64x256 .bf16) (harg4 : arg4.IsWhole) (arg5 : Memref sig .tc .vmem S2048x256 .bf16) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x128 .bf16) (harg8 : arg8.IsWhole) (arg9 : Memref sig .tc .vmem S256x64 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S64x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x64 .f32) (harg20 : arg20.IsWhole) (arg21 : Memref sig .tc .vmem S256x64 .f32) (harg21 : arg21.IsWhole) (arg22 : Memref sig .tc .vmem S2048x128 .bf16) (harg22 : arg22.IsWhole) (arg23 : Memref sig .tc .vmem S2048x128 .f32) (harg23 : arg23.IsWhole)

set_option maxHeartbeats 4000000 in
/-- The body before the last point, on whole staging memrefs: the inputs at their contents, the carried scratch at any contents, an
    output at any contents. It runs to its continuation with the inputs as they were, every buffer it stores into holding
    the pieces listed (the witnesses the run finds, last store first), and an output it does not touch handed back. -/
def runMid (hc : ¬cond i) (x0 : Vec F S2048x8192 .bf16) (x1 : Vec F S8192x256 .bf16) (x2 : Vec F S2048x64 .bf16) (x3 : Vec F S64x256 .bf16) (x4 : Vec F S2048x256 .bf16) (x5 : Vec F S2048x256 .f32) (x6 : Vec F S2048x256 .f32) (x7 : Vec F S2048x128 .bf16) (x8 : Vec F S256x64 .bf16) (x9 : Vec F S256x64 .bf16) (x10 : Vec F S1x256 .f32) (x11 : Vec F S1x256 .f32) (x12 : Vec F S1x256 .f32) (x13 : Vec F S1x256 .f32) (xs0 : Vec F S2048x128 .f32) :
    Σ' (L14 : List (View.Piece (Elt F) S2048x256 .bf16)), Σ' (L15 : List (View.Piece (Elt F) S2048x256 .bf16)), Σ' (L16 : List (View.Piece (Elt F) S64x256 .f32)), Σ' (L17 : List (View.Piece (Elt F) S1x256 .f32)), Σ' (L18 : List (View.Piece (Elt F) S1x256 .f32)), Σ' (L19 : List (View.Piece (Elt F) S256x64 .f32)), Σ' (L20 : List (View.Piece (Elt F) S256x64 .f32)), { LS0 : List (View.Piece (Elt F) S2048x128 .f32) //
      ∀ (xi21 : Vec F S2048x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xi21 ∗ owns (c : Thread nD τ) arg23 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ owns (c : Thread nD τ) arg22 fullShare xi21 ∗ (∃ f, arg23.view.loc (c : Thread nD τ) ↦[arg23.view.set]{fullShare} arg23.view.writes (Elt F) f LS0)) -∗ K ⟨⟩))
          ⊢ wp frame (wpE (defs₀ (F := F)) Variants.none c none) E (cc0_down_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, fun xi21 E K => ?run⟩
  case run =>
    simp only [cc0_down_bwd_eq_skeleton]; unfold cc0_down_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg22.eq_unread hf21; obtain rfl := harg23.eq_unread hfs0
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    isplitl [H21]
    · iexists _; isplitr; · ipureintro; exact harg22.read_unread _
      iexact H21
    iexists _; iexact HS0

end Cert.DownBwdIdeal.Body

end
-- ==== Proof.DownBwd.Last.lean ====
module

public import proofs.«01_k».proof.Proof.DownBwd.Mid

@[expose] public section

set_option maxRecDepth 16384

noncomputable section

namespace Cert.DownBwdIdeal.Body

open Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x8192 .bf16) (harg1 : arg1.IsWhole) (arg2 : Memref sig .tc .vmem S8192x256 .bf16) (harg2 : arg2.IsWhole) (arg3 : Memref sig .tc .vmem S2048x64 .bf16) (harg3 : arg3.IsWhole) (arg4 : Memref sig .tc .vmem S64x256 .bf16) (harg4 : arg4.IsWhole) (arg5 : Memref sig .tc .vmem S2048x256 .bf16) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x128 .bf16) (harg8 : arg8.IsWhole) (arg9 : Memref sig .tc .vmem S256x64 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S64x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x64 .f32) (harg20 : arg20.IsWhole) (arg21 : Memref sig .tc .vmem S256x64 .f32) (harg21 : arg21.IsWhole) (arg22 : Memref sig .tc .vmem S2048x128 .bf16) (harg22 : arg22.IsWhole) (arg23 : Memref sig .tc .vmem S2048x128 .f32) (harg23 : arg23.IsWhole)

set_option maxHeartbeats 4000000 in
/-- The body at the last point, on whole staging memrefs: the inputs at their contents, the carried scratch at any contents, an
    output at any contents. It runs to its continuation with the inputs as they were, every buffer it stores into holding
    the pieces listed (the witnesses the run finds, last store first), and an output it does not touch handed back. -/
def runLast (hc : cond i) (x0 : Vec F S2048x8192 .bf16) (x1 : Vec F S8192x256 .bf16) (x2 : Vec F S2048x64 .bf16) (x3 : Vec F S64x256 .bf16) (x4 : Vec F S2048x256 .bf16) (x5 : Vec F S2048x256 .f32) (x6 : Vec F S2048x256 .f32) (x7 : Vec F S2048x128 .bf16) (x8 : Vec F S256x64 .bf16) (x9 : Vec F S256x64 .bf16) (x10 : Vec F S1x256 .f32) (x11 : Vec F S1x256 .f32) (x12 : Vec F S1x256 .f32) (x13 : Vec F S1x256 .f32) (xs0 : Vec F S2048x128 .f32) :
    Σ' (L14 : List (View.Piece (Elt F) S2048x256 .bf16)), Σ' (L15 : List (View.Piece (Elt F) S2048x256 .bf16)), Σ' (L16 : List (View.Piece (Elt F) S64x256 .f32)), Σ' (L17 : List (View.Piece (Elt F) S1x256 .f32)), Σ' (L18 : List (View.Piece (Elt F) S1x256 .f32)), Σ' (L19 : List (View.Piece (Elt F) S256x64 .f32)), Σ' (L20 : List (View.Piece (Elt F) S256x64 .f32)), Σ' (L21 : List (View.Piece (Elt F) S2048x128 .bf16)), { LS0 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LS0)) -∗ K ⟨⟩))
          ⊢ wp frame (wpE (defs₀ (F := F)) Variants.none c none) E (cc0_down_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_down_bwd_eq_skeleton]; unfold cc0_down_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg23.eq_unread hfs0
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    isplitl [H21]
    · iexists _; iexact H21
    iexists _; iexact HS0

end Cert.DownBwdIdeal.Body

end
-- ==== Proof.DownBwd.Track.lean ====
module

public import proofs.«01_k».proof.Proof.DownBwd.Last
public import Idealize.ShloMosaic.Lib.Claim

@[expose] public section

set_option maxRecDepth 16384

noncomputable section

namespace Cert.DownBwdIdeal.Body

open Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The ordinary run at point `t`'s own staging memrefs and input blocks, the scratch starting at the contents given. -/
abbrev midAt (c : Dev nD) (t : Fin cfg0.N) (h : ¬cond (grid0.coords t)) (xs0 : Vec F S2048x128 .f32) :=
  runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) scM0 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0

theorem mid_cover_14 (c : Dev nD) (t : Fin cfg0.N) (h : ¬cond (grid0.coords t)) (xs0 : Vec F S2048x128 .f32) :
    ∀ y : S2048x256.Idx, ∃ p ∈ (midAt m c t h xs0).1, y ∈ p.1.set := fun y =>
  View.cover_of_tiledL (midAt m c t h xs0).1 S512x256.size (by sl_kernel_rfl) y
def mid_14 (c : Dev nD) (t : Fin cfg0.N) (h : ¬cond (grid0.coords t)) (xs0 : Vec F S2048x128 .f32) : Vec F S2048x256 .bf16 :=
  VO14.read (Elt F) (VO14.writes (Elt F) VO14.junk (midAt m c t h xs0).1)
theorem mid_cover_15 (c : Dev nD) (t : Fin cfg0.N) (h : ¬cond (grid0.coords t)) (xs0 : Vec F S2048x128 .f32) :
    ∀ y : S2048x256.Idx, ∃ p ∈ (midAt m c t h xs0).2.1, y ∈ p.1.set := fun y =>
  View.cover_of_tiledL (midAt m c t h xs0).2.1 S512x256.size (by sl_kernel_rfl) y
def mid_15 (c : Dev nD) (t : Fin cfg0.N) (h : ¬cond (grid0.coords t)) (xs0 : Vec F S2048x128 .f32) : Vec F S2048x256 .bf16 :=
  VO15.read (Elt F) (VO15.writes (Elt F) VO15.junk (midAt m c t h xs0).2.1)
theorem mid_cover_16 (c : Dev nD) (t : Fin cfg0.N) (h : ¬cond (grid0.coords t)) (xs0 : Vec F S2048x128 .f32) :
    ∀ y : S64x256.Idx, ∃ p ∈ (midAt m c t h xs0).2.2.1, y ∈ p.1.set := fun y =>
  View.cover_of_wholeMem (midAt m c t h xs0).2.2.1 (by sl_whole_mem) y
def mid_16 (c : Dev nD) (t : Fin cfg0.N) (h : ¬cond (grid0.coords t)) (xs0 : Vec F S2048x128 .f32) : Vec F S64x256 .f32 :=
  VO16.read (Elt F) (VO16.writes (Elt F) VO16.junk (midAt m c t h xs0).2.2.1)
theorem mid_cover_17 (c : Dev nD) (t : Fin cfg0.N) (h : ¬cond (grid0.coords t)) (xs0 : Vec F S2048x128 .f32) :
    ∀ y : S1x256.Idx, ∃ p ∈ (midAt m c t h xs0).2.2.2.1, y ∈ p.1.set := fun y =>
  View.cover_of_wholeMem (midAt m c t h xs0).2.2.2.1 (by sl_whole_mem) y
def mid_17 (c : Dev nD) (t : Fin cfg0.N) (h : ¬cond (grid0.coords t)) (xs0 : Vec F S2048x128 .f32) : Vec F S1x256 .f32 :=
  VO17.read (Elt F) (VO17.writes (Elt F) VO17.junk (midAt m c t h xs0).2.2.2.1)
theorem mid_cover_18 (c : Dev nD) (t : Fin cfg0.N) (h : ¬cond (grid0.coords t)) (xs0 : Vec F S2048x128 .f32) :
    ∀ y : S1x256.Idx, ∃ p ∈ (midAt m c t h xs0).2.2.2.2.1, y ∈ p.1.set := fun y =>
  View.cover_of_wholeMem (midAt m c t h xs0).2.2.2.2.1 (by sl_whole_mem) y
def mid_18 (c : Dev nD) (t : Fin cfg0.N) (h : ¬cond (grid0.coords t)) (xs0 : Vec F S2048x128 .f32) : Vec F S1x256 .f32 :=
  VO18.read (Elt F) (VO18.writes (Elt F) VO18.junk (midAt m c t h xs0).2.2.2.2.1)
theorem mid_cover_19 (c : Dev nD) (t : Fin cfg0.N) (h : ¬cond (grid0.coords t)) (xs0 : Vec F S2048x128 .f32) :
    ∀ y : S256x64.Idx, ∃ p ∈ (midAt m c t h xs0).2.2.2.2.2.1, y ∈ p.1.set := fun y =>
  View.cover_of_wholeMem (midAt m c t h xs0).2.2.2.2.2.1 (by sl_whole_mem) y
def mid_19 (c : Dev nD) (t : Fin cfg0.N) (h : ¬cond (grid0.coords t)) (xs0 : Vec F S2048x128 .f32) : Vec F S256x64 .f32 :=
  VO19.read (Elt F) (VO19.writes (Elt F) VO19.junk (midAt m c t h xs0).2.2.2.2.2.1)
theorem mid_cover_20 (c : Dev nD) (t : Fin cfg0.N) (h : ¬cond (grid0.coords t)) (xs0 : Vec F S2048x128 .f32) :
    ∀ y : S256x64.Idx, ∃ p ∈ (midAt m c t h xs0).2.2.2.2.2.2.1, y ∈ p.1.set := fun y =>
  View.cover_of_wholeMem (midAt m c t h xs0).2.2.2.2.2.2.1 (by sl_whole_mem) y
def mid_20 (c : Dev nD) (t : Fin cfg0.N) (h : ¬cond (grid0.coords t)) (xs0 : Vec F S2048x128 .f32) : Vec F S256x64 .f32 :=
  VO20.read (Elt F) (VO20.writes (Elt F) VO20.junk (midAt m c t h xs0).2.2.2.2.2.2.1)
theorem mid_cover_s0 (c : Dev nD) (t : Fin cfg0.N) (h : ¬cond (grid0.coords t)) (xs0 : Vec F S2048x128 .f32) :
    ∀ y : S2048x128.Idx, ∃ p ∈ (midAt m c t h xs0).2.2.2.2.2.2.2.1, y ∈ p.1.set := fun y =>
  View.cover_of_tiledL (midAt m c t h xs0).2.2.2.2.2.2.2.1 S512x128.size (by sl_kernel_rfl) y
def mid_s0 (c : Dev nD) (t : Fin cfg0.N) (h : ¬cond (grid0.coords t)) (xs0 : Vec F S2048x128 .f32) : Vec F S2048x128 .f32 :=
  VS0.read (Elt F) (VS0.writes (Elt F) VS0.junk (midAt m c t h xs0).2.2.2.2.2.2.2.1)
/-- The last run at point `t`'s own staging memrefs and input blocks, the scratch starting at the contents given. -/
abbrev lastAt (c : Dev nD) (t : Fin cfg0.N) (h : cond (grid0.coords t)) (xs0 : Vec F S2048x128 .f32) :=
  runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) scM0 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0

theorem last_cover_14 (c : Dev nD) (t : Fin cfg0.N) (h : cond (grid0.coords t)) (xs0 : Vec F S2048x128 .f32) :
    ∀ y : S2048x256.Idx, ∃ p ∈ (lastAt m c t h xs0).1, y ∈ p.1.set := fun y =>
  View.cover_of_tiledL (lastAt m c t h xs0).1 S512x256.size (by sl_kernel_rfl) y
def last_14 (c : Dev nD) (t : Fin cfg0.N) (h : cond (grid0.coords t)) (xs0 : Vec F S2048x128 .f32) : Vec F S2048x256 .bf16 :=
  VO14.read (Elt F) (VO14.writes (Elt F) VO14.junk (lastAt m c t h xs0).1)
theorem last_cover_15 (c : Dev nD) (t : Fin cfg0.N) (h : cond (grid0.coords t)) (xs0 : Vec F S2048x128 .f32) :
    ∀ y : S2048x256.Idx, ∃ p ∈ (lastAt m c t h xs0).2.1, y ∈ p.1.set := fun y =>
  View.cover_of_tiledL (lastAt m c t h xs0).2.1 S512x256.size (by sl_kernel_rfl) y
def last_15 (c : Dev nD) (t : Fin cfg0.N) (h : cond (grid0.coords t)) (xs0 : Vec F S2048x128 .f32) : Vec F S2048x256 .bf16 :=
  VO15.read (Elt F) (VO15.writes (Elt F) VO15.junk (lastAt m c t h xs0).2.1)
theorem last_cover_16 (c : Dev nD) (t : Fin cfg0.N) (h : cond (grid0.coords t)) (xs0 : Vec F S2048x128 .f32) :
    ∀ y : S64x256.Idx, ∃ p ∈ (lastAt m c t h xs0).2.2.1, y ∈ p.1.set := fun y =>
  View.cover_of_wholeMem (lastAt m c t h xs0).2.2.1 (by sl_whole_mem) y
def last_16 (c : Dev nD) (t : Fin cfg0.N) (h : cond (grid0.coords t)) (xs0 : Vec F S2048x128 .f32) : Vec F S64x256 .f32 :=
  VO16.read (Elt F) (VO16.writes (Elt F) VO16.junk (lastAt m c t h xs0).2.2.1)
theorem last_cover_17 (c : Dev nD) (t : Fin cfg0.N) (h : cond (grid0.coords t)) (xs0 : Vec F S2048x128 .f32) :
    ∀ y : S1x256.Idx, ∃ p ∈ (lastAt m c t h xs0).2.2.2.1, y ∈ p.1.set := fun y =>
  View.cover_of_wholeMem (lastAt m c t h xs0).2.2.2.1 (by sl_whole_mem) y
def last_17 (c : Dev nD) (t : Fin cfg0.N) (h : cond (grid0.coords t)) (xs0 : Vec F S2048x128 .f32) : Vec F S1x256 .f32 :=
  VO17.read (Elt F) (VO17.writes (Elt F) VO17.junk (lastAt m c t h xs0).2.2.2.1)
theorem last_cover_18 (c : Dev nD) (t : Fin cfg0.N) (h : cond (grid0.coords t)) (xs0 : Vec F S2048x128 .f32) :
    ∀ y : S1x256.Idx, ∃ p ∈ (lastAt m c t h xs0).2.2.2.2.1, y ∈ p.1.set := fun y =>
  View.cover_of_wholeMem (lastAt m c t h xs0).2.2.2.2.1 (by sl_whole_mem) y
def last_18 (c : Dev nD) (t : Fin cfg0.N) (h : cond (grid0.coords t)) (xs0 : Vec F S2048x128 .f32) : Vec F S1x256 .f32 :=
  VO18.read (Elt F) (VO18.writes (Elt F) VO18.junk (lastAt m c t h xs0).2.2.2.2.1)
theorem last_cover_19 (c : Dev nD) (t : Fin cfg0.N) (h : cond (grid0.coords t)) (xs0 : Vec F S2048x128 .f32) :
    ∀ y : S256x64.Idx, ∃ p ∈ (lastAt m c t h xs0).2.2.2.2.2.1, y ∈ p.1.set := fun y =>
  View.cover_of_wholeMem (lastAt m c t h xs0).2.2.2.2.2.1 (by sl_whole_mem) y
def last_19 (c : Dev nD) (t : Fin cfg0.N) (h : cond (grid0.coords t)) (xs0 : Vec F S2048x128 .f32) : Vec F S256x64 .f32 :=
  VO19.read (Elt F) (VO19.writes (Elt F) VO19.junk (lastAt m c t h xs0).2.2.2.2.2.1)
theorem last_cover_20 (c : Dev nD) (t : Fin cfg0.N) (h : cond (grid0.coords t)) (xs0 : Vec F S2048x128 .f32) :
    ∀ y : S256x64.Idx, ∃ p ∈ (lastAt m c t h xs0).2.2.2.2.2.2.1, y ∈ p.1.set := fun y =>
  View.cover_of_wholeMem (lastAt m c t h xs0).2.2.2.2.2.2.1 (by sl_whole_mem) y
def last_20 (c : Dev nD) (t : Fin cfg0.N) (h : cond (grid0.coords t)) (xs0 : Vec F S2048x128 .f32) : Vec F S256x64 .f32 :=
  VO20.read (Elt F) (VO20.writes (Elt F) VO20.junk (lastAt m c t h xs0).2.2.2.2.2.2.1)
theorem last_cover_21 (c : Dev nD) (t : Fin cfg0.N) (h : cond (grid0.coords t)) (xs0 : Vec F S2048x128 .f32) :
    ∀ y : S2048x128.Idx, ∃ p ∈ (lastAt m c t h xs0).2.2.2.2.2.2.2.1, y ∈ p.1.set := fun y =>
  View.cover_of_wholeMem (lastAt m c t h xs0).2.2.2.2.2.2.2.1 (by sl_whole_mem) y
def last_21 (c : Dev nD) (t : Fin cfg0.N) (h : cond (grid0.coords t)) (xs0 : Vec F S2048x128 .f32) : Vec F S2048x128 .bf16 :=
  VO21.read (Elt F) (VO21.writes (Elt F) VO21.junk (lastAt m c t h xs0).2.2.2.2.2.2.2.1)
theorem last_cover_s0 (c : Dev nD) (t : Fin cfg0.N) (h : cond (grid0.coords t)) (xs0 : Vec F S2048x128 .f32) :
    ∀ y : S2048x128.Idx, ∃ p ∈ (lastAt m c t h xs0).2.2.2.2.2.2.2.2.1, y ∈ p.1.set := fun y =>
  View.cover_of_tiledL (lastAt m c t h xs0).2.2.2.2.2.2.2.2.1 S512x128.size (by sl_kernel_rfl) y
def last_s0 (c : Dev nD) (t : Fin cfg0.N) (h : cond (grid0.coords t)) (xs0 : Vec F S2048x128 .f32) : Vec F S2048x128 .f32 :=
  VS0.read (Elt F) (VS0.writes (Elt F) VS0.junk (lastAt m c t h xs0).2.2.2.2.2.2.2.2.1)

/-- What one point leaves: the output blocks, then the scratch, from the scratch it starts with. -/
def step (c : Dev nD) (t : Fin cfg0.N) (xs0 : Vec F S2048x128 .f32) : Vec F S2048x256 .bf16 × Vec F S2048x256 .bf16 × Vec F S64x256 .f32 × Vec F S1x256 .f32 × Vec F S1x256 .f32 × Vec F S256x64 .f32 × Vec F S256x64 .f32 × Vec F S2048x128 .bf16 × Vec F S2048x128 .f32 :=
  if h : cond (grid0.coords t) then
    (last_14 m c t h xs0, last_15 m c t h xs0, last_16 m c t h xs0, last_17 m c t h xs0, last_18 m c t h xs0, last_19 m c t h xs0, last_20 m c t h xs0, last_21 m c t h xs0, last_s0 m c t h xs0)
  else
    (mid_14 m c t h xs0, mid_15 m c t h xs0, mid_16 m c t h xs0, mid_17 m c t h xs0, mid_18 m c t h xs0, mid_19 m c t h xs0, mid_20 m c t h xs0, VO21.read (Elt F) VO21.junk, mid_s0 m c t h xs0)

theorem step_last (c : Dev nD) (t : Fin cfg0.N) (h : cond (grid0.coords t)) (xs0 : Vec F S2048x128 .f32) :
    step m c t xs0 = (last_14 m c t h xs0, last_15 m c t h xs0, last_16 m c t h xs0, last_17 m c t h xs0, last_18 m c t h xs0, last_19 m c t h xs0, last_20 m c t h xs0, last_21 m c t h xs0, last_s0 m c t h xs0) := dif_pos h
theorem step_mid (c : Dev nD) (t : Fin cfg0.N) (h : ¬cond (grid0.coords t)) (xs0 : Vec F S2048x128 .f32) :
    step m c t xs0 = (mid_14 m c t h xs0, mid_15 m c t h xs0, mid_16 m c t h xs0, mid_17 m c t h xs0, mid_18 m c t h xs0, mid_19 m c t h xs0, mid_20 m c t h xs0, VO21.read (Elt F) VO21.junk, mid_s0 m c t h xs0) := dif_neg h

/-! At the first point the scratch is stored without being looked at. -/

theorem pay14_first (v46 : Vec F S512x256 .bf16) (v48 : Vec F S256x64 .bf16) (v50 : Vec F S512x256 .bf16) (v52 : Vec F S256x64 .bf16) (x y : Vec F S512x128 .f32) :
    k0_pay14 0#32 v46 v48 v50 v52 x = k0_pay14 0#32 v46 v48 v50 v52 y := rfl
theorem pay24_first (v106 : Vec F S512x256 .bf16) (v108 : Vec F S256x64 .bf16) (v110 : Vec F S512x256 .bf16) (v112 : Vec F S256x64 .bf16) (x y : Vec F S512x128 .f32) :
    k0_pay24 0#32 v106 v108 v110 v112 x = k0_pay24 0#32 v106 v108 v110 v112 y := rfl
theorem pay34_first (v166 : Vec F S512x256 .bf16) (v168 : Vec F S256x64 .bf16) (v170 : Vec F S512x256 .bf16) (v172 : Vec F S256x64 .bf16) (x y : Vec F S512x128 .f32) :
    k0_pay34 0#32 v166 v168 v170 v172 x = k0_pay34 0#32 v166 v168 v170 v172 y := rfl
theorem pay46_first (v229 : FVec F S512x64 .f32) (v231 : FVec F S512x256 .bf16) (v232 : Vec F S256x64 .bf16) (x y : Vec F S512x128 .f32) :
    k0_pay46 0#32 v229 v231 v232 x = k0_pay46 0#32 v229 v231 v232 y := rfl

theorem mid_s0_first (c : Dev nD) (t : Fin cfg0.N) (h : ¬cond (grid0.coords t)) (h0 : t.val = 0) (xs ys : Vec F S2048x128 .f32) :
    mid_s0 m c t h xs = mid_s0 m c t h ys := by
  have e0 : (grid0.coords t 0).val = 0 := by
    rw [show (grid0.coords t 0).val = t.val / 1 % 14 from Pipeline.Grid.coords_val t 0 (by decide) rfl, h0]
  have ew : BitVec.ofNat 32 (grid0.coords t 0).val = 0#32 := by rw [e0]
  unfold mid_s0
  refine congrArg (fun L => VS0.read (Elt F) (VS0.writes (Elt F) VS0.junk L)) ?_
  unfold midAt runMid
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  · rw [ew]; exact pay46_first _ _ _ _ _
  · rw [ew]; exact pay34_first _ _ _ _ _ _
  · rw [ew]; exact pay24_first _ _ _ _ _ _
  · rw [ew]; exact pay14_first _ _ _ _ _ _

theorem step_first (c : Dev nD) (t : Fin cfg0.N) (h0 : t.val = 0) (xs ys : Vec F S2048x128 .f32) :
    step m c t xs = step m c t ys := by
  have h : ¬cond (grid0.coords t) := fun h => by have := (hcond t).mp h; omega
  rw [step_mid m c t h, step_mid m c t h, mid_s0_first m c t h h0 xs ys]
  rfl

/-- What every point leaves, point by point: the first point starts from a scratch nobody reads. -/
def outs (c : Dev nD) : (n : ℕ) → n < cfg0.N → Vec F S2048x256 .bf16 × Vec F S2048x256 .bf16 × Vec F S64x256 .f32 × Vec F S1x256 .f32 × Vec F S1x256 .f32 × Vec F S256x64 .f32 × Vec F S256x64 .f32 × Vec F S2048x128 .bf16 × Vec F S2048x128 .f32
  | 0, h => step m c ⟨0, h⟩ (VS0.read (Elt F) VS0.junk)
  | n + 1, h => step m c ⟨n + 1, h⟩ (outs c n (Nat.lt_of_succ_lt h)).2.2.2.2.2.2.2.2

/-- A point's step from what the scratch holds there, whichever point it is. -/
theorem outs_eq (c : Dev nD) (t : Fin cfg0.N) (xs0 : Vec F S2048x128 .f32) (hx0 : ∀ h : t.val ≠ 0, xs0 = (outs m c (t.val - 1) (Nat.lt_of_le_of_lt (Nat.sub_le _ _) t.isLt)).2.2.2.2.2.2.2.2) :
    outs m c t.val t.isLt = step m c t xs0 := by
  obtain ⟨n, hn⟩ := t
  cases n with
  | zero => exact step_first m c _ rfl _ _
  | succ n => obtain rfl := hx0 (Nat.succ_ne_zero n); rfl

/-- The invariant before point `n`: the scratch at what the point before left (at anything before the first point), and
    the generator register at some state. -/
def Inv (c : Dev nD) (n : ℕ) (hn : n ≤ cfg0.N) : sProp 𝕄 :=
  iprop((∃ xs0 : Vec F S2048x128 .f32, ⌜(∀ h : n ≠ 0, xs0 = (outs m c (n - 1) (by omega)).2.2.2.2.2.2.2.2)⌝ ∗ owns (c : Thread nD τ) scM0 fullShare xs0) ∗ (∃ r, prngReg c r))

/-- The region's proof data: the arrays as the region finds them; after point `t` an input's staging buffer holds its block
    and an output's what `outs` says; the invariant `Inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outs m c t.val t.isLt).1
    | ⟨15, _⟩ => (outs m c t.val t.isLt).2.1
    | ⟨16, _⟩ => (outs m c t.val t.isLt).2.2.1
    | ⟨17, _⟩ => (outs m c t.val t.isLt).2.2.2.1
    | ⟨18, _⟩ => (outs m c t.val t.isLt).2.2.2.2.1
    | ⟨19, _⟩ => (outs m c t.val t.isLt).2.2.2.2.2.1
    | ⟨20, _⟩ => (outs m c t.val t.isLt).2.2.2.2.2.2.1
    | ⟨21, _⟩ => (outs m c t.val t.isLt).2.2.2.2.2.2.2.1
    | ⟨n + 22, h⟩ => absurd h (Nat.not_lt.mpr (Nat.le_add_left 22 n))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d
theorem after11 (c : Dev nD) (t : Fin cfg0.N) : (dats m 0 c).after 11 t = iblk m c 11 t := by dsimp only [dats]
theorem before11 (c : Dev nD) (t : Fin cfg0.N) (d) : (dats m 0 c).before 11 t d = iblk m c 11 t :=
  before0_11_of m (dats m 0 c) (A_eq m c 11) (after11 m c) t d
theorem after12 (c : Dev nD) (t : Fin cfg0.N) : (dats m 0 c).after 12 t = iblk m c 12 t := by dsimp only [dats]
theorem before12 (c : Dev nD) (t : Fin cfg0.N) (d) : (dats m 0 c).before 12 t d = iblk m c 12 t :=
  before0_12_of m (dats m 0 c) (A_eq m c 12) (after12 m c) t d
theorem after13 (c : Dev nD) (t : Fin cfg0.N) : (dats m 0 c).after 13 t = iblk m c 13 t := by dsimp only [dats]
theorem before13 (c : Dev nD) (t : Fin cfg0.N) (d) : (dats m 0 c).before 13 t d = iblk m c 13 t :=
  before0_13_of m (dats m 0 c) (A_eq m c 13) (after13 m c) t d
theorem after14 (c : Dev nD) (t : Fin cfg0.N) : (dats m 0 c).after 14 t = (outs m c t.val t.isLt).1 := by dsimp only [dats]
theorem after15 (c : Dev nD) (t : Fin cfg0.N) : (dats m 0 c).after 15 t = (outs m c t.val t.isLt).2.1 := by dsimp only [dats]
theorem after16 (c : Dev nD) (t : Fin cfg0.N) : (dats m 0 c).after 16 t = (outs m c t.val t.isLt).2.2.1 := by dsimp only [dats]
theorem after17 (c : Dev nD) (t : Fin cfg0.N) : (dats m 0 c).after 17 t = (outs m c t.val t.isLt).2.2.2.1 := by dsimp only [dats]
theorem after18 (c : Dev nD) (t : Fin cfg0.N) : (dats m 0 c).after 18 t = (outs m c t.val t.isLt).2.2.2.2.1 := by dsimp only [dats]
theorem after19 (c : Dev nD) (t : Fin cfg0.N) : (dats m 0 c).after 19 t = (outs m c t.val t.isLt).2.2.2.2.2.1 := by dsimp only [dats]
theorem after20 (c : Dev nD) (t : Fin cfg0.N) : (dats m 0 c).after 20 t = (outs m c t.val t.isLt).2.2.2.2.2.2.1 := by dsimp only [dats]
theorem after21 (c : Dev nD) (t : Fin cfg0.N) : (dats m 0 c).after 21 t = (outs m c t.val t.isLt).2.2.2.2.2.2.2.1 := by dsimp only [dats]
theorem leaves0 (c : Dev nD) (t : Fin cfg0.N) : (dats m 0 c).leavesExact 0 t
    = owns (c : Thread nD τ) (ms0 t) fullShare ((dats m 0 c).after 0 t) := by
  unfold Dat.leavesExact; rw [live0 t]
theorem leaves1 (c : Dev nD) (t : Fin cfg0.N) : (dats m 0 c).leavesExact 1 t
    = owns (c : Thread nD τ) (ms1 t) fullShare ((dats m 0 c).after 1 t) := by
  unfold Dat.leavesExact; rw [live1 t]
theorem leaves2 (c : Dev nD) (t : Fin cfg0.N) : (dats m 0 c).leavesExact 2 t
    = owns (c : Thread nD τ) (ms2 t) fullShare ((dats m 0 c).after 2 t) := by
  unfold Dat.leavesExact; rw [live2 t]
theorem leaves3 (c : Dev nD) (t : Fin cfg0.N) : (dats m 0 c).leavesExact 3 t
    = owns (c : Thread nD τ) (ms3 t) fullShare ((dats m 0 c).after 3 t) := by
  unfold Dat.leavesExact; rw [live3 t]
theorem leaves4 (c : Dev nD) (t : Fin cfg0.N) : (dats m 0 c).leavesExact 4 t
    = owns (c : Thread nD τ) (ms4 t) fullShare ((dats m 0 c).after 4 t) := by
  unfold Dat.leavesExact; rw [live4 t]
theorem leaves5 (c : Dev nD) (t : Fin cfg0.N) : (dats m 0 c).leavesExact 5 t
    = owns (c : Thread nD τ) (ms5 t) fullShare ((dats m 0 c).after 5 t) := by
  unfold Dat.leavesExact; rw [live5 t]
theorem leaves6 (c : Dev nD) (t : Fin cfg0.N) : (dats m 0 c).leavesExact 6 t
    = owns (c : Thread nD τ) (ms6 t) fullShare ((dats m 0 c).after 6 t) := by
  unfold Dat.leavesExact; rw [live6 t]
theorem leaves7 (c : Dev nD) (t : Fin cfg0.N) : (dats m 0 c).leavesExact 7 t
    = owns (c : Thread nD τ) (ms7 t) fullShare ((dats m 0 c).after 7 t) := by
  unfold Dat.leavesExact; rw [live7 t]
theorem leaves8 (c : Dev nD) (t : Fin cfg0.N) : (dats m 0 c).leavesExact 8 t
    = owns (c : Thread nD τ) (ms8 t) fullShare ((dats m 0 c).after 8 t) := by
  unfold Dat.leavesExact; rw [live8 t]
theorem leaves9 (c : Dev nD) (t : Fin cfg0.N) : (dats m 0 c).leavesExact 9 t
    = owns (c : Thread nD τ) (ms9 t) fullShare ((dats m 0 c).after 9 t) := by
  unfold Dat.leavesExact; rw [live9 t]
theorem leaves10 (c : Dev nD) (t : Fin cfg0.N) : (dats m 0 c).leavesExact 10 t
    = owns (c : Thread nD τ) (ms10 t) fullShare ((dats m 0 c).after 10 t) := by
  unfold Dat.leavesExact; rw [live10 t]
theorem leaves11 (c : Dev nD) (t : Fin cfg0.N) : (dats m 0 c).leavesExact 11 t
    = owns (c : Thread nD τ) (ms11 t) fullShare ((dats m 0 c).after 11 t) := by
  unfold Dat.leavesExact; rw [live11 t]
theorem leaves12 (c : Dev nD) (t : Fin cfg0.N) : (dats m 0 c).leavesExact 12 t
    = owns (c : Thread nD τ) (ms12 t) fullShare ((dats m 0 c).after 12 t) := by
  unfold Dat.leavesExact; rw [live12 t]
theorem leaves13 (c : Dev nD) (t : Fin cfg0.N) : (dats m 0 c).leavesExact 13 t
    = owns (c : Thread nD τ) (ms13 t) fullShare ((dats m 0 c).after 13 t) := by
  unfold Dat.leavesExact; rw [live13 t]
theorem leaves14 (c : Dev nD) (t : Fin cfg0.N) : (dats m 0 c).leavesExact 14 t
    = owns (c : Thread nD τ) (ms14 t) fullShare ((dats m 0 c).after 14 t) := by
  unfold Dat.leavesExact; rw [live14 t]
theorem leaves15 (c : Dev nD) (t : Fin cfg0.N) : (dats m 0 c).leavesExact 15 t
    = owns (c : Thread nD τ) (ms15 t) fullShare ((dats m 0 c).after 15 t) := by
  unfold Dat.leavesExact; rw [live15 t]
theorem leaves16 (c : Dev nD) (t : Fin cfg0.N) : (dats m 0 c).leavesExact 16 t
    = owns (c : Thread nD τ) (ms16 t) fullShare ((dats m 0 c).after 16 t) := by
  unfold Dat.leavesExact; rw [live16 t]
theorem leaves17 (c : Dev nD) (t : Fin cfg0.N) : (dats m 0 c).leavesExact 17 t
    = owns (c : Thread nD τ) (ms17 t) fullShare ((dats m 0 c).after 17 t) := by
  unfold Dat.leavesExact; rw [live17 t]
theorem leaves18 (c : Dev nD) (t : Fin cfg0.N) : (dats m 0 c).leavesExact 18 t
    = owns (c : Thread nD τ) (ms18 t) fullShare ((dats m 0 c).after 18 t) := by
  unfold Dat.leavesExact; rw [live18 t]
theorem leaves19 (c : Dev nD) (t : Fin cfg0.N) : (dats m 0 c).leavesExact 19 t
    = owns (c : Thread nD τ) (ms19 t) fullShare ((dats m 0 c).after 19 t) := by
  unfold Dat.leavesExact; rw [live19 t]
theorem leaves20 (c : Dev nD) (t : Fin cfg0.N) : (dats m 0 c).leavesExact 20 t
    = owns (c : Thread nD τ) (ms20 t) fullShare ((dats m 0 c).after 20 t) := by
  unfold Dat.leavesExact; rw [live20 t]
theorem leaves21 (c : Dev nD) (t : Fin cfg0.N) (h : cond (grid0.coords t)) : (dats m 0 c).leavesExact 21 t
    = owns (c : Thread nD τ) (ms21 t) fullShare ((dats m 0 c).after 21 t) := by
  unfold Dat.leavesExact; rw [live21 t h]

/-- What the body at point `t` is given, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

set_option maxHeartbeats 14400000 in
/-- The body at any point: the inputs' memrefs hold their blocks, the scratch what the point before left (anything at the first
    point); the run of the case the point is in applies, and what it leaves is what `outs` says by `outs_eq`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = Inv m c (t.val + 1) t.isLt from rfl,
    show (dats m 0 c).Φ t.castSucc = Inv m c t.val (Nat.le_of_lt t.isLt) from rfl]
  unfold Inv
  rw [leaves0, leaves1, leaves2, leaves3, leaves4, leaves5, leaves6, leaves7, leaves8, leaves9, leaves10, leaves11, leaves12, leaves13, leaves14, leaves15, leaves16, leaves17, leaves18, leaves19, leaves20]
  simp only [after0, after1, after2, after3, after4, after5, after6, after7, after8, after9, after10, after11, after12, after13, after14, after15, after16, after17, after18, after19, after20]
  by_cases h : cond (grid0.coords t)
  · rw [leaves21 m c t h]
    simp only [after21]
    iintro ⟨⟨⟨%xs0, %hx, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    have e := (outs_eq m c t xs0 hx).trans (step_last m c t h xs0)
    simp only [e]
    iapply (lastAt m c t h xs0).2.2.2.2.2.2.2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexact HS0
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩⟩
    isplitl [HS0 Hg]
    · isplitl [HS0]
      · iexists last_s0 m c t h xs0; isplitr
        · ipureintro; exact fun _ => (congrArg (fun q => q.2.2.2.2.2.2.2.2) e).symm
        unfold owns; iexists _; isplitr
        swap; · iexact HS0
        ipureintro; exact View.read_writes_of_cover _ _ _ _ _ (last_cover_s0 m c t h xs0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (last_cover_14 m c t h xs0)
    isplitl [H15]
    · unfold owns; iexists _; isplitr
      swap; · iexact H15
      ipureintro; exact View.read_writes_of_cover _ _ _ _ _ (last_cover_15 m c t h xs0)
    isplitl [H16]
    · unfold owns; iexists _; isplitr
      swap; · iexact H16
      ipureintro; exact View.read_writes_of_cover _ _ _ _ _ (last_cover_16 m c t h xs0)
    isplitl [H17]
    · unfold owns; iexists _; isplitr
      swap; · iexact H17
      ipureintro; exact View.read_writes_of_cover _ _ _ _ _ (last_cover_17 m c t h xs0)
    isplitl [H18]
    · unfold owns; iexists _; isplitr
      swap; · iexact H18
      ipureintro; exact View.read_writes_of_cover _ _ _ _ _ (last_cover_18 m c t h xs0)
    isplitl [H19]
    · unfold owns; iexists _; isplitr
      swap; · iexact H19
      ipureintro; exact View.read_writes_of_cover _ _ _ _ _ (last_cover_19 m c t h xs0)
    isplitl [H20]
    · unfold owns; iexists _; isplitr
      swap; · iexact H20
      ipureintro; exact View.read_writes_of_cover _ _ _ _ _ (last_cover_20 m c t h xs0)
    unfold owns; iexists _; isplitr
    swap; · iexact H21
    ipureintro; exact View.read_writes_of_cover _ _ _ _ _ (last_cover_21 m c t h xs0)
  · rw [Dat.leavesExact_idle (dats m 0 c) 21 t (idle21 t h) (noFlush21 t h)]
    iintro ⟨⟨⟨%xs0, %hx, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    have e := (outs_eq m c t xs0 hx).trans (step_mid m c t h xs0)
    simp only [e]
    iapply (midAt m c t h xs0).2.2.2.2.2.2.2.2 _ Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [HS0]; · iexact HS0
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, H21, ⟨%es0, HS0⟩⟩
    isplitl [HS0 Hg]
    · isplitl [HS0]
      · iexists mid_s0 m c t h xs0; isplitr
        · ipureintro; exact fun _ => (congrArg (fun q => q.2.2.2.2.2.2.2.2) e).symm
        unfold owns; iexists _; isplitr
        swap; · iexact HS0
        ipureintro; exact View.read_writes_of_cover _ _ _ _ _ (mid_cover_s0 m c t h xs0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (mid_cover_14 m c t h xs0)
    isplitl [H15]
    · unfold owns; iexists _; isplitr
      swap; · iexact H15
      ipureintro; exact View.read_writes_of_cover _ _ _ _ _ (mid_cover_15 m c t h xs0)
    isplitl [H16]
    · unfold owns; iexists _; isplitr
      swap; · iexact H16
      ipureintro; exact View.read_writes_of_cover _ _ _ _ _ (mid_cover_16 m c t h xs0)
    isplitl [H17]
    · unfold owns; iexists _; isplitr
      swap; · iexact H17
      ipureintro; exact View.read_writes_of_cover _ _ _ _ _ (mid_cover_17 m c t h xs0)
    isplitl [H18]
    · unfold owns; iexists _; isplitr
      swap; · iexact H18
      ipureintro; exact View.read_writes_of_cover _ _ _ _ _ (mid_cover_18 m c t h xs0)
    isplitl [H19]
    · unfold owns; iexists _; isplitr
      swap; · iexact H19
      ipureintro; exact View.read_writes_of_cover _ _ _ _ _ (mid_cover_19 m c t h xs0)
    isplitl [H20]
    · unfold owns; iexists _; isplitr
      swap; · iexact H20
      ipureintro; exact View.read_writes_of_cover _ _ _ _ _ (mid_cover_20 m c t h xs0)
    iexists _; iexact H21

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Inv m c 0 (Nat.zero_le _) from rfl, PhiA_eq]
  unfold Inv
  iintro ⟨⟨%d0, HS0⟩, Hg⟩
  isplitr [Hg]
  · iexists d0; isplitr
    · ipureintro; exact fun h => absurd rfl h
    iexact HS0
  iexact Hg

/-- and after the last point the invariant, its contents forgotten, is what the launch takes back. -/
theorem hout (c : Dev nD) : (dats m 0 c).Φ (Fin.last cfg0.N) ⊢ Pipeline.ΦA spec0 c := by
  rw [show (dats m 0 c).Φ (Fin.last cfg0.N) = Inv m c (Fin.last cfg0.N).val (Nat.le_refl _) from rfl, PhiA_eq]
  unfold Inv
  iintro ⟨⟨%xs0, %hx, HS0⟩, Hg⟩
  isplitr [Hg]
  · iexists _; iexact HS0
  iexact Hg

variable (ρ : Dev nD → PrngReg)

-- the launch theorem's implicit arguments are found by unifying its conclusion with this one
set_option backward.isDefEq.respectTransparency.types false in
/-- The launch: every execution of @main terminates with every array as the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: every execution terminates, the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run m ρ)) ((θ_run defs _ _).mono (fun _ h => h.2) (run_quiescent m ρ))

end Cert.DownBwdIdeal.Body

end
-- ==== Proof.DownBwd.FrameBits.lean ====
module

public import proofs.«01_k».proof.Defs
public import proofs.«01_k».proof.Proof.Gen.DownBwd
public import proofs.«01_k».proof.Proof.Gen.DownBwdIdeal
public import proofs.«01_k».proof.Proof.DownBwd.Track
public import Idealize.ShloMosaic.Adequacy
public import Idealize.ShloMosaic.Init
public import Idealize.ShloMosaic.Lib.Tactic

@[expose] public section

noncomputable section

/-! The frame of the program at its machine words. The printed program and the one the algebraic claim is about are the same text, and its frame is proved at every float instance: at the words it is the claim. -/

namespace Cert.DownBwdBits

open Idealize Idealize.ShloMosaic Idealize.SL.Sem

attribute [local instance] Cert.DownBwd.Gen.facts Cert.DownBwdIdeal.Gen.facts

/-- The frame, at any float instance. -/
def FrameI (F : FTy → Type) [FloatOps F] : Prop :=
  ∀ (m : (ℓ : Loc Cert.DownBwdIdeal.nD Cert.DownBwdIdeal.τ Cert.DownBwdIdeal.sig) → Buf (Elt F) ℓ) (g : Dev Cert.DownBwdIdeal.nD → PrngReg), True →
    θ_run (Cert.DownBwdIdeal.defs (F := F)) (onTc (τ := Cert.DownBwdIdeal.τ) (Cert.DownBwdIdeal.main (F := F))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
      ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4)
      ∧ r.2.mem ((c.tc : Thread Cert.DownBwdIdeal.nD Cert.DownBwdIdeal.τ).loc Cert.DownBwdIdeal.main_arg5) = m ((c.tc : Thread Cert.DownBwdIdeal.nD Cert.DownBwdIdeal.τ).loc Cert.DownBwdIdeal.main_arg5)
      ∧ r.2.mem ((c.tc : Thread Cert.DownBwdIdeal.nD Cert.DownBwdIdeal.τ).loc Cert.DownBwdIdeal.main_arg6) = m ((c.tc : Thread Cert.DownBwdIdeal.nD Cert.DownBwdIdeal.τ).loc Cert.DownBwdIdeal.main_arg6)
      ∧ r.2.mem ((c.tc : Thread Cert.DownBwdIdeal.nD Cert.DownBwdIdeal.τ).loc Cert.DownBwdIdeal.main_arg7) = m ((c.tc : Thread Cert.DownBwdIdeal.nD Cert.DownBwdIdeal.τ).loc Cert.DownBwdIdeal.main_arg7)
      ∧ r.2.mem ((c.tc : Thread Cert.DownBwdIdeal.nD Cert.DownBwdIdeal.τ).loc Cert.DownBwdIdeal.main_arg8) = m ((c.tc : Thread Cert.DownBwdIdeal.nD Cert.DownBwdIdeal.τ).loc Cert.DownBwdIdeal.main_arg8)
      ∧ r.2.mem ((c.tc : Thread Cert.DownBwdIdeal.nD Cert.DownBwdIdeal.τ).loc Cert.DownBwdIdeal.main_arg9) = m ((c.tc : Thread Cert.DownBwdIdeal.nD Cert.DownBwdIdeal.τ).loc Cert.DownBwdIdeal.main_arg9)
      ∧ r.2.mem ((c.tc : Thread Cert.DownBwdIdeal.nD Cert.DownBwdIdeal.τ).loc Cert.DownBwdIdeal.main_arg10) = m ((c.tc : Thread Cert.DownBwdIdeal.nD Cert.DownBwdIdeal.τ).loc Cert.DownBwdIdeal.main_arg10)
      ∧ r.2.mem ((c.tc : Thread Cert.DownBwdIdeal.nD Cert.DownBwdIdeal.τ).loc Cert.DownBwdIdeal.main_arg11) = m ((c.tc : Thread Cert.DownBwdIdeal.nD Cert.DownBwdIdeal.τ).loc Cert.DownBwdIdeal.main_arg11)
      ∧ r.2.mem ((c.tc : Thread Cert.DownBwdIdeal.nD Cert.DownBwdIdeal.τ).loc Cert.DownBwdIdeal.main_arg12) = m ((c.tc : Thread Cert.DownBwdIdeal.nD Cert.DownBwdIdeal.τ).loc Cert.DownBwdIdeal.main_arg12)
      ∧ r.2.mem ((c.tc : Thread Cert.DownBwdIdeal.nD Cert.DownBwdIdeal.τ).loc Cert.DownBwdIdeal.main_arg13) = m ((c.tc : Thread Cert.DownBwdIdeal.nD Cert.DownBwdIdeal.τ).loc Cert.DownBwdIdeal.main_arg13))
      ∧ r.2.sem = fun _ => 0)

theorem frameI (F : FTy → Type) [FloatOps F] : FrameI F := fun m ρ _ => Cert.DownBwdIdeal.Body.frame m ρ

theorem eq_frame : Cert.quiescent_DownBwd = FrameI Bits := by sl_kernel_rfl

/-- Every execution terminates with the arguments unchanged and every counter at zero, at the machine's words. -/
theorem frame : Cert.quiescent_DownBwd := eq_frame ▸ frameI Bits

end Cert.DownBwdBits

end
-- ==== Proof.DownBwd.Block.lean ====
module

public import proofs.«01_k».proof.Proof.DownBwd.Track
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.DownBwdIdeal.Body

open Cert.DownBwdIdeal.Gen
open Idealize.ShloMosaic Idealize.ShloMosaic.TcCoe Idealize.ShloMosaic.Tactic
open Idealize.SL Idealize.SL.Sem

variable (m : (ℓ : Loc nD τ sig) → Buf (Elt Ideal) ℓ)

/-! What one point of the grid leaves in its output blocks, element by element, over the extended reals. -/

/-- Input block 0 at point `t`, as extended reals. -/
abbrev ib0 (c : Dev nD) (t : Fin cfg0.N) : S2048x8192.Idx → EReal := iblk m c 0 t
/-- Input block 1 at point `t`, as extended reals. -/
abbrev ib1 (c : Dev nD) (t : Fin cfg0.N) : S8192x256.Idx → EReal := iblk m c 1 t
/-- Input block 2 at point `t`, as extended reals. -/
abbrev ib2 (c : Dev nD) (t : Fin cfg0.N) : S2048x64.Idx → EReal := iblk m c 2 t
/-- Input block 3 at point `t`, as extended reals. -/
abbrev ib3 (c : Dev nD) (t : Fin cfg0.N) : S64x256.Idx → EReal := iblk m c 3 t
/-- Input block 4 at point `t`, as extended reals. -/
abbrev ib4 (c : Dev nD) (t : Fin cfg0.N) : S2048x256.Idx → EReal := iblk m c 4 t
/-- Input block 5 at point `t`, as extended reals. -/
abbrev ib5 (c : Dev nD) (t : Fin cfg0.N) : S2048x256.Idx → EReal := iblk m c 5 t
/-- Input block 6 at point `t`, as extended reals. -/
abbrev ib6 (c : Dev nD) (t : Fin cfg0.N) : S2048x256.Idx → EReal := iblk m c 6 t
/-- Input block 7 at point `t`, as extended reals. -/
abbrev ib7 (c : Dev nD) (t : Fin cfg0.N) : S2048x128.Idx → EReal := iblk m c 7 t
/-- Input block 8 at point `t`, as extended reals. -/
abbrev ib8 (c : Dev nD) (t : Fin cfg0.N) : S256x64.Idx → EReal := iblk m c 8 t
/-- Input block 9 at point `t`, as extended reals. -/
abbrev ib9 (c : Dev nD) (t : Fin cfg0.N) : S256x64.Idx → EReal := iblk m c 9 t
/-- Input block 10 at point `t`, as extended reals. -/
abbrev ib10 (c : Dev nD) (t : Fin cfg0.N) : S1x256.Idx → EReal := iblk m c 10 t
/-- Input block 11 at point `t`, as extended reals. -/
abbrev ib11 (c : Dev nD) (t : Fin cfg0.N) : S1x256.Idx → EReal := iblk m c 11 t
/-- Input block 12 at point `t`, as extended reals. -/
abbrev ib12 (c : Dev nD) (t : Fin cfg0.N) : S1x256.Idx → EReal := iblk m c 12 t
/-- Input block 13 at point `t`, as extended reals. -/
abbrev ib13 (c : Dev nD) (t : Fin cfg0.N) : S1x256.Idx → EReal := iblk m c 13 t

/-- Lane `q` of the first and of the second half of 128 lanes. -/
abbrev lo (q : Fin 64) : Fin 128 := ⟨q.val, by omega⟩
abbrev hi (q : Fin 64) : Fin 128 := ⟨64 + q.val, by omega⟩

/-- Entry `(r, o)` of the gradient of the activation at point `t`: through the weight and through the adapter. -/
def dB (c : Dev nD) (t : Fin cfg0.N) (r : Fin 2048) (o : Fin 256) : EReal :=
  ∑ k : Fin 8192, ib0 m c t (ix2 r k) * ib1 m c t (ix2 k o) + ∑ q : Fin 64, ib2 m c t (ix2 r q) * ib3 m c t (ix2 q o)

/-- The scaled gate product and the scaled up product. -/
def ygB (c : Dev nD) (t : Fin cfg0.N) (r : Fin 2048) (o : Fin 256) : EReal := ib12 m c t (ix2 0 o) * ib5 m c t (ix2 r o)
def yuB (c : Dev nD) (t : Fin cfg0.N) (r : Fin 2048) (o : Fin 256) : EReal := ib13 m c t (ix2 0 o) * ib6 m c t (ix2 r o)

/-- The gradient of the scaled gate product, through the activation function. -/
def dgB (c : Dev nD) (t : Fin cfg0.N) (r : Fin 2048) (o : Fin 256) : EReal :=
  dB m c t r o * yuB m c t r o * Ideal.logistic (ygB m c t r o)
    * (1 + ygB m c t r o * (1 - Ideal.logistic (ygB m c t r o)))
/-- The gradient of the scaled up product. -/
def duB (c : Dev nD) (t : Fin cfg0.N) (r : Fin 2048) (o : Fin 256) : EReal :=
  dB m c t r o * ygB m c t r o * Ideal.logistic (ygB m c t r o)

/-- The gradients of the adapted gate and up products. -/
def ggB (c : Dev nD) (t : Fin cfg0.N) (r : Fin 2048) (o : Fin 256) : EReal := dgB m c t r o * ib12 m c t (ix2 0 o)
def guB (c : Dev nD) (t : Fin cfg0.N) (r : Fin 2048) (o : Fin 256) : EReal := duB m c t r o * ib13 m c t (ix2 0 o)

/-- Entry `(r, q)` of what point `t` adds to the accumulated low-rank gradients, gate lanes then up lanes. -/
def sB (c : Dev nD) (t : Fin cfg0.N) (r : Fin 2048) (q : Fin 128) : EReal :=
  if h : q.val < 64 then ∑ o : Fin 256, ggB m c t r o * ib8 m c t (ix2 o ⟨q.val, h⟩)
  else ∑ o : Fin 256, guB m c t r o * ib9 m c t (ix2 o ⟨q.val - 64, by omega⟩)

/-- A choice on "this is point 0", the point's number a 32-bit word. -/
theorem select_first {S : Type} (n : ℕ) (hn : n < 14) (a b : S) :
    Scalar.select (Scalar.cmpi CmpIPredicate.eq (BitVec.ofNat 32 n) 0#32) a b = if n % 14 = 0 then a else b := by
  interval_cases n <;> rfl

theorem coord_val (t : Fin cfg0.N) : (grid0.coords t 0).val = t.val := by
  have h : t.val < 14 := t.isLt
  rw [show (grid0.coords t 0).val = t.val / 1 % 14 from Pipeline.Grid.coords_val t 0 (by decide) rfl]; omega

/-- 512 rows four times are 2048 rows. -/
theorem sum_chunks (f : Fin 2048 → EReal) :
    ∑ k : Fin 2048, f k = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [Fin.sum_univ_two_halves 512 1536 rfl f, Fin.sum_univ_two_halves 512 1024 rfl, Fin.sum_univ_two_halves 512 512 rfl]
  simp only [← add_assoc, Nat.reduceAdd]

theorem ixy {a b : ℕ} (y : (⟨2, ![a, b]⟩ : Shape).Idx) : y = ix2 (y 0) (y 1) := by
  funext i; refine Fin.cases rfl (fun j => ?_) i; refine Fin.cases rfl (fun k => k.elim0) j

set_option maxHeartbeats 4000000 in
/-- Output 14 (the gradient of the adapted gate product) at a point before the last. -/
theorem mid_14_apply (c : Dev nD) (t : Fin cfg0.N) (h : ¬cond (grid0.coords t)) (xs0 : Vec Ideal S2048x128 .f32) (y : S2048x256.Idx) :
    mid_14 m c t h xs0 y = ggB m c t (y 0) (y 1) := by
  unfold mid_14 midAt
  frame_open
  rw [View.read_writes_junk_eq_canon]
  obtain ⟨⟨r, hr⟩, o, rfl⟩ : ∃ r o, y = ix2 r o := ⟨y 0, y 1, ixy y⟩
  canon_tiles x hx using (mid_cover_14 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  all_goals (have e0 : r = _ := hx0; have e1 : o = x 1 := Fin.ext hx1; subst e0 e1)
  all_goals rfl

set_option maxHeartbeats 4000000 in
/-- Output 15 (the gradient of the adapted up product) at a point before the last. -/
theorem mid_15_apply (c : Dev nD) (t : Fin cfg0.N) (h : ¬cond (grid0.coords t)) (xs0 : Vec Ideal S2048x128 .f32) (y : S2048x256.Idx) :
    mid_15 m c t h xs0 y = guB m c t (y 0) (y 1) := by
  unfold mid_15 midAt
  frame_open
  rw [View.read_writes_junk_eq_canon]
  obtain ⟨⟨r, hr⟩, o, rfl⟩ : ∃ r o, y = ix2 r o := ⟨y 0, y 1, ixy y⟩
  canon_tiles x hx using (mid_cover_15 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  all_goals (have e0 : r = _ := hx0; have e1 : o = x 1 := Fin.ext hx1; subst e0 e1)
  all_goals rfl

set_option maxHeartbeats 4000000 in
/-- Output 16 (the gradient of `a_down`) at a point before the last. -/
theorem mid_16_apply (c : Dev nD) (t : Fin cfg0.N) (h : ¬cond (grid0.coords t)) (xs0 : Vec Ideal S2048x128 .f32) (y : S64x256.Idx) :
    mid_16 m c t h xs0 y = ∑ r : Fin 2048, ib2 m c t (ix2 r (y 0)) * ib4 m c t (ix2 r (y 1)) := by
  unfold mid_16 midAt
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]

set_option maxHeartbeats 4000000 in
/-- Output 17 (the gradient of the gate magnitude) at a point before the last. -/
theorem mid_17_apply (c : Dev nD) (t : Fin cfg0.N) (h : ¬cond (grid0.coords t)) (xs0 : Vec Ideal S2048x128 .f32) (y : S1x256.Idx) :
    mid_17 m c t h xs0 y = Ideal.div (∑ r : Fin 2048, dgB m c t r (y 1) * ib5 m c t (ix2 r (y 1))) (ib10 m c t y) := by
  unfold mid_17 midAt
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  rw [sum_chunks]
  rfl

set_option maxHeartbeats 4000000 in
/-- Output 18 (the gradient of the up magnitude) at a point before the last. -/
theorem mid_18_apply (c : Dev nD) (t : Fin cfg0.N) (h : ¬cond (grid0.coords t)) (xs0 : Vec Ideal S2048x128 .f32) (y : S1x256.Idx) :
    mid_18 m c t h xs0 y = Ideal.div (∑ r : Fin 2048, duB m c t r (y 1) * ib6 m c t (ix2 r (y 1))) (ib11 m c t y) := by
  unfold mid_18 midAt
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  rw [sum_chunks]
  rfl

set_option maxHeartbeats 4000000 in
/-- Output 19 (the gradient of `b_gate`) at a point before the last. -/
theorem mid_19_apply (c : Dev nD) (t : Fin cfg0.N) (h : ¬cond (grid0.coords t)) (xs0 : Vec Ideal S2048x128 .f32) (y : S256x64.Idx) :
    mid_19 m c t h xs0 y = (Ideal.ofBits FTy.f32 1052770304#32 : EReal)
      * ∑ r : Fin 2048, ib7 m c t (ix2 r (lo (y 1))) * ggB m c t r (y 0) := by
  have e := funext (mid_14_apply m c t h xs0)
  unfold mid_14 midAt at e
  frame_open at e
  rw [View.read_writes_junk_eq_canon] at e
  simp (disch := decide) only [View.readAt_eq_ld, Memref.IsWhole.read_unread, View.ld_unit_lit', View.readCov_cons_toLoadRect] at e
  unfold mid_19 midAt
  frame_out
  simp only [View.readCov_eq_canon']
  rw [e]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]

set_option maxHeartbeats 4000000 in
/-- Output 20 (the gradient of `b_up`) at a point before the last. -/
theorem mid_20_apply (c : Dev nD) (t : Fin cfg0.N) (h : ¬cond (grid0.coords t)) (xs0 : Vec Ideal S2048x128 .f32) (y : S256x64.Idx) :
    mid_20 m c t h xs0 y = (Ideal.ofBits FTy.f32 1052770304#32 : EReal)
      * ∑ r : Fin 2048, ib7 m c t (ix2 r (hi (y 1))) * guB m c t r (y 0) := by
  have e := funext (mid_15_apply m c t h xs0)
  unfold mid_15 midAt at e
  frame_open at e
  rw [View.read_writes_junk_eq_canon] at e
  simp (disch := decide) only [View.readAt_eq_ld, Memref.IsWhole.read_unread, View.ld_unit_lit', View.readCov_cons_toLoadRect] at e
  unfold mid_20 midAt
  frame_out
  simp only [View.readCov_eq_canon']
  rw [e]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]

set_option maxHeartbeats 4000000 in
/-- The scratch at a point before the last. -/
theorem mid_s0_apply (c : Dev nD) (t : Fin cfg0.N) (h : ¬cond (grid0.coords t)) (xs0 : Vec Ideal S2048x128 .f32) (y : S2048x128.Idx) :
    mid_s0 m c t h xs0 y = if t.val % 14 = 0 then sB m c t (y 0) (y 1) else xs0 y + sB m c t (y 0) (y 1) := by
  unfold mid_s0 midAt
  frame_open
  rw [View.read_writes_junk_eq_canon]
  obtain ⟨⟨r, hr⟩, o, rfl⟩ : ∃ r o, y = ix2 r o := ⟨y 0, y 1, ixy y⟩
  canon_tiles x hx using (mid_cover_s0 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  all_goals simp only [read_unread_whole]
  all_goals rw [coord_val, select_first _ t.isLt]
  all_goals (have e0 : r = _ := hx0; have e1 : o = x 1 := Fin.ext hx1; subst e0 e1)
  all_goals rfl

end Cert.DownBwdIdeal.Body

end
-- ==== Proof.DownBwd.BlockLast.lean ====
module

public import proofs.«01_k».proof.Proof.DownBwd.Block
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.DownBwdIdeal.Body

open Cert.DownBwdIdeal.Gen
open Idealize.ShloMosaic Idealize.ShloMosaic.TcCoe Idealize.ShloMosaic.Tactic
open Idealize.SL Idealize.SL.Sem

variable (m : (ℓ : Loc nD τ sig) → Buf (Elt Ideal) ℓ)

/-! What the last point of the grid leaves in its output blocks, element by element, over the extended reals. -/

set_option maxHeartbeats 4000000 in
/-- Output 14 (the gradient of the adapted gate product) at the last point. -/
theorem last_14_apply (c : Dev nD) (t : Fin cfg0.N) (h : cond (grid0.coords t)) (xs0 : Vec Ideal S2048x128 .f32) (y : S2048x256.Idx) :
    last_14 m c t h xs0 y = ggB m c t (y 0) (y 1) := by
  unfold last_14 lastAt
  frame_open
  rw [View.read_writes_junk_eq_canon]
  obtain ⟨⟨r, hr⟩, o, rfl⟩ : ∃ r o, y = ix2 r o := ⟨y 0, y 1, ixy y⟩
  canon_tiles x hx using (last_cover_14 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  all_goals (have e0 : r = _ := hx0; have e1 : o = x 1 := Fin.ext hx1; subst e0 e1)
  all_goals rfl

set_option maxHeartbeats 4000000 in
/-- Output 15 (the gradient of the adapted up product) at the last point. -/
theorem last_15_apply (c : Dev nD) (t : Fin cfg0.N) (h : cond (grid0.coords t)) (xs0 : Vec Ideal S2048x128 .f32) (y : S2048x256.Idx) :
    last_15 m c t h xs0 y = guB m c t (y 0) (y 1) := by
  unfold last_15 lastAt
  frame_open
  rw [View.read_writes_junk_eq_canon]
  obtain ⟨⟨r, hr⟩, o, rfl⟩ : ∃ r o, y = ix2 r o := ⟨y 0, y 1, ixy y⟩
  canon_tiles x hx using (last_cover_15 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  all_goals (have e0 : r = _ := hx0; have e1 : o = x 1 := Fin.ext hx1; subst e0 e1)
  all_goals rfl

set_option maxHeartbeats 4000000 in
/-- Output 16 (the gradient of `a_down`) at the last point. -/
theorem last_16_apply (c : Dev nD) (t : Fin cfg0.N) (h : cond (grid0.coords t)) (xs0 : Vec Ideal S2048x128 .f32) (y : S64x256.Idx) :
    last_16 m c t h xs0 y = ∑ r : Fin 2048, ib2 m c t (ix2 r (y 0)) * ib4 m c t (ix2 r (y 1)) := by
  unfold last_16 lastAt
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]

set_option maxHeartbeats 4000000 in
/-- Output 17 (the gradient of the gate magnitude) at the last point. -/
theorem last_17_apply (c : Dev nD) (t : Fin cfg0.N) (h : cond (grid0.coords t)) (xs0 : Vec Ideal S2048x128 .f32) (y : S1x256.Idx) :
    last_17 m c t h xs0 y = Ideal.div (∑ r : Fin 2048, dgB m c t r (y 1) * ib5 m c t (ix2 r (y 1))) (ib10 m c t y) := by
  unfold last_17 lastAt
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  rw [sum_chunks]
  rfl

set_option maxHeartbeats 4000000 in
/-- Output 18 (the gradient of the up magnitude) at the last point. -/
theorem last_18_apply (c : Dev nD) (t : Fin cfg0.N) (h : cond (grid0.coords t)) (xs0 : Vec Ideal S2048x128 .f32) (y : S1x256.Idx) :
    last_18 m c t h xs0 y = Ideal.div (∑ r : Fin 2048, duB m c t r (y 1) * ib6 m c t (ix2 r (y 1))) (ib11 m c t y) := by
  unfold last_18 lastAt
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  rw [sum_chunks]
  rfl

set_option maxHeartbeats 4000000 in
/-- Output 19 (the gradient of `b_gate`) at the last point. -/
theorem last_19_apply (c : Dev nD) (t : Fin cfg0.N) (h : cond (grid0.coords t)) (xs0 : Vec Ideal S2048x128 .f32) (y : S256x64.Idx) :
    last_19 m c t h xs0 y = (Ideal.ofBits FTy.f32 1052770304#32 : EReal)
      * ∑ r : Fin 2048, ib7 m c t (ix2 r (lo (y 1))) * ggB m c t r (y 0) := by
  have e := funext (last_14_apply m c t h xs0)
  unfold last_14 lastAt at e
  frame_open at e
  rw [View.read_writes_junk_eq_canon] at e
  simp (disch := decide) only [View.readAt_eq_ld, Memref.IsWhole.read_unread, View.ld_unit_lit', View.readCov_cons_toLoadRect] at e
  unfold last_19 lastAt
  frame_out
  simp only [View.readCov_eq_canon']
  rw [e]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]

set_option maxHeartbeats 4000000 in
/-- Output 20 (the gradient of `b_up`) at the last point. -/
theorem last_20_apply (c : Dev nD) (t : Fin cfg0.N) (h : cond (grid0.coords t)) (xs0 : Vec Ideal S2048x128 .f32) (y : S256x64.Idx) :
    last_20 m c t h xs0 y = (Ideal.ofBits FTy.f32 1052770304#32 : EReal)
      * ∑ r : Fin 2048, ib7 m c t (ix2 r (hi (y 1))) * guB m c t r (y 0) := by
  have e := funext (last_15_apply m c t h xs0)
  unfold last_15 lastAt at e
  frame_open at e
  rw [View.read_writes_junk_eq_canon] at e
  simp (disch := decide) only [View.readAt_eq_ld, Memref.IsWhole.read_unread, View.ld_unit_lit', View.readCov_cons_toLoadRect] at e
  unfold last_20 lastAt
  frame_out
  simp only [View.readCov_eq_canon']
  rw [e]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]

set_option maxHeartbeats 4000000 in
/-- The scratch at the last point. -/
theorem last_s0_apply (c : Dev nD) (t : Fin cfg0.N) (h : cond (grid0.coords t)) (xs0 : Vec Ideal S2048x128 .f32) (y : S2048x128.Idx) :
    last_s0 m c t h xs0 y = if t.val % 14 = 0 then sB m c t (y 0) (y 1) else xs0 y + sB m c t (y 0) (y 1) := by
  unfold last_s0 lastAt
  frame_open
  rw [View.read_writes_junk_eq_canon]
  obtain ⟨⟨r, hr⟩, o, rfl⟩ : ∃ r o, y = ix2 r o := ⟨y 0, y 1, ixy y⟩
  canon_tiles x hx using (last_cover_s0 m c t h xs0 _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  all_goals simp only [read_unread_whole]
  all_goals rw [coord_val, select_first _ t.isLt]
  all_goals (have e0 : r = _ := hx0; have e1 : o = x 1 := Fin.ext hx1; subst e0 e1)
  all_goals rfl

/-- Output 21 at the last point: the scale times the scratch it has just completed. -/
theorem last_21_apply (c : Dev nD) (t : Fin cfg0.N) (h : cond (grid0.coords t)) (xs0 : Vec Ideal S2048x128 .f32) (y : S2048x128.Idx) :
    last_21 m c t h xs0 y = (Ideal.ofBits FTy.f32 1052770304#32 : EReal) * last_s0 m c t h xs0 y := by
  unfold last_s0 last_21 lastAt
  frame_out
  simp only [View.readCov_eq_canon']
  pointwise [k0_pay2]

end Cert.DownBwdIdeal.Body

end
-- ==== Proof.DownBwd.Arrays.lean ====
module

public import proofs.«01_k».proof.Proof.DownBwd.BlockLast
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.DownBwdIdeal.Body

open Cert.DownBwdIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-! The result arrays after the run, as functions of the argument arrays. -/

/-- Argument 0, as extended reals. -/
abbrev A0 (c : Dev nD) : S2048x8192.Idx → EReal := V m c main_arg0
/-- Argument 1, as extended reals. -/
abbrev A1 (c : Dev nD) : S8192x3584.Idx → EReal := V m c main_arg1
/-- Argument 2, as extended reals. -/
abbrev A2 (c : Dev nD) : S2048x64.Idx → EReal := V m c main_arg2
/-- Argument 3, as extended reals. -/
abbrev A3 (c : Dev nD) : S64x3584.Idx → EReal := V m c main_arg3
/-- Argument 4, as extended reals. -/
abbrev A4 (c : Dev nD) : S2048x3584.Idx → EReal := V m c main_arg4
/-- Argument 5, as extended reals. -/
abbrev A5 (c : Dev nD) : S2048x3584.Idx → EReal := V m c main_arg5
/-- Argument 6, as extended reals. -/
abbrev A6 (c : Dev nD) : S2048x3584.Idx → EReal := V m c main_arg6
/-- Argument 7, as extended reals. -/
abbrev A7 (c : Dev nD) : S2048x128.Idx → EReal := V m c main_arg7
/-- Argument 8, as extended reals. -/
abbrev A8 (c : Dev nD) : S3584x64.Idx → EReal := V m c main_arg8
/-- Argument 9, as extended reals. -/
abbrev A9 (c : Dev nD) : S3584x64.Idx → EReal := V m c main_arg9
/-- Argument 10, as extended reals. -/
abbrev A10 (c : Dev nD) : S1x3584.Idx → EReal := V m c main_arg10
/-- Argument 11, as extended reals. -/
abbrev A11 (c : Dev nD) : S1x3584.Idx → EReal := V m c main_arg11
/-- Argument 12, as extended reals. -/
abbrev A12 (c : Dev nD) : S1x3584.Idx → EReal := V m c main_arg12
/-- Argument 13, as extended reals. -/
abbrev A13 (c : Dev nD) : S1x3584.Idx → EReal := V m c main_arg13

/-- Column `o` of point `t`'s block, in the whole array. -/
abbrev col (t : Fin cfg0.N) (o : Fin 256) : Fin 3584 := ⟨t.val * 256 + o.val, by have h : t.val < 14 := t.isLt; omega⟩

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![0, t.val] := (by decide +kernel : ∀ t : Fin grid0.N, _)
theorem e11 : ∀ t : Fin cfg0.N, win0_11.index t = ![0, t.val] := (by decide +kernel : ∀ t : Fin grid0.N, _)
theorem e12 : ∀ t : Fin cfg0.N, win0_12.index t = ![0, t.val] := (by decide +kernel : ∀ t : Fin grid0.N, _)
theorem e13 : ∀ t : Fin cfg0.N, win0_13.index t = ![0, t.val] := (by decide +kernel : ∀ t : Fin grid0.N, _)
theorem e14 : ∀ t : Fin cfg0.N, win0_14.index t = ![0, t.val] := (by decide +kernel : ∀ t : Fin grid0.N, _)
theorem e15 : ∀ t : Fin cfg0.N, win0_15.index t = ![0, t.val] := (by decide +kernel : ∀ t : Fin grid0.N, _)
theorem e16 : ∀ t : Fin cfg0.N, win0_16.index t = ![0, t.val] := (by decide +kernel : ∀ t : Fin grid0.N, _)
theorem e17 : ∀ t : Fin cfg0.N, win0_17.index t = ![0, t.val] := (by decide +kernel : ∀ t : Fin grid0.N, _)
theorem e18 : ∀ t : Fin cfg0.N, win0_18.index t = ![0, t.val] := (by decide +kernel : ∀ t : Fin grid0.N, _)
theorem e19 : ∀ t : Fin cfg0.N, win0_19.index t = ![t.val, 0] := (by decide +kernel : ∀ t : Fin grid0.N, _)
theorem e20 : ∀ t : Fin cfg0.N, win0_20.index t = ![t.val, 0] := (by decide +kernel : ∀ t : Fin grid0.N, _)
theorem e21 : ∀ t : Fin cfg0.N, win0_21.index t = ![0, 0] := (by decide +kernel : ∀ t : Fin grid0.N, _)

/-! An input block at an index is its array at the index the block places. -/

theorem ib0_at (c : Dev nD) (t : Fin cfg0.N) (r : Fin 2048) (q : Fin 8192) : ib0 m c t (ix2 r q) = A0 m c (ix2 (r) (q)) := by
  blk_simp [ib0, iblk]
  exact congrArg (V m c main_arg0) (by blk_ext [e0 t])
theorem ib1_at (c : Dev nD) (t : Fin cfg0.N) (r : Fin 8192) (q : Fin 256) : ib1 m c t (ix2 r q) = A1 m c (ix2 (r) (col t q)) := by
  blk_simp [ib1, iblk]
  exact congrArg (V m c main_arg1) (by blk_ext [e1 t])
theorem ib2_at (c : Dev nD) (t : Fin cfg0.N) (r : Fin 2048) (q : Fin 64) : ib2 m c t (ix2 r q) = A2 m c (ix2 (r) (q)) := by
  blk_simp [ib2, iblk]
  exact congrArg (V m c main_arg2) (by blk_ext [e2 t])
theorem ib3_at (c : Dev nD) (t : Fin cfg0.N) (r : Fin 64) (q : Fin 256) : ib3 m c t (ix2 r q) = A3 m c (ix2 (r) (col t q)) := by
  blk_simp [ib3, iblk]
  exact congrArg (V m c main_arg3) (by blk_ext [e3 t])
theorem ib4_at (c : Dev nD) (t : Fin cfg0.N) (r : Fin 2048) (q : Fin 256) : ib4 m c t (ix2 r q) = A4 m c (ix2 (r) (col t q)) := by
  blk_simp [ib4, iblk]
  exact congrArg (V m c main_arg4) (by blk_ext [e4 t])
theorem ib5_at (c : Dev nD) (t : Fin cfg0.N) (r : Fin 2048) (q : Fin 256) : ib5 m c t (ix2 r q) = A5 m c (ix2 (r) (col t q)) := by
  blk_simp [ib5, iblk]
  exact congrArg (V m c main_arg5) (by blk_ext [e5 t])
theorem ib6_at (c : Dev nD) (t : Fin cfg0.N) (r : Fin 2048) (q : Fin 256) : ib6 m c t (ix2 r q) = A6 m c (ix2 (r) (col t q)) := by
  blk_simp [ib6, iblk]
  exact congrArg (V m c main_arg6) (by blk_ext [e6 t])
theorem ib7_at (c : Dev nD) (t : Fin cfg0.N) (r : Fin 2048) (q : Fin 128) : ib7 m c t (ix2 r q) = A7 m c (ix2 (r) (q)) := by
  blk_simp [ib7, iblk]
  exact congrArg (V m c main_arg7) (by blk_ext [e7 t])
theorem ib8_at (c : Dev nD) (t : Fin cfg0.N) (r : Fin 256) (q : Fin 64) : ib8 m c t (ix2 r q) = A8 m c (ix2 (col t r) (q)) := by
  blk_simp [ib8, iblk]
  exact congrArg (V m c main_arg8) (by blk_ext [e8 t])
theorem ib9_at (c : Dev nD) (t : Fin cfg0.N) (r : Fin 256) (q : Fin 64) : ib9 m c t (ix2 r q) = A9 m c (ix2 (col t r) (q)) := by
  blk_simp [ib9, iblk]
  exact congrArg (V m c main_arg9) (by blk_ext [e9 t])
theorem ib10_at (c : Dev nD) (t : Fin cfg0.N) (r : Fin 1) (q : Fin 256) : ib10 m c t (ix2 r q) = A10 m c (ix2 (r) (col t q)) := by
  blk_simp [ib10, iblk]
  exact congrArg (V m c main_arg10) (by blk_ext [e10 t])
theorem ib11_at (c : Dev nD) (t : Fin cfg0.N) (r : Fin 1) (q : Fin 256) : ib11 m c t (ix2 r q) = A11 m c (ix2 (r) (col t q)) := by
  blk_simp [ib11, iblk]
  exact congrArg (V m c main_arg11) (by blk_ext [e11 t])
theorem ib12_at (c : Dev nD) (t : Fin cfg0.N) (r : Fin 1) (q : Fin 256) : ib12 m c t (ix2 r q) = A12 m c (ix2 (r) (col t q)) := by
  blk_simp [ib12, iblk]
  exact congrArg (V m c main_arg12) (by blk_ext [e12 t])
theorem ib13_at (c : Dev nD) (t : Fin cfg0.N) (r : Fin 1) (q : Fin 256) : ib13 m c t (ix2 r q) = A13 m c (ix2 (r) (col t q)) := by
  blk_simp [ib13, iblk]
  exact congrArg (V m c main_arg13) (by blk_ext [e13 t])

/-- Entry `(r, o)` of the gradient of the activation: through the weight and through the adapter. -/
def dact (c : Dev nD) (r : Fin 2048) (o : Fin 3584) : EReal :=
  ∑ k : Fin 8192, A0 m c (ix2 r k) * A1 m c (ix2 k o) + ∑ q : Fin 64, A2 m c (ix2 r q) * A3 m c (ix2 q o)
/-- The scaled gate product. -/
def yg (c : Dev nD) (r : Fin 2048) (o : Fin 3584) : EReal :=
  A12 m c (ix2 0 o) * A5 m c (ix2 r o)
/-- The scaled up product. -/
def yu (c : Dev nD) (r : Fin 2048) (o : Fin 3584) : EReal :=
  A13 m c (ix2 0 o) * A6 m c (ix2 r o)
/-- The gradient of the scaled gate product, through the activation function. -/
def dgate (c : Dev nD) (r : Fin 2048) (o : Fin 3584) : EReal :=
  dact m c r o * yu m c r o * Ideal.logistic (yg m c r o) * (1 + yg m c r o * (1 - Ideal.logistic (yg m c r o)))
/-- The gradient of the scaled up product. -/
def dup (c : Dev nD) (r : Fin 2048) (o : Fin 3584) : EReal :=
  dact m c r o * yg m c r o * Ideal.logistic (yg m c r o)
/-- The gradient of the adapted gate product. -/
def gg (c : Dev nD) (r : Fin 2048) (o : Fin 3584) : EReal :=
  dgate m c r o * A12 m c (ix2 0 o)
/-- The gradient of the adapted up product. -/
def gu (c : Dev nD) (r : Fin 2048) (o : Fin 3584) : EReal :=
  dup m c r o * A13 m c (ix2 0 o)

theorem dB_eq (c : Dev nD) (t : Fin cfg0.N) (r : Fin 2048) (o : Fin 256) : dB m c t r o = dact m c r (col t o) := by
  unfold dB dact
  simp only [ib0_at, ib1_at, ib2_at, ib3_at]
theorem ygB_eq (c : Dev nD) (t : Fin cfg0.N) (r : Fin 2048) (o : Fin 256) : ygB m c t r o = yg m c r (col t o) := by
  unfold ygB yg
  simp only [ib12_at, ib5_at]
theorem yuB_eq (c : Dev nD) (t : Fin cfg0.N) (r : Fin 2048) (o : Fin 256) : yuB m c t r o = yu m c r (col t o) := by
  unfold yuB yu
  simp only [ib13_at, ib6_at]
theorem dgB_eq (c : Dev nD) (t : Fin cfg0.N) (r : Fin 2048) (o : Fin 256) : dgB m c t r o = dgate m c r (col t o) := by
  unfold dgB dgate
  simp only [dB_eq, yuB_eq, ygB_eq]
theorem duB_eq (c : Dev nD) (t : Fin cfg0.N) (r : Fin 2048) (o : Fin 256) : duB m c t r o = dup m c r (col t o) := by
  unfold duB dup
  simp only [dB_eq, ygB_eq]
theorem ggB_eq (c : Dev nD) (t : Fin cfg0.N) (r : Fin 2048) (o : Fin 256) : ggB m c t r o = gg m c r (col t o) := by
  unfold ggB gg
  simp only [dgB_eq, ib12_at]
theorem guB_eq (c : Dev nD) (t : Fin cfg0.N) (r : Fin 2048) (o : Fin 256) : guB m c t r o = gu m c r (col t o) := by
  unfold guB gu
  simp only [duB_eq, ib13_at]

/-- The gradients of the adapted gate and up products. -/
def res0 (c : Dev nD) (i : S2048x3584.Idx) : EReal := gg m c (i 0) (i 1)
def res1 (c : Dev nD) (i : S2048x3584.Idx) : EReal := gu m c (i 0) (i 1)
/-- The gradient of `a_down`. -/
def res2 (c : Dev nD) (i : S64x3584.Idx) : EReal := ∑ r : Fin 2048, A2 m c (ix2 r (i 0)) * A4 m c (ix2 r (i 1))
/-- The gradients of the gate and up magnitudes. -/
def res3 (c : Dev nD) (i : S1x3584.Idx) : EReal := Ideal.div (∑ r : Fin 2048, dgate m c r (i 1) * A5 m c (ix2 r (i 1))) (A10 m c (ix2 (i 0) (i 1)))
def res4 (c : Dev nD) (i : S1x3584.Idx) : EReal := Ideal.div (∑ r : Fin 2048, dup m c r (i 1) * A6 m c (ix2 r (i 1))) (A11 m c (ix2 (i 0) (i 1)))
/-- The gradients of `b_gate` and `b_up`. -/
def res5 (c : Dev nD) (i : S3584x64.Idx) : EReal := (Ideal.ofBits FTy.f32 1052770304#32 : EReal) * ∑ r : Fin 2048, A7 m c (ix2 r (lo (i 1))) * gg m c r (i 0)
def res6 (c : Dev nD) (i : S3584x64.Idx) : EReal := (Ideal.ofBits FTy.f32 1052770304#32 : EReal) * ∑ r : Fin 2048, A7 m c (ix2 r (hi (i 1))) * gu m c r (i 0)
/-- The gradients at the low-rank inputs, gate lanes then up lanes, before the scale. -/
def low (c : Dev nD) (r : Fin 2048) (q : Fin 128) : EReal :=
  if h : q.val < 64 then ∑ o : Fin 3584, gg m c r o * A8 m c (ix2 o ⟨q.val, h⟩)
  else ∑ o : Fin 3584, gu m c r o * A9 m c (ix2 o ⟨q.val - 64, by omega⟩)
/-- The gradients at the low-rank inputs. -/
def res7 (c : Dev nD) (i : S2048x128.Idx) : EReal := (Ideal.ofBits FTy.f32 1052770304#32 : EReal) * low m c (i 0) (i 1)

/-- What the scratch holds when point `t` starts. -/
def start (c : Dev nD) (t : Fin cfg0.N) : Vec Ideal S2048x128 .f32 := (outs m c (t.val - 1) (Nat.lt_of_le_of_lt (Nat.sub_le _ _) t.isLt)).2.2.2.2.2.2.2.2

theorem outs_start (c : Dev nD) (t : Fin cfg0.N) : outs m c t.val t.isLt = step m c t (start m c t) :=
  outs_eq m c t _ fun _ => rfl

attribute [local irreducible] outs step mid_14 last_14 mid_15 last_15 mid_16 last_16 mid_17 last_17 mid_18 last_18 mid_19 last_19 mid_20 last_20 mid_s0 last_21 last_s0

theorem outs_14 (c : Dev nD) (t : Fin cfg0.N) (y : S2048x256.Idx) : (outs m c t.val t.isLt).1 y = ggB m c t (y 0) (y 1) := by
  by_cases h : cond (grid0.coords t)
  · rw [(outs_start m c t).trans (step_last m c t h (start m c t))]
    exact last_14_apply m c t h (start m c t) y
  · rw [(outs_start m c t).trans (step_mid m c t h (start m c t))]
    exact mid_14_apply m c t h (start m c t) y

theorem outs_15 (c : Dev nD) (t : Fin cfg0.N) (y : S2048x256.Idx) : (outs m c t.val t.isLt).2.1 y = guB m c t (y 0) (y 1) := by
  by_cases h : cond (grid0.coords t)
  · rw [(outs_start m c t).trans (step_last m c t h (start m c t))]
    exact last_15_apply m c t h (start m c t) y
  · rw [(outs_start m c t).trans (step_mid m c t h (start m c t))]
    exact mid_15_apply m c t h (start m c t) y

theorem outs_16 (c : Dev nD) (t : Fin cfg0.N) (y : S64x256.Idx) : (outs m c t.val t.isLt).2.2.1 y = ∑ r : Fin 2048, ib2 m c t (ix2 r (y 0)) * ib4 m c t (ix2 r (y 1)) := by
  by_cases h : cond (grid0.coords t)
  · rw [(outs_start m c t).trans (step_last m c t h (start m c t))]
    exact last_16_apply m c t h (start m c t) y
  · rw [(outs_start m c t).trans (step_mid m c t h (start m c t))]
    exact mid_16_apply m c t h (start m c t) y

theorem outs_17 (c : Dev nD) (t : Fin cfg0.N) (y : S1x256.Idx) : (outs m c t.val t.isLt).2.2.2.1 y = Ideal.div (∑ r : Fin 2048, dgB m c t r (y 1) * ib5 m c t (ix2 r (y 1))) (ib10 m c t y) := by
  by_cases h : cond (grid0.coords t)
  · rw [(outs_start m c t).trans (step_last m c t h (start m c t))]
    exact last_17_apply m c t h (start m c t) y
  · rw [(outs_start m c t).trans (step_mid m c t h (start m c t))]
    exact mid_17_apply m c t h (start m c t) y

theorem outs_18 (c : Dev nD) (t : Fin cfg0.N) (y : S1x256.Idx) : (outs m c t.val t.isLt).2.2.2.2.1 y = Ideal.div (∑ r : Fin 2048, duB m c t r (y 1) * ib6 m c t (ix2 r (y 1))) (ib11 m c t y) := by
  by_cases h : cond (grid0.coords t)
  · rw [(outs_start m c t).trans (step_last m c t h (start m c t))]
    exact last_18_apply m c t h (start m c t) y
  · rw [(outs_start m c t).trans (step_mid m c t h (start m c t))]
    exact mid_18_apply m c t h (start m c t) y

theorem outs_19 (c : Dev nD) (t : Fin cfg0.N) (y : S256x64.Idx) : (outs m c t.val t.isLt).2.2.2.2.2.1 y = (Ideal.ofBits FTy.f32 1052770304#32 : EReal) * ∑ r : Fin 2048, ib7 m c t (ix2 r (lo (y 1))) * ggB m c t r (y 0) := by
  by_cases h : cond (grid0.coords t)
  · rw [(outs_start m c t).trans (step_last m c t h (start m c t))]
    exact last_19_apply m c t h (start m c t) y
  · rw [(outs_start m c t).trans (step_mid m c t h (start m c t))]
    exact mid_19_apply m c t h (start m c t) y

theorem outs_20 (c : Dev nD) (t : Fin cfg0.N) (y : S256x64.Idx) : (outs m c t.val t.isLt).2.2.2.2.2.2.1 y = (Ideal.ofBits FTy.f32 1052770304#32 : EReal) * ∑ r : Fin 2048, ib7 m c t (ix2 r (hi (y 1))) * guB m c t r (y 0) := by
  by_cases h : cond (grid0.coords t)
  · rw [(outs_start m c t).trans (step_last m c t h (start m c t))]
    exact last_20_apply m c t h (start m c t) y
  · rw [(outs_start m c t).trans (step_mid m c t h (start m c t))]
    exact mid_20_apply m c t h (start m c t) y

theorem outs_s0 (c : Dev nD) (t : Fin cfg0.N) (y : S2048x128.Idx) : (outs m c t.val t.isLt).2.2.2.2.2.2.2.2 y = if t.val % 14 = 0 then sB m c t (y 0) (y 1) else start m c t y + sB m c t (y 0) (y 1) := by
  by_cases h : cond (grid0.coords t)
  · rw [(outs_start m c t).trans (step_last m c t h (start m c t))]
    exact last_s0_apply m c t h (start m c t) y
  · rw [(outs_start m c t).trans (step_mid m c t h (start m c t))]
    exact mid_s0_apply m c t h (start m c t) y

/-- The scratch after the last point: every point's part, summed. -/
theorem scratch_end (c : Dev nD) (t : Fin cfg0.N) (ht : t.val + 1 = cfg0.N) (y : S2048x128.Idx) :
    (outs m c t.val t.isLt).2.2.2.2.2.2.2.2 y = ∑ p : Fin cfg0.N, sB m c p (y 0) (y 1) := by
  rw [Pipeline.eq_sum_fin_of_reset_step_apply_last (fun n h => (fun y => ((outs m c n h).2.2.2.2.2.2.2.2 y : EReal))) 14 (fun _ => (0 : EReal)) (fun t y => sB m c t (y 0) (y 1))
    (fun t h j => by rw [outs_s0, if_pos h, zero_add]) (fun t h j => by rw [outs_s0, if_neg h]; rfl)
    (le_of_eq N_0) t ht y, zero_add]

theorem scratch_sum (c : Dev nD) (r : Fin 2048) (q : Fin 128) : ∑ p : Fin cfg0.N, sB m c p r q = low m c r q := by
  unfold low sB
  split
  · rw [Fin.sum_univ_tiles 14 256 rfl]
    refine Finset.sum_congr rfl fun t _ => ?_
    simp only [ggB_eq, ib8_at]
  · rw [Fin.sum_univ_tiles 14 256 rfl]
    refine Finset.sum_congr rfl fun t _ => ?_
    simp only [guB_eq, ib9_at]

/-- The last point's output 21. -/
theorem outs_21 (c : Dev nD) (t : Fin cfg0.N) (ht : t.val + 1 = cfg0.N) (y : S2048x128.Idx) : (outs m c t.val t.isLt).2.2.2.2.2.2.2.1 y = res7 m c y := by
  have h : cond (grid0.coords t) := (hcond t).mpr (by have h14 : cfg0.N = 14 := N_0; omega)
  have e := scratch_end m c t ht y
  have o := (outs_start m c t).trans (step_last m c t h (start m c t))
  have e' : last_s0 m c t h (start m c t) y = _ := (congrFun (congrArg (fun z => z.2.2.2.2.2.2.2.2) o) y).symm.trans e
  exact (congrFun (congrArg (fun z => z.2.2.2.2.2.2.2.1) o) y).trans ((last_21_apply m c t h (start m c t) y).trans
    (congrArg (fun z : EReal => (Ideal.ofBits FTy.f32 1052770304#32 : EReal) * z) (e'.trans (scratch_sum m c (y 0) (y 1)))))

/-! Block values over whole arrays. -/

theorem blk16_eq (c : Dev nD) (t : Fin cfg0.N) (r : Fin 64) (q : Fin 256) : ∑ k : Fin 2048, ib2 m c t (ix2 k r) * ib4 m c t (ix2 k q)
    = ∑ k : Fin 2048, A2 m c (ix2 k r) * A4 m c (ix2 k (col t q)) := by
  simp only [ib2_at, ib4_at]

theorem blk17_eq (c : Dev nD) (t : Fin cfg0.N) (r : Fin 1) (q : Fin 256) : Ideal.div (∑ k : Fin 2048, dgB m c t k q * ib5 m c t (ix2 k q)) (ib10 m c t (ix2 r q))
    = Ideal.div (∑ k : Fin 2048, dgate m c k (col t q) * A5 m c (ix2 k (col t q))) (A10 m c (ix2 r (col t q))) := by
  simp only [dgB_eq, ib5_at, ib10_at]

theorem blk18_eq (c : Dev nD) (t : Fin cfg0.N) (r : Fin 1) (q : Fin 256) : Ideal.div (∑ k : Fin 2048, duB m c t k q * ib6 m c t (ix2 k q)) (ib11 m c t (ix2 r q))
    = Ideal.div (∑ k : Fin 2048, dup m c k (col t q) * A6 m c (ix2 k (col t q))) (A11 m c (ix2 r (col t q))) := by
  simp only [duB_eq, ib6_at, ib11_at]

theorem blk19_eq (c : Dev nD) (t : Fin cfg0.N) (r : Fin 256) (q : Fin 64) : (Ideal.ofBits FTy.f32 1052770304#32 : EReal) * ∑ k : Fin 2048, ib7 m c t (ix2 k (lo q)) * ggB m c t k r
    = (Ideal.ofBits FTy.f32 1052770304#32 : EReal) * ∑ k : Fin 2048, A7 m c (ix2 k (lo q)) * gg m c k (col t r) := by
  simp only [ib7_at, ggB_eq]

theorem blk20_eq (c : Dev nD) (t : Fin cfg0.N) (r : Fin 256) (q : Fin 64) : (Ideal.ofBits FTy.f32 1052770304#32 : EReal) * ∑ k : Fin 2048, ib7 m c t (ix2 k (hi q)) * guB m c t k r
    = (Ideal.ofBits FTy.f32 1052770304#32 : EReal) * ∑ k : Fin 2048, A7 m c (ix2 k (hi q)) * gu m c k (col t r) := by
  simp only [ib7_at, guB_eq]

/-- Result 0 after the run. -/
theorem final14 (c : Dev nD) : (dats m 0 c).arrAt 14 cfg0.N = res0 m c := by
  refine (dats m 0 c).arrAt_eq_of_covers 14 _ (by decide +kernel) fun t hf y => ?_
  blk_simp
  rw [after14]
  refine (outs_14 m c t y).trans ?_
  rw [show (win0_14.blk t).view.emb y = ix2 (y 0) (col t (y 1)) from by blk_ext [e14 t]]
  exact ggB_eq m c t (y 0) (y 1)

/-- Result 1 after the run. -/
theorem final15 (c : Dev nD) : (dats m 0 c).arrAt 15 cfg0.N = res1 m c := by
  refine (dats m 0 c).arrAt_eq_of_covers 15 _ (by decide +kernel) fun t hf y => ?_
  blk_simp
  rw [after15]
  refine (outs_15 m c t y).trans ?_
  rw [show (win0_15.blk t).view.emb y = ix2 (y 0) (col t (y 1)) from by blk_ext [e15 t]]
  exact guB_eq m c t (y 0) (y 1)

/-- Result 2 after the run. -/
theorem final16 (c : Dev nD) : (dats m 0 c).arrAt 16 cfg0.N = res2 m c := by
  refine (dats m 0 c).arrAt_eq_of_covers 16 _ (by decide +kernel) fun t hf y => ?_
  blk_simp
  rw [after16]
  refine (outs_16 m c t y).trans ?_
  rw [show (win0_16.blk t).view.emb y = ix2 (y 0) (col t (y 1)) from by blk_ext [e16 t]]
  exact blk16_eq m c t (y 0) (y 1)

/-- Result 3 after the run. -/
theorem final17 (c : Dev nD) : (dats m 0 c).arrAt 17 cfg0.N = res3 m c := by
  refine (dats m 0 c).arrAt_eq_of_covers 17 _ (by decide +kernel) fun t hf y => ?_
  blk_simp
  rw [after17]
  refine (outs_17 m c t y).trans ?_
  rw [show (win0_17.blk t).view.emb y = ix2 (y 0) (col t (y 1)) from by blk_ext [e17 t]]
  rw [show ib10 m c t y = ib10 m c t (ix2 (y 0) (y 1)) from congrArg _ (ixy y)]
  exact blk17_eq m c t (y 0) (y 1)

/-- Result 4 after the run. -/
theorem final18 (c : Dev nD) : (dats m 0 c).arrAt 18 cfg0.N = res4 m c := by
  refine (dats m 0 c).arrAt_eq_of_covers 18 _ (by decide +kernel) fun t hf y => ?_
  blk_simp
  rw [after18]
  refine (outs_18 m c t y).trans ?_
  rw [show (win0_18.blk t).view.emb y = ix2 (y 0) (col t (y 1)) from by blk_ext [e18 t]]
  rw [show ib11 m c t y = ib11 m c t (ix2 (y 0) (y 1)) from congrArg _ (ixy y)]
  exact blk18_eq m c t (y 0) (y 1)

/-- Result 5 after the run. -/
theorem final19 (c : Dev nD) : (dats m 0 c).arrAt 19 cfg0.N = res5 m c := by
  refine (dats m 0 c).arrAt_eq_of_covers 19 _ (by decide +kernel) fun t hf y => ?_
  blk_simp
  rw [after19]
  refine (outs_19 m c t y).trans ?_
  rw [show (win0_19.blk t).view.emb y = ix2 (col t (y 0)) (y 1) from by blk_ext [e19 t]]
  exact blk19_eq m c t (y 0) (y 1)

/-- Result 6 after the run. -/
theorem final20 (c : Dev nD) : (dats m 0 c).arrAt 20 cfg0.N = res6 m c := by
  refine (dats m 0 c).arrAt_eq_of_covers 20 _ (by decide +kernel) fun t hf y => ?_
  blk_simp
  rw [after20]
  refine (outs_20 m c t y).trans ?_
  rw [show (win0_20.blk t).view.emb y = ix2 (col t (y 0)) (y 1) from by blk_ext [e20 t]]
  exact blk20_eq m c t (y 0) (y 1)

/-- Result 7 after the run: written back once, by the last point. -/
theorem final21 (c : Dev nD) : (dats m 0 c).arrAt 21 cfg0.N = res7 m c := by
  refine (dats m 0 c).arrAt_eq_of_after_last 21 t0_13 (by decide +kernel) _ fun y => ?_
  blk_simp
  rw [after21]
  exact outs_21 m c t0_13 rfl y

end Cert.DownBwdIdeal.Body

end
-- ==== Proof.DownBwd.Claim.lean ====
module

public import proofs.«01_k».proof.Defs
public import proofs.«01_k».proof.Proof.DownBwd.Arrays
public import proofs.«01_k».proof.Proof.Gen.DownBwdRefIdeal.Read
public import Idealize.ShloMosaic.Lib.Pointwise
public import Idealize.ShloMosaic.Lib.Claim
public import Idealize.ShloMosaic.Lib.Quiescent

@[expose] public section

set_option maxRecDepth 16384

noncomputable section

namespace Cert.DownBwdIdeal.Body

open Cert.DownBwdIdeal.Gen
open Idealize.ShloMosaic Idealize.ShloMosaic.TcCoe Idealize.ShloMosaic.Tactic
open Idealize.SL Idealize.SL.Sem

variable (m : (ℓ : Loc nD τ sig) → Buf (Elt Ideal) ℓ)

/-! The reference's results are the same functions of the argument arrays. -/

theorem ref0 (c : Dev nD) : Cert.DownBwdRefIdeal.Read.val_main_v34 (F := Ideal) (V m c main_arg0) (V m c main_arg1) (V m c main_arg2) (V m c main_arg3) (V m c main_arg5) (V m c main_arg6) (V m c main_arg12) (V m c main_arg13) = res0 m c := by
  funext i
  obtain ⟨r, o, rfl⟩ : ∃ r o, i = ix2 r o := ⟨i 0, i 1, ixy i⟩
  pointwise [Cert.DownBwdRefIdeal.Read.val_main_v0, Cert.DownBwdRefIdeal.Read.val_main_v1, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_cst, Cert.DownBwdRefIdeal.Read.val_main_v10, Cert.DownBwdRefIdeal.Read.val_main_v11, Cert.DownBwdRefIdeal.Read.val_main_cst_0, Cert.DownBwdRefIdeal.Read.val_main_v12, Cert.DownBwdRefIdeal.Read.val_main_v13, Cert.DownBwdRefIdeal.Read.val_main_v14, Cert.DownBwdRefIdeal.Read.val_main_v15, Cert.DownBwdRefIdeal.Read.val_main_v16, Cert.DownBwdRefIdeal.Read.val_main_v17, Cert.DownBwdRefIdeal.Read.val_main_cst_1, Cert.DownBwdRefIdeal.Read.val_main_v18, Cert.DownBwdRefIdeal.Read.val_main_v19, Cert.DownBwdRefIdeal.Read.val_main_v20, Cert.DownBwdRefIdeal.Read.val_main_cst_2, Cert.DownBwdRefIdeal.Read.val_main_v21, Cert.DownBwdRefIdeal.Read.val_main_v22, Cert.DownBwdRefIdeal.Read.val_main_v23, Cert.DownBwdRefIdeal.Read.val_main_v24, Cert.DownBwdRefIdeal.Read.val_main_cst_3, Cert.DownBwdRefIdeal.Read.val_main_v25, Cert.DownBwdRefIdeal.Read.val_main_v26, Cert.DownBwdRefIdeal.Read.val_main_v27, Cert.DownBwdRefIdeal.Read.val_main_v28, Cert.DownBwdRefIdeal.Read.val_main_cst_4, Cert.DownBwdRefIdeal.Read.val_main_v29, Cert.DownBwdRefIdeal.Read.val_main_v30, Cert.DownBwdRefIdeal.Read.val_main_v31, Cert.DownBwdRefIdeal.Read.val_main_v32, Cert.DownBwdRefIdeal.Read.val_main_v33, Cert.DownBwdRefIdeal.Read.val_main_v34, Cert.DownBwdRefIdeal.Read.val_main_v35, Cert.DownBwdRefIdeal.Read.val_main_v36, Cert.DownBwdRefIdeal.Read.val_main_v37, Cert.DownBwdRefIdeal.Read.val_main_v38, Cert.DownBwdRefIdeal.Read.val_main_v39, Cert.DownBwdRefIdeal.Read.val_main_cst_5, Cert.DownBwdRefIdeal.Read.val_main_v40, Cert.DownBwdRefIdeal.Read.val_main_v41, Cert.DownBwdRefIdeal.Read.val_main_v42, Cert.DownBwdRefIdeal.Read.val_main_v43, Cert.DownBwdRefIdeal.Read.val_main_cst_6, Cert.DownBwdRefIdeal.Read.val_main_v44, Cert.DownBwdRefIdeal.Read.val_main_v45, Cert.DownBwdRefIdeal.Read.val_main_v46, Cert.DownBwdRefIdeal.Read.val_main_cst_7, Cert.DownBwdRefIdeal.Read.val_main_v47, Cert.DownBwdRefIdeal.Read.val_main_v48, Cert.DownBwdRefIdeal.Read.val_main_v49, Cert.DownBwdRefIdeal.Read.val_main_v50, Cert.DownBwdRefIdeal.Read.val_main_cst_8, Cert.DownBwdRefIdeal.Read.val_main_v51, Cert.DownBwdRefIdeal.Read.val_main_v52, Cert.DownBwdRefIdeal.Read.val_main_v53, Cert.DownBwdRefIdeal.Read.val_main_v54]
  rfl

theorem ref1 (c : Dev nD) : Cert.DownBwdRefIdeal.Read.val_main_v37 (F := Ideal) (V m c main_arg0) (V m c main_arg1) (V m c main_arg2) (V m c main_arg3) (V m c main_arg5) (V m c main_arg12) (V m c main_arg13) = res1 m c := by
  funext i
  obtain ⟨r, o, rfl⟩ : ∃ r o, i = ix2 r o := ⟨i 0, i 1, ixy i⟩
  pointwise [Cert.DownBwdRefIdeal.Read.val_main_v0, Cert.DownBwdRefIdeal.Read.val_main_v1, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_cst, Cert.DownBwdRefIdeal.Read.val_main_v10, Cert.DownBwdRefIdeal.Read.val_main_v11, Cert.DownBwdRefIdeal.Read.val_main_cst_0, Cert.DownBwdRefIdeal.Read.val_main_v12, Cert.DownBwdRefIdeal.Read.val_main_v13, Cert.DownBwdRefIdeal.Read.val_main_v14, Cert.DownBwdRefIdeal.Read.val_main_v15, Cert.DownBwdRefIdeal.Read.val_main_v16, Cert.DownBwdRefIdeal.Read.val_main_v17, Cert.DownBwdRefIdeal.Read.val_main_cst_1, Cert.DownBwdRefIdeal.Read.val_main_v18, Cert.DownBwdRefIdeal.Read.val_main_v19, Cert.DownBwdRefIdeal.Read.val_main_v20, Cert.DownBwdRefIdeal.Read.val_main_cst_2, Cert.DownBwdRefIdeal.Read.val_main_v21, Cert.DownBwdRefIdeal.Read.val_main_v22, Cert.DownBwdRefIdeal.Read.val_main_v23, Cert.DownBwdRefIdeal.Read.val_main_v24, Cert.DownBwdRefIdeal.Read.val_main_cst_3, Cert.DownBwdRefIdeal.Read.val_main_v25, Cert.DownBwdRefIdeal.Read.val_main_v26, Cert.DownBwdRefIdeal.Read.val_main_v27, Cert.DownBwdRefIdeal.Read.val_main_v28, Cert.DownBwdRefIdeal.Read.val_main_cst_4, Cert.DownBwdRefIdeal.Read.val_main_v29, Cert.DownBwdRefIdeal.Read.val_main_v30, Cert.DownBwdRefIdeal.Read.val_main_v31, Cert.DownBwdRefIdeal.Read.val_main_v32, Cert.DownBwdRefIdeal.Read.val_main_v33, Cert.DownBwdRefIdeal.Read.val_main_v34, Cert.DownBwdRefIdeal.Read.val_main_v35, Cert.DownBwdRefIdeal.Read.val_main_v36, Cert.DownBwdRefIdeal.Read.val_main_v37, Cert.DownBwdRefIdeal.Read.val_main_v38, Cert.DownBwdRefIdeal.Read.val_main_v39, Cert.DownBwdRefIdeal.Read.val_main_cst_5, Cert.DownBwdRefIdeal.Read.val_main_v40, Cert.DownBwdRefIdeal.Read.val_main_v41, Cert.DownBwdRefIdeal.Read.val_main_v42, Cert.DownBwdRefIdeal.Read.val_main_v43, Cert.DownBwdRefIdeal.Read.val_main_cst_6, Cert.DownBwdRefIdeal.Read.val_main_v44, Cert.DownBwdRefIdeal.Read.val_main_v45, Cert.DownBwdRefIdeal.Read.val_main_v46, Cert.DownBwdRefIdeal.Read.val_main_cst_7, Cert.DownBwdRefIdeal.Read.val_main_v47, Cert.DownBwdRefIdeal.Read.val_main_v48, Cert.DownBwdRefIdeal.Read.val_main_v49, Cert.DownBwdRefIdeal.Read.val_main_v50, Cert.DownBwdRefIdeal.Read.val_main_cst_8, Cert.DownBwdRefIdeal.Read.val_main_v51, Cert.DownBwdRefIdeal.Read.val_main_v52, Cert.DownBwdRefIdeal.Read.val_main_v53, Cert.DownBwdRefIdeal.Read.val_main_v54]
  rfl

theorem ref2 (c : Dev nD) : Cert.DownBwdRefIdeal.Read.val_main_v3 (F := Ideal) (V m c main_arg2) (V m c main_arg4) = res2 m c := by
  funext i
  obtain ⟨r, o, rfl⟩ : ∃ r o, i = ix2 r o := ⟨i 0, i 1, ixy i⟩
  pointwise [Cert.DownBwdRefIdeal.Read.val_main_v0, Cert.DownBwdRefIdeal.Read.val_main_v1, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_cst, Cert.DownBwdRefIdeal.Read.val_main_v10, Cert.DownBwdRefIdeal.Read.val_main_v11, Cert.DownBwdRefIdeal.Read.val_main_cst_0, Cert.DownBwdRefIdeal.Read.val_main_v12, Cert.DownBwdRefIdeal.Read.val_main_v13, Cert.DownBwdRefIdeal.Read.val_main_v14, Cert.DownBwdRefIdeal.Read.val_main_v15, Cert.DownBwdRefIdeal.Read.val_main_v16, Cert.DownBwdRefIdeal.Read.val_main_v17, Cert.DownBwdRefIdeal.Read.val_main_cst_1, Cert.DownBwdRefIdeal.Read.val_main_v18, Cert.DownBwdRefIdeal.Read.val_main_v19, Cert.DownBwdRefIdeal.Read.val_main_v20, Cert.DownBwdRefIdeal.Read.val_main_cst_2, Cert.DownBwdRefIdeal.Read.val_main_v21, Cert.DownBwdRefIdeal.Read.val_main_v22, Cert.DownBwdRefIdeal.Read.val_main_v23, Cert.DownBwdRefIdeal.Read.val_main_v24, Cert.DownBwdRefIdeal.Read.val_main_cst_3, Cert.DownBwdRefIdeal.Read.val_main_v25, Cert.DownBwdRefIdeal.Read.val_main_v26, Cert.DownBwdRefIdeal.Read.val_main_v27, Cert.DownBwdRefIdeal.Read.val_main_v28, Cert.DownBwdRefIdeal.Read.val_main_cst_4, Cert.DownBwdRefIdeal.Read.val_main_v29, Cert.DownBwdRefIdeal.Read.val_main_v30, Cert.DownBwdRefIdeal.Read.val_main_v31, Cert.DownBwdRefIdeal.Read.val_main_v32, Cert.DownBwdRefIdeal.Read.val_main_v33, Cert.DownBwdRefIdeal.Read.val_main_v34, Cert.DownBwdRefIdeal.Read.val_main_v35, Cert.DownBwdRefIdeal.Read.val_main_v36, Cert.DownBwdRefIdeal.Read.val_main_v37, Cert.DownBwdRefIdeal.Read.val_main_v38, Cert.DownBwdRefIdeal.Read.val_main_v39, Cert.DownBwdRefIdeal.Read.val_main_cst_5, Cert.DownBwdRefIdeal.Read.val_main_v40, Cert.DownBwdRefIdeal.Read.val_main_v41, Cert.DownBwdRefIdeal.Read.val_main_v42, Cert.DownBwdRefIdeal.Read.val_main_v43, Cert.DownBwdRefIdeal.Read.val_main_cst_6, Cert.DownBwdRefIdeal.Read.val_main_v44, Cert.DownBwdRefIdeal.Read.val_main_v45, Cert.DownBwdRefIdeal.Read.val_main_v46, Cert.DownBwdRefIdeal.Read.val_main_cst_7, Cert.DownBwdRefIdeal.Read.val_main_v47, Cert.DownBwdRefIdeal.Read.val_main_v48, Cert.DownBwdRefIdeal.Read.val_main_v49, Cert.DownBwdRefIdeal.Read.val_main_v50, Cert.DownBwdRefIdeal.Read.val_main_cst_8, Cert.DownBwdRefIdeal.Read.val_main_v51, Cert.DownBwdRefIdeal.Read.val_main_v52, Cert.DownBwdRefIdeal.Read.val_main_v53, Cert.DownBwdRefIdeal.Read.val_main_v54]
  rfl

theorem ref3 (c : Dev nD) : Cert.DownBwdRefIdeal.Read.val_main_v27 (F := Ideal) (V m c main_arg0) (V m c main_arg1) (V m c main_arg2) (V m c main_arg3) (V m c main_arg5) (V m c main_arg6) (V m c main_arg10) (V m c main_arg12) (V m c main_arg13) = res3 m c := by
  funext i
  obtain ⟨r, o, rfl⟩ : ∃ r o, i = ix2 r o := ⟨i 0, i 1, ixy i⟩
  pointwise [Cert.DownBwdRefIdeal.Read.val_main_v0, Cert.DownBwdRefIdeal.Read.val_main_v1, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_cst, Cert.DownBwdRefIdeal.Read.val_main_v10, Cert.DownBwdRefIdeal.Read.val_main_v11, Cert.DownBwdRefIdeal.Read.val_main_cst_0, Cert.DownBwdRefIdeal.Read.val_main_v12, Cert.DownBwdRefIdeal.Read.val_main_v13, Cert.DownBwdRefIdeal.Read.val_main_v14, Cert.DownBwdRefIdeal.Read.val_main_v15, Cert.DownBwdRefIdeal.Read.val_main_v16, Cert.DownBwdRefIdeal.Read.val_main_v17, Cert.DownBwdRefIdeal.Read.val_main_cst_1, Cert.DownBwdRefIdeal.Read.val_main_v18, Cert.DownBwdRefIdeal.Read.val_main_v19, Cert.DownBwdRefIdeal.Read.val_main_v20, Cert.DownBwdRefIdeal.Read.val_main_cst_2, Cert.DownBwdRefIdeal.Read.val_main_v21, Cert.DownBwdRefIdeal.Read.val_main_v22, Cert.DownBwdRefIdeal.Read.val_main_v23, Cert.DownBwdRefIdeal.Read.val_main_v24, Cert.DownBwdRefIdeal.Read.val_main_cst_3, Cert.DownBwdRefIdeal.Read.val_main_v25, Cert.DownBwdRefIdeal.Read.val_main_v26, Cert.DownBwdRefIdeal.Read.val_main_v27, Cert.DownBwdRefIdeal.Read.val_main_v28, Cert.DownBwdRefIdeal.Read.val_main_cst_4, Cert.DownBwdRefIdeal.Read.val_main_v29, Cert.DownBwdRefIdeal.Read.val_main_v30, Cert.DownBwdRefIdeal.Read.val_main_v31, Cert.DownBwdRefIdeal.Read.val_main_v32, Cert.DownBwdRefIdeal.Read.val_main_v33, Cert.DownBwdRefIdeal.Read.val_main_v34, Cert.DownBwdRefIdeal.Read.val_main_v35, Cert.DownBwdRefIdeal.Read.val_main_v36, Cert.DownBwdRefIdeal.Read.val_main_v37, Cert.DownBwdRefIdeal.Read.val_main_v38, Cert.DownBwdRefIdeal.Read.val_main_v39, Cert.DownBwdRefIdeal.Read.val_main_cst_5, Cert.DownBwdRefIdeal.Read.val_main_v40, Cert.DownBwdRefIdeal.Read.val_main_v41, Cert.DownBwdRefIdeal.Read.val_main_v42, Cert.DownBwdRefIdeal.Read.val_main_v43, Cert.DownBwdRefIdeal.Read.val_main_cst_6, Cert.DownBwdRefIdeal.Read.val_main_v44, Cert.DownBwdRefIdeal.Read.val_main_v45, Cert.DownBwdRefIdeal.Read.val_main_v46, Cert.DownBwdRefIdeal.Read.val_main_cst_7, Cert.DownBwdRefIdeal.Read.val_main_v47, Cert.DownBwdRefIdeal.Read.val_main_v48, Cert.DownBwdRefIdeal.Read.val_main_v49, Cert.DownBwdRefIdeal.Read.val_main_v50, Cert.DownBwdRefIdeal.Read.val_main_cst_8, Cert.DownBwdRefIdeal.Read.val_main_v51, Cert.DownBwdRefIdeal.Read.val_main_v52, Cert.DownBwdRefIdeal.Read.val_main_v53, Cert.DownBwdRefIdeal.Read.val_main_v54]
  rfl

theorem ref4 (c : Dev nD) : Cert.DownBwdRefIdeal.Read.val_main_v31 (F := Ideal) (V m c main_arg0) (V m c main_arg1) (V m c main_arg2) (V m c main_arg3) (V m c main_arg5) (V m c main_arg6) (V m c main_arg11) (V m c main_arg12) = res4 m c := by
  funext i
  obtain ⟨r, o, rfl⟩ : ∃ r o, i = ix2 r o := ⟨i 0, i 1, ixy i⟩
  pointwise [Cert.DownBwdRefIdeal.Read.val_main_v0, Cert.DownBwdRefIdeal.Read.val_main_v1, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_cst, Cert.DownBwdRefIdeal.Read.val_main_v10, Cert.DownBwdRefIdeal.Read.val_main_v11, Cert.DownBwdRefIdeal.Read.val_main_cst_0, Cert.DownBwdRefIdeal.Read.val_main_v12, Cert.DownBwdRefIdeal.Read.val_main_v13, Cert.DownBwdRefIdeal.Read.val_main_v14, Cert.DownBwdRefIdeal.Read.val_main_v15, Cert.DownBwdRefIdeal.Read.val_main_v16, Cert.DownBwdRefIdeal.Read.val_main_v17, Cert.DownBwdRefIdeal.Read.val_main_cst_1, Cert.DownBwdRefIdeal.Read.val_main_v18, Cert.DownBwdRefIdeal.Read.val_main_v19, Cert.DownBwdRefIdeal.Read.val_main_v20, Cert.DownBwdRefIdeal.Read.val_main_cst_2, Cert.DownBwdRefIdeal.Read.val_main_v21, Cert.DownBwdRefIdeal.Read.val_main_v22, Cert.DownBwdRefIdeal.Read.val_main_v23, Cert.DownBwdRefIdeal.Read.val_main_v24, Cert.DownBwdRefIdeal.Read.val_main_cst_3, Cert.DownBwdRefIdeal.Read.val_main_v25, Cert.DownBwdRefIdeal.Read.val_main_v26, Cert.DownBwdRefIdeal.Read.val_main_v27, Cert.DownBwdRefIdeal.Read.val_main_v28, Cert.DownBwdRefIdeal.Read.val_main_cst_4, Cert.DownBwdRefIdeal.Read.val_main_v29, Cert.DownBwdRefIdeal.Read.val_main_v30, Cert.DownBwdRefIdeal.Read.val_main_v31, Cert.DownBwdRefIdeal.Read.val_main_v32, Cert.DownBwdRefIdeal.Read.val_main_v33, Cert.DownBwdRefIdeal.Read.val_main_v34, Cert.DownBwdRefIdeal.Read.val_main_v35, Cert.DownBwdRefIdeal.Read.val_main_v36, Cert.DownBwdRefIdeal.Read.val_main_v37, Cert.DownBwdRefIdeal.Read.val_main_v38, Cert.DownBwdRefIdeal.Read.val_main_v39, Cert.DownBwdRefIdeal.Read.val_main_cst_5, Cert.DownBwdRefIdeal.Read.val_main_v40, Cert.DownBwdRefIdeal.Read.val_main_v41, Cert.DownBwdRefIdeal.Read.val_main_v42, Cert.DownBwdRefIdeal.Read.val_main_v43, Cert.DownBwdRefIdeal.Read.val_main_cst_6, Cert.DownBwdRefIdeal.Read.val_main_v44, Cert.DownBwdRefIdeal.Read.val_main_v45, Cert.DownBwdRefIdeal.Read.val_main_v46, Cert.DownBwdRefIdeal.Read.val_main_cst_7, Cert.DownBwdRefIdeal.Read.val_main_v47, Cert.DownBwdRefIdeal.Read.val_main_v48, Cert.DownBwdRefIdeal.Read.val_main_v49, Cert.DownBwdRefIdeal.Read.val_main_v50, Cert.DownBwdRefIdeal.Read.val_main_cst_8, Cert.DownBwdRefIdeal.Read.val_main_v51, Cert.DownBwdRefIdeal.Read.val_main_v52, Cert.DownBwdRefIdeal.Read.val_main_v53, Cert.DownBwdRefIdeal.Read.val_main_v54]
  rfl

theorem ref5 (c : Dev nD) : Cert.DownBwdRefIdeal.Read.val_main_v41 (F := Ideal) (V m c main_arg0) (V m c main_arg1) (V m c main_arg2) (V m c main_arg3) (V m c main_arg5) (V m c main_arg6) (V m c main_arg7) (V m c main_arg12) (V m c main_arg13) = res5 m c := by
  funext i
  obtain ⟨r, o, rfl⟩ : ∃ r o, i = ix2 r o := ⟨i 0, i 1, ixy i⟩
  pointwise [Cert.DownBwdRefIdeal.Read.val_main_v0, Cert.DownBwdRefIdeal.Read.val_main_v1, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_cst, Cert.DownBwdRefIdeal.Read.val_main_v10, Cert.DownBwdRefIdeal.Read.val_main_v11, Cert.DownBwdRefIdeal.Read.val_main_cst_0, Cert.DownBwdRefIdeal.Read.val_main_v12, Cert.DownBwdRefIdeal.Read.val_main_v13, Cert.DownBwdRefIdeal.Read.val_main_v14, Cert.DownBwdRefIdeal.Read.val_main_v15, Cert.DownBwdRefIdeal.Read.val_main_v16, Cert.DownBwdRefIdeal.Read.val_main_v17, Cert.DownBwdRefIdeal.Read.val_main_cst_1, Cert.DownBwdRefIdeal.Read.val_main_v18, Cert.DownBwdRefIdeal.Read.val_main_v19, Cert.DownBwdRefIdeal.Read.val_main_v20, Cert.DownBwdRefIdeal.Read.val_main_cst_2, Cert.DownBwdRefIdeal.Read.val_main_v21, Cert.DownBwdRefIdeal.Read.val_main_v22, Cert.DownBwdRefIdeal.Read.val_main_v23, Cert.DownBwdRefIdeal.Read.val_main_v24, Cert.DownBwdRefIdeal.Read.val_main_cst_3, Cert.DownBwdRefIdeal.Read.val_main_v25, Cert.DownBwdRefIdeal.Read.val_main_v26, Cert.DownBwdRefIdeal.Read.val_main_v27, Cert.DownBwdRefIdeal.Read.val_main_v28, Cert.DownBwdRefIdeal.Read.val_main_cst_4, Cert.DownBwdRefIdeal.Read.val_main_v29, Cert.DownBwdRefIdeal.Read.val_main_v30, Cert.DownBwdRefIdeal.Read.val_main_v31, Cert.DownBwdRefIdeal.Read.val_main_v32, Cert.DownBwdRefIdeal.Read.val_main_v33, Cert.DownBwdRefIdeal.Read.val_main_v34, Cert.DownBwdRefIdeal.Read.val_main_v35, Cert.DownBwdRefIdeal.Read.val_main_v36, Cert.DownBwdRefIdeal.Read.val_main_v37, Cert.DownBwdRefIdeal.Read.val_main_v38, Cert.DownBwdRefIdeal.Read.val_main_v39, Cert.DownBwdRefIdeal.Read.val_main_cst_5, Cert.DownBwdRefIdeal.Read.val_main_v40, Cert.DownBwdRefIdeal.Read.val_main_v41, Cert.DownBwdRefIdeal.Read.val_main_v42, Cert.DownBwdRefIdeal.Read.val_main_v43, Cert.DownBwdRefIdeal.Read.val_main_cst_6, Cert.DownBwdRefIdeal.Read.val_main_v44, Cert.DownBwdRefIdeal.Read.val_main_v45, Cert.DownBwdRefIdeal.Read.val_main_v46, Cert.DownBwdRefIdeal.Read.val_main_cst_7, Cert.DownBwdRefIdeal.Read.val_main_v47, Cert.DownBwdRefIdeal.Read.val_main_v48, Cert.DownBwdRefIdeal.Read.val_main_v49, Cert.DownBwdRefIdeal.Read.val_main_v50, Cert.DownBwdRefIdeal.Read.val_main_cst_8, Cert.DownBwdRefIdeal.Read.val_main_v51, Cert.DownBwdRefIdeal.Read.val_main_v52, Cert.DownBwdRefIdeal.Read.val_main_v53, Cert.DownBwdRefIdeal.Read.val_main_v54]
  exact congrArg _ (Finset.sum_congr rfl fun k _ => mul_comm _ _)

theorem ref6 (c : Dev nD) : Cert.DownBwdRefIdeal.Read.val_main_v45 (F := Ideal) (V m c main_arg0) (V m c main_arg1) (V m c main_arg2) (V m c main_arg3) (V m c main_arg5) (V m c main_arg7) (V m c main_arg12) (V m c main_arg13) = res6 m c := by
  funext i
  obtain ⟨r, o, rfl⟩ : ∃ r o, i = ix2 r o := ⟨i 0, i 1, ixy i⟩
  pointwise [Cert.DownBwdRefIdeal.Read.val_main_v0, Cert.DownBwdRefIdeal.Read.val_main_v1, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_cst, Cert.DownBwdRefIdeal.Read.val_main_v10, Cert.DownBwdRefIdeal.Read.val_main_v11, Cert.DownBwdRefIdeal.Read.val_main_cst_0, Cert.DownBwdRefIdeal.Read.val_main_v12, Cert.DownBwdRefIdeal.Read.val_main_v13, Cert.DownBwdRefIdeal.Read.val_main_v14, Cert.DownBwdRefIdeal.Read.val_main_v15, Cert.DownBwdRefIdeal.Read.val_main_v16, Cert.DownBwdRefIdeal.Read.val_main_v17, Cert.DownBwdRefIdeal.Read.val_main_cst_1, Cert.DownBwdRefIdeal.Read.val_main_v18, Cert.DownBwdRefIdeal.Read.val_main_v19, Cert.DownBwdRefIdeal.Read.val_main_v20, Cert.DownBwdRefIdeal.Read.val_main_cst_2, Cert.DownBwdRefIdeal.Read.val_main_v21, Cert.DownBwdRefIdeal.Read.val_main_v22, Cert.DownBwdRefIdeal.Read.val_main_v23, Cert.DownBwdRefIdeal.Read.val_main_v24, Cert.DownBwdRefIdeal.Read.val_main_cst_3, Cert.DownBwdRefIdeal.Read.val_main_v25, Cert.DownBwdRefIdeal.Read.val_main_v26, Cert.DownBwdRefIdeal.Read.val_main_v27, Cert.DownBwdRefIdeal.Read.val_main_v28, Cert.DownBwdRefIdeal.Read.val_main_cst_4, Cert.DownBwdRefIdeal.Read.val_main_v29, Cert.DownBwdRefIdeal.Read.val_main_v30, Cert.DownBwdRefIdeal.Read.val_main_v31, Cert.DownBwdRefIdeal.Read.val_main_v32, Cert.DownBwdRefIdeal.Read.val_main_v33, Cert.DownBwdRefIdeal.Read.val_main_v34, Cert.DownBwdRefIdeal.Read.val_main_v35, Cert.DownBwdRefIdeal.Read.val_main_v36, Cert.DownBwdRefIdeal.Read.val_main_v37, Cert.DownBwdRefIdeal.Read.val_main_v38, Cert.DownBwdRefIdeal.Read.val_main_v39, Cert.DownBwdRefIdeal.Read.val_main_cst_5, Cert.DownBwdRefIdeal.Read.val_main_v40, Cert.DownBwdRefIdeal.Read.val_main_v41, Cert.DownBwdRefIdeal.Read.val_main_v42, Cert.DownBwdRefIdeal.Read.val_main_v43, Cert.DownBwdRefIdeal.Read.val_main_cst_6, Cert.DownBwdRefIdeal.Read.val_main_v44, Cert.DownBwdRefIdeal.Read.val_main_v45, Cert.DownBwdRefIdeal.Read.val_main_v46, Cert.DownBwdRefIdeal.Read.val_main_cst_7, Cert.DownBwdRefIdeal.Read.val_main_v47, Cert.DownBwdRefIdeal.Read.val_main_v48, Cert.DownBwdRefIdeal.Read.val_main_v49, Cert.DownBwdRefIdeal.Read.val_main_v50, Cert.DownBwdRefIdeal.Read.val_main_cst_8, Cert.DownBwdRefIdeal.Read.val_main_v51, Cert.DownBwdRefIdeal.Read.val_main_v52, Cert.DownBwdRefIdeal.Read.val_main_v53, Cert.DownBwdRefIdeal.Read.val_main_v54]
  exact congrArg _ (Finset.sum_congr rfl fun k _ => mul_comm _ _)

theorem ref7 (c : Dev nD) : Cert.DownBwdRefIdeal.Read.val_main_v54 (F := Ideal) (V m c main_arg0) (V m c main_arg1) (V m c main_arg2) (V m c main_arg3) (V m c main_arg5) (V m c main_arg6) (V m c main_arg8) (V m c main_arg9) (V m c main_arg12) (V m c main_arg13) = res7 m c := by
  funext i
  obtain ⟨r, o, rfl⟩ : ∃ r o, i = ix2 r o := ⟨i 0, i 1, ixy i⟩
  pointwise [Cert.DownBwdRefIdeal.Read.val_main_v0, Cert.DownBwdRefIdeal.Read.val_main_v1, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_cst, Cert.DownBwdRefIdeal.Read.val_main_v10, Cert.DownBwdRefIdeal.Read.val_main_v11, Cert.DownBwdRefIdeal.Read.val_main_cst_0, Cert.DownBwdRefIdeal.Read.val_main_v12, Cert.DownBwdRefIdeal.Read.val_main_v13, Cert.DownBwdRefIdeal.Read.val_main_v14, Cert.DownBwdRefIdeal.Read.val_main_v15, Cert.DownBwdRefIdeal.Read.val_main_v16, Cert.DownBwdRefIdeal.Read.val_main_v17, Cert.DownBwdRefIdeal.Read.val_main_cst_1, Cert.DownBwdRefIdeal.Read.val_main_v18, Cert.DownBwdRefIdeal.Read.val_main_v19, Cert.DownBwdRefIdeal.Read.val_main_v20, Cert.DownBwdRefIdeal.Read.val_main_cst_2, Cert.DownBwdRefIdeal.Read.val_main_v21, Cert.DownBwdRefIdeal.Read.val_main_v22, Cert.DownBwdRefIdeal.Read.val_main_v23, Cert.DownBwdRefIdeal.Read.val_main_v24, Cert.DownBwdRefIdeal.Read.val_main_cst_3, Cert.DownBwdRefIdeal.Read.val_main_v25, Cert.DownBwdRefIdeal.Read.val_main_v26, Cert.DownBwdRefIdeal.Read.val_main_v27, Cert.DownBwdRefIdeal.Read.val_main_v28, Cert.DownBwdRefIdeal.Read.val_main_cst_4, Cert.DownBwdRefIdeal.Read.val_main_v29, Cert.DownBwdRefIdeal.Read.val_main_v30, Cert.DownBwdRefIdeal.Read.val_main_v31, Cert.DownBwdRefIdeal.Read.val_main_v32, Cert.DownBwdRefIdeal.Read.val_main_v33, Cert.DownBwdRefIdeal.Read.val_main_v34, Cert.DownBwdRefIdeal.Read.val_main_v35, Cert.DownBwdRefIdeal.Read.val_main_v36, Cert.DownBwdRefIdeal.Read.val_main_v37, Cert.DownBwdRefIdeal.Read.val_main_v38, Cert.DownBwdRefIdeal.Read.val_main_v39, Cert.DownBwdRefIdeal.Read.val_main_cst_5, Cert.DownBwdRefIdeal.Read.val_main_v40, Cert.DownBwdRefIdeal.Read.val_main_v41, Cert.DownBwdRefIdeal.Read.val_main_v42, Cert.DownBwdRefIdeal.Read.val_main_v43, Cert.DownBwdRefIdeal.Read.val_main_cst_6, Cert.DownBwdRefIdeal.Read.val_main_v44, Cert.DownBwdRefIdeal.Read.val_main_v45, Cert.DownBwdRefIdeal.Read.val_main_v46, Cert.DownBwdRefIdeal.Read.val_main_cst_7, Cert.DownBwdRefIdeal.Read.val_main_v47, Cert.DownBwdRefIdeal.Read.val_main_v48, Cert.DownBwdRefIdeal.Read.val_main_v49, Cert.DownBwdRefIdeal.Read.val_main_v50, Cert.DownBwdRefIdeal.Read.val_main_cst_8, Cert.DownBwdRefIdeal.Read.val_main_v51, Cert.DownBwdRefIdeal.Read.val_main_v52, Cert.DownBwdRefIdeal.Read.val_main_v53, Cert.DownBwdRefIdeal.Read.val_main_v54]
  rw [show res7 m c (ix2 r o) = (Ideal.ofBits FTy.f32 1052770304#32 : EReal) * low m c r o from rfl]
  unfold low
  by_cases h : o.val < 64
  · rw [dif_pos h, dif_pos h]; rfl
  · rw [dif_neg h, dif_neg h]; rfl

/-- The reference's frame: a straight line of host operations on its arguments, with no semaphore. -/
theorem frameRef : Cert.quiescent_DownBwdRefIdeal (hDownBwdRefIdeal := Cert.DownBwdRefIdeal.Gen.facts) := fun m ρ _ =>
  (θ_run Cert.DownBwdRefIdeal.defs _ _).mono (fun r h => ⟨fun c => (h c).2.2.2.2.2.2.2.2, sem_eq_zero_of_no_sems (by decide) r.2⟩)
    (Cert.DownBwdRefIdeal.Value.run (F := Ideal) m ρ)

set_option maxHeartbeats 2000000 in
/-- The algebraic claim: over the extended reals the kernel and the reference end with equal results. -/
theorem algebraic : Cert.algebraic_DownBwdIdeal_DownBwdRefIdeal (hDownBwdIdeal := Cert.DownBwdIdeal.Gen.facts)
    (hDownBwdRefIdeal := Cert.DownBwdRefIdeal.Gen.facts) := by
  intro m g m' g' _ hargs
  refine ⟨res0 m, res1 m, res2 m, res3 m, res4 m, res5 m, res6 m, res7 m, ?_, ?_⟩
  · refine (θ_run (defs (F := Ideal)) _ _).mono (fun r h c => ?_) (θ_run_and (run m g) (frame m g))
    exact ⟨(h.1.out_eq c 14).trans (final14 m c), (h.1.out_eq c 15).trans (final15 m c), (h.1.out_eq c 16).trans (final16 m c), (h.1.out_eq c 17).trans (final17 m c), (h.1.out_eq c 18).trans (final18 m c), (h.1.out_eq c 19).trans (final19 m c), (h.1.out_eq c 20).trans (final20 m c), (h.1.out_eq c 21).trans (final21 m c), h.2.1 c⟩
  · refine (θ_run (Cert.DownBwdRefIdeal.defs (F := Ideal)) _ _).mono (fun r h c => ?_) (Cert.DownBwdRefIdeal.Value.run (F := Ideal) m' g')
    obtain ⟨h0, h1, h2, h3, h4, h5, h6, h7, ha⟩ := h c
    obtain ⟨a0, a1, a2, a3, a4, a5, a6, a7, a8, a9, a10, a11, a12, a13⟩ := hargs c
    rw [a0, a1, a2, a3, a5, a6, a12, a13] at h0
    rw [a0, a1, a2, a3, a5, a12, a13] at h1
    rw [a2, a4] at h2
    rw [a0, a1, a2, a3, a5, a6, a10, a12, a13] at h3
    rw [a0, a1, a2, a3, a5, a6, a11, a12] at h4
    rw [a0, a1, a2, a3, a5, a6, a7, a12, a13] at h5
    rw [a0, a1, a2, a3, a5, a7, a12, a13] at h6
    rw [a0, a1, a2, a3, a5, a6, a8, a9, a12, a13] at h7
    exact ⟨h0.trans (ref0 m c), h1.trans (ref1 m c), h2.trans (ref2 m c), h3.trans (ref3 m c), h4.trans (ref4 m c), h5.trans (ref5 m c), h6.trans (ref6 m c), h7.trans (ref7 m c), ha⟩

end Cert.DownBwdIdeal.Body

end
-- ==== Proof.GateUpBwd.Kit.lean ====
module

public import proofs.«01_k».proof.Proof.Gen.GateUpBwdIdeal.Frame
public import proofs.«01_k».proof.Proof.Gen.GateUpBwdIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUpBwdIdeal.Body

open Cert.GateUpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, as the grid coordinates give it. -/
abbrev cond (i : grid0.Coords) : Prop := Scalar.cmpi .ne (Scalar.extui (Scalar.cmpi .eq (BitVec.ofNat 32 (i 0).val) 31#32) : BitVec 32) 0#32 = 1#1

/-- The branch is taken at the last point only. -/
theorem hcond : ∀ t : Fin cfg0.N, cond (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond, e0]
    word_cmp
   : ∀ t : Fin grid0.N, cond (grid0.coords t) ↔ t.val % 32 = 31)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl

/-- Output window 12 is written back after the last point only. -/
theorem noFlush12 : ∀ t : Fin cfg0.N, t.val ≠ 31 → (cfg0.win 12).flush t = false := by decide +kernel

/-! The staging memrefs of a point, the buffers through which what an output holds is stated, the scratch. -/

abbrev VO10 : View sig .tc .vmem S2048x256 .f32 := (Memref.whole cc0_stg10_0 : Memref sig .tc .vmem S2048x256 .f32).view
abbrev VO11 : View sig .tc .vmem S128x256 .f32 := (Memref.whole cc0_stg11_0 : Memref sig .tc .vmem S128x256 .f32).view
abbrev VO12 : View sig .tc .vmem S2048x128 .f32 := (Memref.whole cc0_stg12_0 : Memref sig .tc .vmem S2048x128 .f32).view
abbrev ms0 (t : Fin cfg0.N) : Memref sig .tc .vmem S2048x3584 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x3584 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S3584x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S3584x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2048x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S2048x128 .f32 := win0_12.stage (cfg0.slots t 12)
abbrev hs12 (t : Fin cfg0.N) : (ms12 t).IsWhole := hstage0_12 ((cfg0.slots t 12).cast nbuf0_12)

end Cert.GateUpBwdIdeal.Body

end
-- ==== Proof.GateUpBwd.Mid.lean ====
module

public import proofs.«01_k».proof.Proof.GateUpBwd.Kit

@[expose] public section

set_option maxRecDepth 16384

noncomputable section

namespace Cert.GateUpBwdIdeal.Body

open Cert.GateUpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x3584 .bf16) (harg1 : arg1.IsWhole) (arg2 : Memref sig .tc .vmem S2048x3584 .bf16) (harg2 : arg2.IsWhole) (arg3 : Memref sig .tc .vmem S3584x256 .bf16) (harg3 : arg3.IsWhole) (arg4 : Memref sig .tc .vmem S3584x256 .bf16) (harg4 : arg4.IsWhole) (arg5 : Memref sig .tc .vmem S2048x128 .bf16) (harg5 : arg5.IsWhole) (arg6 : Memref sig .tc .vmem S128x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x128 .f32) (harg9 : arg9.IsWhole) (arg10 : Memref sig .tc .vmem S1x256 .f32) (harg10 : arg10.IsWhole) (arg11 : Memref sig .tc .vmem S2048x256 .f32) (harg11 : arg11.IsWhole) (arg12 : Memref sig .tc .vmem S128x256 .f32) (harg12 : arg12.IsWhole) (arg13 : Memref sig .tc .vmem S2048x128 .f32) (harg13 : arg13.IsWhole)

set_option maxHeartbeats 4000000 in
/-- The body before the last point, on whole staging memrefs: the inputs at their contents, the carried scratch at any contents, an
    output at any contents. It runs to its continuation with the inputs as they were, every buffer it stores into holding
    the pieces listed (the witnesses the run finds, last store first), and an output it does not touch handed back. -/
def runMid (hc : ¬cond i) (x0 : Vec F S2048x3584 .bf16) (x1 : Vec F S2048x3584 .bf16) (x2 : Vec F S3584x256 .bf16) (x3 : Vec F S3584x256 .bf16) (x4 : Vec F S2048x128 .bf16) (x5 : Vec F S128x256 .bf16) (x6 : Vec F S2048x256 .bf16) (x7 : Vec F S2048x256 .bf16) (x8 : Vec F S2048x128 .f32) (x9 : Vec F S1x256 .f32) (xi12 : Vec F S2048x128 .f32) :
    Σ' (L10 : List (View.Piece (Elt F) S2048x256 .f32)), Σ' (L11 : List (View.Piece (Elt F) S128x256 .f32)), { L12 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xi12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0_gate_up_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_gate_up_bwd_eq_skeleton]; unfold cc0_gate_up_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf12
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; iexact H11
    iexists _; iexact H12

end Cert.GateUpBwdIdeal.Body

end
-- ==== Proof.GateUpBwd.Last.lean ====
module

public import proofs.«01_k».proof.Proof.GateUpBwd.Mid

@[expose] public section

set_option maxRecDepth 16384

noncomputable section

namespace Cert.GateUpBwdIdeal.Body

open Cert.GateUpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x3584 .bf16) (harg1 : arg1.IsWhole) (arg2 : Memref sig .tc .vmem S2048x3584 .bf16) (harg2 : arg2.IsWhole) (arg3 : Memref sig .tc .vmem S3584x256 .bf16) (harg3 : arg3.IsWhole) (arg4 : Memref sig .tc .vmem S3584x256 .bf16) (harg4 : arg4.IsWhole) (arg5 : Memref sig .tc .vmem S2048x128 .bf16) (harg5 : arg5.IsWhole) (arg6 : Memref sig .tc .vmem S128x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x128 .f32) (harg9 : arg9.IsWhole) (arg10 : Memref sig .tc .vmem S1x256 .f32) (harg10 : arg10.IsWhole) (arg11 : Memref sig .tc .vmem S2048x256 .f32) (harg11 : arg11.IsWhole) (arg12 : Memref sig .tc .vmem S128x256 .f32) (harg12 : arg12.IsWhole) (arg13 : Memref sig .tc .vmem S2048x128 .f32) (harg13 : arg13.IsWhole)

set_option maxHeartbeats 4000000 in
/-- The body at the last point, on whole staging memrefs: the inputs at their contents, the carried scratch at any contents, an
    output at any contents. It runs to its continuation with the inputs as they were, every buffer it stores into holding
    the pieces listed (the witnesses the run finds, last store first), and an output it does not touch handed back. -/
def runLast (hc : cond i) (x0 : Vec F S2048x3584 .bf16) (x1 : Vec F S2048x3584 .bf16) (x2 : Vec F S3584x256 .bf16) (x3 : Vec F S3584x256 .bf16) (x4 : Vec F S2048x128 .bf16) (x5 : Vec F S128x256 .bf16) (x6 : Vec F S2048x256 .bf16) (x7 : Vec F S2048x256 .bf16) (x8 : Vec F S2048x128 .f32) (x9 : Vec F S1x256 .f32) (xi12 : Vec F S2048x128 .f32) :
    Σ' (L10 : List (View.Piece (Elt F) S2048x256 .f32)), Σ' (L11 : List (View.Piece (Elt F) S128x256 .f32)), { L12 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xi12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0_gate_up_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_gate_up_bwd_eq_skeleton]; unfold cc0_gate_up_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf12
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; iexact H11
    iexists _; iexact H12

end Cert.GateUpBwdIdeal.Body

end
-- ==== Proof.GateUpBwd.Track.lean ====
module

public import proofs.«01_k».proof.Proof.GateUpBwd.Last
public import Idealize.ShloMosaic.Lib.Claim

@[expose] public section

set_option maxRecDepth 16384

noncomputable section

namespace Cert.GateUpBwdIdeal.Body

open Cert.GateUpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The ordinary run at point `t`'s own staging memrefs and input blocks, output 12 starting at the contents given. -/
abbrev midAt (c : Dev nD) (t : Fin cfg0.N) (h : ¬cond (grid0.coords t)) (xs : Vec F S2048x128 .f32) :=
  runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) h (iblk m c 0 t) (iblk m c 1 t) (iblk m c 2 t) (iblk m c 3 t) (iblk m c 4 t) (iblk m c 5 t) (iblk m c 6 t) (iblk m c 7 t) (iblk m c 8 t) (iblk m c 9 t) xs

theorem mid_cover_10 (c : Dev nD) (t : Fin cfg0.N) (h : ¬cond (grid0.coords t)) (xs : Vec F S2048x128 .f32) :
    ∀ y : S2048x256.Idx, ∃ p ∈ (midAt m c t h xs).1, y ∈ p.1.set := fun y =>
  View.cover_of_tiledL (midAt m c t h xs).1 S512x256.size (by sl_kernel_rfl) y
def mid_10 (c : Dev nD) (t : Fin cfg0.N) (h : ¬cond (grid0.coords t)) (xs : Vec F S2048x128 .f32) : Vec F S2048x256 .f32 :=
  VO10.read (Elt F) (VO10.writes (Elt F) VO10.junk (midAt m c t h xs).1)
theorem mid_cover_11 (c : Dev nD) (t : Fin cfg0.N) (h : ¬cond (grid0.coords t)) (xs : Vec F S2048x128 .f32) :
    ∀ y : S128x256.Idx, ∃ p ∈ (midAt m c t h xs).2.1, y ∈ p.1.set := fun y =>
  View.cover_of_wholeMem (midAt m c t h xs).2.1 (by sl_whole_mem) y
def mid_11 (c : Dev nD) (t : Fin cfg0.N) (h : ¬cond (grid0.coords t)) (xs : Vec F S2048x128 .f32) : Vec F S128x256 .f32 :=
  VO11.read (Elt F) (VO11.writes (Elt F) VO11.junk (midAt m c t h xs).2.1)
theorem mid_cover_12 (c : Dev nD) (t : Fin cfg0.N) (h : ¬cond (grid0.coords t)) (xs : Vec F S2048x128 .f32) :
    ∀ y : S2048x128.Idx, ∃ p ∈ (midAt m c t h xs).2.2.1, y ∈ p.1.set := fun y =>
  View.cover_of_tiledL (midAt m c t h xs).2.2.1 S512x128.size (by sl_kernel_rfl) y
def mid_12 (c : Dev nD) (t : Fin cfg0.N) (h : ¬cond (grid0.coords t)) (xs : Vec F S2048x128 .f32) : Vec F S2048x128 .f32 :=
  VO12.read (Elt F) (VO12.writes (Elt F) VO12.junk (midAt m c t h xs).2.2.1)
/-- The last run at point `t`'s own staging memrefs and input blocks, output 12 starting at the contents given. -/
abbrev lastAt (c : Dev nD) (t : Fin cfg0.N) (h : cond (grid0.coords t)) (xs : Vec F S2048x128 .f32) :=
  runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) h (iblk m c 0 t) (iblk m c 1 t) (iblk m c 2 t) (iblk m c 3 t) (iblk m c 4 t) (iblk m c 5 t) (iblk m c 6 t) (iblk m c 7 t) (iblk m c 8 t) (iblk m c 9 t) xs

theorem last_cover_10 (c : Dev nD) (t : Fin cfg0.N) (h : cond (grid0.coords t)) (xs : Vec F S2048x128 .f32) :
    ∀ y : S2048x256.Idx, ∃ p ∈ (lastAt m c t h xs).1, y ∈ p.1.set := fun y =>
  View.cover_of_tiledL (lastAt m c t h xs).1 S512x256.size (by sl_kernel_rfl) y
def last_10 (c : Dev nD) (t : Fin cfg0.N) (h : cond (grid0.coords t)) (xs : Vec F S2048x128 .f32) : Vec F S2048x256 .f32 :=
  VO10.read (Elt F) (VO10.writes (Elt F) VO10.junk (lastAt m c t h xs).1)
theorem last_cover_11 (c : Dev nD) (t : Fin cfg0.N) (h : cond (grid0.coords t)) (xs : Vec F S2048x128 .f32) :
    ∀ y : S128x256.Idx, ∃ p ∈ (lastAt m c t h xs).2.1, y ∈ p.1.set := fun y =>
  View.cover_of_wholeMem (lastAt m c t h xs).2.1 (by sl_whole_mem) y
def last_11 (c : Dev nD) (t : Fin cfg0.N) (h : cond (grid0.coords t)) (xs : Vec F S2048x128 .f32) : Vec F S128x256 .f32 :=
  VO11.read (Elt F) (VO11.writes (Elt F) VO11.junk (lastAt m c t h xs).2.1)
theorem last_cover_12 (c : Dev nD) (t : Fin cfg0.N) (h : cond (grid0.coords t)) (xs : Vec F S2048x128 .f32) :
    ∀ y : S2048x128.Idx, ∃ p ∈ (lastAt m c t h xs).2.2.1, y ∈ p.1.set := fun y =>
  View.cover_of_wholeMem (lastAt m c t h xs).2.2.1 (by sl_whole_mem) y
def last_12 (c : Dev nD) (t : Fin cfg0.N) (h : cond (grid0.coords t)) (xs : Vec F S2048x128 .f32) : Vec F S2048x128 .f32 :=
  VO12.read (Elt F) (VO12.writes (Elt F) VO12.junk (lastAt m c t h xs).2.2.1)

/-- What one point leaves in the three output blocks, from what output 12's holds when it starts. -/
def step (c : Dev nD) (t : Fin cfg0.N) (xs : Vec F S2048x128 .f32) : Vec F S2048x256 .f32 × Vec F S128x256 .f32 × Vec F S2048x128 .f32 :=
  if h : cond (grid0.coords t) then (last_10 m c t h xs, last_11 m c t h xs, last_12 m c t h xs)
  else (mid_10 m c t h xs, mid_11 m c t h xs, mid_12 m c t h xs)

theorem step_last (c : Dev nD) (t : Fin cfg0.N) (h : cond (grid0.coords t)) (xs : Vec F S2048x128 .f32) :
    step m c t xs = (last_10 m c t h xs, last_11 m c t h xs, last_12 m c t h xs) := dif_pos h
theorem step_mid (c : Dev nD) (t : Fin cfg0.N) (h : ¬cond (grid0.coords t)) (xs : Vec F S2048x128 .f32) :
    step m c t xs = (mid_10 m c t h xs, mid_11 m c t h xs, mid_12 m c t h xs) := dif_neg h

/-! At the first point output 12 is stored without being looked at. -/

theorem pay4_first (i : grid0.Coords) (h : BitVec.ofNat 32 (i 0).val = 0#32) (v0 : Vec F S512x3584 .bf16) (v1 : Vec F S3584x256 .bf16) (v3 : Vec F S512x3584 .bf16) (v4 : Vec F S3584x256 .bf16) (v7 : Vec F S512x128 .bf16) (v8 : Vec F S128x256 .bf16) (v11 : Vec F S1x256 .f32) (v15 : Vec F S512x256 .bf16) (v17 : Vec F S512x1 .f32) (x y : Vec F S512x128 .f32) :
    k0_pay4 i v0 v1 v3 v4 v7 v8 v11 v15 v17 x = k0_pay4 i v0 v1 v3 v4 v7 v8 v11 v15 v17 y := by
  unfold k0_pay4
  dsimp only
  rw [h]
  rfl
theorem pay6_first (v30 : Vec F S512x3584 .bf16) (v31 : Vec F S3584x256 .bf16) (v33 : Vec F S512x3584 .bf16) (v34 : Vec F S3584x256 .bf16) (v37 : Vec F S512x128 .bf16) (v38 : Vec F S128x256 .bf16) (v41 : Vec F S1x256 .f32) (v45 : Vec F S512x256 .bf16) (v47 : Vec F S512x1 .f32) (x y : Vec F S512x128 .f32) :
    k0_pay6 0#32 v30 v31 v33 v34 v37 v38 v41 v45 v47 x = k0_pay6 0#32 v30 v31 v33 v34 v37 v38 v41 v45 v47 y := rfl
theorem pay8_first (v60 : Vec F S512x3584 .bf16) (v61 : Vec F S3584x256 .bf16) (v63 : Vec F S512x3584 .bf16) (v64 : Vec F S3584x256 .bf16) (v67 : Vec F S512x128 .bf16) (v68 : Vec F S128x256 .bf16) (v71 : Vec F S1x256 .f32) (v75 : Vec F S512x256 .bf16) (v77 : Vec F S512x1 .f32) (x y : Vec F S512x128 .f32) :
    k0_pay8 0#32 v60 v61 v63 v64 v67 v68 v71 v75 v77 x = k0_pay8 0#32 v60 v61 v63 v64 v67 v68 v71 v75 v77 y := rfl
theorem pay10_first (v90 : Vec F S512x3584 .bf16) (v91 : Vec F S3584x256 .bf16) (v93 : Vec F S512x3584 .bf16) (v94 : Vec F S3584x256 .bf16) (v97 : Vec F S512x128 .bf16) (v98 : Vec F S128x256 .bf16) (v101 : Vec F S1x256 .f32) (v105 : Vec F S512x256 .bf16) (v107 : Vec F S512x1 .f32) (x y : Vec F S512x128 .f32) :
    k0_pay10 0#32 v90 v91 v93 v94 v97 v98 v101 v105 v107 x = k0_pay10 0#32 v90 v91 v93 v94 v97 v98 v101 v105 v107 y := rfl

theorem mid_12_first (c : Dev nD) (t : Fin cfg0.N) (h : ¬cond (grid0.coords t)) (h0 : t.val = 0) (xs ys : Vec F S2048x128 .f32) :
    mid_12 m c t h xs = mid_12 m c t h ys := by
  have e0 : (grid0.coords t 0).val = 0 := by
    rw [show (grid0.coords t 0).val = t.val / 1 % 32 from Pipeline.Grid.coords_val t 0 (by decide) rfl, h0]
  have ew : BitVec.ofNat 32 (grid0.coords t 0).val = 0#32 := by rw [e0]
  unfold mid_12
  refine congrArg (fun L => VO12.read (Elt F) (VO12.writes (Elt F) VO12.junk L)) ?_
  unfold midAt runMid
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  · unfold runMid.sl.r_3; dsimp only; rw [ew]; exact pay10_first _ _ _ _ _ _ _ _ _ _ _
  · unfold runMid.sl.r_2; dsimp only; rw [ew]; exact pay8_first _ _ _ _ _ _ _ _ _ _ _
  · unfold runMid.sl.r_1; dsimp only; rw [ew]; exact pay6_first _ _ _ _ _ _ _ _ _ _ _
  · unfold runMid.sl.r; exact pay4_first _ ew _ _ _ _ _ _ _ _ _ _ _

theorem step_first (c : Dev nD) (t : Fin cfg0.N) (h0 : t.val = 0) (xs ys : Vec F S2048x128 .f32) :
    step m c t xs = step m c t ys := by
  have h : ¬cond (grid0.coords t) := fun h => by have := (hcond t).mp h; omega
  rw [step_mid m c t h, step_mid m c t h, mid_12_first m c t h h0 xs ys]
  rfl

/-- What every point leaves, point by point: the first point starts from contents nobody reads. -/
def outs (c : Dev nD) : (n : ℕ) → n < cfg0.N → Vec F S2048x256 .f32 × Vec F S128x256 .f32 × Vec F S2048x128 .f32
  | 0, h => step m c ⟨0, h⟩ (VO12.read (Elt F) VO12.junk)
  | n + 1, h => step m c ⟨n + 1, h⟩ (outs c n (Nat.lt_of_succ_lt h)).2.2

/-- A point's step from what output 12's buffer holds there, whichever point it is. -/
theorem outs_eq (c : Dev nD) (t : Fin cfg0.N) (xs : Vec F S2048x128 .f32) (hx : ∀ h : t.val ≠ 0, xs = (outs m c (t.val - 1) (Nat.lt_of_le_of_lt (Nat.sub_le _ _) t.isLt)).2.2) :
    outs m c t.val t.isLt = step m c t xs := by
  obtain ⟨n, hn⟩ := t
  cases n with
  | zero => exact step_first m c _ rfl _ _
  | succ n => obtain rfl := hx (Nat.succ_ne_zero n); rfl

/-- The region's proof data: the arrays as the region finds them; after point `t` an input's staging buffer holds its block
    and an output's what `outs` says; nothing else is carried and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t.val t.isLt).1
    | ⟨11, _⟩ => (outs m c t.val t.isLt).2.1
    | ⟨12, _⟩ => (outs m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = (outs m c t.val t.isLt).1 := by dsimp only [dats]
theorem after11 (c : Dev nD) (t : Fin cfg0.N) : (dats m 0 c).after 11 t = (outs m c t.val t.isLt).2.1 := by dsimp only [dats]
theorem after12 (c : Dev nD) (t : Fin cfg0.N) : (dats m 0 c).after 12 t = (outs m c t.val t.isLt).2.2 := by dsimp only [dats]
/-- Output 12's buffer holds, at a later point, what the point before left in it. -/
theorem before12 (c : Dev nD) (t : Fin cfg0.N) (d) (h : t.val ≠ 0) :
    (dats m 0 c).before 12 t d = (outs m c (t.val - 1) (Nat.lt_of_le_of_lt (Nat.sub_le _ _) t.isLt)).2.2 :=
  ((dats m 0 c).before_out_kept 12 rfl t h (noFlush12 _ (by have h32 : t.val < 32 := Nat.lt_of_lt_of_eq t.isLt N_0; dsimp only; omega)) (fun _ => rfl) (fun _ _ => rfl) d).trans (after12 m c _)
theorem leaves0 (c : Dev nD) (t : Fin cfg0.N) : (dats m 0 c).leavesExact 0 t
    = owns (c : Thread nD τ) (ms0 t) fullShare ((dats m 0 c).after 0 t) := by
  unfold Dat.leavesExact; rw [live0 t]
theorem leaves1 (c : Dev nD) (t : Fin cfg0.N) : (dats m 0 c).leavesExact 1 t
    = owns (c : Thread nD τ) (ms1 t) fullShare ((dats m 0 c).after 1 t) := by
  unfold Dat.leavesExact; rw [live1 t]
theorem leaves2 (c : Dev nD) (t : Fin cfg0.N) : (dats m 0 c).leavesExact 2 t
    = owns (c : Thread nD τ) (ms2 t) fullShare ((dats m 0 c).after 2 t) := by
  unfold Dat.leavesExact; rw [live2 t]
theorem leaves3 (c : Dev nD) (t : Fin cfg0.N) : (dats m 0 c).leavesExact 3 t
    = owns (c : Thread nD τ) (ms3 t) fullShare ((dats m 0 c).after 3 t) := by
  unfold Dat.leavesExact; rw [live3 t]
theorem leaves4 (c : Dev nD) (t : Fin cfg0.N) : (dats m 0 c).leavesExact 4 t
    = owns (c : Thread nD τ) (ms4 t) fullShare ((dats m 0 c).after 4 t) := by
  unfold Dat.leavesExact; rw [live4 t]
theorem leaves5 (c : Dev nD) (t : Fin cfg0.N) : (dats m 0 c).leavesExact 5 t
    = owns (c : Thread nD τ) (ms5 t) fullShare ((dats m 0 c).after 5 t) := by
  unfold Dat.leavesExact; rw [live5 t]
theorem leaves6 (c : Dev nD) (t : Fin cfg0.N) : (dats m 0 c).leavesExact 6 t
    = owns (c : Thread nD τ) (ms6 t) fullShare ((dats m 0 c).after 6 t) := by
  unfold Dat.leavesExact; rw [live6 t]
theorem leaves7 (c : Dev nD) (t : Fin cfg0.N) : (dats m 0 c).leavesExact 7 t
    = owns (c : Thread nD τ) (ms7 t) fullShare ((dats m 0 c).after 7 t) := by
  unfold Dat.leavesExact; rw [live7 t]
theorem leaves8 (c : Dev nD) (t : Fin cfg0.N) : (dats m 0 c).leavesExact 8 t
    = owns (c : Thread nD τ) (ms8 t) fullShare ((dats m 0 c).after 8 t) := by
  unfold Dat.leavesExact; rw [live8 t]
theorem leaves9 (c : Dev nD) (t : Fin cfg0.N) : (dats m 0 c).leavesExact 9 t
    = owns (c : Thread nD τ) (ms9 t) fullShare ((dats m 0 c).after 9 t) := by
  unfold Dat.leavesExact; rw [live9 t]
theorem leaves10 (c : Dev nD) (t : Fin cfg0.N) : (dats m 0 c).leavesExact 10 t
    = owns (c : Thread nD τ) (ms10 t) fullShare ((dats m 0 c).after 10 t) := by
  unfold Dat.leavesExact; rw [live10 t]
theorem leaves11 (c : Dev nD) (t : Fin cfg0.N) : (dats m 0 c).leavesExact 11 t
    = owns (c : Thread nD τ) (ms11 t) fullShare ((dats m 0 c).after 11 t) := by
  unfold Dat.leavesExact; rw [live11 t]
theorem leaves12 (c : Dev nD) (t : Fin cfg0.N) : (dats m 0 c).leavesExact 12 t
    = owns (c : Thread nD τ) (ms12 t) fullShare ((dats m 0 c).after 12 t) := by
  unfold Dat.leavesExact; rw [live12 t]

/-- What the body at point `t` is given, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 14400000 in
/-- The body at any point: the inputs' memrefs hold their blocks, output 12's what the point before left (anything at the first
    point); the run of the case the point is in applies, and what it leaves is what `outs` says by `outs_eq`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = (dats m 0 c).Φ t.castSucc from rfl]
  rw [leaves0, leaves1, leaves2, leaves3, leaves4, leaves5, leaves6, leaves7, leaves8, leaves9, leaves10, leaves11, leaves12]
  simp only [after0, after1, after2, after3, after4, after5, after6, after7, after8, after9, after10, after11, after12]
  by_cases h : cond (grid0.coords t)
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have e := (outs_eq m c t _ (before12 m c t d12)).trans (step_last m c t h _)
    simp only [e]
    iapply (lastAt m c t h ((dats m 0 c).before 12 t d12)).2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    iintro ⟨H0, H1, H2, H3, H4, H5, H6, H7, H8, H9, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (last_cover_10 m c t h _)
    isplitl [H11]
    · unfold owns; iexists _; isplitr
      swap; · iexact H11
      ipureintro; exact View.read_writes_of_cover _ _ _ _ _ (last_cover_11 m c t h _)
    unfold owns; iexists _; isplitr
    swap; · iexact H12
    ipureintro; exact View.read_writes_of_cover _ _ _ _ _ (last_cover_12 m c t h _)
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have e := (outs_eq m c t _ (before12 m c t d12)).trans (step_mid m c t h _)
    simp only [e]
    iapply (midAt m c t h ((dats m 0 c).before 12 t d12)).2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    iintro ⟨H0, H1, H2, H3, H4, H5, H6, H7, H8, H9, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (mid_cover_10 m c t h _)
    isplitl [H11]
    · unfold owns; iexists _; isplitr
      swap; · iexact H11
      ipureintro; exact View.read_writes_of_cover _ _ _ _ _ (mid_cover_11 m c t h _)
    unfold owns; iexists _; isplitr
    swap; · iexact H12
    ipureintro; exact View.read_writes_of_cover _ _ _ _ _ (mid_cover_12 m c t h _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

variable (ρ : Dev nD → PrngReg)

-- the launch theorem's implicit arguments are found by unifying its conclusion with this one
set_option backward.isDefEq.respectTransparency.types false in
/-- The launch: every execution of @main terminates with every array as the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run : θ_run defs (onTc (τ := τ) (main (F := F))) (s₀ m ρ) (Pipeline.FramePost cfgs (dats m) 0 (V m)) :=
  (θ_run defs _ _).mono (fun _ h => h.1) (run_quiescent m ρ)

/-- The frame: every execution terminates, the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run m ρ)) ((θ_run defs _ _).mono (fun _ h => h.2) (run_quiescent m ρ))

end Cert.GateUpBwdIdeal.Body

end
-- ==== Proof.GateUpBwd.FrameBits.lean ====
module

public import proofs.«01_k».proof.Defs
public import proofs.«01_k».proof.Proof.Gen.GateUpBwd
public import proofs.«01_k».proof.Proof.Gen.GateUpBwdIdeal
public import proofs.«01_k».proof.Proof.GateUpBwd.Track
public import Idealize.ShloMosaic.Adequacy
public import Idealize.ShloMosaic.Init
public import Idealize.ShloMosaic.Lib.Tactic

@[expose] public section

noncomputable section

/-! The frame of the program at its machine words. The printed program and the one the algebraic claim is about are the same text, and its frame is proved at every float instance: at the words it is the claim. -/

namespace Cert.GateUpBwdBits

open Idealize Idealize.ShloMosaic Idealize.SL.Sem

attribute [local instance] Cert.GateUpBwd.Gen.facts Cert.GateUpBwdIdeal.Gen.facts

/-- The frame, at any float instance. -/
def FrameI (F : FTy → Type) [FloatOps F] : Prop :=
  ∀ (m : (ℓ : Loc Cert.GateUpBwdIdeal.nD Cert.GateUpBwdIdeal.τ Cert.GateUpBwdIdeal.sig) → Buf (Elt F) ℓ) (g : Dev Cert.GateUpBwdIdeal.nD → PrngReg), True →
    θ_run (Cert.GateUpBwdIdeal.defs (F := F)) (onTc (τ := Cert.GateUpBwdIdeal.τ) (Cert.GateUpBwdIdeal.main (F := F))) ⟨m, fun _ => 0, g⟩ (fun r => (∀ c : Dev Cert.GateUpBwdIdeal.nD,
      r.2.mem ((c.tc : Thread Cert.GateUpBwdIdeal.nD Cert.GateUpBwdIdeal.τ).loc Cert.GateUpBwdIdeal.main_arg0) = m ((c.tc : Thread Cert.GateUpBwdIdeal.nD Cert.GateUpBwdIdeal.τ).loc Cert.GateUpBwdIdeal.main_arg0)
      ∧ r.2.mem ((c.tc : Thread Cert.GateUpBwdIdeal.nD Cert.GateUpBwdIdeal.τ).loc Cert.GateUpBwdIdeal.main_arg1) = m ((c.tc : Thread Cert.GateUpBwdIdeal.nD Cert.GateUpBwdIdeal.τ).loc Cert.GateUpBwdIdeal.main_arg1)
      ∧ r.2.mem ((c.tc : Thread Cert.GateUpBwdIdeal.nD Cert.GateUpBwdIdeal.τ).loc Cert.GateUpBwdIdeal.main_arg2) = m ((c.tc : Thread Cert.GateUpBwdIdeal.nD Cert.GateUpBwdIdeal.τ).loc Cert.GateUpBwdIdeal.main_arg2)
      ∧ r.2.mem ((c.tc : Thread Cert.GateUpBwdIdeal.nD Cert.GateUpBwdIdeal.τ).loc Cert.GateUpBwdIdeal.main_arg3) = m ((c.tc : Thread Cert.GateUpBwdIdeal.nD Cert.GateUpBwdIdeal.τ).loc Cert.GateUpBwdIdeal.main_arg3)
      ∧ r.2.mem ((c.tc : Thread Cert.GateUpBwdIdeal.nD Cert.GateUpBwdIdeal.τ).loc Cert.GateUpBwdIdeal.main_arg4) = m ((c.tc : Thread Cert.GateUpBwdIdeal.nD Cert.GateUpBwdIdeal.τ).loc Cert.GateUpBwdIdeal.main_arg4)
      ∧ r.2.mem ((c.tc : Thread Cert.GateUpBwdIdeal.nD Cert.GateUpBwdIdeal.τ).loc Cert.GateUpBwdIdeal.main_arg5) = m ((c.tc : Thread Cert.GateUpBwdIdeal.nD Cert.GateUpBwdIdeal.τ).loc Cert.GateUpBwdIdeal.main_arg5)
      ∧ r.2.mem ((c.tc : Thread Cert.GateUpBwdIdeal.nD Cert.GateUpBwdIdeal.τ).loc Cert.GateUpBwdIdeal.main_arg6) = m ((c.tc : Thread Cert.GateUpBwdIdeal.nD Cert.GateUpBwdIdeal.τ).loc Cert.GateUpBwdIdeal.main_arg6)
      ∧ r.2.mem ((c.tc : Thread Cert.GateUpBwdIdeal.nD Cert.GateUpBwdIdeal.τ).loc Cert.GateUpBwdIdeal.main_arg7) = m ((c.tc : Thread Cert.GateUpBwdIdeal.nD Cert.GateUpBwdIdeal.τ).loc Cert.GateUpBwdIdeal.main_arg7)
      ∧ r.2.mem ((c.tc : Thread Cert.GateUpBwdIdeal.nD Cert.GateUpBwdIdeal.τ).loc Cert.GateUpBwdIdeal.main_arg8) = m ((c.tc : Thread Cert.GateUpBwdIdeal.nD Cert.GateUpBwdIdeal.τ).loc Cert.GateUpBwdIdeal.main_arg8)
      ∧ r.2.mem ((c.tc : Thread Cert.GateUpBwdIdeal.nD Cert.GateUpBwdIdeal.τ).loc Cert.GateUpBwdIdeal.main_arg9) = m ((c.tc : Thread Cert.GateUpBwdIdeal.nD Cert.GateUpBwdIdeal.τ).loc Cert.GateUpBwdIdeal.main_arg9))
      ∧ r.2.sem = fun _ => 0)

theorem frameI (F : FTy → Type) [FloatOps F] : FrameI F := fun m ρ _ => Cert.GateUpBwdIdeal.Body.frame m ρ

theorem eq_frame : Cert.quiescent_GateUpBwd = FrameI Bits := by sl_kernel_rfl

/-- Every execution terminates with the arguments unchanged and every counter at zero, at the machine's words. -/
theorem frame : Cert.quiescent_GateUpBwd := eq_frame ▸ frameI Bits

end Cert.GateUpBwdBits

end
-- ==== Proof.GateUpBwd.Block.lean ====
module

public import proofs.«01_k».proof.Proof.GateUpBwd.Track
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.GateUpBwdIdeal.Body

open Cert.GateUpBwdIdeal.Gen
open Idealize.ShloMosaic Idealize.ShloMosaic.TcCoe Idealize.ShloMosaic.Tactic
open Idealize.SL Idealize.SL.Sem

variable (m : (ℓ : Loc nD τ sig) → Buf (Elt Ideal) ℓ)

/-! What one point of the grid leaves in its output blocks, element by element, over the extended reals. -/

/-- Input block 0 at point `t`, as extended reals. -/
abbrev ib0 (c : Dev nD) (t : Fin cfg0.N) : S2048x3584.Idx → EReal := iblk m c 0 t
/-- Input block 1 at point `t`, as extended reals. -/
abbrev ib1 (c : Dev nD) (t : Fin cfg0.N) : S2048x3584.Idx → EReal := iblk m c 1 t
/-- Input block 2 at point `t`, as extended reals. -/
abbrev ib2 (c : Dev nD) (t : Fin cfg0.N) : S3584x256.Idx → EReal := iblk m c 2 t
/-- Input block 3 at point `t`, as extended reals. -/
abbrev ib3 (c : Dev nD) (t : Fin cfg0.N) : S3584x256.Idx → EReal := iblk m c 3 t
/-- Input block 4 at point `t`, as extended reals. -/
abbrev ib4 (c : Dev nD) (t : Fin cfg0.N) : S2048x128.Idx → EReal := iblk m c 4 t
/-- Input block 5 at point `t`, as extended reals. -/
abbrev ib5 (c : Dev nD) (t : Fin cfg0.N) : S128x256.Idx → EReal := iblk m c 5 t
/-- Input block 6 at point `t`, as extended reals. -/
abbrev ib6 (c : Dev nD) (t : Fin cfg0.N) : S2048x256.Idx → EReal := iblk m c 6 t
/-- Input block 7 at point `t`, as extended reals. -/
abbrev ib7 (c : Dev nD) (t : Fin cfg0.N) : S2048x256.Idx → EReal := iblk m c 7 t
/-- Input block 8 at point `t`, as extended reals. -/
abbrev ib8 (c : Dev nD) (t : Fin cfg0.N) : S2048x128.Idx → EReal := iblk m c 8 t
/-- Input block 9 at point `t`, as extended reals. -/
abbrev ib9 (c : Dev nD) (t : Fin cfg0.N) : S1x256.Idx → EReal := iblk m c 9 t

/-- Lane `q` of the first and of the second chunk of 128 lanes. -/
abbrev ch0 (q : Fin 128) : Fin 256 := ⟨q.val, by omega⟩
abbrev ch1 (q : Fin 128) : Fin 256 := ⟨128 + q.val, by omega⟩

/-- Entry `(r, o)` of the gradient of the normalised rows at point `t`: through the two weights and both adapters. -/
def dB (c : Dev nD) (t : Fin cfg0.N) (r : Fin 2048) (o : Fin 256) : EReal :=
  (∑ k : Fin 3584, ib0 m c t (ix2 r k) * ib2 m c t (ix2 k o) + ∑ k : Fin 3584, ib1 m c t (ix2 r k) * ib3 m c t (ix2 k o)
    + ∑ q : Fin 128, ib4 m c t (ix2 r q) * ib5 m c t (ix2 q o)) * ib9 m c t (ix2 0 o)

/-- Its product with the normalised entry. -/
def pB (c : Dev nD) (t : Fin cfg0.N) (r : Fin 2048) (o : Fin 256) : EReal :=
  dB m c t r o * (ib7 m c t (ix2 r o) * ib8 m c t (ix2 r 0))

/-- Entry `(r, q)` of what point `t` adds to output 12: the two chunks of lanes summed. -/
def partB (c : Dev nD) (t : Fin cfg0.N) (r : Fin 2048) (q : Fin 128) : EReal := pB m c t r (ch0 q) + pB m c t r (ch1 q)

/-- Output 12 as the tiles of a point leave it. -/
def accB (c : Dev nD) (t : Fin cfg0.N) (xs : S2048x128.Idx → EReal) (y : S2048x128.Idx) : EReal :=
  if t.val % 32 = 0 then partB m c t (y 0) (y 1) else xs y + partB m c t (y 0) (y 1)

/-- A choice on "this is point 0", the point's number a 32-bit word. -/
theorem select_first {S : Type} (n : ℕ) (hn : n < 32) (a b : S) :
    Scalar.select (Scalar.cmpi CmpIPredicate.eq (BitVec.ofNat 32 n) 0#32) a b = if n % 32 = 0 then a else b := by
  interval_cases n <;> rfl

theorem coord_val (t : Fin cfg0.N) : (grid0.coords t 0).val = t.val := by
  have h : t.val < 32 := t.isLt
  rw [show (grid0.coords t 0).val = t.val / 1 % 32 from Pipeline.Grid.coords_val t 0 (by decide) rfl]; omega

theorem ixy {a b : ℕ} (y : (⟨2, ![a, b]⟩ : Shape).Idx) : y = ix2 (y 0) (y 1) := by
  funext i; refine Fin.cases rfl (fun j => ?_) i; refine Fin.cases rfl (fun k => k.elim0) j

set_option maxHeartbeats 4000000 in
/-- Output 10 (the gradient of the normalised rows) at a point before the last. -/
theorem mid_10_apply (c : Dev nD) (t : Fin cfg0.N) (h : ¬cond (grid0.coords t)) (xs : Vec Ideal S2048x128 .f32) (y : S2048x256.Idx) :
    mid_10 m c t h xs y = dB m c t (y 0) (y 1) := by
  unfold mid_10 midAt
  frame_open
  rw [View.read_writes_junk_eq_canon]
  obtain ⟨⟨r, hr⟩, o, rfl⟩ : ∃ r o, y = ix2 r o := ⟨y 0, y 1, ixy y⟩
  canon_tiles x hx using (mid_cover_10 m c t h xs _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10]
  all_goals (have e0 : r = _ := hx0; have e1 : o = x 1 := Fin.ext hx1; subst e0 e1)
  all_goals rfl

/-- Output 11 (the gradient of the low-rank input weights) at a point before the last. -/
theorem mid_11_apply (c : Dev nD) (t : Fin cfg0.N) (h : ¬cond (grid0.coords t)) (xs : Vec Ideal S2048x128 .f32) (y : S128x256.Idx) :
    mid_11 m c t h xs y = ∑ r : Fin 2048, ib4 m c t (ix2 r (y 0)) * ib6 m c t (ix2 r (y 1)) := by
  unfold mid_11 midAt
  frame_out
  pointwise [k0_pay1, k0_pay2, k0_pay3, k0_pay4, k0_pay5, k0_pay6, k0_pay7, k0_pay8, k0_pay9, k0_pay10]

set_option maxHeartbeats 4000000 in
/-- Output 12 (the row sums, by lane) at a point before the last. -/
theorem mid_12_apply (c : Dev nD) (t : Fin cfg0.N) (h : ¬cond (grid0.coords t)) (xs : Vec Ideal S2048x128 .f32) (y : S2048x128.Idx) :
    mid_12 m c t h xs y = accB m c t xs y := by
  unfold mid_12 midAt
  frame_open
  rw [View.read_writes_junk_eq_canon]
  obtain ⟨⟨r, hr⟩, o, rfl⟩ : ∃ r o, y = ix2 r o := ⟨y 0, y 1, ixy y⟩
  canon_tiles x hx using (mid_cover_12 m c t h xs _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10]
  all_goals try simp only [read_unread_whole]
  all_goals rw [coord_val, select_first _ t.isLt]
  all_goals (have e0 : r = _ := hx0; have e1 : o = x 1 := Fin.ext hx1; subst e0 e1)
  all_goals rfl

set_option maxHeartbeats 4000000 in
/-- Output 10 (the gradient of the normalised rows) at the last point. -/
theorem last_10_apply (c : Dev nD) (t : Fin cfg0.N) (h : cond (grid0.coords t)) (xs : Vec Ideal S2048x128 .f32) (y : S2048x256.Idx) :
    last_10 m c t h xs y = dB m c t (y 0) (y 1) := by
  unfold last_10 lastAt
  frame_open
  rw [View.read_writes_junk_eq_canon]
  obtain ⟨⟨r, hr⟩, o, rfl⟩ : ∃ r o, y = ix2 r o := ⟨y 0, y 1, ixy y⟩
  canon_tiles x hx using (last_cover_10 m c t h xs _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10]
  all_goals (have e0 : r = _ := hx0; have e1 : o = x 1 := Fin.ext hx1; subst e0 e1)
  all_goals rfl

/-- Output 11 (the gradient of the low-rank input weights) at the last point. -/
theorem last_11_apply (c : Dev nD) (t : Fin cfg0.N) (h : cond (grid0.coords t)) (xs : Vec Ideal S2048x128 .f32) (y : S128x256.Idx) :
    last_11 m c t h xs y = ∑ r : Fin 2048, ib4 m c t (ix2 r (y 0)) * ib6 m c t (ix2 r (y 1)) := by
  unfold last_11 lastAt
  frame_out
  pointwise [k0_pay1, k0_pay2, k0_pay3, k0_pay4, k0_pay5, k0_pay6, k0_pay7, k0_pay8, k0_pay9, k0_pay10]

/-- The stores of the last point into output 12, the tiles only. -/
abbrev lastTiles (c : Dev nD) (t : Fin cfg0.N) (h : cond (grid0.coords t)) (xs : Vec Ideal S2048x128 .f32) :=
  (lastAt m c t h xs).2.2.1.tail

theorem tiles_cover (c : Dev nD) (t : Fin cfg0.N) (h : cond (grid0.coords t)) (xs : Vec Ideal S2048x128 .f32) :
    ∀ y : S2048x128.Idx, ∃ p ∈ lastTiles m c t h xs, y ∈ p.1.set := fun y =>
  View.cover_of_tiledL (lastTiles m c t h xs) S512x128.size (by sl_kernel_rfl) y

/-- What the last point's tiles leave in output 12, before the row sums are taken. -/
def lastAcc (c : Dev nD) (t : Fin cfg0.N) (h : cond (grid0.coords t)) (xs : Vec Ideal S2048x128 .f32) : Vec Ideal S2048x128 .f32 :=
  VO12.read (Elt Ideal) (VO12.writes (Elt Ideal) VO12.junk (lastTiles m c t h xs))

set_option maxHeartbeats 4000000 in
theorem lastAcc_apply (c : Dev nD) (t : Fin cfg0.N) (h : cond (grid0.coords t)) (xs : Vec Ideal S2048x128 .f32) (y : S2048x128.Idx) :
    lastAcc m c t h xs y = accB m c t xs y := by
  unfold lastAcc lastTiles lastAt
  frame_open
  dsimp only [List.tail]
  rw [View.read_writes_junk_eq_canon]
  obtain ⟨⟨r, hr⟩, o, rfl⟩ : ∃ r o, y = ix2 r o := ⟨y 0, y 1, ixy y⟩
  canon_tiles x hx using (tiles_cover m c t h xs _)
  all_goals simp only [View.readAt_eq_ld, Memref.IsWhole.read_unread, View.readCov_cons_toLoadRect]
  all_goals pointwise [k0_pay1, k0_pay2, k0_pay3, k0_pay4, k0_pay5, k0_pay6, k0_pay7, k0_pay8, k0_pay9, k0_pay10]
  all_goals try simp only [read_unread_whole]
  all_goals rw [coord_val, select_first _ t.isLt]
  all_goals (have e0 : r = _ := hx0; have e1 : o = x 1 := Fin.ext hx1; subst e0 e1)
  all_goals rfl

/-- Output 12 at the last point: the mean over the lanes of what the tiles left, on every lane. -/
theorem last_12_apply (c : Dev nD) (t : Fin cfg0.N) (h : cond (grid0.coords t)) (xs : Vec Ideal S2048x128 .f32) (y : S2048x128.Idx) :
    last_12 m c t h xs y = Ideal.div (∑ q : Fin 128, accB m c t xs (ix2 (y 0) q)) (Ideal.ofBits FTy.f32 1174405120#32 : EReal) := by
  simp only [← lastAcc_apply m c t h]
  unfold lastAcc lastTiles last_12 lastAt
  frame_out
  dsimp only [List.tail]
  simp only [View.readCov_eq_canon']
  pointwise [k0_pay2]

end Cert.GateUpBwdIdeal.Body

end
-- ==== Proof.GateUpBwd.Arrays.lean ====
module

public import proofs.«01_k».proof.Proof.GateUpBwd.Block
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.GateUpBwdIdeal.Body

open Cert.GateUpBwdIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-! The result arrays after the run, as functions of the argument arrays. -/

/-- Argument 0, as extended reals. -/
abbrev A0 (c : Dev nD) : S2048x3584.Idx → EReal := V m c main_arg0
/-- Argument 1, as extended reals. -/
abbrev A1 (c : Dev nD) : S2048x3584.Idx → EReal := V m c main_arg1
/-- Argument 2, as extended reals. -/
abbrev A2 (c : Dev nD) : S3584x8192.Idx → EReal := V m c main_arg2
/-- Argument 3, as extended reals. -/
abbrev A3 (c : Dev nD) : S3584x8192.Idx → EReal := V m c main_arg3
/-- Argument 4, as extended reals. -/
abbrev A4 (c : Dev nD) : S2048x128.Idx → EReal := V m c main_arg4
/-- Argument 5, as extended reals. -/
abbrev A5 (c : Dev nD) : S128x8192.Idx → EReal := V m c main_arg5
/-- Argument 6, as extended reals. -/
abbrev A6 (c : Dev nD) : S2048x8192.Idx → EReal := V m c main_arg6
/-- Argument 7, as extended reals. -/
abbrev A7 (c : Dev nD) : S2048x8192.Idx → EReal := V m c main_arg7
/-- Argument 8, as extended reals. -/
abbrev A8 (c : Dev nD) : S2048x128.Idx → EReal := V m c main_arg8
/-- Argument 9, as extended reals. -/
abbrev A9 (c : Dev nD) : S1x8192.Idx → EReal := V m c main_arg9

/-- Column `o` of point `t`'s block, in the whole array. -/
abbrev col (t : Fin cfg0.N) (o : Fin 256) : Fin 8192 := ⟨t.val * 256 + o.val, by have h : t.val < 32 := t.isLt; omega⟩

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, t.val] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, t.val] := (by decide +kernel : ∀ t : Fin grid0.N, _)
theorem e10 : ∀ t : Fin cfg0.N, win0_10.index t = ![0, t.val] := (by decide +kernel : ∀ t : Fin grid0.N, _)
theorem e11 : ∀ t : Fin cfg0.N, win0_11.index t = ![0, t.val] := (by decide +kernel : ∀ t : Fin grid0.N, _)
theorem e12 : ∀ t : Fin cfg0.N, win0_12.index t = ![0, 0] := (by decide +kernel : ∀ t : Fin grid0.N, _)

/-! An input block at an index is its array at the index the block places. -/

theorem ib0_at (c : Dev nD) (t : Fin cfg0.N) (r : Fin 2048) (q : Fin 3584) : ib0 m c t (ix2 r q) = A0 m c (ix2 (r) (q)) := by
  blk_simp [ib0, iblk]
  exact congrArg (V m c main_arg0) (by blk_ext [e0 t])
theorem ib1_at (c : Dev nD) (t : Fin cfg0.N) (r : Fin 2048) (q : Fin 3584) : ib1 m c t (ix2 r q) = A1 m c (ix2 (r) (q)) := by
  blk_simp [ib1, iblk]
  exact congrArg (V m c main_arg1) (by blk_ext [e1 t])
theorem ib2_at (c : Dev nD) (t : Fin cfg0.N) (r : Fin 3584) (q : Fin 256) : ib2 m c t (ix2 r q) = A2 m c (ix2 (r) (col t q)) := by
  blk_simp [ib2, iblk]
  exact congrArg (V m c main_arg2) (by blk_ext [e2 t])
theorem ib3_at (c : Dev nD) (t : Fin cfg0.N) (r : Fin 3584) (q : Fin 256) : ib3 m c t (ix2 r q) = A3 m c (ix2 (r) (col t q)) := by
  blk_simp [ib3, iblk]
  exact congrArg (V m c main_arg3) (by blk_ext [e3 t])
theorem ib4_at (c : Dev nD) (t : Fin cfg0.N) (r : Fin 2048) (q : Fin 128) : ib4 m c t (ix2 r q) = A4 m c (ix2 (r) (q)) := by
  blk_simp [ib4, iblk]
  exact congrArg (V m c main_arg4) (by blk_ext [e4 t])
theorem ib5_at (c : Dev nD) (t : Fin cfg0.N) (r : Fin 128) (q : Fin 256) : ib5 m c t (ix2 r q) = A5 m c (ix2 (r) (col t q)) := by
  blk_simp [ib5, iblk]
  exact congrArg (V m c main_arg5) (by blk_ext [e5 t])
theorem ib6_at (c : Dev nD) (t : Fin cfg0.N) (r : Fin 2048) (q : Fin 256) : ib6 m c t (ix2 r q) = A6 m c (ix2 (r) (col t q)) := by
  blk_simp [ib6, iblk]
  exact congrArg (V m c main_arg6) (by blk_ext [e6 t])
theorem ib7_at (c : Dev nD) (t : Fin cfg0.N) (r : Fin 2048) (q : Fin 256) : ib7 m c t (ix2 r q) = A7 m c (ix2 (r) (col t q)) := by
  blk_simp [ib7, iblk]
  exact congrArg (V m c main_arg7) (by blk_ext [e7 t])
theorem ib8_at (c : Dev nD) (t : Fin cfg0.N) (r : Fin 2048) (q : Fin 128) : ib8 m c t (ix2 r q) = A8 m c (ix2 (r) (q)) := by
  blk_simp [ib8, iblk]
  exact congrArg (V m c main_arg8) (by blk_ext [e8 t])
theorem ib9_at (c : Dev nD) (t : Fin cfg0.N) (r : Fin 1) (q : Fin 256) : ib9 m c t (ix2 r q) = A9 m c (ix2 (r) (col t q)) := by
  blk_simp [ib9, iblk]
  exact congrArg (V m c main_arg9) (by blk_ext [e9 t])

/-- Entry `(r, o)` of the gradient of the normalised rows: through the two weights and both adapters. -/
def dA (c : Dev nD) (r : Fin 2048) (o : Fin 8192) : EReal :=
  (∑ k : Fin 3584, A0 m c (ix2 r k) * A2 m c (ix2 k o) + ∑ k : Fin 3584, A1 m c (ix2 r k) * A3 m c (ix2 k o)
    + ∑ q : Fin 128, A4 m c (ix2 r q) * A5 m c (ix2 q o)) * A9 m c (ix2 0 o)
/-- Its product with the normalised entry. -/
def pA (c : Dev nD) (r : Fin 2048) (o : Fin 8192) : EReal := dA m c r o * (A7 m c (ix2 r o) * A8 m c (ix2 r 0))

theorem dB_eq (c : Dev nD) (t : Fin cfg0.N) (r : Fin 2048) (o : Fin 256) : dB m c t r o = dA m c r (col t o) := by
  unfold dB dA
  simp only [ib0_at, ib1_at, ib2_at, ib3_at, ib4_at, ib5_at, ib9_at]
theorem pB_eq (c : Dev nD) (t : Fin cfg0.N) (r : Fin 2048) (o : Fin 256) : pB m c t r o = pA m c r (col t o) := by
  unfold pB pA
  simp only [dB_eq, ib7_at, ib8_at]

/-- The three results. -/
def res0 (c : Dev nD) (i : S2048x8192.Idx) : EReal := dA m c (i 0) (i 1)
def res1 (c : Dev nD) (i : S128x8192.Idx) : EReal := ∑ r : Fin 2048, A4 m c (ix2 r (i 0)) * A6 m c (ix2 r (i 1))
def res2 (c : Dev nD) (i : S2048x128.Idx) : EReal := Ideal.div (∑ o : Fin 8192, pA m c (i 0) o) (Ideal.ofBits FTy.f32 1174405120#32 : EReal)

/-- What output 12's buffer holds when point `t` starts. -/
def start (c : Dev nD) (t : Fin cfg0.N) : Vec Ideal S2048x128 .f32 := (outs m c (t.val - 1) (Nat.lt_of_le_of_lt (Nat.sub_le _ _) t.isLt)).2.2

theorem outs_start (c : Dev nD) (t : Fin cfg0.N) : outs m c t.val t.isLt = step m c t (start m c t) :=
  outs_eq m c t _ fun _ => rfl

attribute [local irreducible] outs step mid_10 mid_11 mid_12 last_10 last_11 last_12

theorem outs_10 (c : Dev nD) (t : Fin cfg0.N) (y : S2048x256.Idx) : (outs m c t.val t.isLt).1 y = dB m c t (y 0) (y 1) := by
  by_cases h : cond (grid0.coords t)
  · rw [(outs_start m c t).trans (step_last m c t h (start m c t))]
    exact last_10_apply m c t h (start m c t) y
  · rw [(outs_start m c t).trans (step_mid m c t h (start m c t))]
    exact mid_10_apply m c t h (start m c t) y

theorem outs_11 (c : Dev nD) (t : Fin cfg0.N) (y : S128x256.Idx) : (outs m c t.val t.isLt).2.1 y = ∑ r : Fin 2048, ib4 m c t (ix2 r (y 0)) * ib6 m c t (ix2 r (y 1)) := by
  by_cases h : cond (grid0.coords t)
  · rw [(outs_start m c t).trans (step_last m c t h (start m c t))]
    exact last_11_apply m c t h (start m c t) y
  · rw [(outs_start m c t).trans (step_mid m c t h (start m c t))]
    exact mid_11_apply m c t h (start m c t) y

/-- Output 12's buffer with the tiles of point `t` stored: what it holds before the last point, and what the last point's
    row sums are taken of. -/
def acc (c : Dev nD) (n : ℕ) (h : n < cfg0.N) (y : S2048x128.Idx) : EReal := accB m c ⟨n, h⟩ (start m c ⟨n, h⟩) y

theorem outs_12 (c : Dev nD) (t : Fin cfg0.N) (h : t.val ≠ 31) (y : S2048x128.Idx) : (outs m c t.val t.isLt).2.2 y = acc m c t.val t.isLt y := by
  have h' : ¬cond (grid0.coords t) := fun hc => h (by have := (hcond t).mp hc; have h32 : t.val < 32 := Nat.lt_of_lt_of_eq t.isLt N_0; omega)
  rw [(outs_start m c t).trans (step_mid m c t h' (start m c t))]
  exact mid_12_apply m c t h' (start m c t) y

theorem acc_zero (c : Dev nD) (t : Fin cfg0.N) (h : t.val % 32 = 0) (y : S2048x128.Idx) : acc m c t.val t.isLt y = partB m c t (y 0) (y 1) :=
  if_pos h
theorem acc_succ (c : Dev nD) (t : Fin cfg0.N) (h : ¬t.val % 32 = 0) (y : S2048x128.Idx) :
    acc m c t.val t.isLt y = acc m c (t.val - 1) (Nat.lt_of_le_of_lt (Nat.sub_le _ _) t.isLt) y + partB m c t (y 0) (y 1) := by
  have h32 : t.val < 32 := Nat.lt_of_lt_of_eq t.isLt N_0
  refine (if_neg h).trans (congrArg (· + partB m c t (y 0) (y 1)) ?_)
  exact outs_12 m c ⟨t.val - 1, Nat.lt_of_le_of_lt (Nat.sub_le _ _) t.isLt⟩ (by dsimp only; omega) y

/-- At the last point: every point's part, summed. -/
theorem acc_end (c : Dev nD) (t : Fin cfg0.N) (ht : t.val + 1 = cfg0.N) (y : S2048x128.Idx) :
    acc m c t.val t.isLt y = ∑ p : Fin cfg0.N, partB m c p (y 0) (y 1) := by
  rw [Pipeline.eq_sum_fin_of_reset_step_apply_last (fun n h => acc m c n h) 32 (fun _ => (0 : EReal)) (fun t y => partB m c t (y 0) (y 1))
    (fun t h j => by rw [acc_zero m c t h, zero_add]) (fun t h j => acc_succ m c t h j)
    (le_of_eq N_0) t ht y, zero_add]

/-- The columns of a row, summed by lane over the points and the chunks of a point's block, then over the lanes. -/
theorem sum_lanes (f : Fin 8192 → EReal) :
    ∑ q : Fin 128, ∑ t : Fin 32, (f ⟨t.val * 256 + q.val, by omega⟩ + f ⟨t.val * 256 + (128 + q.val), by omega⟩) = ∑ o : Fin 8192, f o := by
  rw [Fin.sum_univ_tiles 32 256 rfl, Finset.sum_comm]
  refine Finset.sum_congr rfl fun t _ => ?_
  rw [Fin.sum_univ_tiles 2 128 rfl, Fin.sum_univ_two, Finset.sum_add_distrib]
  refine congrArg₂ (· + ·) (Finset.sum_congr rfl fun q _ => congrArg f (Fin.ext ?_)) (Finset.sum_congr rfl fun q _ => congrArg f (Fin.ext ?_)) <;> simp

theorem part_sum (c : Dev nD) (r : Fin 2048) : ∑ q : Fin 128, ∑ p : Fin cfg0.N, partB m c p r q = ∑ o : Fin 8192, pA m c r o := by
  rw [← sum_lanes]
  refine Finset.sum_congr rfl fun q _ => ?_
  unfold partB
  simp only [pB_eq]
  rfl

/-- The last point's output 12. -/
theorem outs_12_last (c : Dev nD) (t : Fin cfg0.N) (ht : t.val + 1 = cfg0.N) (y : S2048x128.Idx) : (outs m c t.val t.isLt).2.2 y = res2 m c y := by
  have h : cond (grid0.coords t) := (hcond t).mpr (by have h32 : cfg0.N = 32 := N_0; omega)
  have o := (outs_start m c t).trans (step_last m c t h (start m c t))
  refine (congrFun (congrArg (fun z => z.2.2) o) y).trans ((last_12_apply m c t h (start m c t) y).trans ?_)
  refine congrArg (fun z : EReal => Ideal.div z (Ideal.ofBits FTy.f32 1174405120#32 : EReal)) ?_
  exact (Finset.sum_congr rfl fun q _ => acc_end m c t ht (ix2 (y 0) q)).trans (part_sum m c (y 0))

/-! Block values over whole arrays. -/

theorem blk11_eq (c : Dev nD) (t : Fin cfg0.N) (r : Fin 128) (q : Fin 256) : ∑ k : Fin 2048, ib4 m c t (ix2 k r) * ib6 m c t (ix2 k q)
    = ∑ k : Fin 2048, A4 m c (ix2 k r) * A6 m c (ix2 k (col t q)) := by
  simp only [ib4_at, ib6_at]

/-- Result 0 after the run. -/
theorem final10 (c : Dev nD) : (dats m 0 c).arrAt 10 cfg0.N = res0 m c := by
  refine (dats m 0 c).arrAt_eq_of_covers 10 _ (by decide +kernel) fun t hf y => ?_
  blk_simp
  rw [after10]
  refine (outs_10 m c t y).trans ?_
  rw [show (win0_10.blk t).view.emb y = ix2 (y 0) (col t (y 1)) from by blk_ext [e10 t]]
  exact dB_eq m c t (y 0) (y 1)

/-- Result 1 after the run. -/
theorem final11 (c : Dev nD) : (dats m 0 c).arrAt 11 cfg0.N = res1 m c := by
  refine (dats m 0 c).arrAt_eq_of_covers 11 _ (by decide +kernel) fun t hf y => ?_
  blk_simp
  rw [after11]
  refine (outs_11 m c t y).trans ?_
  rw [show (win0_11.blk t).view.emb y = ix2 (y 0) (col t (y 1)) from by blk_ext [e11 t]]
  exact blk11_eq m c t (y 0) (y 1)

/-- The last point. -/
def tLast : Fin cfg0.N := ⟨31, Nat.lt_of_lt_of_eq (by decide) N_0.symm⟩

/-- Result 2 after the run: written back once, by the last point. -/
theorem final12 (c : Dev nD) : (dats m 0 c).arrAt 12 cfg0.N = res2 m c := by
  refine (dats m 0 c).arrAt_eq_of_after_last 12 tLast (by decide +kernel) _ fun y => ?_
  blk_simp
  rw [after12]
  exact outs_12_last m c tLast rfl y

end Cert.GateUpBwdIdeal.Body

end
-- ==== Proof.GateUpBwd.Claim.lean ====
module

public import proofs.«01_k».proof.Defs
public import proofs.«01_k».proof.Proof.GateUpBwd.Arrays
public import proofs.«01_k».proof.Proof.Gen.GateUpBwdRefIdeal.Read
public import Idealize.ShloMosaic.Lib.Pointwise
public import Idealize.ShloMosaic.Lib.Claim
public import Idealize.ShloMosaic.Lib.Quiescent

@[expose] public section

set_option maxRecDepth 16384

noncomputable section

namespace Cert.GateUpBwdIdeal.Body

open Cert.GateUpBwdIdeal.Gen
open Idealize.ShloMosaic Idealize.ShloMosaic.TcCoe Idealize.ShloMosaic.Tactic
open Idealize.SL Idealize.SL.Sem

variable (m : (ℓ : Loc nD τ sig) → Buf (Elt Ideal) ℓ)

/-! The reference's results are the same functions of the argument arrays. -/

/-- A sum over 128 is the sum over its two halves. -/
theorem sum_halves (f : Fin 128 → EReal) :
    ∑ q : Fin 128, f q = ∑ k : Fin 64, f ⟨k.val, by omega⟩ + ∑ k : Fin 64, f ⟨64 + k.val, by omega⟩ := by
  rw [Fin.sum_univ_tiles 2 64 rfl, Fin.sum_univ_two]
  refine congrArg₂ (· + ·) (Finset.sum_congr rfl fun q _ => congrArg f (Fin.ext ?_)) (Finset.sum_congr rfl fun q _ => congrArg f (Fin.ext ?_)) <;> simp

/-- The gradient of the normalised rows, the two projections' gradients grouped each with its own adapter. -/
theorem dA_split (c : Dev nD) (r : Fin 2048) (o : Fin 8192) : dA m c r o
    = ((∑ k : Fin 3584, A0 m c (ix2 r k) * A2 m c (ix2 k o) + ∑ q : Fin 64, A4 m c (ix2 r ⟨q.val, by omega⟩) * A5 m c (ix2 ⟨q.val, by omega⟩ o))
      + (∑ k : Fin 3584, A1 m c (ix2 r k) * A3 m c (ix2 k o)
        + ∑ q : Fin 64, A4 m c (ix2 r ⟨64 + q.val, by omega⟩) * A5 m c (ix2 ⟨64 + q.val, by omega⟩ o))) * A9 m c (ix2 0 o) := by
  unfold dA
  rw [sum_halves, add_add_add_comm]

theorem ref0 (c : Dev nD) : Cert.GateUpBwdRefIdeal.Read.val_main_v12 (F := Ideal) (V m c main_arg0) (V m c main_arg1) (V m c main_arg2) (V m c main_arg3) (V m c main_arg4) (V m c main_arg5) (V m c main_arg9) = res0 m c := by
  funext i
  obtain ⟨r, o, rfl⟩ : ∃ r o, i = ix2 r o := ⟨i 0, i 1, ixy i⟩
  pointwise [Cert.GateUpBwdRefIdeal.Read.val_main_v0, Cert.GateUpBwdRefIdeal.Read.val_main_v1, Cert.GateUpBwdRefIdeal.Read.val_main_v2, Cert.GateUpBwdRefIdeal.Read.val_main_v3, Cert.GateUpBwdRefIdeal.Read.val_main_v4, Cert.GateUpBwdRefIdeal.Read.val_main_v5, Cert.GateUpBwdRefIdeal.Read.val_main_v6, Cert.GateUpBwdRefIdeal.Read.val_main_v7, Cert.GateUpBwdRefIdeal.Read.val_main_v8, Cert.GateUpBwdRefIdeal.Read.val_main_v9, Cert.GateUpBwdRefIdeal.Read.val_main_v10, Cert.GateUpBwdRefIdeal.Read.val_main_v11, Cert.GateUpBwdRefIdeal.Read.val_main_v12, Cert.GateUpBwdRefIdeal.Read.val_main_v13, Cert.GateUpBwdRefIdeal.Read.val_main_v14, Cert.GateUpBwdRefIdeal.Read.val_main_v15, Cert.GateUpBwdRefIdeal.Read.val_main_v16, Cert.GateUpBwdRefIdeal.Read.val_main_v17, Cert.GateUpBwdRefIdeal.Read.val_main_v18, Cert.GateUpBwdRefIdeal.Read.val_main_cst, Cert.GateUpBwdRefIdeal.Read.val_main_v19, Cert.GateUpBwdRefIdeal.Read.val_main_v20, Cert.GateUpBwdRefIdeal.Read.val_main_cst_0, Cert.GateUpBwdRefIdeal.Read.val_main_v21, Cert.GateUpBwdRefIdeal.Read.val_main_v22, Cert.GateUpBwdRefIdeal.Read.val_main_v23]
  exact (dA_split m c r o).symm

theorem ref1 (c : Dev nD) : Cert.GateUpBwdRefIdeal.Read.val_main_v13 (F := Ideal) (V m c main_arg4) (V m c main_arg6) = res1 m c := by
  funext i
  obtain ⟨r, o, rfl⟩ : ∃ r o, i = ix2 r o := ⟨i 0, i 1, ixy i⟩
  pointwise [Cert.GateUpBwdRefIdeal.Read.val_main_v0, Cert.GateUpBwdRefIdeal.Read.val_main_v1, Cert.GateUpBwdRefIdeal.Read.val_main_v2, Cert.GateUpBwdRefIdeal.Read.val_main_v3, Cert.GateUpBwdRefIdeal.Read.val_main_v4, Cert.GateUpBwdRefIdeal.Read.val_main_v5, Cert.GateUpBwdRefIdeal.Read.val_main_v6, Cert.GateUpBwdRefIdeal.Read.val_main_v7, Cert.GateUpBwdRefIdeal.Read.val_main_v8, Cert.GateUpBwdRefIdeal.Read.val_main_v9, Cert.GateUpBwdRefIdeal.Read.val_main_v10, Cert.GateUpBwdRefIdeal.Read.val_main_v11, Cert.GateUpBwdRefIdeal.Read.val_main_v12, Cert.GateUpBwdRefIdeal.Read.val_main_v13, Cert.GateUpBwdRefIdeal.Read.val_main_v14, Cert.GateUpBwdRefIdeal.Read.val_main_v15, Cert.GateUpBwdRefIdeal.Read.val_main_v16, Cert.GateUpBwdRefIdeal.Read.val_main_v17, Cert.GateUpBwdRefIdeal.Read.val_main_v18, Cert.GateUpBwdRefIdeal.Read.val_main_cst, Cert.GateUpBwdRefIdeal.Read.val_main_v19, Cert.GateUpBwdRefIdeal.Read.val_main_v20, Cert.GateUpBwdRefIdeal.Read.val_main_cst_0, Cert.GateUpBwdRefIdeal.Read.val_main_v21, Cert.GateUpBwdRefIdeal.Read.val_main_v22, Cert.GateUpBwdRefIdeal.Read.val_main_v23]
  rfl

theorem ref2 (c : Dev nD) : Cert.GateUpBwdRefIdeal.Read.val_main_v23 (F := Ideal) (V m c main_arg0) (V m c main_arg1) (V m c main_arg2) (V m c main_arg3) (V m c main_arg4) (V m c main_arg5) (V m c main_arg7) (V m c main_arg8) (V m c main_arg9) = res2 m c := by
  funext i
  obtain ⟨r, o, rfl⟩ : ∃ r o, i = ix2 r o := ⟨i 0, i 1, ixy i⟩
  pointwise [Cert.GateUpBwdRefIdeal.Read.val_main_v0, Cert.GateUpBwdRefIdeal.Read.val_main_v1, Cert.GateUpBwdRefIdeal.Read.val_main_v2, Cert.GateUpBwdRefIdeal.Read.val_main_v3, Cert.GateUpBwdRefIdeal.Read.val_main_v4, Cert.GateUpBwdRefIdeal.Read.val_main_v5, Cert.GateUpBwdRefIdeal.Read.val_main_v6, Cert.GateUpBwdRefIdeal.Read.val_main_v7, Cert.GateUpBwdRefIdeal.Read.val_main_v8, Cert.GateUpBwdRefIdeal.Read.val_main_v9, Cert.GateUpBwdRefIdeal.Read.val_main_v10, Cert.GateUpBwdRefIdeal.Read.val_main_v11, Cert.GateUpBwdRefIdeal.Read.val_main_v12, Cert.GateUpBwdRefIdeal.Read.val_main_v13, Cert.GateUpBwdRefIdeal.Read.val_main_v14, Cert.GateUpBwdRefIdeal.Read.val_main_v15, Cert.GateUpBwdRefIdeal.Read.val_main_v16, Cert.GateUpBwdRefIdeal.Read.val_main_v17, Cert.GateUpBwdRefIdeal.Read.val_main_v18, Cert.GateUpBwdRefIdeal.Read.val_main_cst, Cert.GateUpBwdRefIdeal.Read.val_main_v19, Cert.GateUpBwdRefIdeal.Read.val_main_v20, Cert.GateUpBwdRefIdeal.Read.val_main_cst_0, Cert.GateUpBwdRefIdeal.Read.val_main_v21, Cert.GateUpBwdRefIdeal.Read.val_main_v22, Cert.GateUpBwdRefIdeal.Read.val_main_v23]
  refine congrArg (fun z : EReal => Ideal.div z (Ideal.ofBits FTy.f32 1174405120#32)) (Finset.sum_congr rfl fun k _ => ?_)
  exact congrArg (· * (A7 m c (ix2 r k) * A8 m c (ix2 r 0))) (dA_split m c r k).symm

/-- The reference's frame: a straight line of host operations on its arguments, with no semaphore. -/
theorem frameRef : Cert.quiescent_GateUpBwdRefIdeal (hGateUpBwdRefIdeal := Cert.GateUpBwdRefIdeal.Gen.facts) := fun m ρ _ =>
  (θ_run Cert.GateUpBwdRefIdeal.defs _ _).mono (fun r h => ⟨fun c => (h c).2.2.2, sem_eq_zero_of_no_sems (by decide) r.2⟩)
    (Cert.GateUpBwdRefIdeal.Value.run (F := Ideal) m ρ)

set_option maxHeartbeats 2000000 in
/-- The algebraic claim: over the extended reals the kernel and the reference end with equal results. -/
theorem algebraic : Cert.algebraic_GateUpBwdIdeal_GateUpBwdRefIdeal (hGateUpBwdIdeal := Cert.GateUpBwdIdeal.Gen.facts)
    (hGateUpBwdRefIdeal := Cert.GateUpBwdRefIdeal.Gen.facts) := by
  intro m g m' g' _ hargs
  refine ⟨res0 m, res1 m, res2 m, ?_, ?_⟩
  · refine (θ_run (defs (F := Ideal)) _ _).mono (fun r h c => ?_) (θ_run_and (run m g) (frame m g))
    exact ⟨(h.1.out_eq c 10).trans (final10 m c), (h.1.out_eq c 11).trans (final11 m c), (h.1.out_eq c 12).trans (final12 m c), h.2.1 c⟩
  · refine (θ_run (Cert.GateUpBwdRefIdeal.defs (F := Ideal)) _ _).mono (fun r h c => ?_) (Cert.GateUpBwdRefIdeal.Value.run (F := Ideal) m' g')
    obtain ⟨h0, h1, h2, ha⟩ := h c
    obtain ⟨a0, a1, a2, a3, a4, a5, a6, a7, a8, a9⟩ := hargs c
    rw [a0, a1, a2, a3, a4, a5, a9] at h0
    rw [a4, a6] at h1
    rw [a0, a1, a2, a3, a4, a5, a7, a8, a9] at h2
    exact ⟨h0.trans (ref0 m c), h1.trans (ref1 m c), h2.trans (ref2 m c), ha⟩

end Cert.GateUpBwdIdeal.Body

end
-- ==== Proof.Norm.FrameBits.lean ====
module

public import proofs.«01_k».proof.Defs
public import proofs.«01_k».proof.Proof.Gen.Norm
public import proofs.«01_k».proof.Proof.Gen.NormIdeal
public import proofs.«01_k».proof.Proof.Gen.NormIdeal.Frame
public import Idealize.ShloMosaic.Adequacy
public import Idealize.ShloMosaic.Init
public import Idealize.ShloMosaic.Lib.Tactic

@[expose] public section

noncomputable section

/-! The frame of the program at its machine words. The printed program and the one the algebraic claim is about are the same text, and its frame is proved at every float instance: at the words it is the claim. -/

namespace Cert.NormBits

open Idealize Idealize.ShloMosaic Idealize.SL.Sem

attribute [local instance] Cert.Norm.Gen.facts Cert.NormIdeal.Gen.facts

/-- The frame, at any float instance. -/
def FrameI (F : FTy → Type) [FloatOps F] : Prop :=
  ∀ (m : (ℓ : Loc Cert.NormIdeal.nD Cert.NormIdeal.τ Cert.NormIdeal.sig) → Buf (Elt F) ℓ) (g : Dev Cert.NormIdeal.nD → PrngReg), True →
    θ_run (Cert.NormIdeal.defs (F := F)) (onTc (τ := Cert.NormIdeal.τ) (Cert.NormIdeal.main (F := F))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

theorem frameI (F : FTy → Type) [FloatOps F] : FrameI F := fun m ρ _ => Cert.NormIdeal.Gen.frame m ρ

theorem eq_frame : Cert.quiescent_Norm = FrameI Bits := by sl_kernel_rfl

/-- Every execution terminates with the arguments unchanged and every counter at zero, at the machine's words. -/
theorem frame : Cert.quiescent_Norm := eq_frame ▸ frameI Bits

end Cert.NormBits

end
-- ==== Proof.Norm.Arrays.lean ====
module

public import proofs.«01_k».proof.Proof.Gen.NormIdeal.Frame
public import proofs.«01_k».proof.Proof.Gen.NormIdeal.Skeleton
public import Idealize.ShloMosaic.Lib.Pipeline.ReadBack
public import Idealize.ShloMosaic.Lib.Pipeline.ValueKit.Tiles
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.NormIdeal.Body

open Cert.NormIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-! The result arrays after the run, as functions of the argument arrays. -/

theorem ixy {a b : ℕ} (y : (⟨2, ![a, b]⟩ : Shape).Idx) : y = ix2 (y 0) (y 1) := by
  funext i; refine Fin.cases rfl (fun j => ?_) i; refine Fin.cases rfl (fun k => k.elim0) j

/-- Input block 0 at point `t`, as extended reals. -/
abbrev ib0 (c : Dev nD) (t : Fin cfg0.N) : S256x8192.Idx → EReal := iblk m c 0 t
/-- Input block 1 at point `t`, as extended reals. -/
abbrev ib1 (c : Dev nD) (t : Fin cfg0.N) : S1x8192.Idx → EReal := iblk m c 1 t
/-- Input block 2 at point `t`, as extended reals. -/
abbrev ib2 (c : Dev nD) (t : Fin cfg0.N) : S128x8192.Idx → EReal := iblk m c 2 t
/-- Argument 0, as extended reals. -/
abbrev A0 (c : Dev nD) : S2048x8192.Idx → EReal := V m c main_arg0
/-- Argument 1, as extended reals. -/
abbrev A1 (c : Dev nD) : S1x8192.Idx → EReal := V m c main_arg1
/-- Argument 2, as extended reals. -/
abbrev A2 (c : Dev nD) : S128x8192.Idx → EReal := V m c main_arg2

/-- Row `o` of point `t`'s block, in the whole array. -/
abbrev col (t : Fin cfg0.N) (o : Fin 256) : Fin 2048 := ⟨t.val * 256 + o.val, by have h : t.val < 8 := t.isLt; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

/-! An input block at an index is its array at the index the block places. -/

theorem ib0_at (c : Dev nD) (t : Fin cfg0.N) (r : Fin 256) (q : Fin 8192) : ib0 m c t (ix2 r q) = A0 m c (ix2 (col t r) (q)) := by
  blk_simp [ib0, iblk]
  exact congrArg (V m c main_arg0) (by blk_ext [e0 t])
theorem ib1_at (c : Dev nD) (t : Fin cfg0.N) (r : Fin 1) (q : Fin 8192) : ib1 m c t (ix2 r q) = A1 m c (ix2 (r) (q)) := by
  blk_simp [ib1, iblk]
  exact congrArg (V m c main_arg1) (by blk_ext [e1 t])
theorem ib2_at (c : Dev nD) (t : Fin cfg0.N) (r : Fin 128) (q : Fin 8192) : ib2 m c t (ix2 r q) = A2 m c (ix2 (r) (q)) := by
  blk_simp [ib2, iblk]
  exact congrArg (V m c main_arg2) (by blk_ext [e2 t])

/-- The reciprocal root of a row's mean square, from point `t`'s block and from the whole array. -/
def rB (c : Dev nD) (t : Fin cfg0.N) (r : Fin 256) : EReal :=
  Ideal.div 1 (Ideal.sqrt (Ideal.div (∑ k : Fin 8192, ib0 m c t (ix2 r k) * ib0 m c t (ix2 r k)) (Ideal.ofBits FTy.f32 1174405120#32 : EReal) + (Ideal.ofBits FTy.f32 925353388#32 : EReal)))
def rA (c : Dev nD) (r : Fin 2048) : EReal :=
  Ideal.div 1 (Ideal.sqrt (Ideal.div (∑ k : Fin 8192, A0 m c (ix2 r k) * A0 m c (ix2 r k)) (Ideal.ofBits FTy.f32 1174405120#32 : EReal) + (Ideal.ofBits FTy.f32 925353388#32 : EReal)))
/-- The normalised, weighted entry. -/
def hB (c : Dev nD) (t : Fin cfg0.N) (r : Fin 256) (o : Fin 8192) : EReal := ib0 m c t (ix2 r o) * rB m c t r * ib1 m c t (ix2 0 o)
def hA (c : Dev nD) (r : Fin 2048) (o : Fin 8192) : EReal := A0 m c (ix2 r o) * rA m c r * A1 m c (ix2 0 o)

theorem rB_eq (c : Dev nD) (t : Fin cfg0.N) (r : Fin 256) : rB m c t r = rA m c (col t r) := by
  unfold rB rA
  simp only [ib0_at]
theorem hB_eq (c : Dev nD) (t : Fin cfg0.N) (r : Fin 256) (o : Fin 8192) : hB m c t r o = hA m c (col t r) o := by
  unfold hB hA
  simp only [ib0_at, ib1_at, rB_eq]

/-- The three results: the normalised rows, the reciprocal roots on every lane, the low-rank inputs. -/
def res0 (c : Dev nD) (i : S2048x8192.Idx) : EReal := hA m c (i 0) (i 1)
def res1 (c : Dev nD) (i : S2048x128.Idx) : EReal := rA m c (i 0)
def res2 (c : Dev nD) (i : S2048x128.Idx) : EReal := ∑ k : Fin 8192, hA m c (i 0) k * A2 m c (ix2 (i 1) k)

theorem blk5_eq (c : Dev nD) (t : Fin cfg0.N) (r : Fin 256) (q : Fin 128) :
    ∑ k : Fin 8192, hB m c t r k * ib2 m c t (ix2 q k) = ∑ k : Fin 8192, hA m c (col t r) k * A2 m c (ix2 q k) := by
  simp only [hB_eq, ib2_at]

/-! What a point leaves in its output blocks, element by element. -/

theorem outs_3 (c : Dev nD) (t : Fin cfg0.N) (y : S256x8192.Idx) : (outsAt0 m c t).1 y = hB m c t (y 0) (y 1) := by
  unfold outsAt0
  dsimp only
  unfold out0_A_3 kernelRun0_A
  frame_out
  obtain ⟨r, o, rfl⟩ : ∃ r o, y = ix2 r o := ⟨y 0, y 1, ixy y⟩
  pointwise [k0_pay1, k0_pay2, k0_pay3, k0_pay4, k0_pay5]
  rfl

theorem outs_4 (c : Dev nD) (t : Fin cfg0.N) (y : S256x128.Idx) : (outsAt0 m c t).2.1 y = rB m c t (y 0) := by
  unfold outsAt0
  dsimp only
  unfold out0_A_4 kernelRun0_A
  frame_out
  obtain ⟨r, o, rfl⟩ : ∃ r o, y = ix2 r o := ⟨y 0, y 1, ixy y⟩
  pointwise [k0_pay1, k0_pay2, k0_pay3, k0_pay4, k0_pay5]
  rfl

theorem outs_5 (c : Dev nD) (t : Fin cfg0.N) (y : S256x128.Idx) : (outsAt0 m c t).2.2 y = ∑ k : Fin 8192, hB m c t (y 0) k * ib2 m c t (ix2 (y 1) k) := by
  unfold outsAt0
  dsimp only
  unfold out0_A_5 kernelRun0_A
  frame_out
  obtain ⟨r, o, rfl⟩ : ∃ r o, y = ix2 r o := ⟨y 0, y 1, ixy y⟩
  pointwise [k0_pay1, k0_pay2, k0_pay3, k0_pay4, k0_pay5]
  rfl

/-- Result 0 after the run. -/
theorem final3 (c : Dev nD) : (dats m 0 c).arrAt 3 cfg0.N = res0 m c := by
  refine (dats m 0 c).arrAt_eq_of_covers 3 _ (by decide +kernel) fun t hf y => ?_
  blk_simp
  rw [after0_3]
  refine (outs_3 m c t y).trans ?_
  rw [show (win0_3.blk t).view.emb y = ix2 (col t (y 0)) (y 1) from by blk_ext [e3 t]]
  exact hB_eq m c t (y 0) (y 1)

/-- Result 1 after the run. -/
theorem final4 (c : Dev nD) : (dats m 0 c).arrAt 4 cfg0.N = res1 m c := by
  refine (dats m 0 c).arrAt_eq_of_covers 4 _ (by decide +kernel) fun t hf y => ?_
  blk_simp
  rw [after0_4]
  refine (outs_4 m c t y).trans ?_
  rw [show (win0_4.blk t).view.emb y = ix2 (col t (y 0)) (y 1) from by blk_ext [e4 t]]
  exact rB_eq m c t (y 0)

/-- Result 2 after the run. -/
theorem final5 (c : Dev nD) : (dats m 0 c).arrAt 5 cfg0.N = res2 m c := by
  refine (dats m 0 c).arrAt_eq_of_covers 5 _ (by decide +kernel) fun t hf y => ?_
  blk_simp
  rw [after0_5]
  refine (outs_5 m c t y).trans ?_
  rw [show (win0_5.blk t).view.emb y = ix2 (col t (y 0)) (y 1) from by blk_ext [e5 t]]
  exact blk5_eq m c t (y 0) (y 1)

end Cert.NormIdeal.Body

end
-- ==== Proof.Norm.Claim.lean ====
module

public import proofs.«01_k».proof.Defs
public import proofs.«01_k».proof.Proof.Norm.Arrays
public import proofs.«01_k».proof.Proof.Gen.NormRefIdeal.Read
public import Idealize.ShloMosaic.Lib.Pointwise
public import Idealize.ShloMosaic.Lib.Claim
public import Idealize.ShloMosaic.Lib.Quiescent

@[expose] public section

set_option maxRecDepth 16384

noncomputable section

namespace Cert.NormIdeal.Body

open Cert.NormIdeal.Gen
open Idealize.ShloMosaic Idealize.ShloMosaic.TcCoe Idealize.ShloMosaic.Tactic
open Idealize.SL Idealize.SL.Sem

variable (m : (ℓ : Loc nD τ sig) → Buf (Elt Ideal) ℓ)

/-! The reference's results are the same functions of the argument arrays. -/

theorem ref0 (c : Dev nD) : Cert.NormRefIdeal.Read.val_main_v15 (F := Ideal) (V m c main_arg0) (V m c main_arg1) = res0 m c := by
  funext i
  obtain ⟨r, o, rfl⟩ : ∃ r o, i = ix2 r o := ⟨i 0, i 1, ixy i⟩
  pointwise [Cert.NormRefIdeal.Read.val_main_v0, Cert.NormRefIdeal.Read.val_main_v1, Cert.NormRefIdeal.Read.val_main_cst, Cert.NormRefIdeal.Read.val_main_v2, Cert.NormRefIdeal.Read.val_main_v3, Cert.NormRefIdeal.Read.val_main_cst_0, Cert.NormRefIdeal.Read.val_main_v4, Cert.NormRefIdeal.Read.val_main_v5, Cert.NormRefIdeal.Read.val_main_cst_1, Cert.NormRefIdeal.Read.val_main_v6, Cert.NormRefIdeal.Read.val_main_v7, Cert.NormRefIdeal.Read.val_main_v8, Cert.NormRefIdeal.Read.val_main_cst_2, Cert.NormRefIdeal.Read.val_main_v9, Cert.NormRefIdeal.Read.val_main_v10, Cert.NormRefIdeal.Read.val_main_v11, Cert.NormRefIdeal.Read.val_main_v12, Cert.NormRefIdeal.Read.val_main_v13, Cert.NormRefIdeal.Read.val_main_v14, Cert.NormRefIdeal.Read.val_main_v15, Cert.NormRefIdeal.Read.val_main_v16, Cert.NormRefIdeal.Read.val_main_v17, Cert.NormRefIdeal.Read.val_main_v18]
  rfl

theorem ref1 (c : Dev nD) : Cert.NormRefIdeal.Read.val_main_v16 (F := Ideal) (V m c main_arg0) = res1 m c := by
  funext i
  obtain ⟨r, o, rfl⟩ : ∃ r o, i = ix2 r o := ⟨i 0, i 1, ixy i⟩
  pointwise [Cert.NormRefIdeal.Read.val_main_v0, Cert.NormRefIdeal.Read.val_main_v1, Cert.NormRefIdeal.Read.val_main_cst, Cert.NormRefIdeal.Read.val_main_v2, Cert.NormRefIdeal.Read.val_main_v3, Cert.NormRefIdeal.Read.val_main_cst_0, Cert.NormRefIdeal.Read.val_main_v4, Cert.NormRefIdeal.Read.val_main_v5, Cert.NormRefIdeal.Read.val_main_cst_1, Cert.NormRefIdeal.Read.val_main_v6, Cert.NormRefIdeal.Read.val_main_v7, Cert.NormRefIdeal.Read.val_main_v8, Cert.NormRefIdeal.Read.val_main_cst_2, Cert.NormRefIdeal.Read.val_main_v9, Cert.NormRefIdeal.Read.val_main_v10, Cert.NormRefIdeal.Read.val_main_v11, Cert.NormRefIdeal.Read.val_main_v12, Cert.NormRefIdeal.Read.val_main_v13, Cert.NormRefIdeal.Read.val_main_v14, Cert.NormRefIdeal.Read.val_main_v15, Cert.NormRefIdeal.Read.val_main_v16, Cert.NormRefIdeal.Read.val_main_v17, Cert.NormRefIdeal.Read.val_main_v18]
  rfl

theorem ref2 (c : Dev nD) : Cert.NormRefIdeal.Read.val_main_v18 (F := Ideal) (V m c main_arg0) (V m c main_arg1) (V m c main_arg2) = res2 m c := by
  funext i
  obtain ⟨r, o, rfl⟩ : ∃ r o, i = ix2 r o := ⟨i 0, i 1, ixy i⟩
  pointwise [Cert.NormRefIdeal.Read.val_main_v0, Cert.NormRefIdeal.Read.val_main_v1, Cert.NormRefIdeal.Read.val_main_cst, Cert.NormRefIdeal.Read.val_main_v2, Cert.NormRefIdeal.Read.val_main_v3, Cert.NormRefIdeal.Read.val_main_cst_0, Cert.NormRefIdeal.Read.val_main_v4, Cert.NormRefIdeal.Read.val_main_v5, Cert.NormRefIdeal.Read.val_main_cst_1, Cert.NormRefIdeal.Read.val_main_v6, Cert.NormRefIdeal.Read.val_main_v7, Cert.NormRefIdeal.Read.val_main_v8, Cert.NormRefIdeal.Read.val_main_cst_2, Cert.NormRefIdeal.Read.val_main_v9, Cert.NormRefIdeal.Read.val_main_v10, Cert.NormRefIdeal.Read.val_main_v11, Cert.NormRefIdeal.Read.val_main_v12, Cert.NormRefIdeal.Read.val_main_v13, Cert.NormRefIdeal.Read.val_main_v14, Cert.NormRefIdeal.Read.val_main_v15, Cert.NormRefIdeal.Read.val_main_v16, Cert.NormRefIdeal.Read.val_main_v17, Cert.NormRefIdeal.Read.val_main_v18]
  rfl

/-- The reference's frame: a straight line of host operations on its arguments, with no semaphore. -/
theorem frameRef : Cert.quiescent_NormRefIdeal (hNormRefIdeal := Cert.NormRefIdeal.Gen.facts) := fun m ρ _ =>
  (θ_run Cert.NormRefIdeal.defs _ _).mono (fun r h => ⟨fun c => (h c).2.2.2, sem_eq_zero_of_no_sems (by decide) r.2⟩)
    (Cert.NormRefIdeal.Value.run (F := Ideal) m ρ)

/-- The algebraic claim: over the extended reals the kernel and the reference end with equal results. -/
theorem algebraic : Cert.algebraic_NormIdeal_NormRefIdeal (hNormIdeal := Cert.NormIdeal.Gen.facts)
    (hNormRefIdeal := Cert.NormRefIdeal.Gen.facts) := by
  intro m g m' g' _ hargs
  refine ⟨res0 m, res1 m, res2 m, ?_, ?_⟩
  · refine (θ_run (defs (F := Ideal)) _ _).mono (fun r h c => ?_) (θ_run_and (run_main m g) (frame m g))
    exact ⟨(h.1.out_eq c 3).trans (final3 m c), (h.1.out_eq c 4).trans (final4 m c), (h.1.out_eq c 5).trans (final5 m c), h.2.1 c⟩
  · refine (θ_run (Cert.NormRefIdeal.defs (F := Ideal)) _ _).mono (fun r h c => ?_) (Cert.NormRefIdeal.Value.run (F := Ideal) m' g')
    obtain ⟨h0, h1, h2, ha⟩ := h c
    obtain ⟨a0, a1, a2⟩ := hargs c
    rw [a0, a1] at h0
    rw [a0] at h1
    rw [a0, a1, a2] at h2
    exact ⟨h0.trans (ref0 m c), h1.trans (ref1 m c), h2.trans (ref2 m c), ha⟩

end Cert.NormIdeal.Body

end
-- ==== Proof.PrepDown.FrameBits.lean ====
module

public import proofs.«01_k».proof.Defs
public import proofs.«01_k».proof.Proof.Gen.PrepDown
public import proofs.«01_k».proof.Proof.Gen.PrepDownIdeal
public import proofs.«01_k».proof.Proof.Gen.PrepDownIdeal.Frame
public import Idealize.ShloMosaic.Adequacy
public import Idealize.ShloMosaic.Init
public import Idealize.ShloMosaic.Lib.Tactic

@[expose] public section

noncomputable section

/-! The frame of the program at its machine words. The printed program and the one the algebraic claim is about are the same text, and its frame is proved at every float instance: at the words it is the claim. -/

namespace Cert.PrepDownBits

open Idealize Idealize.ShloMosaic Idealize.SL.Sem

attribute [local instance] Cert.PrepDown.Gen.facts Cert.PrepDownIdeal.Gen.facts

/-- The frame, at any float instance. -/
def FrameI (F : FTy → Type) [FloatOps F] : Prop :=
  ∀ (m : (ℓ : Loc Cert.PrepDownIdeal.nD Cert.PrepDownIdeal.τ Cert.PrepDownIdeal.sig) → Buf (Elt F) ℓ) (g : Dev Cert.PrepDownIdeal.nD → PrngReg), True →
    θ_run (Cert.PrepDownIdeal.defs (F := F)) (onTc (τ := Cert.PrepDownIdeal.τ) (Cert.PrepDownIdeal.main (F := F))) ⟨m, fun _ => 0, g⟩ (fun r => (∀ c : Dev Cert.PrepDownIdeal.nD,
      r.2.mem ((c.tc : Thread Cert.PrepDownIdeal.nD Cert.PrepDownIdeal.τ).loc Cert.PrepDownIdeal.main_arg0) = m ((c.tc : Thread Cert.PrepDownIdeal.nD Cert.PrepDownIdeal.τ).loc Cert.PrepDownIdeal.main_arg0)
      ∧ r.2.mem ((c.tc : Thread Cert.PrepDownIdeal.nD Cert.PrepDownIdeal.τ).loc Cert.PrepDownIdeal.main_arg1) = m ((c.tc : Thread Cert.PrepDownIdeal.nD Cert.PrepDownIdeal.τ).loc Cert.PrepDownIdeal.main_arg1)
      ∧ r.2.mem ((c.tc : Thread Cert.PrepDownIdeal.nD Cert.PrepDownIdeal.τ).loc Cert.PrepDownIdeal.main_arg2) = m ((c.tc : Thread Cert.PrepDownIdeal.nD Cert.PrepDownIdeal.τ).loc Cert.PrepDownIdeal.main_arg2)
      ∧ r.2.mem ((c.tc : Thread Cert.PrepDownIdeal.nD Cert.PrepDownIdeal.τ).loc Cert.PrepDownIdeal.main_arg3) = m ((c.tc : Thread Cert.PrepDownIdeal.nD Cert.PrepDownIdeal.τ).loc Cert.PrepDownIdeal.main_arg3)
      ∧ r.2.mem ((c.tc : Thread Cert.PrepDownIdeal.nD Cert.PrepDownIdeal.τ).loc Cert.PrepDownIdeal.main_arg4) = m ((c.tc : Thread Cert.PrepDownIdeal.nD Cert.PrepDownIdeal.τ).loc Cert.PrepDownIdeal.main_arg4)
      ∧ r.2.mem ((c.tc : Thread Cert.PrepDownIdeal.nD Cert.PrepDownIdeal.τ).loc Cert.PrepDownIdeal.main_arg5) = m ((c.tc : Thread Cert.PrepDownIdeal.nD Cert.PrepDownIdeal.τ).loc Cert.PrepDownIdeal.main_arg5))
      ∧ r.2.sem = fun _ => 0)

theorem frameI (F : FTy → Type) [FloatOps F] : FrameI F := fun m ρ _ => Cert.PrepDownIdeal.Gen.frame m ρ

theorem eq_frame : Cert.quiescent_PrepDown = FrameI Bits := by sl_kernel_rfl

/-- Every execution terminates with the arguments unchanged and every counter at zero, at the machine's words. -/
theorem frame : Cert.quiescent_PrepDown := eq_frame ▸ frameI Bits

end Cert.PrepDownBits

end
-- ==== Proof.PrepDown.Tile.lean ====
module

public import proofs.«01_k».proof.Proof.Gen.PrepDownIdeal.Skeleton
public import Idealize.ShloMosaic.Lib.BitcastFour
public import Idealize.ShloMosaic.Lib.Pointwise
public import Idealize.ShloMosaic.Lib.Pipeline.FrameBody

@[expose] public section

set_option maxRecDepth 16384

noncomputable section

namespace Cert.PrepDownIdeal.Body

open Cert.PrepDownIdeal Cert.PrepDownIdeal.Gen
open Idealize.ShloMosaic Idealize.ShloMosaic.TcCoe Idealize.ShloMosaic.Tactic

/-! One tile of 512 rows and 128 lanes of the weight: a field of the packed codes, less the zero point, times the scale. -/

theorem ixy {a b : ℕ} (y : (⟨2, ![a, b]⟩ : Shape).Idx) : y = ix2 (y 0) (y 1) := by
  funext i; refine Fin.cases rfl (fun j => ?_) i; refine Fin.cases rfl (fun k => k.elim0) j

/-- The high and the low four bits of every code, computed on words of four codes. -/
def nibHi (v : IVec S512x128 8) : IVec S512x128 8 :=
  bitcast S512x128 8 (andi (shrui (bitcast S128x128 32 v bitcasts_S512x128_w8_S128x128_w32) (broadcast S128x128 4#32))
    (broadcast S128x128 252645135#32)) bitcasts_S128x128_w32_S512x128_w8
def nibLo (v : IVec S512x128 8) : IVec S512x128 8 :=
  bitcast S512x128 8 (andi (bitcast S128x128 32 v bitcasts_S512x128_w8_S128x128_w32) (broadcast S128x128 252645135#32))
    bitcasts_S128x128_w32_S512x128_w8

theorem mask_bit : ∀ q : Fin 32, (252645135#32).getLsbD q.val = decide (q.val % 8 < 4) := by decide
theorem low_bit : ∀ q : Fin 8, (15#8).getLsbD q.val = decide (q.val < 4) := by decide

/-- Bit `i` of a code's row, in the words: the word's row and the bit. -/
theorem back_getLsbD (w : IVec S128x128 32) (r : Fin 512) (l : Fin 128) (i : ℕ) (hi : i < 8) :
    (bitcast S512x128 8 w bitcasts_S128x128_w32_S512x128_w8 (ix2 r l)).getLsbD i
      = (w (ix2 (⟨r.val / 4, by omega⟩ : Fin 128) l)).getLsbD (8 * (r.val % 4) + i) := by
  rw [bitcast_getLsbD w bitcasts_S128x128_w32_S512x128_w8 (ix2 r l) i hi (by decide)]
  have hr : S512x128.row (ix2 r l) = r.val := rfl
  have hq : (S512x128.row (ix2 r l) * 8 + i) % 32 = 8 * (r.val % 4) + i := by rw [hr]; omega
  have hp : (S512x128.row (ix2 r l) * 8 + i) / 32 = r.val / 4 := by rw [hr]; omega
  rw [hq]
  congr 2
  funext c
  match c with
  | ⟨0, _⟩ => exact Fin.ext ((bitcasts_S128x128_w32_S512x128_w8.srcIdx_row _ _ _ ⟨0, Nat.zero_lt_two⟩ rfl).trans hp)
  | ⟨1, _⟩ => exact Fin.ext (bitcasts_S128x128_w32_S512x128_w8.srcIdx_other _ _ _ ⟨1, Nat.one_lt_two⟩ (by show ¬ 1 + 2 = 2; omega))

theorem word_getLsbD (v : IVec S512x128 8) (r : Fin 512) (l : Fin 128) (q : ℕ) (hq : q < 8) :
    (bitcast S128x128 32 v bitcasts_S512x128_w8_S128x128_w32 (ix2 (⟨r.val / 4, by omega⟩ : Fin 128) l)).getLsbD (8 * (r.val % 4) + q)
      = (v (ix2 r l)).getLsbD q := by
  refine (bitcast_8_32_getLsbD_ix2 v bitcasts_S512x128_w8_S128x128_w32 (⟨r.val / 4, by omega⟩ : Fin 128) l (8 * (r.val % 4) + q) (by omega) r
    (by show r.val = 4 * (r.val / 4) + _; omega)).trans ?_
  rw [show (8 * (r.val % 4) + q) % 8 = q from by omega]
  rfl

theorem nibHi_at (v : IVec S512x128 8) (r : Fin 512) (l : Fin 128) : nibHi v (ix2 r l) = v (ix2 r l) >>> 4 := by
  apply BitVec.eq_of_getLsbD_eq
  intro i hi
  unfold nibHi
  rw [back_getLsbD _ r l i hi]
  have hs : ∀ w : BitVec 32, IntOp.andi (IntOp.shrui .vector w 4#32) 252645135#32 = (w >>> 4) &&& 252645135#32 := fun w => rfl
  show (IntOp.andi (IntOp.shrui .vector _ 4#32) 252645135#32).getLsbD _ = _
  rw [hs, BitVec.getLsbD_and, BitVec.getLsbD_ushiftRight, mask_bit ⟨8 * (r.val % 4) + i, by omega⟩, BitVec.getLsbD_ushiftRight]
  by_cases h : i < 4
  · rw [show 4 + (8 * (r.val % 4) + i) = 8 * (r.val % 4) + (4 + i) from by omega, word_getLsbD v r l (4 + i) (by omega),
      show decide ((8 * (r.val % 4) + i) % 8 < 4) = true from decide_eq_true (by omega), Bool.and_true]
  · rw [BitVec.getLsbD_of_ge _ (4 + i) (by omega),
      show decide ((8 * (r.val % 4) + i) % 8 < 4) = false from decide_eq_false (by omega), Bool.and_false]

theorem nibLo_at (v : IVec S512x128 8) (r : Fin 512) (l : Fin 128) : nibLo v (ix2 r l) = v (ix2 r l) &&& 15#8 := by
  apply BitVec.eq_of_getLsbD_eq
  intro i hi
  unfold nibLo
  rw [back_getLsbD _ r l i hi]
  show (_ &&& 252645135#32 : BitVec 32).getLsbD _ = _
  rw [BitVec.getLsbD_and, mask_bit ⟨8 * (r.val % 4) + i, by omega⟩, BitVec.getLsbD_and, word_getLsbD v r l i hi, low_bit ⟨i, hi⟩]
  congr 1
  exact decide_eq_decide.mpr (by show (8 * (r.val % 4) + i) % 8 < 4 ↔ i < 4; omega)

/-- The field of a tile's codes: the high four bits first. -/
def nib (f : ℕ) (v : IVec S512x128 8) : IVec S512x128 8 := if f = 0 then nibHi v else nibLo v
/-- One field of one code. -/
def bits (f : ℕ) (b : BitVec 8) : BitVec 8 := if f = 0 then b >>> 4 else b &&& 15#8
theorem nib_at (f : ℕ) (v : IVec S512x128 8) (r : Fin 512) (l : Fin 128) : nib f v (ix2 r l) = bits f (v (ix2 r l)) := by
  unfold nib bits
  split
  · exact nibHi_at v r l
  · exact nibLo_at v r l

/-- The lanes' quantisation groups within a tile, and the group of a tile's first lane added. -/
def wrap (v : IVec S512x128 32) : IVec S512x128 32 :=
  select (cmpi .slt v (broadcast S512x128 0#32)) (addi v (broadcast S512x128 128#32)) v
def gidx (off : BitVec 32) : IVec S512x128 32 := addi k0_pay6 (broadcast S512x128 off)
def gcast (v : IVec S512x128 32) : IVec S512x128 32 :=
  shapeCast S512x128 (shapeCast S512x128x1 v shapeCasts_S512x128_S512x128x1) shapeCasts_S512x128x1_S512x128

/-- A tile of the weight. -/
def tile (s z : FVec Ideal S512x128 .f32) (q : IVec S512x128 8) (off : BitVec 32) : FVec Ideal S512x128 .bf16 :=
  mulf (subf (sitofp .bf16 q) (truncf .bf16 (dynamicGather 1 z (gcast (wrap (gidx off)))) bitsLt_bf16_f32))
    (truncf .bf16 (dynamicGather 1 s (gcast (wrap (gidx off)))) bitsLt_bf16_f32)

/-- The group arithmetic of one lane. -/
def grpW (x : BitVec 32) : BitVec 32 :=
  let q := IntOp.divsi .vector x 64#32
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32))))
    (IntOp.cmpi .ne (IntOp.remsi .vector x 64#32) 0#32)) (IntOp.subi q 1#32) q

theorem grpW_eq : ∀ l : Fin 128, grpW (BitVec.ofNat 32 l.val) = BitVec.ofNat 32 (l.val / 64) := by decide +kernel

theorem grp_at (r : Fin 512) (l : Fin 128) : k0_pay6 (ix2 r l) = BitVec.ofNat 32 (l.val / 64) := by
  rw [← grpW_eq l]
  pointwise [k0_pay6]
  rfl

theorem wrapW : ∀ (g : Fin 2) (n : Fin 128), (Scalar.select (IntOp.cmpi .slt (IntOp.addi (BitVec.ofNat 32 g.val) (BitVec.ofNat 32 n.val)) 0#32)
    (IntOp.addi (IntOp.addi (BitVec.ofNat 32 g.val) (BitVec.ofNat 32 n.val)) 128#32)
    (IntOp.addi (BitVec.ofNat 32 g.val) (BitVec.ofNat 32 n.val))).toNat = g.val + n.val := by decide +kernel

theorem gcast_at (v : IVec S512x128 32) (r : Fin 512) (l : Fin 128) : gcast v (ix2 r l) = v (ix2 r l) := by
  unfold gcast
  rw [shapeCast_shapeCast]

theorem gidx_at (n : ℕ) (hn : n < 127) (r : Fin 512) (l : Fin 128) :
    (gcast (wrap (gidx (BitVec.ofNat 32 n))) (ix2 r l)).toNat = l.val / 64 + n := by
  rw [gcast_at, ← wrapW ⟨l.val / 64, by omega⟩ ⟨n, by omega⟩]
  show (Scalar.select (IntOp.cmpi .slt (IntOp.addi (k0_pay6 (ix2 r l)) (BitVec.ofNat 32 n)) 0#32)
    (IntOp.addi (IntOp.addi (k0_pay6 (ix2 r l)) (BitVec.ofNat 32 n)) 128#32)
    (IntOp.addi (k0_pay6 (ix2 r l)) (BitVec.ofNat 32 n))).toNat = _
  rw [grp_at]

/-- Entry `(r, l)` of a tile. -/
theorem tile_at (s z : S512x128.Idx → EReal) (q : IVec S512x128 8) (n : ℕ) (hn : n < 127) (r : Fin 512) (l : Fin 128) :
    tile s z q (BitVec.ofNat 32 n) (ix2 r l)
      = ((FloatOps.sitofp (F := Ideal) .bf16 (q (ix2 r l)) : EReal) - z (ix2 r ⟨l.val / 64 + n, by omega⟩)) * s (ix2 r ⟨l.val / 64 + n, by omega⟩) := by
  have hg : ∀ x : S512x128.Idx → EReal, dynamicGather 1 x (gcast (wrap (gidx (BitVec.ofNat 32 n)))) (ix2 r l) = x (ix2 r ⟨l.val / 64 + n, by omega⟩) := by
    intro x
    rw [dynamicGather_apply]
    congr 1
    funext b
    match b with
    | ⟨0, _⟩ => rfl
    | ⟨1, _⟩ =>
      refine Fin.ext ?_
      show (gcast (wrap (gidx (BitVec.ofNat 32 n))) (ix2 r l)).toNat % 128 = _
      rw [gidx_at n hn]
      show _ = l.val / 64 + n
      omega
  show (FloatOps.sitofp (F := Ideal) .bf16 (q (ix2 r l)) - dynamicGather 1 z (gcast (wrap (gidx (BitVec.ofNat 32 n)))) (ix2 r l) : EReal)
    * dynamicGather 1 s (gcast (wrap (gidx (BitVec.ofNat 32 n)))) (ix2 r l) = _
  rw [hg z, hg s]

end Cert.PrepDownIdeal.Body

end
-- ==== Proof.PrepDown.Block.lean ====
module

public import proofs.«01_k».proof.Proof.Gen.PrepDownIdeal.Frame
public import proofs.«01_k».proof.Proof.PrepDown.Tile
public import Idealize.ShloMosaic.Lib.Pipeline.ReadBack
public import Idealize.ShloMosaic.Lib.Pipeline.ValueKit.Tiles
public import Idealize.ShloMosaic.Lib.Pointwise
public import Idealize.ShloMosaic.Lib.Pipeline.ValueKit.Acc
public import Idealize.ShloMosaic.Lib.Pipeline.ValueKit.Geometry

@[expose] public section

set_option maxRecDepth 65536

noncomputable section

namespace Cert.PrepDownIdeal.Body

open Cert.PrepDownIdeal Cert.PrepDownIdeal.Gen
open Idealize.ShloMosaic Idealize.ShloMosaic.TcCoe Idealize.ShloMosaic.Tactic
open Idealize.SL Idealize.SL.Sem

/-! What one run of the body leaves in its output blocks, from its input blocks. -/

variable (x0 : Vec Ideal S512x1792 .i8) (x1 x2 : Vec Ideal S512x128 .bf16) (x3 : Vec Ideal S64x3584 .bf16)
  (x4 : Vec Ideal S64x512 .bf16) (x5 : Vec Ideal S1x512 .f32) (g : Vec Ideal S64x64 .f32)

theorem inbC (k : ℕ) (h : k < 28) : ∀ a : Fin 2, (![0, 128 * (k / 2)] : Fin 2 → ℕ) a + S512x128.size a ≤ S512x1792.size a
  | ⟨0, _⟩ => by show 0 + 512 ≤ 512; omega
  | ⟨1, _⟩ => by show 128 * (k / 2) + 128 ≤ 1792; omega
theorem inbW (k : ℕ) (h : k < 28) : ∀ a : Fin 2, (![0, 1792 * (k % 2) + 128 * (k / 2)] : Fin 2 → ℕ) a + S512x128.size a ≤ S512x3584.size a
  | ⟨0, _⟩ => by show 0 + 512 ≤ 512; omega
  | ⟨1, _⟩ => by show 1792 * (k % 2) + 128 * (k / 2) + 128 ≤ 3584; omega

/-- Tile `k` of a block's weight, in the order the body stores them: field `k % 2` of column tile `k / 2`. -/
def T (k : ℕ) (h : k < 28) : FVec Ideal S512x128 .bf16 :=
  tile (extf .f32 x1 bitsLt_bf16_f32) (extf .f32 x2 bitsLt_bf16_f32)
    (nib (k % 2) (View.ld (Val := Elt Ideal) x0 (Rect.unit (s := S512x1792) ![0, 128 * (k / 2)] S512x128.size (inbC k h))))
    (BitVec.ofNat 32 (28 * (k % 2) + 2 * (k / 2)))

/-- The stores of the first `n` tiles, the last first. -/
def pcs : (n : ℕ) → n ≤ 28 → List (View.Piece (Elt Ideal) S512x3584 .bf16)
  | 0, _ => []
  | n + 1, h => ⟨Rect.unit (s := S512x3584) ![0, 1792 * (n % 2) + 128 * (n / 2)] S512x128.size (inbW n h), T x0 x1 x2 n h⟩ :: pcs n (Nat.le_of_succ_le h)

/-- The squares of the first `n` tiles, summed lane by lane. -/
def sq : (n : ℕ) → n ≤ 28 → FVec Ideal S512x128 .f32
  | 0, _ => broadcast S512x128 (Scalar.ofBits .f32 0x00000000#32)
  | n + 1, h => addf (sq n (Nat.le_of_succ_le h)) (mulf (extf .f32 (T x0 x1 x2 n h) bitsLt_bf16_f32) (extf .f32 (T x0 x1 x2 n h) bitsLt_bf16_f32))

/-- The weight block. -/
def W : Vec Ideal S512x3584 .bf16 := View.canon (pcs x0 x1 x2 28 le_rfl)

/-- Each row's squares, summed over the lanes. -/
def rowsumV : FVec Ideal S1x512 .f32 :=
  shapeCast S1x512 (multiReduction .add [0] S512 (transpose S128x512 [1, 0] (sq x0 x1 x2 28 le_rfl) transposes_S512x128_p1_0_S128x512) 0x00000000#32 reduces_S128x512_S512 (.inl rfl) rfl) shapeCasts_S512_S1x512

/-- The norms, from the weight block, the squares, the low-rank factors and their Gram matrix. -/
def normF (S : FVec Ideal S1x512 .f32) (w : FVec Ideal S512x3584 .bf16) : FVec Ideal S1x512 .f32 :=
  sqrt (addf (addf S
    (mulf (broadcast S1x512 (Scalar.ofBits .f32 0x3F400000#32)) (shapeCast S1x512 (multiReduction .add [0] S512 (mulf (extf .f32 x4 bitsLt_bf16_f32)
      (matmul (φ₁ := .bf16) (φ₂ := .bf16) dot_S64x3584_S512x3584_S64x512_1_1_0_0_n_n none x3 (shapeCast S512x3584 w shapeCasts_S512x3584_S512x3584) (constant S64x512 .f32 0x00000000#32))) 0x00000000#32 reduces_S64x512_S512 (.inl rfl) rfl) shapeCasts_S512_S1x512)))
    (mulf (broadcast S1x512 (Scalar.ofBits .f32 0x3E100000#32)) (shapeCast S1x512 (multiReduction .add [0] S512 (mulf
      (matmul (φ₁ := .f32) (φ₂ := .f32) dot_S64x64_S64x512_S64x512_0_0_1_1_n_n (some .fp32) g (extf .f32 x4 bitsLt_bf16_f32) (constant S64x512 .f32 0x00000000#32)) (extf .f32 x4 bitsLt_bf16_f32)) 0x00000000#32 reduces_S64x512_S512 (.inl rfl) rfl) shapeCasts_S512_S1x512)))

def normV : FVec Ideal S1x512 .f32 := normF x3 x4 g (rowsumV x0 x1 x2) (W x0 x1 x2)

/-- The Gram matrix. -/
def gramV : FVec Ideal S64x64 .f32 :=
  shapeCast S64x64 (matmul (φ₁ := .bf16) (φ₂ := .bf16) dot_S64x3584_S64x3584_S64x64_1_1_0_0_n_n none x3 x3 (constant S64x64 .f32 0x00000000#32)) shapeCasts_S64x64_S64x64

section
variable (c : Dev nD) (i : grid0.Coords) (arg1 : Memref sig .tc .vmem S512x1792 .i8) (harg1 : arg1.IsWhole) (arg2 : Memref sig .tc .vmem S512x128 .bf16) (harg2 : arg2.IsWhole) (arg3 : Memref sig .tc .vmem S512x128 .bf16) (harg3 : arg3.IsWhole) (arg4 : Memref sig .tc .vmem S64x3584 .bf16) (harg4 : arg4.IsWhole) (arg5 : Memref sig .tc .vmem S64x512 .bf16) (harg5 : arg5.IsWhole) (arg6 : Memref sig .tc .vmem S1x512 .f32) (harg6 : arg6.IsWhole) (arg7 : Memref sig .tc .vmem S512x3584 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S64x64 .f32) (harg10 : arg10.IsWhole)

set_option maxHeartbeats 1000000 in
theorem out_A_6_eq (hc0 : cond0_0 i) : out0_A_6 c i arg1 harg1 arg2 harg2 arg3 harg3 arg4 harg4 arg5 harg5 arg6 harg6 arg7 harg7 arg8 harg8 arg9 harg9 arg10 harg10 hc0 x0 x1 x2 x3 x4 x5 = W x0 x1 x2 := by
  unfold out0_A_6 kernelRun0_A
  frame_out
  rfl

set_option maxHeartbeats 1000000 in
theorem out_A_7_eq (hc0 : cond0_0 i) : out0_A_7 c i arg1 harg1 arg2 harg2 arg3 harg3 arg4 harg4 arg5 harg5 arg6 harg6 arg7 harg7 arg8 harg8 arg9 harg9 arg10 harg10 hc0 x0 x1 x2 x3 x4 x5 = normV x0 x1 x2 x3 x4 (gramV x3) := by
  unfold out0_A_7 kernelRun0_A
  frame_out
  refine (congrArg₂ (fun a b => k0_pay1 a (k0_pay115 x3 b) (k0_pay116 x4) (k0_pay3 x3 x3) (constant S64x512 .f32 0#32)) (?_ : _ = rowsumV x0 x1 x2) (?_ : _ = W x0 x1 x2)).trans rfl
  · simp only [rowsumV, sq]
    rfl
  · rw [View.readCov_eq_canon']
    refine Eq.trans (b := View.ld (View.canon (Val := Elt Ideal) _) (Rect.unit (s := S512x3584) ![0, 0] S512x3584.size inb_S512x3584_S512x3584_0_0)) rfl ?_
    simp (disch := decide) only [View.ld_unit_lit']
    rfl

set_option maxHeartbeats 1000000 in
theorem out_A_8_eq (hc0 : cond0_0 i) : out0_A_8 c i arg1 harg1 arg2 harg2 arg3 harg3 arg4 harg4 arg5 harg5 arg6 harg6 arg7 harg7 arg8 harg8 arg9 harg9 arg10 harg10 hc0 x0 x1 x2 x3 x4 x5 = divf x5 (normV x0 x1 x2 x3 x4 (gramV x3)) := by
  unfold out0_A_8 kernelRun0_A
  frame_out
  refine (congrArg₂ (fun a b => k0_pay2 a (k0_pay115 x3 b) (k0_pay116 x4) (k0_pay3 x3 x3) (constant S64x512 .f32 0#32) x5) (?_ : _ = rowsumV x0 x1 x2) (?_ : _ = W x0 x1 x2)).trans rfl
  · simp only [rowsumV, sq]
    rfl
  · rw [View.readCov_eq_canon']
    refine Eq.trans (b := View.ld (View.canon (Val := Elt Ideal) _) (Rect.unit (s := S512x3584) ![0, 0] S512x3584.size inb_S512x3584_S512x3584_0_0)) rfl ?_
    simp (disch := decide) only [View.ld_unit_lit']
    rfl

set_option maxHeartbeats 1000000 in
theorem sout_A__eq (hc0 : cond0_0 i) : sout0_A_0 c i arg1 harg1 arg2 harg2 arg3 harg3 arg4 harg4 arg5 harg5 arg6 harg6 arg7 harg7 arg8 harg8 arg9 harg9 arg10 harg10 hc0 x0 x1 x2 x3 x4 x5 = gramV x3 := by
  unfold sout0_A_0 kernelRun0_A
  frame_out
  rfl

set_option maxHeartbeats 1000000 in
theorem out_B_6_eq (hc0 : ¬cond0_0 i) : out0_B_6 c i arg1 harg1 arg2 harg2 arg3 harg3 arg4 harg4 arg5 harg5 arg6 harg6 arg7 harg7 arg8 harg8 arg9 harg9 arg10 harg10 hc0 x0 x1 x2 x3 x4 x5 g = W x0 x1 x2 := by
  unfold out0_B_6 kernelRun0_B
  frame_out
  rfl

set_option maxHeartbeats 1000000 in
theorem out_B_7_eq (hc0 : ¬cond0_0 i) : out0_B_7 c i arg1 harg1 arg2 harg2 arg3 harg3 arg4 harg4 arg5 harg5 arg6 harg6 arg7 harg7 arg8 harg8 arg9 harg9 arg10 harg10 hc0 x0 x1 x2 x3 x4 x5 g = normV x0 x1 x2 x3 x4 g := by
  unfold out0_B_7 kernelRun0_B
  frame_out
  refine (congrArg₂ (fun a b => k0_pay1 a (k0_pay115 x3 b) (k0_pay116 x4) g (constant S64x512 .f32 0#32)) (?_ : _ = rowsumV x0 x1 x2) (?_ : _ = W x0 x1 x2)).trans rfl
  · simp only [rowsumV, sq]
    rfl
  · rw [View.readCov_eq_canon']
    refine Eq.trans (b := View.ld (View.canon (Val := Elt Ideal) _) (Rect.unit (s := S512x3584) ![0, 0] S512x3584.size inb_S512x3584_S512x3584_0_0)) rfl ?_
    simp (disch := decide) only [View.ld_unit_lit']
    rfl

set_option maxHeartbeats 1000000 in
theorem out_B_8_eq (hc0 : ¬cond0_0 i) : out0_B_8 c i arg1 harg1 arg2 harg2 arg3 harg3 arg4 harg4 arg5 harg5 arg6 harg6 arg7 harg7 arg8 harg8 arg9 harg9 arg10 harg10 hc0 x0 x1 x2 x3 x4 x5 g = divf x5 (normV x0 x1 x2 x3 x4 g) := by
  unfold out0_B_8 kernelRun0_B
  frame_out
  refine (congrArg₂ (fun a b => k0_pay2 a (k0_pay115 x3 b) (k0_pay116 x4) g (constant S64x512 .f32 0#32) x5) (?_ : _ = rowsumV x0 x1 x2) (?_ : _ = W x0 x1 x2)).trans rfl
  · simp only [rowsumV, sq]
    rfl
  · rw [View.readCov_eq_canon']
    refine Eq.trans (b := View.ld (View.canon (Val := Elt Ideal) _) (Rect.unit (s := S512x3584) ![0, 0] S512x3584.size inb_S512x3584_S512x3584_0_0)) rfl ?_
    simp (disch := decide) only [View.ld_unit_lit']
    rfl

end

end Cert.PrepDownIdeal.Body

end
-- ==== Proof.PrepDown.Value.lean ====
module

public import proofs.«01_k».proof.Proof.PrepDown.Block

@[expose] public section

set_option maxRecDepth 65536

noncomputable section

namespace Cert.PrepDownIdeal.Body

open Cert.PrepDownIdeal Cert.PrepDownIdeal.Gen
open Idealize.ShloMosaic Idealize.ShloMosaic.TcCoe Idealize.ShloMosaic.Tactic
open Idealize.SL Idealize.SL.Sem

/-! The blocks' contents, entry by entry. -/

/-- A weight: a field of a code, less the zero point, times the scale. -/
def wE (b : BitVec 8) (z s : EReal) (f : ℕ) : EReal := ((FloatOps.sitofp (F := Ideal) .bf16 (bits f b) : EReal) - z) * s

/-- The weight at row `r` and column `o`: the columns' first half from the codes' high fields, each 64 columns one group. -/
def wA {R : ℕ} (q : (⟨2, ![R, 1792]⟩ : Shape).Idx → BitVec 8) (s z : (⟨2, ![R, 128]⟩ : Shape).Idx → EReal) (r : Fin R) (o : Fin 3584) : EReal :=
  wE (q (ix2 r ⟨o.val % 1792, by omega⟩)) (z (ix2 r ⟨o.val / 64, by omega⟩)) (s (ix2 r ⟨o.val / 64, by omega⟩)) (o.val / 1792)

/-- The column of lane `l` of tile `k`. -/
def tc (k : ℕ) (h : k < 28) (l : Fin 128) : Fin 3584 := ⟨1792 * (k % 2) + 128 * (k / 2) + l.val, by omega⟩

/-- The columns, by tile and lane. -/
def tiles : Fin 128 × Fin 28 ≃ Fin 3584 where
  toFun p := tc p.2.val p.2.isLt p.1
  invFun o := (⟨o.val % 128, by omega⟩, ⟨2 * (o.val % 1792 / 128) + o.val / 1792, by omega⟩)
  left_inv p := by
    obtain ⟨⟨l, hl⟩, ⟨k, hk⟩⟩ := p
    refine Prod.ext (Fin.ext ?_) (Fin.ext ?_)
    · show (1792 * (k % 2) + 128 * (k / 2) + l) % 128 = l
      omega
    · show 2 * ((1792 * (k % 2) + 128 * (k / 2) + l) % 1792 / 128) + (1792 * (k % 2) + 128 * (k / 2) + l) / 1792 = k
      omega
  right_inv o := by
    obtain ⟨o, ho⟩ := o
    refine Fin.ext ?_
    show 1792 * ((2 * (o % 1792 / 128) + o / 1792) % 2) + 128 * ((2 * (o % 1792 / 128) + o / 1792) / 2) + o % 128 = o
    omega

variable (x0 : Vec Ideal S512x1792 .i8) (x1 x2 : Vec Ideal S512x128 .bf16) (x3 : Vec Ideal S64x3584 .bf16)
  (x4 : Vec Ideal S64x512 .bf16) (x5 : Vec Ideal S1x512 .f32)

theorem T_at (k : ℕ) (h : k < 28) (r : Fin 512) (l : Fin 128) : T x0 x1 x2 k h (ix2 r l) = wA (R := 512) x0 x1 x2 r (tc k h l) := by
  unfold T
  refine (tile_at _ _ _ (28 * (k % 2) + 2 * (k / 2)) (by omega) r l).trans ?_
  rw [nib_at]
  unfold wA wE tc
  have e1 : (⟨l.val / 64 + (28 * (k % 2) + 2 * (k / 2)), by omega⟩ : Fin 128) = ⟨(1792 * (k % 2) + 128 * (k / 2) + l.val) / 64, by omega⟩ :=
    Fin.ext (by show _ + _ = _ / 64; omega)
  have e2 : (1792 * (k % 2) + 128 * (k / 2) + l.val) / 1792 = k % 2 := by omega
  have e3 : View.ld (Val := Elt Ideal) x0 (Rect.unit (s := S512x1792) ![0, 128 * (k / 2)] S512x128.size (inbC k h)) (ix2 r l)
      = x0 (ix2 r ⟨(1792 * (k % 2) + 128 * (k / 2) + l.val) % 1792, by omega⟩) := by
    refine congrArg x0 (funext fun a => ?_)
    match a with
    | ⟨0, _⟩ => exact Fin.ext (by show 0 + 1 * r.val = r.val; omega)
    | ⟨1, _⟩ => exact Fin.ext (by show 128 * (k / 2) + 1 * l.val = (1792 * (k % 2) + 128 * (k / 2) + l.val) % 1792; omega)
  rw [e1, e3]
  dsimp only
  rw [e2]
  rfl

theorem pcs_all (r : Fin 512) (o : Fin 3584) : ∀ (n : ℕ) (h : n ≤ 28),
    View.AllAt (pcs x0 x1 x2 n h) (ix2 r o : S512x3584.Idx) (wA (R := 512) x0 x1 x2 r o)
  | 0, _ => View.allAt_nil _ _
  | n + 1, h => by
    refine View.allAt_cons_unit _ _ _ _ _ (fun x hx => ?_) (pcs_all r o n (Nat.le_of_succ_le h))
    obtain ⟨r', l, rfl⟩ : ∃ (r' : Fin 512) (l : Fin 128), x = ix2 r' l := ⟨x 0, x 1, ixy x⟩
    have h0 : r.val = 0 + r'.val := hx 0
    have h1 : o.val = 1792 * (n % 2) + 128 * (n / 2) + l.val := hx 1
    obtain rfl : r = r' := Fin.ext (by omega)
    obtain rfl : o = tc n h l := Fin.ext h1
    exact T_at x0 x1 x2 n h r l

theorem pcs_mem (k : ℕ) : ∀ (n : ℕ) (h : n ≤ 28) (hk : k < n),
    (⟨Rect.unit (s := S512x3584) ![0, 1792 * (k % 2) + 128 * (k / 2)] S512x128.size (inbW k (lt_of_lt_of_le hk h)), T x0 x1 x2 k (lt_of_lt_of_le hk h)⟩
      : View.Piece (Elt Ideal) S512x3584 .bf16) ∈ pcs x0 x1 x2 n h
  | n + 1, h, hk => by
    rcases Nat.lt_or_ge k n with hn | hn
    · exact List.mem_cons_of_mem _ (pcs_mem k n (Nat.le_of_succ_le h) hn)
    · obtain rfl : k = n := by omega
      exact List.mem_cons_self

/-- The weight block, entry by entry. -/
theorem W_at (r : Fin 512) (o : Fin 3584) : W x0 x1 x2 (ix2 r o) = wA (R := 512) x0 x1 x2 r o := by
  unfold W
  refine View.canon_eq_of_allAt _ _ _ ⟨_, pcs_mem x0 x1 x2 (2 * (o.val % 1792 / 128) + o.val / 1792) 28 le_rfl (by omega), ?_⟩ (pcs_all x0 x1 x2 r o 28 le_rfl)
  refine (Rect.mem_set_unit (inb := inbW _ (by omega))).mpr fun a => ?_
  match a with
  | ⟨0, _⟩ => exact ⟨Nat.zero_le _, by show r.val < 0 + 512; omega⟩
  | ⟨1, _⟩ =>
    constructor
    · show 1792 * ((2 * (o.val % 1792 / 128) + o.val / 1792) % 2) + 128 * ((2 * (o.val % 1792 / 128) + o.val / 1792) / 2) ≤ o.val
      omega
    · show o.val < 1792 * ((2 * (o.val % 1792 / 128) + o.val / 1792) % 2) + 128 * ((2 * (o.val % 1792 / 128) + o.val / 1792) / 2) + 128
      omega

theorem sq_at (r : Fin 512) (l : Fin 128) : ∀ (n : ℕ) (h : n ≤ 28), sq x0 x1 x2 n h (ix2 r l)
    = ∑ k : Fin n, wA (R := 512) x0 x1 x2 r (tc k.val (lt_of_lt_of_le k.isLt h) l) * wA (R := 512) x0 x1 x2 r (tc k.val (lt_of_lt_of_le k.isLt h) l)
  | 0, _ => by
    rw [Fin.sum_univ_zero]
    exact Ideal.ofBits_zero_f32
  | n + 1, h => by
    rw [Fin.sum_univ_castSucc]
    refine (show sq x0 x1 x2 (n + 1) h (ix2 r l) = (sq x0 x1 x2 n (Nat.le_of_succ_le h) (ix2 r l) : EReal) + T x0 x1 x2 n h (ix2 r l) * T x0 x1 x2 n h (ix2 r l) from rfl).trans ?_
    rw [sq_at r l n (Nat.le_of_succ_le h), T_at]
    rfl

/-- A row's squares, summed. -/
theorem rowsum_at (r : Fin 512) : rowsumV x0 x1 x2 (ix2 0 r) = ∑ o : Fin 3584, wA (R := 512) x0 x1 x2 r o * wA (R := 512) x0 x1 x2 r o := by
  have h : rowsumV x0 x1 x2 (ix2 0 r) = ∑ l : Fin 128, (sq x0 x1 x2 28 le_rfl (ix2 r l) : EReal) := by
    pointwise [rowsumV]
  rw [h, ← Equiv.sum_comp tiles, Fintype.sum_prod_type]
  exact Finset.sum_congr rfl fun l _ => sq_at x0 x1 x2 r l 28 le_rfl

/-- A norm, from a column of the one low-rank factor, the other factor and a row of the weight. -/
def normE (b : Fin 64 → EReal) (a : Fin 64 → Fin 3584 → EReal) (w : Fin 3584 → EReal) : EReal :=
  Ideal.sqrt ((∑ o, w o * w o) + (Ideal.ofBits FTy.f32 0x3F400000#32 : EReal) * (∑ q, b q * ∑ o, a q o * w o)
    + (Ideal.ofBits FTy.f32 0x3E100000#32 : EReal) * ∑ p, (∑ k, (∑ o, a k o * a p o) * b k) * b p)

theorem gram_at (p q : Fin 64) : gramV x3 (ix2 p q) = ∑ o : Fin 3584, (x3 (ix2 p o) : EReal) * x3 (ix2 q o) := by
  pointwise [gramV]

theorem normV_at (r : Fin 512) : normV x0 x1 x2 x3 x4 (gramV x3) (ix2 0 r)
    = normE (fun q => x4 (ix2 q r)) (fun q o => x3 (ix2 q o)) (wA (R := 512) x0 x1 x2 r) := by
  have h : ∀ (g : S64x64.Idx → EReal) (S : S1x512.Idx → EReal) (w : S512x3584.Idx → EReal), normF x3 x4 g S w (ix2 0 r)
      = Ideal.sqrt (S (ix2 0 r) + (Ideal.ofBits FTy.f32 0x3F400000#32 : EReal) * (∑ q : Fin 64, (x4 (ix2 q r) : EReal) * ∑ o : Fin 3584, (x3 (ix2 q o) : EReal) * w (ix2 r o))
        + (Ideal.ofBits FTy.f32 0x3E100000#32 : EReal) * ∑ p : Fin 64, (∑ k : Fin 64, g (ix2 k p) * (x4 (ix2 k r) : EReal)) * (x4 (ix2 p r) : EReal)) := by
    intro g S w
    pointwise [normF]
  unfold normV
  rw [h, rowsum_at]
  simp only [W_at, gram_at]
  rfl

end Cert.PrepDownIdeal.Body

end
-- ==== Proof.PrepDown.Arrays.lean ====
module

public import proofs.«01_k».proof.Proof.PrepDown.Value

@[expose] public section

set_option maxRecDepth 16384

noncomputable section

namespace Cert.PrepDownIdeal.Body

open Cert.PrepDownIdeal Cert.PrepDownIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-! The result arrays after the run, as functions of the argument arrays. -/

/-- Input block 0 at point `t`, as codes; the others, as extended reals. -/
abbrev ib0 (c : Dev nD) (t : Fin cfg0.N) : S512x1792.Idx → BitVec 8 := iblk m c 0 t
abbrev ib1 (c : Dev nD) (t : Fin cfg0.N) : S512x128.Idx → EReal := iblk m c 1 t
abbrev ib2 (c : Dev nD) (t : Fin cfg0.N) : S512x128.Idx → EReal := iblk m c 2 t
abbrev ib3 (c : Dev nD) (t : Fin cfg0.N) : S64x3584.Idx → EReal := iblk m c 3 t
abbrev ib4 (c : Dev nD) (t : Fin cfg0.N) : S64x512.Idx → EReal := iblk m c 4 t
abbrev ib5 (c : Dev nD) (t : Fin cfg0.N) : S1x512.Idx → EReal := iblk m c 5 t
/-- Argument 0, as codes; the others, as extended reals. -/
abbrev A0 (c : Dev nD) : S8192x1792.Idx → BitVec 8 := V m c main_arg0
abbrev A1 (c : Dev nD) : S8192x128.Idx → EReal := V m c main_arg1
abbrev A2 (c : Dev nD) : S8192x128.Idx → EReal := V m c main_arg2
abbrev A3 (c : Dev nD) : S64x3584.Idx → EReal := V m c main_arg3
abbrev A4 (c : Dev nD) : S64x8192.Idx → EReal := V m c main_arg4
abbrev A5 (c : Dev nD) : S1x8192.Idx → EReal := V m c main_arg5

/-- Row (or column) `o` of point `t`'s block, in the whole array. -/
abbrev col (t : Fin cfg0.N) (o : Fin 512) : Fin 8192 := ⟨t.val * 512 + o.val, by have h : t.val < 16 := t.isLt; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, t.val] := (by decide +kernel : ∀ t : Fin grid0.N, _)
theorem e8 : ∀ t : Fin cfg0.N, win0_8.index t = ![0, t.val] := (by decide +kernel : ∀ t : Fin grid0.N, _)

/-! An input block at an index is its array at the index the block places. -/

theorem ib0_at (c : Dev nD) (t : Fin cfg0.N) (r : Fin 512) (q : Fin 1792) : ib0 m c t (ix2 r q) = A0 m c (ix2 (col t r) q) := by
  blk_simp [ib0, iblk]
  exact congrArg (V m c main_arg0) (by blk_ext [e0 t])
theorem ib1_at (c : Dev nD) (t : Fin cfg0.N) (r : Fin 512) (q : Fin 128) : ib1 m c t (ix2 r q) = A1 m c (ix2 (col t r) q) := by
  blk_simp [ib1, iblk]
  exact congrArg (V m c main_arg1) (by blk_ext [e1 t])
theorem ib2_at (c : Dev nD) (t : Fin cfg0.N) (r : Fin 512) (q : Fin 128) : ib2 m c t (ix2 r q) = A2 m c (ix2 (col t r) q) := by
  blk_simp [ib2, iblk]
  exact congrArg (V m c main_arg2) (by blk_ext [e2 t])
theorem ib3_at (c : Dev nD) (t : Fin cfg0.N) (r : Fin 64) (q : Fin 3584) : ib3 m c t (ix2 r q) = A3 m c (ix2 r q) := by
  blk_simp [ib3, iblk]
  exact congrArg (V m c main_arg3) (by blk_ext [e3 t])
theorem ib4_at (c : Dev nD) (t : Fin cfg0.N) (r : Fin 64) (q : Fin 512) : ib4 m c t (ix2 r q) = A4 m c (ix2 r (col t q)) := by
  blk_simp [ib4, iblk]
  exact congrArg (V m c main_arg4) (by blk_ext [e4 t])
theorem ib5_at (c : Dev nD) (t : Fin cfg0.N) (r : Fin 1) (q : Fin 512) : ib5 m c t (ix2 r q) = A5 m c (ix2 r (col t q)) := by
  blk_simp [ib5, iblk]
  exact congrArg (V m c main_arg5) (by blk_ext [e5 t])

theorem ib3_eq (c : Dev nD) (t : Fin cfg0.N) : ib3 m c t = A3 m c := by
  funext y
  rw [ixy y]
  exact ib3_at m c t (y 0) (y 1)

/-- The weight, the norms and the gains. -/
def wR (c : Dev nD) (r : Fin 8192) (o : Fin 3584) : EReal := wA (A0 m c) (A1 m c) (A2 m c) r o
def nR (c : Dev nD) (r : Fin 8192) : EReal := normE (fun q => A4 m c (ix2 q r)) (fun q o => A3 m c (ix2 q o)) (wR m c r)
def res0 (c : Dev nD) (i : S8192x3584.Idx) : EReal := wR m c (i 0) (i 1)
def res1 (c : Dev nD) (i : S1x8192.Idx) : EReal := nR m c (i 1)
def res2 (c : Dev nD) (i : S1x8192.Idx) : EReal := Ideal.div (A5 m c (ix2 (i 0) (i 1))) (nR m c (i 1))

theorem w_eq (c : Dev nD) (t : Fin cfg0.N) (r : Fin 512) (o : Fin 3584) : wA (ib0 m c t) (ib1 m c t) (ib2 m c t) r o = wR m c (col t r) o := by
  unfold wR wA
  rw [ib0_at, ib1_at, ib2_at]

theorem n_eq (c : Dev nD) (t : Fin cfg0.N) (r : Fin 512) :
    normE (fun q => ib4 m c t (ix2 q r)) (fun q o => ib3 m c t (ix2 q o)) (wA (ib0 m c t) (ib1 m c t) (ib2 m c t) r) = nR m c (col t r) := by
  unfold nR
  congr 1
  · funext q; exact ib4_at m c t q r
  · funext q o; exact ib3_at m c t q o
  · funext o; exact w_eq m c t r o

/-! What a point leaves in its output blocks. -/

theorem scr_A (c : Dev nD) (t : Fin cfg0.N) (h0 : t.val % 16 = 0) : (outsAt0 m c t.val t.isLt).2.2.2 = gramV (A3 m c) :=
  (congrArg (fun p => p.2.2.2) (outsAt0_A m c t h0)).trans
    ((sout_A__eq (iblk m c 0 t) (iblk m c 1 t) (iblk m c 2 t) (iblk m c 3 t) (iblk m c 4 t) (iblk m c 5 t)
      c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0)).trans (congrArg gramV (ib3_eq m c t)))

theorem scr_eq (c : Dev nD) : ∀ (n : ℕ) (hn : n < cfg0.N), (outsAt0 m c n hn).2.2.2 = gramV (A3 m c)
  | 0, hn => scr_A m c ⟨0, hn⟩ (Nat.zero_mod _)
  | n + 1, hn => by
    by_cases h0 : (n + 1) % 16 = 0
    · exact scr_A m c ⟨n + 1, hn⟩ h0
    · exact (congrArg (fun p => p.2.2.2) (outsAt0_B m c ⟨n + 1, hn⟩ h0)).trans (scr_eq c n (Nat.lt_of_succ_lt hn))

set_option maxHeartbeats 2000000 in
theorem outs_6 (c : Dev nD) (t : Fin cfg0.N) : (outsAt0 m c t.val t.isLt).1
    = W (iblk m c 0 t) (iblk m c 1 t) (iblk m c 2 t) := by
  by_cases h0 : t.val % 16 = 0
  · exact (congrArg (fun p => p.1) (outsAt0_A m c t h0)).trans
      (out_A_6_eq (iblk m c 0 t) (iblk m c 1 t) (iblk m c 2 t) (iblk m c 3 t) (iblk m c 4 t) (iblk m c 5 t)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0))
  · refine (congrArg (fun p => p.1) (outsAt0_B m c t h0)).trans
      ((out_B_6_eq (iblk m c 0 t) (iblk m c 1 t) (iblk m c 2 t) (iblk m c 3 t) (iblk m c 4 t) (iblk m c 5 t) (outsAt0 m c (t.val - 1) (lt_of_le_of_lt (Nat.sub_le _ _) t.isLt)).2.2.2
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))).trans rfl)

set_option maxHeartbeats 2000000 in
theorem outs_7 (c : Dev nD) (t : Fin cfg0.N) : (outsAt0 m c t.val t.isLt).2.1
    = normV (iblk m c 0 t) (iblk m c 1 t) (iblk m c 2 t) (iblk m c 3 t) (iblk m c 4 t) (gramV (iblk m c 3 t)) := by
  by_cases h0 : t.val % 16 = 0
  · exact (congrArg (fun p => p.2.1) (outsAt0_A m c t h0)).trans
      (out_A_7_eq (iblk m c 0 t) (iblk m c 1 t) (iblk m c 2 t) (iblk m c 3 t) (iblk m c 4 t) (iblk m c 5 t)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0))
  · have hg := scr_eq m c (t.val - 1) (lt_of_le_of_lt (Nat.sub_le _ _) t.isLt)
    refine (congrArg (fun p => p.2.1) (outsAt0_B m c t h0)).trans
      ((out_B_7_eq (iblk m c 0 t) (iblk m c 1 t) (iblk m c 2 t) (iblk m c 3 t) (iblk m c 4 t) (iblk m c 5 t) (outsAt0 m c (t.val - 1) (lt_of_le_of_lt (Nat.sub_le _ _) t.isLt)).2.2.2
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))).trans ?_)
    exact congrArg (fun g => normV (iblk m c 0 t) (iblk m c 1 t) (iblk m c 2 t) (iblk m c 3 t) (iblk m c 4 t) g) (hg.trans (congrArg gramV (ib3_eq m c t).symm))

set_option maxHeartbeats 2000000 in
theorem outs_8 (c : Dev nD) (t : Fin cfg0.N) : (outsAt0 m c t.val t.isLt).2.2.1
    = divf (iblk m c 5 t) (normV (iblk m c 0 t) (iblk m c 1 t) (iblk m c 2 t) (iblk m c 3 t) (iblk m c 4 t) (gramV (iblk m c 3 t))) := by
  by_cases h0 : t.val % 16 = 0
  · exact (congrArg (fun p => p.2.2.1) (outsAt0_A m c t h0)).trans
      (out_A_8_eq (iblk m c 0 t) (iblk m c 1 t) (iblk m c 2 t) (iblk m c 3 t) (iblk m c 4 t) (iblk m c 5 t)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0))
  · have hg := scr_eq m c (t.val - 1) (lt_of_le_of_lt (Nat.sub_le _ _) t.isLt)
    refine (congrArg (fun p => p.2.2.1) (outsAt0_B m c t h0)).trans
      ((out_B_8_eq (iblk m c 0 t) (iblk m c 1 t) (iblk m c 2 t) (iblk m c 3 t) (iblk m c 4 t) (iblk m c 5 t) (outsAt0 m c (t.val - 1) (lt_of_le_of_lt (Nat.sub_le _ _) t.isLt)).2.2.2
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))).trans ?_)
    exact congrArg (fun g => divf (iblk m c 5 t) (normV (iblk m c 0 t) (iblk m c 1 t) (iblk m c 2 t) (iblk m c 3 t) (iblk m c 4 t) g)) (hg.trans (congrArg gramV (ib3_eq m c t).symm))

theorem val_7 (c : Dev nD) (t : Fin cfg0.N) (r : Fin 512) :
    normV (iblk m c 0 t) (iblk m c 1 t) (iblk m c 2 t) (iblk m c 3 t) (iblk m c 4 t) (gramV (iblk m c 3 t)) (ix2 0 r) = nR m c (col t r) :=
  (normV_at _ _ _ _ _ r).trans (n_eq m c t r)

/-- Result 0 after the run. -/
theorem final6 (c : Dev nD) : (dats m 0 c).arrAt 6 cfg0.N = res0 m c := by
  refine (dats m 0 c).arrAt_eq_of_covers 6 _ (by decide +kernel) fun t hf y => ?_
  blk_simp
  rw [after0_6, outs_6]
  obtain ⟨r, o, rfl⟩ : ∃ (r : Fin 512) (o : Fin 3584), y = ix2 r o := ⟨y 0, y 1, ixy y⟩
  rw [show (win0_6.blk t).view.emb (ix2 r o) = ix2 (col t r) o from by blk_ext [e6 t]]
  exact (W_at _ _ _ r o).trans (w_eq m c t r o)

/-- Result 1 after the run. -/
theorem final7 (c : Dev nD) : (dats m 0 c).arrAt 7 cfg0.N = res1 m c := by
  refine (dats m 0 c).arrAt_eq_of_covers 7 _ (by decide +kernel) fun t hf y => ?_
  blk_simp
  rw [after0_7, outs_7]
  obtain ⟨z, r, rfl⟩ : ∃ (z : Fin 1) (r : Fin 512), y = ix2 z r := ⟨y 0, y 1, ixy y⟩
  obtain rfl : z = 0 := Subsingleton.elim _ _
  rw [show (win0_7.blk t).view.emb (ix2 0 r) = ix2 0 (col t r) from by blk_ext [e7 t]]
  exact val_7 m c t r

/-- Result 2 after the run. -/
theorem final8 (c : Dev nD) : (dats m 0 c).arrAt 8 cfg0.N = res2 m c := by
  refine (dats m 0 c).arrAt_eq_of_covers 8 _ (by decide +kernel) fun t hf y => ?_
  blk_simp
  rw [after0_8, outs_8]
  obtain ⟨z, r, rfl⟩ : ∃ (z : Fin 1) (r : Fin 512), y = ix2 z r := ⟨y 0, y 1, ixy y⟩
  obtain rfl : z = 0 := Subsingleton.elim _ _
  rw [show (win0_8.blk t).view.emb (ix2 0 r) = ix2 0 (col t r) from by blk_ext [e8 t]]
  exact congrArg₂ Ideal.div (ib5_at m c t 0 r) (val_7 m c t r)

end Cert.PrepDownIdeal.Body

end
-- ==== Proof.PrepDown.Claim.lean ====
module

public import proofs.«01_k».proof.Defs
public import proofs.«01_k».proof.Proof.PrepDown.Arrays
public import proofs.«01_k».proof.Proof.Gen.PrepDownRefIdeal.Read
public import Idealize.ShloMosaic.Lib.Pointwise
public import Idealize.ShloMosaic.Lib.Claim
public import Idealize.ShloMosaic.Lib.Quiescent
public import Idealize.ShloMosaic.Lib.Pipeline.Value

@[expose] public section

set_option maxRecDepth 16384

noncomputable section

namespace Cert.PrepDownIdeal.Body

open Cert.PrepDownIdeal.Gen
open Idealize.ShloMosaic Idealize.ShloMosaic.TcCoe Idealize.ShloMosaic.Tactic
open Idealize.SL Idealize.SL.Sem
open Cert.PrepDownRefIdeal.Read

/-! The reference's results are the same functions of the argument arrays. -/

theorem hi_toInt : ∀ n : Fin 256, (IntOp.shrsi .host ((BitVec.ofNat 8 n.val).setWidth 32) 4#32).toInt = (bits 0 (BitVec.ofNat 8 n.val)).toInt := by decide +kernel
theorem lo_toInt : ∀ n : Fin 256, (IntOp.andi ((BitVec.ofNat 8 n.val).setWidth 32) 15#32).toInt = (bits 1 (BitVec.ofNat 8 n.val)).toInt := by decide +kernel

theorem hi_eq (b : BitVec 8) : (FloatOps.sitofp (F := Ideal) .bf16 (IntOp.shrsi .host (b.setWidth 32) 4#32) : EReal) = FloatOps.sitofp (F := Ideal) .bf16 (bits 0 b) := by
  have h := hi_toInt ⟨b.toNat, b.isLt⟩
  rw [BitVec.ofNat_toNat, BitVec.setWidth_eq] at h
  exact congrArg (fun z : ℤ => ((z : ℝ) : EReal)) h
theorem lo_eq (b : BitVec 8) : (FloatOps.sitofp (F := Ideal) .bf16 (IntOp.andi (b.setWidth 32) 15#32) : EReal) = FloatOps.sitofp (F := Ideal) .bf16 (bits 1 b) := by
  have h := lo_toInt ⟨b.toNat, b.isLt⟩
  rw [BitVec.ofNat_toNat, BitVec.setWidth_eq] at h
  exact congrArg (fun z : ℤ => ((z : ℝ) : EReal)) h

section
variable (x0 : S8192x1792.Idx → BitVec 8) (x1 x2 : S8192x128.Idx → EReal) (x3 : S64x3584.Idx → EReal) (x4 : S64x8192.Idx → EReal)

theorem hi_at (r : Fin 8192) (o : ℕ) (h : o < 1792) : val_main_v16 (F := Ideal) x0 x1 x2 (ix2 r ⟨o, h⟩) = wA x0 x1 x2 r ⟨o, by omega⟩ := by
  rw [val_main_v16_apply, val_main_v15_apply, val_main_v12_apply, val_main_v9_apply, val_main_v3_apply, val_main_v2_apply, val_main_v0_apply,
    val_main_v1_apply, val_main_c_apply, val_main_v11_apply, val_main_v10_apply, val_main_v8_apply, val_main_v14_apply, val_main_v13_apply, val_main_v7_apply]
  rw [show idx_main_v9 (idx_main_v16 (ix2 r ⟨o, h⟩)) = ix2 r ⟨o % 1792, by omega⟩ from funext fun a => by
      match a with
      | ⟨0, _⟩ => exact Fin.ext (by show (((r.val * 1792 + o) / 1792 * 28 + (r.val * 1792 + o) / 64 % 28) * 64 + (r.val * 1792 + o) % 64) / 1792 = r.val; omega)
      | ⟨1, _⟩ => exact Fin.ext (by show (((r.val * 1792 + o) / 1792 * 28 + (r.val * 1792 + o) / 64 % 28) * 64 + (r.val * 1792 + o) % 64) % 1792 = o % 1792; omega),
    show idx_main_v8 (idx_main_v10 (idx_main_v11 (idx_main_v16 (ix2 r ⟨o, h⟩)))) = ix2 r ⟨o / 64, by omega⟩ from funext fun a => by
      match a with
      | ⟨0, _⟩ => exact Fin.ext (by show (r.val * 1792 + o) / 1792 = r.val; omega)
      | ⟨1, _⟩ => exact Fin.ext (by show (r.val * 1792 + o) / 64 % 28 = o / 64; omega),
    show idx_main_v7 (idx_main_v13 (idx_main_v14 (idx_main_v16 (ix2 r ⟨o, h⟩)))) = ix2 r ⟨o / 64, by omega⟩ from funext fun a => by
      match a with
      | ⟨0, _⟩ => exact Fin.ext (by show (r.val * 1792 + o) / 1792 = r.val; omega)
      | ⟨1, _⟩ => exact Fin.ext (by show (r.val * 1792 + o) / 64 % 28 = o / 64; omega)]
  refine Eq.trans (congrArg (fun e : EReal => (e - x2 (ix2 r ⟨o / 64, by omega⟩)) * x1 (ix2 r ⟨o / 64, by omega⟩)) (hi_eq _)) ?_
  unfold wA wE
  rw [show (⟨o, by omega⟩ : Fin 3584).val / 1792 = 0 from Nat.div_eq_of_lt h]

theorem lo_at (r : Fin 8192) (o : ℕ) (h : o < 1792) : val_main_v26 (F := Ideal) x0 x1 x2 (ix2 r ⟨o, h⟩) = wA x0 x1 x2 r ⟨1792 + o, by omega⟩ := by
  rw [val_main_v26_apply, val_main_v25_apply, val_main_v22_apply, val_main_v19_apply, val_main_v6_apply, val_main_v5_apply, val_main_v0_apply,
    val_main_v4_apply, val_main_c_0_apply, val_main_v21_apply, val_main_v20_apply, val_main_v18_apply, val_main_v24_apply, val_main_v23_apply, val_main_v17_apply]
  rw [show idx_main_v19 (idx_main_v26 (ix2 r ⟨o, h⟩)) = ix2 r ⟨(1792 + o) % 1792, by omega⟩ from funext fun a => by
      match a with
      | ⟨0, _⟩ => exact Fin.ext (by show (((r.val * 1792 + o) / 1792 * 28 + (r.val * 1792 + o) / 64 % 28) * 64 + (r.val * 1792 + o) % 64) / 1792 = r.val; omega)
      | ⟨1, _⟩ => exact Fin.ext (by show (((r.val * 1792 + o) / 1792 * 28 + (r.val * 1792 + o) / 64 % 28) * 64 + (r.val * 1792 + o) % 64) % 1792 = (1792 + o) % 1792; omega),
    show idx_main_v18 (idx_main_v20 (idx_main_v21 (idx_main_v26 (ix2 r ⟨o, h⟩)))) = ix2 r ⟨(1792 + o) / 64, by omega⟩ from funext fun a => by
      match a with
      | ⟨0, _⟩ => exact Fin.ext (by show (r.val * 1792 + o) / 1792 = r.val; omega)
      | ⟨1, _⟩ => exact Fin.ext (by show 28 + (r.val * 1792 + o) / 64 % 28 = (1792 + o) / 64; omega),
    show idx_main_v17 (idx_main_v23 (idx_main_v24 (idx_main_v26 (ix2 r ⟨o, h⟩)))) = ix2 r ⟨(1792 + o) / 64, by omega⟩ from funext fun a => by
      match a with
      | ⟨0, _⟩ => exact Fin.ext (by show (r.val * 1792 + o) / 1792 = r.val; omega)
      | ⟨1, _⟩ => exact Fin.ext (by show 28 + (r.val * 1792 + o) / 64 % 28 = (1792 + o) / 64; omega)]
  refine Eq.trans (congrArg (fun e : EReal => (e - x2 (ix2 r ⟨(1792 + o) / 64, by omega⟩)) * x1 (ix2 r ⟨(1792 + o) / 64, by omega⟩)) (lo_eq _)) ?_
  unfold wA wE
  rw [show (⟨1792 + o, by omega⟩ : Fin 3584).val / 1792 = 1 from by show (1792 + o) / 1792 = 1; omega]

/-- The reference's weight. -/
theorem w_at (r : Fin 8192) (o : Fin 3584) : val_main_v27 (F := Ideal) x0 x1 x2 (ix2 r o) = wA x0 x1 x2 r o := by
  obtain ⟨o, ho⟩ := o
  unfold val_main_v27
  by_cases h : o < 1792
  · rw [concatenate_pair_apply_left 1 (val_main_v16 (F := Ideal) x0 x1 x2) (val_main_v26 (F := Ideal) x0 x1 x2) _ (ix2 r ⟨o, ho⟩) rfl (ix2 r ⟨o, h⟩) (fun b => by match b with | ⟨0, _⟩ => rfl | ⟨1, _⟩ => rfl)]
    exact hi_at x0 x1 x2 r o h
  · obtain ⟨p, rfl⟩ : ∃ p, o = 1792 + p := ⟨o - 1792, by omega⟩
    have hp : p < 1792 := by omega
    rw [concatenate_pair_apply_right 1 (val_main_v16 (F := Ideal) x0 x1 x2) (val_main_v26 (F := Ideal) x0 x1 x2) _ (ix2 r ⟨1792 + p, ho⟩) rfl rfl (ix2 r ⟨p, hp⟩)
      (fun b hb => by match b with | ⟨0, _⟩ => rfl | ⟨1, _⟩ => exact absurd rfl hb) (by show p + 1792 = 1792 + p; omega)]
    exact lo_at x0 x1 x2 r p hp

/-- The reference's norm. -/
theorem n_at (r : Fin 8192) : val_main_v47 (F := Ideal) x0 x1 x2 x3 x4 (ix2 0 r)
    = normE (fun q => x4 (ix2 q r)) (fun q o => x3 (ix2 q o)) (wA x0 x1 x2 r) := by
  pointwise [val_main_v28, val_main_v29, val_main_cst, val_main_v30, val_main_v31, val_main_v32, val_main_v33, val_main_v34, val_main_v35, val_main_v36,
    val_main_cst_1, val_main_v37, val_main_cst_2, val_main_v38, val_main_v39, val_main_v40, val_main_v41, val_main_cst_3, val_main_v42, val_main_cst_4,
    val_main_v43, val_main_v44, val_main_v45, val_main_v46, val_main_v47]
  simp only [w_at]
  unfold normE
  simp only [mul_comm]

end

variable (m : (ℓ : Loc nD τ sig) → Buf (Elt Ideal) ℓ)

theorem ref0 (c : Dev nD) : val_main_v27 (F := Ideal) (V m c main_arg0) (V m c main_arg1) (V m c main_arg2) = res0 m c := by
  funext i
  obtain ⟨r, o, rfl⟩ : ∃ (r : Fin 8192) (o : Fin 3584), i = ix2 r o := ⟨i 0, i 1, ixy i⟩
  exact w_at (A0 m c) (A1 m c) (A2 m c) r o

theorem ref1 (c : Dev nD) : val_main_v47 (F := Ideal) (V m c main_arg0) (V m c main_arg1) (V m c main_arg2) (V m c main_arg3) (V m c main_arg4) = res1 m c := by
  funext i
  obtain ⟨z, r, rfl⟩ : ∃ (z : Fin 1) (r : Fin 8192), i = ix2 z r := ⟨i 0, i 1, ixy i⟩
  obtain rfl : z = 0 := Subsingleton.elim _ _
  exact n_at (A0 m c) (A1 m c) (A2 m c) (A3 m c) (A4 m c) r

theorem ref2 (c : Dev nD) : val_main_v48 (F := Ideal) (V m c main_arg0) (V m c main_arg1) (V m c main_arg2) (V m c main_arg3) (V m c main_arg4) (V m c main_arg5) = res2 m c := by
  funext i
  obtain ⟨z, r, rfl⟩ : ∃ (z : Fin 1) (r : Fin 8192), i = ix2 z r := ⟨i 0, i 1, ixy i⟩
  obtain rfl : z = 0 := Subsingleton.elim _ _
  rw [val_main_v48_apply]
  exact congrArg (Ideal.div (A5 m c (ix2 0 r))) (n_at (A0 m c) (A1 m c) (A2 m c) (A3 m c) (A4 m c) r)

/-- The reference's frame: a straight line of host operations on its arguments, with no semaphore. -/
theorem frameRef : Cert.quiescent_PrepDownRefIdeal (hPrepDownRefIdeal := Cert.PrepDownRefIdeal.Gen.facts) := fun m ρ _ =>
  (θ_run Cert.PrepDownRefIdeal.defs _ _).mono (fun r h => ⟨fun c => (h c).2.2.2, sem_eq_zero_of_no_sems (by decide) r.2⟩)
    (Cert.PrepDownRefIdeal.Value.run (F := Ideal) m ρ)

/-- The algebraic claim: over the extended reals the kernel and the reference end with equal results. -/
theorem algebraic : Cert.algebraic_PrepDownIdeal_PrepDownRefIdeal (hPrepDownIdeal := Cert.PrepDownIdeal.Gen.facts)
    (hPrepDownRefIdeal := Cert.PrepDownRefIdeal.Gen.facts) := by
  intro m g m' g' _ hargs
  refine ⟨res0 m, res1 m, res2 m, ?_, ?_⟩
  · refine (θ_run (defs (F := Ideal)) _ _).mono (fun r h c => ?_) (θ_run_and (run_main m g) (frame m g))
    exact ⟨(h.1.out_eq c 6).trans (final6 m c), (h.1.out_eq c 7).trans (final7 m c), (h.1.out_eq c 8).trans (final8 m c), h.2.1 c⟩
  · refine (θ_run (Cert.PrepDownRefIdeal.defs (F := Ideal)) _ _).mono (fun r h c => ?_) (Cert.PrepDownRefIdeal.Value.run (F := Ideal) m' g')
    obtain ⟨h0, h1, h2, ha⟩ := h c
    obtain ⟨a0, a1, a2, a3, a4, a5⟩ := hargs c
    have h0 := h0.trans (val_main_v27_eq _ _ _)
    have h1 := h1.trans (val_main_v47_eq m' c)
    have h2 := h2.trans (val_main_v48_eq m' c)
    rw [a0, a1, a2] at h0
    rw [a0, a1, a2, a3, a4] at h1
    rw [a0, a1, a2, a3, a4, a5] at h2
    exact ⟨h0.trans (ref0 m c), h1.trans (ref1 m c), h2.trans (ref2 m c), ha⟩

end Cert.PrepDownIdeal.Body

end
-- ==== Proof.PrepGateUp.FrameBits.lean ====
module

public import proofs.«01_k».proof.Defs
public import proofs.«01_k».proof.Proof.Gen.PrepGateUp
public import proofs.«01_k».proof.Proof.Gen.PrepGateUpIdeal
public import proofs.«01_k».proof.Proof.Gen.PrepGateUpIdeal.Frame
public import Idealize.ShloMosaic.Adequacy
public import Idealize.ShloMosaic.Init
public import Idealize.ShloMosaic.Lib.Tactic

@[expose] public section

noncomputable section

/-! The frame of the program at its machine words. The printed program and the one the algebraic claim is about are the same text, and its frame is proved at every float instance: at the words it is the claim. -/

namespace Cert.PrepGateUpBits

open Idealize Idealize.ShloMosaic Idealize.SL.Sem

attribute [local instance] Cert.PrepGateUp.Gen.facts Cert.PrepGateUpIdeal.Gen.facts

/-- The frame, at any float instance. -/
def FrameI (F : FTy → Type) [FloatOps F] : Prop :=
  ∀ (m : (ℓ : Loc Cert.PrepGateUpIdeal.nD Cert.PrepGateUpIdeal.τ Cert.PrepGateUpIdeal.sig) → Buf (Elt F) ℓ) (g : Dev Cert.PrepGateUpIdeal.nD → PrngReg), True →
    θ_run (Cert.PrepGateUpIdeal.defs (F := F)) (onTc (τ := Cert.PrepGateUpIdeal.τ) (Cert.PrepGateUpIdeal.main (F := F))) ⟨m, fun _ => 0, g⟩ (fun r => (∀ c : Dev Cert.PrepGateUpIdeal.nD,
      r.2.mem ((c.tc : Thread Cert.PrepGateUpIdeal.nD Cert.PrepGateUpIdeal.τ).loc Cert.PrepGateUpIdeal.main_arg0) = m ((c.tc : Thread Cert.PrepGateUpIdeal.nD Cert.PrepGateUpIdeal.τ).loc Cert.PrepGateUpIdeal.main_arg0)
      ∧ r.2.mem ((c.tc : Thread Cert.PrepGateUpIdeal.nD Cert.PrepGateUpIdeal.τ).loc Cert.PrepGateUpIdeal.main_arg1) = m ((c.tc : Thread Cert.PrepGateUpIdeal.nD Cert.PrepGateUpIdeal.τ).loc Cert.PrepGateUpIdeal.main_arg1)
      ∧ r.2.mem ((c.tc : Thread Cert.PrepGateUpIdeal.nD Cert.PrepGateUpIdeal.τ).loc Cert.PrepGateUpIdeal.main_arg2) = m ((c.tc : Thread Cert.PrepGateUpIdeal.nD Cert.PrepGateUpIdeal.τ).loc Cert.PrepGateUpIdeal.main_arg2)
      ∧ r.2.mem ((c.tc : Thread Cert.PrepGateUpIdeal.nD Cert.PrepGateUpIdeal.τ).loc Cert.PrepGateUpIdeal.main_arg3) = m ((c.tc : Thread Cert.PrepGateUpIdeal.nD Cert.PrepGateUpIdeal.τ).loc Cert.PrepGateUpIdeal.main_arg3)
      ∧ r.2.mem ((c.tc : Thread Cert.PrepGateUpIdeal.nD Cert.PrepGateUpIdeal.τ).loc Cert.PrepGateUpIdeal.main_arg4) = m ((c.tc : Thread Cert.PrepGateUpIdeal.nD Cert.PrepGateUpIdeal.τ).loc Cert.PrepGateUpIdeal.main_arg4)
      ∧ r.2.mem ((c.tc : Thread Cert.PrepGateUpIdeal.nD Cert.PrepGateUpIdeal.τ).loc Cert.PrepGateUpIdeal.main_arg5) = m ((c.tc : Thread Cert.PrepGateUpIdeal.nD Cert.PrepGateUpIdeal.τ).loc Cert.PrepGateUpIdeal.main_arg5))
      ∧ r.2.sem = fun _ => 0)

theorem frameI (F : FTy → Type) [FloatOps F] : FrameI F := fun m ρ _ => Cert.PrepGateUpIdeal.Gen.frame m ρ

theorem eq_frame : Cert.quiescent_PrepGateUp = FrameI Bits := by sl_kernel_rfl

/-- Every execution terminates with the arguments unchanged and every counter at zero, at the machine's words. -/
theorem frame : Cert.quiescent_PrepGateUp := eq_frame ▸ frameI Bits

end Cert.PrepGateUpBits

end
-- ==== Proof.PrepGateUp.Tile.lean ====
module

public import proofs.«01_k».proof.Proof.Gen.PrepGateUpIdeal.Skeleton
public import Idealize.ShloMosaic.Lib.BitcastFour
public import Idealize.ShloMosaic.Lib.Pointwise
public import Idealize.ShloMosaic.Lib.Pipeline.FrameBody

@[expose] public section

set_option maxRecDepth 16384

noncomputable section

namespace Cert.PrepGateUpIdeal.Body

open Cert.PrepGateUpIdeal Cert.PrepGateUpIdeal.Gen
open Idealize.ShloMosaic Idealize.ShloMosaic.TcCoe Idealize.ShloMosaic.Tactic

/-! One tile of 256 rows and 128 lanes of the weight: a field of the packed codes, less the zero point, times the scale. -/

theorem ixy {a b : ℕ} (y : (⟨2, ![a, b]⟩ : Shape).Idx) : y = ix2 (y 0) (y 1) := by
  funext i; refine Fin.cases rfl (fun j => ?_) i; refine Fin.cases rfl (fun k => k.elim0) j

/-- The high and the low four bits of every code, computed on words of four codes. -/
def nibHi (v : IVec S256x128 8) : IVec S256x128 8 :=
  bitcast S256x128 8 (andi (shrui (bitcast S64x128 32 v bitcasts_S256x128_w8_S64x128_w32) (broadcast S64x128 4#32))
    (broadcast S64x128 252645135#32)) bitcasts_S64x128_w32_S256x128_w8
def nibLo (v : IVec S256x128 8) : IVec S256x128 8 :=
  bitcast S256x128 8 (andi (bitcast S64x128 32 v bitcasts_S256x128_w8_S64x128_w32) (broadcast S64x128 252645135#32))
    bitcasts_S64x128_w32_S256x128_w8

theorem mask_bit : ∀ q : Fin 32, (252645135#32).getLsbD q.val = decide (q.val % 8 < 4) := by decide
theorem low_bit : ∀ q : Fin 8, (15#8).getLsbD q.val = decide (q.val < 4) := by decide

/-- Bit `i` of a code's row, in the words: the word's row and the bit. -/
theorem back_getLsbD (w : IVec S64x128 32) (r : Fin 256) (l : Fin 128) (i : ℕ) (hi : i < 8) :
    (bitcast S256x128 8 w bitcasts_S64x128_w32_S256x128_w8 (ix2 r l)).getLsbD i
      = (w (ix2 (⟨r.val / 4, by omega⟩ : Fin 64) l)).getLsbD (8 * (r.val % 4) + i) := by
  rw [bitcast_getLsbD w bitcasts_S64x128_w32_S256x128_w8 (ix2 r l) i hi (by decide)]
  have hr : S256x128.row (ix2 r l) = r.val := rfl
  have hq : (S256x128.row (ix2 r l) * 8 + i) % 32 = 8 * (r.val % 4) + i := by rw [hr]; omega
  have hp : (S256x128.row (ix2 r l) * 8 + i) / 32 = r.val / 4 := by rw [hr]; omega
  rw [hq]
  congr 2
  funext c
  match c with
  | ⟨0, _⟩ => exact Fin.ext ((bitcasts_S64x128_w32_S256x128_w8.srcIdx_row _ _ _ ⟨0, Nat.zero_lt_two⟩ rfl).trans hp)
  | ⟨1, _⟩ => exact Fin.ext (bitcasts_S64x128_w32_S256x128_w8.srcIdx_other _ _ _ ⟨1, Nat.one_lt_two⟩ (by show ¬ 1 + 2 = 2; omega))

theorem word_getLsbD (v : IVec S256x128 8) (r : Fin 256) (l : Fin 128) (q : ℕ) (hq : q < 8) :
    (bitcast S64x128 32 v bitcasts_S256x128_w8_S64x128_w32 (ix2 (⟨r.val / 4, by omega⟩ : Fin 64) l)).getLsbD (8 * (r.val % 4) + q)
      = (v (ix2 r l)).getLsbD q := by
  refine (bitcast_8_32_getLsbD_ix2 v bitcasts_S256x128_w8_S64x128_w32 (⟨r.val / 4, by omega⟩ : Fin 64) l (8 * (r.val % 4) + q) (by omega) r
    (by show r.val = 4 * (r.val / 4) + _; omega)).trans ?_
  rw [show (8 * (r.val % 4) + q) % 8 = q from by omega]
  rfl

theorem nibHi_at (v : IVec S256x128 8) (r : Fin 256) (l : Fin 128) : nibHi v (ix2 r l) = v (ix2 r l) >>> 4 := by
  apply BitVec.eq_of_getLsbD_eq
  intro i hi
  unfold nibHi
  rw [back_getLsbD _ r l i hi]
  have hs : ∀ w : BitVec 32, IntOp.andi (IntOp.shrui .vector w 4#32) 252645135#32 = (w >>> 4) &&& 252645135#32 := fun w => rfl
  show (IntOp.andi (IntOp.shrui .vector _ 4#32) 252645135#32).getLsbD _ = _
  rw [hs, BitVec.getLsbD_and, BitVec.getLsbD_ushiftRight, mask_bit ⟨8 * (r.val % 4) + i, by omega⟩, BitVec.getLsbD_ushiftRight]
  by_cases h : i < 4
  · rw [show 4 + (8 * (r.val % 4) + i) = 8 * (r.val % 4) + (4 + i) from by omega, word_getLsbD v r l (4 + i) (by omega),
      show decide ((8 * (r.val % 4) + i) % 8 < 4) = true from decide_eq_true (by omega), Bool.and_true]
  · rw [BitVec.getLsbD_of_ge _ (4 + i) (by omega),
      show decide ((8 * (r.val % 4) + i) % 8 < 4) = false from decide_eq_false (by omega), Bool.and_false]

theorem nibLo_at (v : IVec S256x128 8) (r : Fin 256) (l : Fin 128) : nibLo v (ix2 r l) = v (ix2 r l) &&& 15#8 := by
  apply BitVec.eq_of_getLsbD_eq
  intro i hi
  unfold nibLo
  rw [back_getLsbD _ r l i hi]
  show (_ &&& 252645135#32 : BitVec 32).getLsbD _ = _
  rw [BitVec.getLsbD_and, mask_bit ⟨8 * (r.val % 4) + i, by omega⟩, BitVec.getLsbD_and, word_getLsbD v r l i hi, low_bit ⟨i, hi⟩]
  congr 1
  exact decide_eq_decide.mpr (by show (8 * (r.val % 4) + i) % 8 < 4 ↔ i < 4; omega)

/-- The field of a tile's codes: the high four bits first. -/
def nib (f : ℕ) (v : IVec S256x128 8) : IVec S256x128 8 := if f = 0 then nibHi v else nibLo v
/-- One field of one code. -/
def bits (f : ℕ) (b : BitVec 8) : BitVec 8 := if f = 0 then b >>> 4 else b &&& 15#8
theorem nib_at (f : ℕ) (v : IVec S256x128 8) (r : Fin 256) (l : Fin 128) : nib f v (ix2 r l) = bits f (v (ix2 r l)) := by
  unfold nib bits
  split
  · exact nibHi_at v r l
  · exact nibLo_at v r l

/-- The lanes' quantisation groups within a tile, and the group of a tile's first lane added. -/
def wrap (v : IVec S256x128 32) : IVec S256x128 32 :=
  select (cmpi .slt v (broadcast S256x128 0#32)) (addi v (broadcast S256x128 128#32)) v
def gidx (off : BitVec 32) : IVec S256x128 32 := addi k0_pay4 (broadcast S256x128 off)
def gcast (v : IVec S256x128 32) : IVec S256x128 32 :=
  shapeCast S256x128 (shapeCast S256x128x1 v shapeCasts_S256x128_S256x128x1) shapeCasts_S256x128x1_S256x128

/-- A tile of the weight. -/
def tile (s z : FVec Ideal S256x128 .f32) (q : IVec S256x128 8) (off : BitVec 32) : FVec Ideal S256x128 .bf16 :=
  mulf (subf (sitofp .bf16 q) (truncf .bf16 (dynamicGather 1 z (gcast (wrap (gidx off)))) bitsLt_bf16_f32))
    (truncf .bf16 (dynamicGather 1 s (gcast (wrap (gidx off)))) bitsLt_bf16_f32)

/-- The group arithmetic of one lane. -/
def grpW (x : BitVec 32) : BitVec 32 :=
  let q := IntOp.divsi .vector x 64#32
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32))))
    (IntOp.cmpi .ne (IntOp.remsi .vector x 64#32) 0#32)) (IntOp.subi q 1#32) q

theorem grpW_eq : ∀ l : Fin 128, grpW (BitVec.ofNat 32 l.val) = BitVec.ofNat 32 (l.val / 64) := by decide +kernel

theorem grp_at (r : Fin 256) (l : Fin 128) : k0_pay4 (ix2 r l) = BitVec.ofNat 32 (l.val / 64) := by
  rw [← grpW_eq l]
  pointwise [k0_pay4]
  rfl

theorem wrapW : ∀ (g : Fin 2) (n : Fin 128), (Scalar.select (IntOp.cmpi .slt (IntOp.addi (BitVec.ofNat 32 g.val) (BitVec.ofNat 32 n.val)) 0#32)
    (IntOp.addi (IntOp.addi (BitVec.ofNat 32 g.val) (BitVec.ofNat 32 n.val)) 128#32)
    (IntOp.addi (BitVec.ofNat 32 g.val) (BitVec.ofNat 32 n.val))).toNat = g.val + n.val := by decide +kernel

theorem gcast_at (v : IVec S256x128 32) (r : Fin 256) (l : Fin 128) : gcast v (ix2 r l) = v (ix2 r l) := by
  unfold gcast
  rw [shapeCast_shapeCast]

theorem gidx_at (n : ℕ) (hn : n < 127) (r : Fin 256) (l : Fin 128) :
    (gcast (wrap (gidx (BitVec.ofNat 32 n))) (ix2 r l)).toNat = l.val / 64 + n := by
  rw [gcast_at, ← wrapW ⟨l.val / 64, by omega⟩ ⟨n, by omega⟩]
  show (Scalar.select (IntOp.cmpi .slt (IntOp.addi (k0_pay4 (ix2 r l)) (BitVec.ofNat 32 n)) 0#32)
    (IntOp.addi (IntOp.addi (k0_pay4 (ix2 r l)) (BitVec.ofNat 32 n)) 128#32)
    (IntOp.addi (k0_pay4 (ix2 r l)) (BitVec.ofNat 32 n))).toNat = _
  rw [grp_at]

/-- Entry `(r, l)` of a tile. -/
theorem tile_at (s z : S256x128.Idx → EReal) (q : IVec S256x128 8) (n : ℕ) (hn : n < 127) (r : Fin 256) (l : Fin 128) :
    tile s z q (BitVec.ofNat 32 n) (ix2 r l)
      = ((FloatOps.sitofp (F := Ideal) .bf16 (q (ix2 r l)) : EReal) - z (ix2 r ⟨l.val / 64 + n, by omega⟩)) * s (ix2 r ⟨l.val / 64 + n, by omega⟩) := by
  have hg : ∀ x : S256x128.Idx → EReal, dynamicGather 1 x (gcast (wrap (gidx (BitVec.ofNat 32 n)))) (ix2 r l) = x (ix2 r ⟨l.val / 64 + n, by omega⟩) := by
    intro x
    rw [dynamicGather_apply]
    congr 1
    funext b
    match b with
    | ⟨0, _⟩ => rfl
    | ⟨1, _⟩ =>
      refine Fin.ext ?_
      show (gcast (wrap (gidx (BitVec.ofNat 32 n))) (ix2 r l)).toNat % 128 = _
      rw [gidx_at n hn]
      show _ = l.val / 64 + n
      omega
  show (FloatOps.sitofp (F := Ideal) .bf16 (q (ix2 r l)) - dynamicGather 1 z (gcast (wrap (gidx (BitVec.ofNat 32 n)))) (ix2 r l) : EReal)
    * dynamicGather 1 s (gcast (wrap (gidx (BitVec.ofNat 32 n)))) (ix2 r l) = _
  rw [hg z, hg s]

end Cert.PrepGateUpIdeal.Body

end
-- ==== Proof.PrepGateUp.Block.lean ====
module

public import proofs.«01_k».proof.Proof.Gen.PrepGateUpIdeal.Frame
public import proofs.«01_k».proof.Proof.PrepGateUp.Tile
public import Idealize.ShloMosaic.Lib.Pipeline.ReadBack
public import Idealize.ShloMosaic.Lib.Pipeline.ValueKit.Tiles
public import Idealize.ShloMosaic.Lib.Pointwise
public import Idealize.ShloMosaic.Lib.Pipeline.ValueKit.Acc
public import Idealize.ShloMosaic.Lib.Pipeline.ValueKit.Geometry

@[expose] public section

set_option maxRecDepth 65536

noncomputable section

namespace Cert.PrepGateUpIdeal.Body

open Cert.PrepGateUpIdeal Cert.PrepGateUpIdeal.Gen
open Idealize.ShloMosaic Idealize.ShloMosaic.TcCoe Idealize.ShloMosaic.Tactic
open Idealize.SL Idealize.SL.Sem

/-! What one run of the body leaves in its output blocks, from its input blocks. -/

variable (x0 : Vec Ideal S256x4096 .i8) (x1 x2 : Vec Ideal S256x128 .bf16) (x3 : Vec Ideal S64x8192 .bf16)
  (x4 : Vec Ideal S64x256 .bf16) (x5 : Vec Ideal S1x256 .f32) (g : Vec Ideal S64x64 .f32)

theorem inbC (k : ℕ) (h : k < 64) : ∀ a : Fin 2, (![0, 128 * (k / 2)] : Fin 2 → ℕ) a + S256x128.size a ≤ S256x4096.size a
  | ⟨0, _⟩ => by show 0 + 256 ≤ 256; omega
  | ⟨1, _⟩ => by show 128 * (k / 2) + 128 ≤ 4096; omega
theorem inbW (k : ℕ) (h : k < 64) : ∀ a : Fin 2, (![0, 4096 * (k % 2) + 128 * (k / 2)] : Fin 2 → ℕ) a + S256x128.size a ≤ S256x8192.size a
  | ⟨0, _⟩ => by show 0 + 256 ≤ 256; omega
  | ⟨1, _⟩ => by show 4096 * (k % 2) + 128 * (k / 2) + 128 ≤ 8192; omega

/-- Tile `k` of a block's weight, in the order the body stores them: field `k % 2` of column tile `k / 2`. -/
def T (k : ℕ) (h : k < 64) : FVec Ideal S256x128 .bf16 :=
  tile (extf .f32 x1 bitsLt_bf16_f32) (extf .f32 x2 bitsLt_bf16_f32)
    (nib (k % 2) (View.ld (Val := Elt Ideal) x0 (Rect.unit (s := S256x4096) ![0, 128 * (k / 2)] S256x128.size (inbC k h))))
    (BitVec.ofNat 32 (64 * (k % 2) + 2 * (k / 2)))

/-- The stores of the first `n` tiles, the last first. -/
def pcs : (n : ℕ) → n ≤ 64 → List (View.Piece (Elt Ideal) S256x8192 .bf16)
  | 0, _ => []
  | n + 1, h => ⟨Rect.unit (s := S256x8192) ![0, 4096 * (n % 2) + 128 * (n / 2)] S256x128.size (inbW n h), T x0 x1 x2 n h⟩ :: pcs n (Nat.le_of_succ_le h)

/-- The squares of the first `n` tiles, summed lane by lane. -/
def sq : (n : ℕ) → n ≤ 64 → FVec Ideal S256x128 .f32
  | 0, _ => broadcast S256x128 (Scalar.ofBits .f32 0x00000000#32)
  | n + 1, h => addf (sq n (Nat.le_of_succ_le h)) (mulf (extf .f32 (T x0 x1 x2 n h) bitsLt_bf16_f32) (extf .f32 (T x0 x1 x2 n h) bitsLt_bf16_f32))

/-- The weight block. -/
def W : Vec Ideal S256x8192 .bf16 := View.canon (pcs x0 x1 x2 64 le_rfl)

/-- Each row's squares, summed over the lanes. -/
def rowsumV : FVec Ideal S1x256 .f32 :=
  shapeCast S1x256 (multiReduction .add [0] S256 (transpose S128x256 [1, 0] (sq x0 x1 x2 64 le_rfl) transposes_S256x128_p1_0_S128x256) 0x00000000#32 reduces_S128x256_S256 (.inl rfl) rfl) shapeCasts_S256_S1x256

/-- The norms, from the weight block, the squares, the low-rank factors and their Gram matrix. -/
def normF (S : FVec Ideal S1x256 .f32) (w : FVec Ideal S256x8192 .bf16) : FVec Ideal S1x256 .f32 :=
  sqrt (addf (addf S
    (mulf (broadcast S1x256 (Scalar.ofBits .f32 0x3F400000#32)) (shapeCast S1x256 (multiReduction .add [0] S256 (mulf (extf .f32 x4 bitsLt_bf16_f32)
      (matmul (φ₁ := .bf16) (φ₂ := .bf16) dot_S64x8192_S256x8192_S64x256_1_1_0_0_n_n none x3 (shapeCast S256x8192 w shapeCasts_S256x8192_S256x8192) (constant S64x256 .f32 0x00000000#32))) 0x00000000#32 reduces_S64x256_S256 (.inl rfl) rfl) shapeCasts_S256_S1x256)))
    (mulf (broadcast S1x256 (Scalar.ofBits .f32 0x3E100000#32)) (shapeCast S1x256 (multiReduction .add [0] S256 (mulf
      (matmul (φ₁ := .f32) (φ₂ := .f32) dot_S64x64_S64x256_S64x256_0_0_1_1_n_n (some .fp32) g (extf .f32 x4 bitsLt_bf16_f32) (constant S64x256 .f32 0x00000000#32)) (extf .f32 x4 bitsLt_bf16_f32)) 0x00000000#32 reduces_S64x256_S256 (.inl rfl) rfl) shapeCasts_S256_S1x256)))

def normV : FVec Ideal S1x256 .f32 := normF x3 x4 g (rowsumV x0 x1 x2) (W x0 x1 x2)

/-- The Gram matrix. -/
def gramV : FVec Ideal S64x64 .f32 :=
  shapeCast S64x64 (matmul (φ₁ := .bf16) (φ₂ := .bf16) dot_S64x8192_S64x8192_S64x64_1_1_0_0_n_n none x3 x3 (constant S64x64 .f32 0x00000000#32)) shapeCasts_S64x64_S64x64

section
variable (u : FVec Ideal S256x128 .f32) (a b d : FVec Ideal S256x128 .bf16) (w : FVec Ideal S256x8192 .bf16)

/-- The last stores, from the last tile and what the body has read by then. -/
theorem norm_pay : k0_pay253 u a b d x3 w x4 g = normF x3 x4 g
    (shapeCast S1x256 (multiReduction .add [0] S256 (transpose S128x256 [1, 0] (addf u (mulf (extf .f32 (k0_pay252 a b d) bitsLt_bf16_f32) (extf .f32 (k0_pay252 a b d) bitsLt_bf16_f32))) transposes_S256x128_p1_0_S128x256) 0x00000000#32 reduces_S128x256_S256 (.inl rfl) rfl) shapeCasts_S256_S1x256) w := rfl
theorem gain_pay : k0_pay254 u a b d x3 w x4 g x5 = divf x5 (k0_pay253 u a b d x3 w x4 g) := rfl
end

section
variable (c : Dev nD) (i : grid0.Coords) (arg1 : Memref sig .tc .vmem S256x4096 .i8) (harg1 : arg1.IsWhole) (arg2 : Memref sig .tc .vmem S256x128 .bf16) (harg2 : arg2.IsWhole) (arg3 : Memref sig .tc .vmem S256x128 .bf16) (harg3 : arg3.IsWhole) (arg4 : Memref sig .tc .vmem S64x8192 .bf16) (harg4 : arg4.IsWhole) (arg5 : Memref sig .tc .vmem S64x256 .bf16) (harg5 : arg5.IsWhole) (arg6 : Memref sig .tc .vmem S1x256 .f32) (harg6 : arg6.IsWhole) (arg7 : Memref sig .tc .vmem S256x8192 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S64x64 .f32) (harg10 : arg10.IsWhole)

set_option maxHeartbeats 1000000 in
theorem out_A_6_eq (hc0 : cond0_0 i) : out0_A_6 c i arg1 harg1 arg2 harg2 arg3 harg3 arg4 harg4 arg5 harg5 arg6 harg6 arg7 harg7 arg8 harg8 arg9 harg9 arg10 harg10 hc0 x0 x1 x2 x3 x4 x5 = W x0 x1 x2 := by
  unfold out0_A_6 kernelRun0_A
  frame_out
  rfl

set_option maxHeartbeats 1000000 in
theorem out_A_7_eq (hc0 : cond0_0 i) : out0_A_7 c i arg1 harg1 arg2 harg2 arg3 harg3 arg4 harg4 arg5 harg5 arg6 harg6 arg7 harg7 arg8 harg8 arg9 harg9 arg10 harg10 hc0 x0 x1 x2 x3 x4 x5 = normV x0 x1 x2 x3 x4 (gramV x3) := by
  unfold out0_A_7 kernelRun0_A
  frame_out
  refine (norm_pay _ _ _ _ _ _ _ _).trans (congrArg₂ (normF x3 x4 (gramV x3)) (?_ : _ = rowsumV x0 x1 x2) (?_ : _ = W x0 x1 x2))
  · simp only [rowsumV, sq]
    rfl
  · rw [View.readCov_eq_canon']
    refine Eq.trans (b := View.ld (View.canon (Val := Elt Ideal) _) (Rect.unit (s := S256x8192) ![0, 0] S256x8192.size inb_S256x8192_S256x8192_0_0)) rfl ?_
    simp (disch := decide) only [View.ld_unit_lit']
    rfl

set_option maxHeartbeats 1000000 in
theorem out_A_8_eq (hc0 : cond0_0 i) : out0_A_8 c i arg1 harg1 arg2 harg2 arg3 harg3 arg4 harg4 arg5 harg5 arg6 harg6 arg7 harg7 arg8 harg8 arg9 harg9 arg10 harg10 hc0 x0 x1 x2 x3 x4 x5 = divf x5 (normV x0 x1 x2 x3 x4 (gramV x3)) := by
  unfold out0_A_8 kernelRun0_A
  frame_out
  refine (gain_pay _ _ _ _ _ _ _ _ _).trans (congrArg (divf x5) ((norm_pay _ _ _ _ _ _ _ _).trans (congrArg₂ (normF x3 x4 (gramV x3)) (?_ : _ = rowsumV x0 x1 x2) (?_ : _ = W x0 x1 x2))))
  · simp only [rowsumV, sq]
    rfl
  · rw [View.readCov_eq_canon']
    refine Eq.trans (b := View.ld (View.canon (Val := Elt Ideal) _) (Rect.unit (s := S256x8192) ![0, 0] S256x8192.size inb_S256x8192_S256x8192_0_0)) rfl ?_
    simp (disch := decide) only [View.ld_unit_lit']
    rfl

set_option maxHeartbeats 1000000 in
theorem sout_A__eq (hc0 : cond0_0 i) : sout0_A_0 c i arg1 harg1 arg2 harg2 arg3 harg3 arg4 harg4 arg5 harg5 arg6 harg6 arg7 harg7 arg8 harg8 arg9 harg9 arg10 harg10 hc0 x0 x1 x2 x3 x4 x5 = gramV x3 := by
  unfold sout0_A_0 kernelRun0_A
  frame_out
  rfl

set_option maxHeartbeats 1000000 in
theorem out_B_6_eq (hc0 : ¬cond0_0 i) : out0_B_6 c i arg1 harg1 arg2 harg2 arg3 harg3 arg4 harg4 arg5 harg5 arg6 harg6 arg7 harg7 arg8 harg8 arg9 harg9 arg10 harg10 hc0 x0 x1 x2 x3 x4 x5 g = W x0 x1 x2 := by
  unfold out0_B_6 kernelRun0_B
  frame_out
  rfl

set_option maxHeartbeats 1000000 in
theorem out_B_7_eq (hc0 : ¬cond0_0 i) : out0_B_7 c i arg1 harg1 arg2 harg2 arg3 harg3 arg4 harg4 arg5 harg5 arg6 harg6 arg7 harg7 arg8 harg8 arg9 harg9 arg10 harg10 hc0 x0 x1 x2 x3 x4 x5 g = normV x0 x1 x2 x3 x4 g := by
  unfold out0_B_7 kernelRun0_B
  frame_out
  refine (norm_pay _ _ _ _ _ _ _ _).trans (congrArg₂ (normF x3 x4 g) (?_ : _ = rowsumV x0 x1 x2) (?_ : _ = W x0 x1 x2))
  · simp only [rowsumV, sq]
    rfl
  · rw [View.readCov_eq_canon']
    refine Eq.trans (b := View.ld (View.canon (Val := Elt Ideal) _) (Rect.unit (s := S256x8192) ![0, 0] S256x8192.size inb_S256x8192_S256x8192_0_0)) rfl ?_
    simp (disch := decide) only [View.ld_unit_lit']
    rfl

set_option maxHeartbeats 1000000 in
theorem out_B_8_eq (hc0 : ¬cond0_0 i) : out0_B_8 c i arg1 harg1 arg2 harg2 arg3 harg3 arg4 harg4 arg5 harg5 arg6 harg6 arg7 harg7 arg8 harg8 arg9 harg9 arg10 harg10 hc0 x0 x1 x2 x3 x4 x5 g = divf x5 (normV x0 x1 x2 x3 x4 g) := by
  unfold out0_B_8 kernelRun0_B
  frame_out
  refine (gain_pay _ _ _ _ _ _ _ _ _).trans (congrArg (divf x5) ((norm_pay _ _ _ _ _ _ _ _).trans (congrArg₂ (normF x3 x4 g) (?_ : _ = rowsumV x0 x1 x2) (?_ : _ = W x0 x1 x2))))
  · simp only [rowsumV, sq]
    rfl
  · rw [View.readCov_eq_canon']
    refine Eq.trans (b := View.ld (View.canon (Val := Elt Ideal) _) (Rect.unit (s := S256x8192) ![0, 0] S256x8192.size inb_S256x8192_S256x8192_0_0)) rfl ?_
    simp (disch := decide) only [View.ld_unit_lit']
    rfl

end

end Cert.PrepGateUpIdeal.Body

end
-- ==== Proof.PrepGateUp.Value.lean ====
module

public import proofs.«01_k».proof.Proof.PrepGateUp.Block

@[expose] public section

set_option maxRecDepth 65536

noncomputable section

namespace Cert.PrepGateUpIdeal.Body

open Cert.PrepGateUpIdeal Cert.PrepGateUpIdeal.Gen
open Idealize.ShloMosaic Idealize.ShloMosaic.TcCoe Idealize.ShloMosaic.Tactic
open Idealize.SL Idealize.SL.Sem

/-! The blocks' contents, entry by entry. -/

/-- A weight: a field of a code, less the zero point, times the scale. -/
def wE (b : BitVec 8) (z s : EReal) (f : ℕ) : EReal := ((FloatOps.sitofp (F := Ideal) .bf16 (bits f b) : EReal) - z) * s

/-- The weight at row `r` and column `o`: the columns' first half from the codes' high fields, each 64 columns one group. -/
def wA {R : ℕ} (q : (⟨2, ![R, 4096]⟩ : Shape).Idx → BitVec 8) (s z : (⟨2, ![R, 128]⟩ : Shape).Idx → EReal) (r : Fin R) (o : Fin 8192) : EReal :=
  wE (q (ix2 r ⟨o.val % 4096, by omega⟩)) (z (ix2 r ⟨o.val / 64, by omega⟩)) (s (ix2 r ⟨o.val / 64, by omega⟩)) (o.val / 4096)

/-- The column of lane `l` of tile `k`. -/
def tc (k : ℕ) (h : k < 64) (l : Fin 128) : Fin 8192 := ⟨4096 * (k % 2) + 128 * (k / 2) + l.val, by omega⟩

/-- The columns, by tile and lane. -/
def tiles : Fin 128 × Fin 64 ≃ Fin 8192 where
  toFun p := tc p.2.val p.2.isLt p.1
  invFun o := (⟨o.val % 128, by omega⟩, ⟨2 * (o.val % 4096 / 128) + o.val / 4096, by omega⟩)
  left_inv p := by
    obtain ⟨⟨l, hl⟩, ⟨k, hk⟩⟩ := p
    refine Prod.ext (Fin.ext ?_) (Fin.ext ?_)
    · show (4096 * (k % 2) + 128 * (k / 2) + l) % 128 = l
      omega
    · show 2 * ((4096 * (k % 2) + 128 * (k / 2) + l) % 4096 / 128) + (4096 * (k % 2) + 128 * (k / 2) + l) / 4096 = k
      omega
  right_inv o := by
    obtain ⟨o, ho⟩ := o
    refine Fin.ext ?_
    show 4096 * ((2 * (o % 4096 / 128) + o / 4096) % 2) + 128 * ((2 * (o % 4096 / 128) + o / 4096) / 2) + o % 128 = o
    omega

variable (x0 : Vec Ideal S256x4096 .i8) (x1 x2 : Vec Ideal S256x128 .bf16) (x3 : Vec Ideal S64x8192 .bf16)
  (x4 : Vec Ideal S64x256 .bf16) (x5 : Vec Ideal S1x256 .f32)

theorem T_at (k : ℕ) (h : k < 64) (r : Fin 256) (l : Fin 128) : T x0 x1 x2 k h (ix2 r l) = wA (R := 256) x0 x1 x2 r (tc k h l) := by
  unfold T
  refine (tile_at _ _ _ (64 * (k % 2) + 2 * (k / 2)) (by omega) r l).trans ?_
  rw [nib_at]
  unfold wA wE tc
  have e1 : (⟨l.val / 64 + (64 * (k % 2) + 2 * (k / 2)), by omega⟩ : Fin 128) = ⟨(4096 * (k % 2) + 128 * (k / 2) + l.val) / 64, by omega⟩ :=
    Fin.ext (by show _ + _ = _ / 64; omega)
  have e2 : (4096 * (k % 2) + 128 * (k / 2) + l.val) / 4096 = k % 2 := by omega
  have e3 : View.ld (Val := Elt Ideal) x0 (Rect.unit (s := S256x4096) ![0, 128 * (k / 2)] S256x128.size (inbC k h)) (ix2 r l)
      = x0 (ix2 r ⟨(4096 * (k % 2) + 128 * (k / 2) + l.val) % 4096, by omega⟩) := by
    refine congrArg x0 (funext fun a => ?_)
    match a with
    | ⟨0, _⟩ => exact Fin.ext (by show 0 + 1 * r.val = r.val; omega)
    | ⟨1, _⟩ => exact Fin.ext (by show 128 * (k / 2) + 1 * l.val = (4096 * (k % 2) + 128 * (k / 2) + l.val) % 4096; omega)
  rw [e1, e3]
  dsimp only
  rw [e2]
  rfl

theorem pcs_all (r : Fin 256) (o : Fin 8192) : ∀ (n : ℕ) (h : n ≤ 64),
    View.AllAt (pcs x0 x1 x2 n h) (ix2 r o : S256x8192.Idx) (wA (R := 256) x0 x1 x2 r o)
  | 0, _ => View.allAt_nil _ _
  | n + 1, h => by
    refine View.allAt_cons_unit _ _ _ _ _ (fun x hx => ?_) (pcs_all r o n (Nat.le_of_succ_le h))
    obtain ⟨r', l, rfl⟩ : ∃ (r' : Fin 256) (l : Fin 128), x = ix2 r' l := ⟨x 0, x 1, ixy x⟩
    have h0 : r.val = 0 + r'.val := hx 0
    have h1 : o.val = 4096 * (n % 2) + 128 * (n / 2) + l.val := hx 1
    obtain rfl : r = r' := Fin.ext (by omega)
    obtain rfl : o = tc n h l := Fin.ext h1
    exact T_at x0 x1 x2 n h r l

theorem pcs_mem (k : ℕ) : ∀ (n : ℕ) (h : n ≤ 64) (hk : k < n),
    (⟨Rect.unit (s := S256x8192) ![0, 4096 * (k % 2) + 128 * (k / 2)] S256x128.size (inbW k (lt_of_lt_of_le hk h)), T x0 x1 x2 k (lt_of_lt_of_le hk h)⟩
      : View.Piece (Elt Ideal) S256x8192 .bf16) ∈ pcs x0 x1 x2 n h
  | n + 1, h, hk => by
    rcases Nat.lt_or_ge k n with hn | hn
    · exact List.mem_cons_of_mem _ (pcs_mem k n (Nat.le_of_succ_le h) hn)
    · obtain rfl : k = n := by omega
      exact List.mem_cons_self

/-- The weight block, entry by entry. -/
theorem W_at (r : Fin 256) (o : Fin 8192) : W x0 x1 x2 (ix2 r o) = wA (R := 256) x0 x1 x2 r o := by
  unfold W
  refine View.canon_eq_of_allAt _ _ _ ⟨_, pcs_mem x0 x1 x2 (2 * (o.val % 4096 / 128) + o.val / 4096) 64 le_rfl (by omega), ?_⟩ (pcs_all x0 x1 x2 r o 64 le_rfl)
  refine (Rect.mem_set_unit (inb := inbW _ (by omega))).mpr fun a => ?_
  match a with
  | ⟨0, _⟩ => exact ⟨Nat.zero_le _, by show r.val < 0 + 256; omega⟩
  | ⟨1, _⟩ =>
    constructor
    · show 4096 * ((2 * (o.val % 4096 / 128) + o.val / 4096) % 2) + 128 * ((2 * (o.val % 4096 / 128) + o.val / 4096) / 2) ≤ o.val
      omega
    · show o.val < 4096 * ((2 * (o.val % 4096 / 128) + o.val / 4096) % 2) + 128 * ((2 * (o.val % 4096 / 128) + o.val / 4096) / 2) + 128
      omega

theorem sq_at (r : Fin 256) (l : Fin 128) : ∀ (n : ℕ) (h : n ≤ 64), sq x0 x1 x2 n h (ix2 r l)
    = ∑ k : Fin n, wA (R := 256) x0 x1 x2 r (tc k.val (lt_of_lt_of_le k.isLt h) l) * wA (R := 256) x0 x1 x2 r (tc k.val (lt_of_lt_of_le k.isLt h) l)
  | 0, _ => by
    rw [Fin.sum_univ_zero]
    exact Ideal.ofBits_zero_f32
  | n + 1, h => by
    rw [Fin.sum_univ_castSucc]
    refine (show sq x0 x1 x2 (n + 1) h (ix2 r l) = (sq x0 x1 x2 n (Nat.le_of_succ_le h) (ix2 r l) : EReal) + T x0 x1 x2 n h (ix2 r l) * T x0 x1 x2 n h (ix2 r l) from rfl).trans ?_
    rw [sq_at r l n (Nat.le_of_succ_le h), T_at]
    rfl

/-- A row's squares, summed. -/
theorem rowsum_at (r : Fin 256) : rowsumV x0 x1 x2 (ix2 0 r) = ∑ o : Fin 8192, wA (R := 256) x0 x1 x2 r o * wA (R := 256) x0 x1 x2 r o := by
  have h : rowsumV x0 x1 x2 (ix2 0 r) = ∑ l : Fin 128, (sq x0 x1 x2 64 le_rfl (ix2 r l) : EReal) := by
    pointwise [rowsumV]
  rw [h, ← Equiv.sum_comp tiles, Fintype.sum_prod_type]
  exact Finset.sum_congr rfl fun l _ => sq_at x0 x1 x2 r l 64 le_rfl

/-- A norm, from a column of the one low-rank factor, the other factor and a row of the weight. -/
def normE (b : Fin 64 → EReal) (a : Fin 64 → Fin 8192 → EReal) (w : Fin 8192 → EReal) : EReal :=
  Ideal.sqrt ((∑ o, w o * w o) + (Ideal.ofBits FTy.f32 0x3F400000#32 : EReal) * (∑ q, b q * ∑ o, a q o * w o)
    + (Ideal.ofBits FTy.f32 0x3E100000#32 : EReal) * ∑ p, (∑ k, (∑ o, a k o * a p o) * b k) * b p)

theorem gram_at (p q : Fin 64) : gramV x3 (ix2 p q) = ∑ o : Fin 8192, (x3 (ix2 p o) : EReal) * x3 (ix2 q o) := by
  pointwise [gramV]

theorem normV_at (r : Fin 256) : normV x0 x1 x2 x3 x4 (gramV x3) (ix2 0 r)
    = normE (fun q => x4 (ix2 q r)) (fun q o => x3 (ix2 q o)) (wA (R := 256) x0 x1 x2 r) := by
  have h : ∀ (g : S64x64.Idx → EReal) (S : S1x256.Idx → EReal) (w : S256x8192.Idx → EReal), normF x3 x4 g S w (ix2 0 r)
      = Ideal.sqrt (S (ix2 0 r) + (Ideal.ofBits FTy.f32 0x3F400000#32 : EReal) * (∑ q : Fin 64, (x4 (ix2 q r) : EReal) * ∑ o : Fin 8192, (x3 (ix2 q o) : EReal) * w (ix2 r o))
        + (Ideal.ofBits FTy.f32 0x3E100000#32 : EReal) * ∑ p : Fin 64, (∑ k : Fin 64, g (ix2 k p) * (x4 (ix2 k r) : EReal)) * (x4 (ix2 p r) : EReal)) := by
    intro g S w
    pointwise [normF]
  unfold normV
  rw [h, rowsum_at]
  simp only [W_at, gram_at]
  rfl

end Cert.PrepGateUpIdeal.Body

end
-- ==== Proof.PrepGateUp.Arrays.lean ====
module

public import proofs.«01_k».proof.Proof.PrepGateUp.Value

@[expose] public section

set_option maxRecDepth 16384

noncomputable section

namespace Cert.PrepGateUpIdeal.Body

open Cert.PrepGateUpIdeal Cert.PrepGateUpIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-! The result arrays after the run, as functions of the argument arrays. -/

/-- Input block 0 at point `t`, as codes; the others, as extended reals. -/
abbrev ib0 (c : Dev nD) (t : Fin cfg0.N) : S256x4096.Idx → BitVec 8 := iblk m c 0 t
abbrev ib1 (c : Dev nD) (t : Fin cfg0.N) : S256x128.Idx → EReal := iblk m c 1 t
abbrev ib2 (c : Dev nD) (t : Fin cfg0.N) : S256x128.Idx → EReal := iblk m c 2 t
abbrev ib3 (c : Dev nD) (t : Fin cfg0.N) : S64x8192.Idx → EReal := iblk m c 3 t
abbrev ib4 (c : Dev nD) (t : Fin cfg0.N) : S64x256.Idx → EReal := iblk m c 4 t
abbrev ib5 (c : Dev nD) (t : Fin cfg0.N) : S1x256.Idx → EReal := iblk m c 5 t
/-- Argument 0, as codes; the others, as extended reals. -/
abbrev A0 (c : Dev nD) : S3584x4096.Idx → BitVec 8 := V m c main_arg0
abbrev A1 (c : Dev nD) : S3584x128.Idx → EReal := V m c main_arg1
abbrev A2 (c : Dev nD) : S3584x128.Idx → EReal := V m c main_arg2
abbrev A3 (c : Dev nD) : S64x8192.Idx → EReal := V m c main_arg3
abbrev A4 (c : Dev nD) : S64x3584.Idx → EReal := V m c main_arg4
abbrev A5 (c : Dev nD) : S1x3584.Idx → EReal := V m c main_arg5

/-- Row (or column) `o` of point `t`'s block, in the whole array. -/
abbrev col (t : Fin cfg0.N) (o : Fin 256) : Fin 3584 := ⟨t.val * 256 + o.val, by have h : t.val < 14 := t.isLt; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, t.val] := (by decide +kernel : ∀ t : Fin grid0.N, _)
theorem e8 : ∀ t : Fin cfg0.N, win0_8.index t = ![0, t.val] := (by decide +kernel : ∀ t : Fin grid0.N, _)

/-! An input block at an index is its array at the index the block places. -/

theorem ib0_at (c : Dev nD) (t : Fin cfg0.N) (r : Fin 256) (q : Fin 4096) : ib0 m c t (ix2 r q) = A0 m c (ix2 (col t r) q) := by
  blk_simp [ib0, iblk]
  exact congrArg (V m c main_arg0) (by blk_ext [e0 t])
theorem ib1_at (c : Dev nD) (t : Fin cfg0.N) (r : Fin 256) (q : Fin 128) : ib1 m c t (ix2 r q) = A1 m c (ix2 (col t r) q) := by
  blk_simp [ib1, iblk]
  exact congrArg (V m c main_arg1) (by blk_ext [e1 t])
theorem ib2_at (c : Dev nD) (t : Fin cfg0.N) (r : Fin 256) (q : Fin 128) : ib2 m c t (ix2 r q) = A2 m c (ix2 (col t r) q) := by
  blk_simp [ib2, iblk]
  exact congrArg (V m c main_arg2) (by blk_ext [e2 t])
theorem ib3_at (c : Dev nD) (t : Fin cfg0.N) (r : Fin 64) (q : Fin 8192) : ib3 m c t (ix2 r q) = A3 m c (ix2 r q) := by
  blk_simp [ib3, iblk]
  exact congrArg (V m c main_arg3) (by blk_ext [e3 t])
theorem ib4_at (c : Dev nD) (t : Fin cfg0.N) (r : Fin 64) (q : Fin 256) : ib4 m c t (ix2 r q) = A4 m c (ix2 r (col t q)) := by
  blk_simp [ib4, iblk]
  exact congrArg (V m c main_arg4) (by blk_ext [e4 t])
theorem ib5_at (c : Dev nD) (t : Fin cfg0.N) (r : Fin 1) (q : Fin 256) : ib5 m c t (ix2 r q) = A5 m c (ix2 r (col t q)) := by
  blk_simp [ib5, iblk]
  exact congrArg (V m c main_arg5) (by blk_ext [e5 t])

theorem ib3_eq (c : Dev nD) (t : Fin cfg0.N) : ib3 m c t = A3 m c := by
  funext y
  rw [ixy y]
  exact ib3_at m c t (y 0) (y 1)

/-- The weight, the norms and the gains. -/
def wR (c : Dev nD) (r : Fin 3584) (o : Fin 8192) : EReal := wA (A0 m c) (A1 m c) (A2 m c) r o
def nR (c : Dev nD) (r : Fin 3584) : EReal := normE (fun q => A4 m c (ix2 q r)) (fun q o => A3 m c (ix2 q o)) (wR m c r)
def res0 (c : Dev nD) (i : S3584x8192.Idx) : EReal := wR m c (i 0) (i 1)
def res1 (c : Dev nD) (i : S1x3584.Idx) : EReal := nR m c (i 1)
def res2 (c : Dev nD) (i : S1x3584.Idx) : EReal := Ideal.div (A5 m c (ix2 (i 0) (i 1))) (nR m c (i 1))

theorem w_eq (c : Dev nD) (t : Fin cfg0.N) (r : Fin 256) (o : Fin 8192) : wA (ib0 m c t) (ib1 m c t) (ib2 m c t) r o = wR m c (col t r) o := by
  unfold wR wA
  rw [ib0_at, ib1_at, ib2_at]

theorem n_eq (c : Dev nD) (t : Fin cfg0.N) (r : Fin 256) :
    normE (fun q => ib4 m c t (ix2 q r)) (fun q o => ib3 m c t (ix2 q o)) (wA (ib0 m c t) (ib1 m c t) (ib2 m c t) r) = nR m c (col t r) := by
  unfold nR
  congr 1
  · funext q; exact ib4_at m c t q r
  · funext q o; exact ib3_at m c t q o
  · funext o; exact w_eq m c t r o

/-! What a point leaves in its output blocks. -/

theorem scr_A (c : Dev nD) (t : Fin cfg0.N) (h0 : t.val % 14 = 0) : (outsAt0 m c t.val t.isLt).2.2.2 = gramV (A3 m c) :=
  (congrArg (fun p => p.2.2.2) (outsAt0_A m c t h0)).trans
    ((sout_A__eq (iblk m c 0 t) (iblk m c 1 t) (iblk m c 2 t) (iblk m c 3 t) (iblk m c 4 t) (iblk m c 5 t)
      c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0)).trans (congrArg gramV (ib3_eq m c t)))

theorem scr_eq (c : Dev nD) : ∀ (n : ℕ) (hn : n < cfg0.N), (outsAt0 m c n hn).2.2.2 = gramV (A3 m c)
  | 0, hn => scr_A m c ⟨0, hn⟩ (Nat.zero_mod _)
  | n + 1, hn => by
    by_cases h0 : (n + 1) % 14 = 0
    · exact scr_A m c ⟨n + 1, hn⟩ h0
    · exact (congrArg (fun p => p.2.2.2) (outsAt0_B m c ⟨n + 1, hn⟩ h0)).trans (scr_eq c n (Nat.lt_of_succ_lt hn))

theorem outs_6 (c : Dev nD) (t : Fin cfg0.N) : (outsAt0 m c t.val t.isLt).1
    = W (iblk m c 0 t) (iblk m c 1 t) (iblk m c 2 t) := by
  by_cases h0 : t.val % 14 = 0
  · exact (congrArg (fun p => p.1) (outsAt0_A m c t h0)).trans
      (out_A_6_eq (iblk m c 0 t) (iblk m c 1 t) (iblk m c 2 t) (iblk m c 3 t) (iblk m c 4 t) (iblk m c 5 t)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0))
  · refine (congrArg (fun p => p.1) (outsAt0_B m c t h0)).trans
      ((out_B_6_eq (iblk m c 0 t) (iblk m c 1 t) (iblk m c 2 t) (iblk m c 3 t) (iblk m c 4 t) (iblk m c 5 t) (outsAt0 m c (t.val - 1) (lt_of_le_of_lt (Nat.sub_le _ _) t.isLt)).2.2.2
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))).trans rfl)

theorem outs_7 (c : Dev nD) (t : Fin cfg0.N) : (outsAt0 m c t.val t.isLt).2.1
    = normV (iblk m c 0 t) (iblk m c 1 t) (iblk m c 2 t) (iblk m c 3 t) (iblk m c 4 t) (gramV (iblk m c 3 t)) := by
  by_cases h0 : t.val % 14 = 0
  · exact (congrArg (fun p => p.2.1) (outsAt0_A m c t h0)).trans
      (out_A_7_eq (iblk m c 0 t) (iblk m c 1 t) (iblk m c 2 t) (iblk m c 3 t) (iblk m c 4 t) (iblk m c 5 t)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0))
  · have hg := scr_eq m c (t.val - 1) (lt_of_le_of_lt (Nat.sub_le _ _) t.isLt)
    refine (congrArg (fun p => p.2.1) (outsAt0_B m c t h0)).trans
      ((out_B_7_eq (iblk m c 0 t) (iblk m c 1 t) (iblk m c 2 t) (iblk m c 3 t) (iblk m c 4 t) (iblk m c 5 t) (outsAt0 m c (t.val - 1) (lt_of_le_of_lt (Nat.sub_le _ _) t.isLt)).2.2.2
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))).trans ?_)
    exact congrArg (fun g => normV (iblk m c 0 t) (iblk m c 1 t) (iblk m c 2 t) (iblk m c 3 t) (iblk m c 4 t) g) (hg.trans (congrArg gramV (ib3_eq m c t).symm))

theorem outs_8 (c : Dev nD) (t : Fin cfg0.N) : (outsAt0 m c t.val t.isLt).2.2.1
    = divf (iblk m c 5 t) (normV (iblk m c 0 t) (iblk m c 1 t) (iblk m c 2 t) (iblk m c 3 t) (iblk m c 4 t) (gramV (iblk m c 3 t))) := by
  by_cases h0 : t.val % 14 = 0
  · exact (congrArg (fun p => p.2.2.1) (outsAt0_A m c t h0)).trans
      (out_A_8_eq (iblk m c 0 t) (iblk m c 1 t) (iblk m c 2 t) (iblk m c 3 t) (iblk m c 4 t) (iblk m c 5 t)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0))
  · have hg := scr_eq m c (t.val - 1) (lt_of_le_of_lt (Nat.sub_le _ _) t.isLt)
    refine (congrArg (fun p => p.2.2.1) (outsAt0_B m c t h0)).trans
      ((out_B_8_eq (iblk m c 0 t) (iblk m c 1 t) (iblk m c 2 t) (iblk m c 3 t) (iblk m c 4 t) (iblk m c 5 t) (outsAt0 m c (t.val - 1) (lt_of_le_of_lt (Nat.sub_le _ _) t.isLt)).2.2.2
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))).trans ?_)
    exact congrArg (fun g => divf (iblk m c 5 t) (normV (iblk m c 0 t) (iblk m c 1 t) (iblk m c 2 t) (iblk m c 3 t) (iblk m c 4 t) g)) (hg.trans (congrArg gramV (ib3_eq m c t).symm))

theorem val_7 (c : Dev nD) (t : Fin cfg0.N) (r : Fin 256) :
    normV (iblk m c 0 t) (iblk m c 1 t) (iblk m c 2 t) (iblk m c 3 t) (iblk m c 4 t) (gramV (iblk m c 3 t)) (ix2 0 r) = nR m c (col t r) :=
  (normV_at _ _ _ _ _ r).trans (n_eq m c t r)

/-- Result 0 after the run. -/
theorem final6 (c : Dev nD) : (dats m 0 c).arrAt 6 cfg0.N = res0 m c := by
  refine (dats m 0 c).arrAt_eq_of_covers 6 _ (by decide +kernel) fun t hf y => ?_
  blk_simp
  rw [after0_6, outs_6]
  obtain ⟨r, o, rfl⟩ : ∃ (r : Fin 256) (o : Fin 8192), y = ix2 r o := ⟨y 0, y 1, ixy y⟩
  rw [show (win0_6.blk t).view.emb (ix2 r o) = ix2 (col t r) o from by blk_ext [e6 t]]
  exact (W_at _ _ _ r o).trans (w_eq m c t r o)

/-- Result 1 after the run. -/
theorem final7 (c : Dev nD) : (dats m 0 c).arrAt 7 cfg0.N = res1 m c := by
  refine (dats m 0 c).arrAt_eq_of_covers 7 _ (by decide +kernel) fun t hf y => ?_
  blk_simp
  rw [after0_7, outs_7]
  obtain ⟨z, r, rfl⟩ : ∃ (z : Fin 1) (r : Fin 256), y = ix2 z r := ⟨y 0, y 1, ixy y⟩
  obtain rfl : z = 0 := Subsingleton.elim _ _
  rw [show (win0_7.blk t).view.emb (ix2 0 r) = ix2 0 (col t r) from by blk_ext [e7 t]]
  exact val_7 m c t r

/-- Result 2 after the run. -/
theorem final8 (c : Dev nD) : (dats m 0 c).arrAt 8 cfg0.N = res2 m c := by
  refine (dats m 0 c).arrAt_eq_of_covers 8 _ (by decide +kernel) fun t hf y => ?_
  blk_simp
  rw [after0_8, outs_8]
  obtain ⟨z, r, rfl⟩ : ∃ (z : Fin 1) (r : Fin 256), y = ix2 z r := ⟨y 0, y 1, ixy y⟩
  obtain rfl : z = 0 := Subsingleton.elim _ _
  rw [show (win0_8.blk t).view.emb (ix2 0 r) = ix2 0 (col t r) from by blk_ext [e8 t]]
  exact congrArg₂ Ideal.div (ib5_at m c t 0 r) (val_7 m c t r)

end Cert.PrepGateUpIdeal.Body

end
-- ==== Proof.PrepGateUp.Claim.lean ====
module

public import proofs.«01_k».proof.Defs
public import proofs.«01_k».proof.Proof.PrepGateUp.Arrays
public import proofs.«01_k».proof.Proof.Gen.PrepGateUpRefIdeal.Read
public import Idealize.ShloMosaic.Lib.Pointwise
public import Idealize.ShloMosaic.Lib.Claim
public import Idealize.ShloMosaic.Lib.Quiescent
public import Idealize.ShloMosaic.Lib.Pipeline.Value

@[expose] public section

set_option maxRecDepth 16384

noncomputable section

namespace Cert.PrepGateUpIdeal.Body

open Cert.PrepGateUpIdeal.Gen
open Idealize.ShloMosaic Idealize.ShloMosaic.TcCoe Idealize.ShloMosaic.Tactic
open Idealize.SL Idealize.SL.Sem
open Cert.PrepGateUpRefIdeal.Read

/-! The reference's results are the same functions of the argument arrays. -/

theorem hi_toInt : ∀ n : Fin 256, (IntOp.shrsi .host ((BitVec.ofNat 8 n.val).setWidth 32) 4#32).toInt = (bits 0 (BitVec.ofNat 8 n.val)).toInt := by decide +kernel
theorem lo_toInt : ∀ n : Fin 256, (IntOp.andi ((BitVec.ofNat 8 n.val).setWidth 32) 15#32).toInt = (bits 1 (BitVec.ofNat 8 n.val)).toInt := by decide +kernel

theorem hi_eq (b : BitVec 8) : (FloatOps.sitofp (F := Ideal) .bf16 (IntOp.shrsi .host (b.setWidth 32) 4#32) : EReal) = FloatOps.sitofp (F := Ideal) .bf16 (bits 0 b) := by
  have h := hi_toInt ⟨b.toNat, b.isLt⟩
  rw [BitVec.ofNat_toNat, BitVec.setWidth_eq] at h
  exact congrArg (fun z : ℤ => ((z : ℝ) : EReal)) h
theorem lo_eq (b : BitVec 8) : (FloatOps.sitofp (F := Ideal) .bf16 (IntOp.andi (b.setWidth 32) 15#32) : EReal) = FloatOps.sitofp (F := Ideal) .bf16 (bits 1 b) := by
  have h := lo_toInt ⟨b.toNat, b.isLt⟩
  rw [BitVec.ofNat_toNat, BitVec.setWidth_eq] at h
  exact congrArg (fun z : ℤ => ((z : ℝ) : EReal)) h

section
variable (x0 : S3584x4096.Idx → BitVec 8) (x1 x2 : S3584x128.Idx → EReal) (x3 : S64x8192.Idx → EReal) (x4 : S64x3584.Idx → EReal)

theorem hi_at (r : Fin 3584) (o : ℕ) (h : o < 4096) : val_main_v16 (F := Ideal) x0 x1 x2 (ix2 r ⟨o, h⟩) = wA x0 x1 x2 r ⟨o, by omega⟩ := by
  rw [val_main_v16_apply, val_main_v15_apply, val_main_v12_apply, val_main_v9_apply, val_main_v3_apply, val_main_v2_apply, val_main_v0_apply,
    val_main_v1_apply, val_main_c_apply, val_main_v11_apply, val_main_v10_apply, val_main_v8_apply, val_main_v14_apply, val_main_v13_apply, val_main_v7_apply]
  rw [show idx_main_v9 (idx_main_v16 (ix2 r ⟨o, h⟩)) = ix2 r ⟨o % 4096, by omega⟩ from funext fun a => by
      match a with
      | ⟨0, _⟩ => exact Fin.ext (by show (((r.val * 4096 + o) / 4096 * 64 + (r.val * 4096 + o) / 64 % 64) * 64 + (r.val * 4096 + o) % 64) / 4096 = r.val; omega)
      | ⟨1, _⟩ => exact Fin.ext (by show (((r.val * 4096 + o) / 4096 * 64 + (r.val * 4096 + o) / 64 % 64) * 64 + (r.val * 4096 + o) % 64) % 4096 = o % 4096; omega),
    show idx_main_v8 (idx_main_v10 (idx_main_v11 (idx_main_v16 (ix2 r ⟨o, h⟩)))) = ix2 r ⟨o / 64, by omega⟩ from funext fun a => by
      match a with
      | ⟨0, _⟩ => exact Fin.ext (by show (r.val * 4096 + o) / 4096 = r.val; omega)
      | ⟨1, _⟩ => exact Fin.ext (by show (r.val * 4096 + o) / 64 % 64 = o / 64; omega),
    show idx_main_v7 (idx_main_v13 (idx_main_v14 (idx_main_v16 (ix2 r ⟨o, h⟩)))) = ix2 r ⟨o / 64, by omega⟩ from funext fun a => by
      match a with
      | ⟨0, _⟩ => exact Fin.ext (by show (r.val * 4096 + o) / 4096 = r.val; omega)
      | ⟨1, _⟩ => exact Fin.ext (by show (r.val * 4096 + o) / 64 % 64 = o / 64; omega)]
  refine Eq.trans (congrArg (fun e : EReal => (e - x2 (ix2 r ⟨o / 64, by omega⟩)) * x1 (ix2 r ⟨o / 64, by omega⟩)) (hi_eq _)) ?_
  unfold wA wE
  rw [show (⟨o, by omega⟩ : Fin 8192).val / 4096 = 0 from Nat.div_eq_of_lt h]

theorem lo_at (r : Fin 3584) (o : ℕ) (h : o < 4096) : val_main_v26 (F := Ideal) x0 x1 x2 (ix2 r ⟨o, h⟩) = wA x0 x1 x2 r ⟨4096 + o, by omega⟩ := by
  rw [val_main_v26_apply, val_main_v25_apply, val_main_v22_apply, val_main_v19_apply, val_main_v6_apply, val_main_v5_apply, val_main_v0_apply,
    val_main_v4_apply, val_main_c_0_apply, val_main_v21_apply, val_main_v20_apply, val_main_v18_apply, val_main_v24_apply, val_main_v23_apply, val_main_v17_apply]
  rw [show idx_main_v19 (idx_main_v26 (ix2 r ⟨o, h⟩)) = ix2 r ⟨(4096 + o) % 4096, by omega⟩ from funext fun a => by
      match a with
      | ⟨0, _⟩ => exact Fin.ext (by show (((r.val * 4096 + o) / 4096 * 64 + (r.val * 4096 + o) / 64 % 64) * 64 + (r.val * 4096 + o) % 64) / 4096 = r.val; omega)
      | ⟨1, _⟩ => exact Fin.ext (by show (((r.val * 4096 + o) / 4096 * 64 + (r.val * 4096 + o) / 64 % 64) * 64 + (r.val * 4096 + o) % 64) % 4096 = (4096 + o) % 4096; omega),
    show idx_main_v18 (idx_main_v20 (idx_main_v21 (idx_main_v26 (ix2 r ⟨o, h⟩)))) = ix2 r ⟨(4096 + o) / 64, by omega⟩ from funext fun a => by
      match a with
      | ⟨0, _⟩ => exact Fin.ext (by show (r.val * 4096 + o) / 4096 = r.val; omega)
      | ⟨1, _⟩ => exact Fin.ext (by show 64 + (r.val * 4096 + o) / 64 % 64 = (4096 + o) / 64; omega),
    show idx_main_v17 (idx_main_v23 (idx_main_v24 (idx_main_v26 (ix2 r ⟨o, h⟩)))) = ix2 r ⟨(4096 + o) / 64, by omega⟩ from funext fun a => by
      match a with
      | ⟨0, _⟩ => exact Fin.ext (by show (r.val * 4096 + o) / 4096 = r.val; omega)
      | ⟨1, _⟩ => exact Fin.ext (by show 64 + (r.val * 4096 + o) / 64 % 64 = (4096 + o) / 64; omega)]
  refine Eq.trans (congrArg (fun e : EReal => (e - x2 (ix2 r ⟨(4096 + o) / 64, by omega⟩)) * x1 (ix2 r ⟨(4096 + o) / 64, by omega⟩)) (lo_eq _)) ?_
  unfold wA wE
  rw [show (⟨4096 + o, by omega⟩ : Fin 8192).val / 4096 = 1 from by show (4096 + o) / 4096 = 1; omega]

/-- The reference's weight. -/
theorem w_at (r : Fin 3584) (o : Fin 8192) : val_main_v27 (F := Ideal) x0 x1 x2 (ix2 r o) = wA x0 x1 x2 r o := by
  obtain ⟨o, ho⟩ := o
  unfold val_main_v27
  by_cases h : o < 4096
  · rw [concatenate_pair_apply_left 1 (val_main_v16 (F := Ideal) x0 x1 x2) (val_main_v26 (F := Ideal) x0 x1 x2) _ (ix2 r ⟨o, ho⟩) rfl (ix2 r ⟨o, h⟩) (fun b => by match b with | ⟨0, _⟩ => rfl | ⟨1, _⟩ => rfl)]
    exact hi_at x0 x1 x2 r o h
  · obtain ⟨p, rfl⟩ : ∃ p, o = 4096 + p := ⟨o - 4096, by omega⟩
    have hp : p < 4096 := by omega
    rw [concatenate_pair_apply_right 1 (val_main_v16 (F := Ideal) x0 x1 x2) (val_main_v26 (F := Ideal) x0 x1 x2) _ (ix2 r ⟨4096 + p, ho⟩) rfl rfl (ix2 r ⟨p, hp⟩)
      (fun b hb => by match b with | ⟨0, _⟩ => rfl | ⟨1, _⟩ => exact absurd rfl hb) (by show p + 4096 = 4096 + p; omega)]
    exact lo_at x0 x1 x2 r p hp

/-- The reference's norm. -/
theorem n_at (r : Fin 3584) : val_main_v47 (F := Ideal) x0 x1 x2 x3 x4 (ix2 0 r)
    = normE (fun q => x4 (ix2 q r)) (fun q o => x3 (ix2 q o)) (wA x0 x1 x2 r) := by
  pointwise [val_main_v28, val_main_v29, val_main_cst, val_main_v30, val_main_v31, val_main_v32, val_main_v33, val_main_v34, val_main_v35, val_main_v36,
    val_main_cst_1, val_main_v37, val_main_cst_2, val_main_v38, val_main_v39, val_main_v40, val_main_v41, val_main_cst_3, val_main_v42, val_main_cst_4,
    val_main_v43, val_main_v44, val_main_v45, val_main_v46, val_main_v47]
  simp only [w_at]
  unfold normE
  simp only [mul_comm]

end

variable (m : (ℓ : Loc nD τ sig) → Buf (Elt Ideal) ℓ)

theorem ref0 (c : Dev nD) : val_main_v27 (F := Ideal) (V m c main_arg0) (V m c main_arg1) (V m c main_arg2) = res0 m c := by
  funext i
  obtain ⟨r, o, rfl⟩ : ∃ (r : Fin 3584) (o : Fin 8192), i = ix2 r o := ⟨i 0, i 1, ixy i⟩
  exact w_at (A0 m c) (A1 m c) (A2 m c) r o

theorem ref1 (c : Dev nD) : val_main_v47 (F := Ideal) (V m c main_arg0) (V m c main_arg1) (V m c main_arg2) (V m c main_arg3) (V m c main_arg4) = res1 m c := by
  funext i
  obtain ⟨z, r, rfl⟩ : ∃ (z : Fin 1) (r : Fin 3584), i = ix2 z r := ⟨i 0, i 1, ixy i⟩
  obtain rfl : z = 0 := Subsingleton.elim _ _
  exact n_at (A0 m c) (A1 m c) (A2 m c) (A3 m c) (A4 m c) r

theorem ref2 (c : Dev nD) : val_main_v48 (F := Ideal) (V m c main_arg0) (V m c main_arg1) (V m c main_arg2) (V m c main_arg3) (V m c main_arg4) (V m c main_arg5) = res2 m c := by
  funext i
  obtain ⟨z, r, rfl⟩ : ∃ (z : Fin 1) (r : Fin 3584), i = ix2 z r := ⟨i 0, i 1, ixy i⟩
  obtain rfl : z = 0 := Subsingleton.elim _ _
  rw [val_main_v48_apply]
  exact congrArg (Ideal.div (A5 m c (ix2 0 r))) (n_at (A0 m c) (A1 m c) (A2 m c) (A3 m c) (A4 m c) r)

/-- The reference's frame: a straight line of host operations on its arguments, with no semaphore. -/
theorem frameRef : Cert.quiescent_PrepGateUpRefIdeal (hPrepGateUpRefIdeal := Cert.PrepGateUpRefIdeal.Gen.facts) := fun m ρ _ =>
  (θ_run Cert.PrepGateUpRefIdeal.defs _ _).mono (fun r h => ⟨fun c => (h c).2.2.2, sem_eq_zero_of_no_sems (by decide) r.2⟩)
    (Cert.PrepGateUpRefIdeal.Value.run (F := Ideal) m ρ)

/-- The algebraic claim: over the extended reals the kernel and the reference end with equal results. -/
theorem algebraic : Cert.algebraic_PrepGateUpIdeal_PrepGateUpRefIdeal (hPrepGateUpIdeal := Cert.PrepGateUpIdeal.Gen.facts)
    (hPrepGateUpRefIdeal := Cert.PrepGateUpRefIdeal.Gen.facts) := by
  intro m g m' g' _ hargs
  refine ⟨res0 m, res1 m, res2 m, ?_, ?_⟩
  · refine (θ_run (defs (F := Ideal)) _ _).mono (fun r h c => ?_) (θ_run_and (run_main m g) (frame m g))
    exact ⟨(h.1.out_eq c 6).trans (final6 m c), (h.1.out_eq c 7).trans (final7 m c), (h.1.out_eq c 8).trans (final8 m c), h.2.1 c⟩
  · refine (θ_run (Cert.PrepGateUpRefIdeal.defs (F := Ideal)) _ _).mono (fun r h c => ?_) (Cert.PrepGateUpRefIdeal.Value.run (F := Ideal) m' g')
    obtain ⟨h0, h1, h2, ha⟩ := h c
    obtain ⟨a0, a1, a2, a3, a4, a5⟩ := hargs c
    have h0 := h0.trans (val_main_v27_eq _ _ _)
    have h1 := h1.trans (val_main_v47_eq m' c)
    have h2 := h2.trans (val_main_v48_eq m' c)
    rw [a0, a1, a2] at h0
    rw [a0, a1, a2, a3, a4] at h1
    rw [a0, a1, a2, a3, a4, a5] at h2
    exact ⟨h0.trans (ref0 m c), h1.trans (ref1 m c), h2.trans (ref2 m c), ha⟩

end Cert.PrepGateUpIdeal.Body

end
-- ==== Proof.lean ====
module

public import proofs.«01_k».proof.Defs
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.Dx.Value
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.Gen.GateUpFwd
public import proofs.«01_k».proof.Proof.Gen.GateUpFwd.Skeleton
public import proofs.«01_k».proof.Proof.Gen.GateUpFwd.Launch
public import proofs.«01_k».proof.Proof.Gen.GateUpFwd.Points
public import proofs.«01_k».proof.Proof.Gen.GateUpFwd.Frame
public import proofs.«01_k».proof.Proof.Gen.GateUpFwdIdeal
public import proofs.«01_k».proof.Proof.Gen.GateUpFwdIdeal.Skeleton
public import proofs.«01_k».proof.Proof.Gen.GateUpFwdIdeal.Launch
public import proofs.«01_k».proof.Proof.Gen.GateUpFwdIdeal.Points
public import proofs.«01_k».proof.Proof.Gen.GateUpFwdIdeal.Frame
public import proofs.«01_k».proof.Proof.Gen.GateUpFwdRefIdeal
public import proofs.«01_k».proof.Proof.Gen.GateUpFwdRefIdeal.Run
public import proofs.«01_k».proof.Proof.Gen.GateUpFwdRefIdeal.Read
public import proofs.«01_k».proof.Proof.Gen.DownBwd
public import proofs.«01_k».proof.Proof.Gen.DownBwd.Skeleton
public import proofs.«01_k».proof.Proof.Gen.DownBwd.Launch
public import proofs.«01_k».proof.Proof.Gen.DownBwd.Points
public import proofs.«01_k».proof.Proof.Gen.DownBwd.Frame
public import proofs.«01_k».proof.Proof.Gen.DownBwdIdeal
public import proofs.«01_k».proof.Proof.Gen.DownBwdIdeal.Skeleton
public import proofs.«01_k».proof.Proof.Gen.DownBwdIdeal.Launch
public import proofs.«01_k».proof.Proof.Gen.DownBwdIdeal.Points
public import proofs.«01_k».proof.Proof.Gen.DownBwdIdeal.Frame
public import proofs.«01_k».proof.Proof.Gen.DownBwdRefIdeal
public import proofs.«01_k».proof.Proof.Gen.DownBwdRefIdeal.Run
public import proofs.«01_k».proof.Proof.Gen.DownBwdRefIdeal.Read
public import proofs.«01_k».proof.Proof.Gen.GateUpBwd
public import proofs.«01_k».proof.Proof.Gen.GateUpBwd.Skeleton
public import proofs.«01_k».proof.Proof.Gen.GateUpBwd.Launch
public import proofs.«01_k».proof.Proof.Gen.GateUpBwd.Points
public import proofs.«01_k».proof.Proof.Gen.GateUpBwd.Frame
public import proofs.«01_k».proof.Proof.Gen.GateUpBwdIdeal
public import proofs.«01_k».proof.Proof.Gen.GateUpBwdIdeal.Skeleton
public import proofs.«01_k».proof.Proof.Gen.GateUpBwdIdeal.Launch
public import proofs.«01_k».proof.Proof.Gen.GateUpBwdIdeal.Points
public import proofs.«01_k».proof.Proof.Gen.GateUpBwdIdeal.Frame
public import proofs.«01_k».proof.Proof.Gen.GateUpBwdRefIdeal
public import proofs.«01_k».proof.Proof.Gen.GateUpBwdRefIdeal.Run
public import proofs.«01_k».proof.Proof.Gen.GateUpBwdRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.Norm.Value
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.PrepDown
public import proofs.«01_k».proof.Proof.Gen.PrepDown.Skeleton
public import proofs.«01_k».proof.Proof.Gen.PrepDown.Launch
public import proofs.«01_k».proof.Proof.Gen.PrepDown.Points
public import proofs.«01_k».proof.Proof.Gen.PrepDown.Frame
public import proofs.«01_k».proof.Proof.Gen.PrepDownIdeal
public import proofs.«01_k».proof.Proof.Gen.PrepDownIdeal.Skeleton
public import proofs.«01_k».proof.Proof.Gen.PrepDownIdeal.Launch
public import proofs.«01_k».proof.Proof.Gen.PrepDownIdeal.Points
public import proofs.«01_k».proof.Proof.Gen.PrepDownIdeal.Frame
public import proofs.«01_k».proof.Proof.Gen.PrepDownRefIdeal
public import proofs.«01_k».proof.Proof.Gen.PrepDownRefIdeal.Run
public import proofs.«01_k».proof.Proof.Gen.PrepDownRefIdeal.Read
public import proofs.«01_k».proof.Proof.Gen.PrepGateUp
public import proofs.«01_k».proof.Proof.Gen.PrepGateUp.Skeleton
public import proofs.«01_k».proof.Proof.Gen.PrepGateUp.Launch
public import proofs.«01_k».proof.Proof.Gen.PrepGateUp.Points
public import proofs.«01_k».proof.Proof.Gen.PrepGateUp.Frame
public import proofs.«01_k».proof.Proof.Gen.PrepGateUpIdeal
public import proofs.«01_k».proof.Proof.Gen.PrepGateUpIdeal.Skeleton
public import proofs.«01_k».proof.Proof.Gen.PrepGateUpIdeal.Launch
public import proofs.«01_k».proof.Proof.Gen.PrepGateUpIdeal.Points
public import proofs.«01_k».proof.Proof.Gen.PrepGateUpIdeal.Frame
public import proofs.«01_k».proof.Proof.Gen.PrepGateUpRefIdeal
public import proofs.«01_k».proof.Proof.Gen.PrepGateUpRefIdeal.Run
public import proofs.«01_k».proof.Proof.Gen.PrepGateUpRefIdeal.Read
public import proofs.«01_k».proof.Proof.DownFwd.FrameBits
public import proofs.«01_k».proof.Proof.DownFwd.Claim
public import proofs.«01_k».proof.Proof.Dx.FrameBits
public import proofs.«01_k».proof.Proof.Dx.Claim
public import proofs.«01_k».proof.Proof.GateUpFwd.FrameBits
public import proofs.«01_k».proof.Proof.GateUpFwd.Claim
public import proofs.«01_k».proof.Proof.DownBwd.FrameBits
public import proofs.«01_k».proof.Proof.DownBwd.Claim
public import proofs.«01_k».proof.Proof.GateUpBwd.FrameBits
public import proofs.«01_k».proof.Proof.GateUpBwd.Claim
public import proofs.«01_k».proof.Proof.Norm.FrameBits
public import proofs.«01_k».proof.Proof.Norm.Claim
public import proofs.«01_k».proof.Proof.PrepDown.FrameBits
public import proofs.«01_k».proof.Proof.PrepDown.Claim
public import proofs.«01_k».proof.Proof.PrepGateUp.FrameBits
public import proofs.«01_k».proof.Proof.PrepGateUp.Claim
public import Idealize.ShloMosaic.Adequacy
public import Idealize.ShloMosaic.Init

@[expose] public section

noncomputable section

namespace Cert.Proof

open Idealize.ShloMosaic Idealize.SL.Sem Cert.DownFwd

theorem claim : Cert.Claim := ⟨Cert.DownFwd.Gen.facts, Cert.DownFwdIdeal.Gen.facts, Cert.DownFwdRefIdeal.Gen.facts, Cert.Dx.Gen.facts, Cert.DxIdeal.Gen.facts, Cert.DxRefIdeal.Gen.facts, Cert.GateUpFwd.Gen.facts, Cert.GateUpFwdIdeal.Gen.facts, Cert.GateUpFwdRefIdeal.Gen.facts, Cert.DownBwd.Gen.facts, Cert.DownBwdIdeal.Gen.facts, Cert.DownBwdRefIdeal.Gen.facts, Cert.GateUpBwd.Gen.facts, Cert.GateUpBwdIdeal.Gen.facts, Cert.GateUpBwdRefIdeal.Gen.facts, Cert.Norm.Gen.facts, Cert.NormIdeal.Gen.facts, Cert.NormRefIdeal.Gen.facts, Cert.PrepDown.Gen.facts, Cert.PrepDownIdeal.Gen.facts, Cert.PrepDownRefIdeal.Gen.facts, Cert.PrepGateUp.Gen.facts, Cert.PrepGateUpIdeal.Gen.facts, Cert.PrepGateUpRefIdeal.Gen.facts,
  Cert.DownFwdBits.frame, fun m ρ _ => Cert.DownFwdIdeal.Body.frame m ρ, Cert.DownFwdIdeal.Body.frameRef,
  Cert.DxBits.frame, fun m ρ _ => Cert.DxIdeal.Gen.frame m ρ, Cert.DxIdeal.Body.frameRef,
  Cert.GateUpFwdBits.frame, fun m ρ _ => Cert.GateUpFwdIdeal.Body.frame m ρ, Cert.GateUpFwdIdeal.Body.frameRef,
  Cert.DownBwdBits.frame, fun m ρ _ => Cert.DownBwdIdeal.Body.frame m ρ, Cert.DownBwdIdeal.Body.frameRef,
  Cert.GateUpBwdBits.frame, fun m ρ _ => Cert.GateUpBwdIdeal.Body.frame m ρ, Cert.GateUpBwdIdeal.Body.frameRef,
  Cert.NormBits.frame, fun m ρ _ => Cert.NormIdeal.Gen.frame m ρ, Cert.NormIdeal.Body.frameRef,
  Cert.PrepDownBits.frame, fun m ρ _ => Cert.PrepDownIdeal.Gen.frame m ρ, Cert.PrepDownIdeal.Body.frameRef,
  Cert.PrepGateUpBits.frame, fun m ρ _ => Cert.PrepGateUpIdeal.Gen.frame m ρ, Cert.PrepGateUpIdeal.Body.frameRef,
  trivial, Cert.DownFwdIdeal.Body.algebraic,
  trivial, Cert.DxIdeal.Body.algebraic,
  trivial, Cert.GateUpFwdIdeal.Body.algebraic,
  trivial, Cert.DownBwdIdeal.Body.algebraic,
  trivial, Cert.GateUpBwdIdeal.Body.algebraic,
  trivial, Cert.NormIdeal.Body.algebraic,
  trivial, Cert.PrepDownIdeal.Body.algebraic,
  trivial, Cert.PrepGateUpIdeal.Body.algebraic⟩

end Cert.Proof

end
